-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_gates [hPre_real_gates : Cert.Pre_real_gates.Facts] (m : (ℓ : Loc Cert.KernelIdeal.nD Cert.KernelIdeal.τ Cert.KernelIdeal.sig) → Buf (Elt Ideal) ℓ) : Prop :=
  ∀ c : Dev Cert.KernelIdeal.nD,
    (Cert.Pre_real_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_gates [hPre_real_gates : Cert.Pre_real_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real_gates [hKernelIdeal : Cert.KernelIdeal.Facts] [hPre_real_gates : Cert.Pre_real_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real_gates [hReferenceIdeal : Cert.ReferenceIdeal.Facts] [hPre_real_gates : Cert.Pre_real_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_real_gates [hKernelIdeal : Cert.KernelIdeal.Facts] [hReferenceIdeal : Cert.ReferenceIdeal.Facts] [hPre_real_gates : Cert.Pre_real_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v105) = v0 c
          ∧ r.2.mem ((c.tc : Thread Cert.Reference3Ideal.nD Cert.Reference3Ideal.τ).loc Cert.Reference3Ideal.main_v106) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v104) = v3 c
          ∧ r.2.mem ((c.tc : Thread Cert.Reference3Ideal.nD Cert.Reference3Ideal.τ).loc Cert.Reference3Ideal.main_v108) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)) (v5 : (c : Dev Cert.Kernel5Ideal.nD) → Buf (Elt Ideal) ((c.tc : Thread Cert.Kernel5Ideal.nD Cert.Kernel5Ideal.τ).loc Cert.Kernel5Ideal.main_v19_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_v19_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v234) = v0 c
          ∧ r.2.mem ((c.tc : Thread Cert.Reference5Ideal.nD Cert.Reference5Ideal.τ).loc Cert.Reference5Ideal.main_v236) = v1 c
          ∧ r.2.mem ((c.tc : Thread Cert.Reference5Ideal.nD Cert.Reference5Ideal.τ).loc Cert.Reference5Ideal.main_v237) = v2 c
          ∧ r.2.mem ((c.tc : Thread Cert.Reference5Ideal.nD Cert.Reference5Ideal.τ).loc Cert.Reference5Ideal.main_v230) = v3 c
          ∧ r.2.mem ((c.tc : Thread Cert.Reference5Ideal.nD Cert.Reference5Ideal.τ).loc Cert.Reference5Ideal.main_v251) = v4 c
          ∧ r.2.mem ((c.tc : Thread Cert.Reference5Ideal.nD Cert.Reference5Ideal.τ).loc Cert.Reference5Ideal.main_v258) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_real_gates : Cert.Pre_real_gates.Facts),
    quiescent_Kernel (hKernel := hKernel)
    ∧ quiescent_KernelIdeal (hKernelIdeal := hKernelIdeal)
    ∧ quiescent_KernelIdeal_pre_real_gates (hKernelIdeal := hKernelIdeal) (hPre_real_gates := hPre_real_gates)
    ∧ quiescent_ReferenceIdeal (hReferenceIdeal := hReferenceIdeal)
    ∧ quiescent_ReferenceIdeal_pre_real_gates (hReferenceIdeal := hReferenceIdeal) (hPre_real_gates := hPre_real_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_real_gates (hKernelIdeal := hKernelIdeal) (hReferenceIdeal := hReferenceIdeal) (hPre_real_gates := hPre_real_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_real_gates.lean ====
abbrev S16x2304x1024 : Shape := ⟨3, ![16, 2304, 1024]⟩
abbrev S1x128 : Shape := ⟨2, ![1, 128]⟩
abbrev S_ : Shape := ⟨0, ![]⟩

class Facts : Prop where
  bitsLt_bf16_f32 : FTy.bits .bf16 < FTy.bits .f32
  bcast_S_S16x2304x1024 : S_.BroadcastsInDim S16x2304x1024 (![] : Fin 0 → Fin S16x2304x1024.rank)

variable [Facts]

def fn_part1 {F : FTy → Type} [FloatOps F] (main_arg2 : FVec F S16x2304x1024 .f32) (main_arg3 : FVec F S16x2304x1024 .f32) (main_v14 : IVec S16x2304x1024 1) (main_v16 : IVec S16x2304x1024 1) (main_v17 : FVec F S16x2304x1024 .f32) : IVec S16x2304x1024 1 :=
  let main_v18 : IVec S16x2304x1024 1 := cmpf .ole main_arg2 main_v17
  let main_v19 : IVec S16x2304x1024 1 := andi main_v16 main_v18
  let main_v20 : IVec S16x2304x1024 1 := andi main_v14 main_v19
  let main_cst_5 : FVec F S_ .f32 := constant S_ .f32 0x00000000#32
  let main_v21 : FVec F S16x2304x1024 .f32 := broadcastInDim S16x2304x1024 ![] bcast_S_S16x2304x1024 main_cst_5
  let main_v22 : IVec S16x2304x1024 1 := cmpf .ogt main_arg3 main_v21
  let main_cst_6 : FVec F S_ .f32 := constant S_ .f32 0x3F800000#32
  let main_v23 : FVec F S16x2304x1024 .f32 := broadcastInDim S16x2304x1024 ![] bcast_S_S16x2304x1024 main_cst_6
  let main_v24 : IVec S16x2304x1024 1 := cmpf .ole main_arg3 main_v23
  let main_v25 : IVec S16x2304x1024 1 := andi main_v22 main_v24
  let main_v26 : IVec S16x2304x1024 1 := andi main_v20 main_v25
  main_v26

def fn {F : FTy → Type} [FloatOps F] (main_arg0 : FVec F S16x2304x1024 .bf16) (main_arg1 : FVec F S16x2304x1024 .bf16) (main_arg2 : FVec F S16x2304x1024 .f32) (main_arg3 : FVec F S16x2304x1024 .f32) (main_arg4 : FVec F S16x2304x1024 .bf16) (main_arg5 : FVec F S1x128 .f32) : IVec S16x2304x1024 1 :=
  let main_v0 : FVec F S16x2304x1024 .f32 := (extf .f32 · bitsLt_bf16_f32) main_arg0
  let main_cst : FVec F S_ .f32 := constant S_ .f32 0x7F800000#32
  let main_v1 : FVec F S16x2304x1024 .f32 := broadcastInDim S16x2304x1024 ![] bcast_S_S16x2304x1024 main_cst
  let main_v2 : IVec S16x2304x1024 1 := cmpf .olt main_v0 main_v1
  let main_v3 : FVec F S16x2304x1024 .f32 := (extf .f32 · bitsLt_bf16_f32) main_arg0
  let main_cst_0 : FVec F S_ .f32 := constant S_ .f32 0xFF800000#32
  let main_v4 : FVec F S16x2304x1024 .f32 := broadcastInDim S16x2304x1024 ![] bcast_S_S16x2304x1024 main_cst_0
  let main_v5 : IVec S16x2304x1024 1 := cmpf .ogt main_v3 main_v4
  let main_v6 : IVec S16x2304x1024 1 := andi main_v2 main_v5
  let main_v7 : FVec F S16x2304x1024 .f32 := (extf .f32 · bitsLt_bf16_f32) main_arg1
  let main_cst_1 : FVec F S_ .f32 := constant S_ .f32 0x7F800000#32
  let main_v8 : FVec F S16x2304x1024 .f32 := broadcastInDim S16x2304x1024 ![] bcast_S_S16x2304x1024 main_cst_1
  let main_v9 : IVec S16x2304x1024 1 := cmpf .olt main_v7 main_v8
  let main_v10 : FVec F S16x2304x1024 .f32 := (extf .f32 · bitsLt_bf16_f32) main_arg1
  let main_cst_2 : FVec F S_ .f32 := constant S_ .f32 0xFF800000#32
  let main_v11 : FVec F S16x2304x1024 .f32 := broadcastInDim S16x2304x1024 ![] bcast_S_S16x2304x1024 main_cst_2
  let main_v12 : IVec S16x2304x1024 1 := cmpf .ogt main_v10 main_v11
  let main_v13 : IVec S16x2304x1024 1 := andi main_v9 main_v12
  let main_v14 : IVec S16x2304x1024 1 := andi main_v6 main_v13
  let main_cst_3 : FVec F S_ .f32 := constant S_ .f32 0x00000000#32
  let main_v15 : FVec F S16x2304x1024 .f32 := broadcastInDim S16x2304x1024 ![] bcast_S_S16x2304x1024 main_cst_3
  let main_v16 : IVec S16x2304x1024 1 := cmpf .ogt main_arg2 main_v15
  let main_cst_4 : FVec F S_ .f32 := constant S_ .f32 0x3F800000#32
  let main_v17 : FVec F S16x2304x1024 .f32 := broadcastInDim S16x2304x1024 ![] bcast_S_S16x2304x1024 main_cst_4
  fn_part1 (F := F) main_arg2 main_arg3 main_v14 main_v16 main_v17
-- ==== Kernel.lean ====
abbrev S16x2304x1024 : Shape := ⟨3, ![16, 2304, 1024]⟩
abbrev S1x128 : Shape := ⟨2, ![1, 128]⟩
abbrev S1x2304x256 : Shape := ⟨3, ![1, 2304, 256]⟩
abbrev S2304x256 : Shape := ⟨2, ![2304, 256]⟩
abbrev S2x2x128x128 : Shape := ⟨4, ![2, 2, 128, 128]⟩
abbrev S128x128 : Shape := ⟨2, ![128, 128]⟩
abbrev S128x256 : Shape := ⟨2, ![128, 256]⟩
abbrev S1x128x256 : Shape := ⟨3, ![1, 128, 256]⟩
abbrev S128x512 : Shape := ⟨2, ![128, 512]⟩
abbrev S1x128x128 : Shape := ⟨3, ![1, 128, 128]⟩
abbrev S1x256 : Shape := ⟨2, ![1, 256]⟩
abbrev S16x8x256 : Shape := ⟨3, ![16, 8, 256]⟩
abbrev S1x8x256 : Shape := ⟨3, ![1, 8, 256]⟩
abbrev S8x256 : Shape := ⟨2, ![8, 256]⟩
abbrev S8x1 : Shape := ⟨2, ![8, 1]⟩
abbrev S1x2x128x128 : Shape := ⟨4, ![1, 2, 128, 128]⟩
abbrev S2x128x128 : Shape := ⟨3, ![2, 128, 128]⟩
abbrev S8x8x256 : Shape := ⟨3, ![8, 8, 256]⟩
abbrev S4x8x256 : Shape := ⟨3, ![4, 8, 256]⟩
abbrev S2x8x256 : Shape := ⟨3, ![2, 8, 256]⟩
abbrev S16x1x1 : Shape := ⟨3, ![16, 1, 1]⟩
abbrev S15x8x256 : Shape := ⟨3, ![15, 8, 256]⟩
abbrev S16x8x128 : Shape := ⟨3, ![16, 8, 128]⟩
abbrev S16x8 : Shape := ⟨2, ![16, 8]⟩
abbrev S16x8x1 : Shape := ⟨3, ![16, 8, 1]⟩
abbrev S128 : Shape := ⟨1, ![128]⟩
abbrev S128x1 : Shape := ⟨2, ![128, 1]⟩

abbrev nBuf : Space → Nat
  | .hbm => 7
  | .vmem => 16
  | .smem => 0
  | _ => 0

abbrev bufTy : (tb : Table) → Fin (tcTables nBuf tb) → BufTy
  | .hbm, ⟨0, _⟩ => ⟨S16x2304x1024, .bf16⟩
  | .hbm, ⟨1, _⟩ => ⟨S16x2304x1024, .bf16⟩
  | .hbm, ⟨2, _⟩ => ⟨S16x2304x1024, .f32⟩
  | .hbm, ⟨3, _⟩ => ⟨S16x2304x1024, .f32⟩
  | .hbm, ⟨4, _⟩ => ⟨S16x2304x1024, .bf16⟩
  | .hbm, ⟨5, _⟩ => ⟨S1x128, .f32⟩
  | .hbm, ⟨6, _⟩ => ⟨S16x2304x1024, .bf16⟩
  | .local _ .vmem, ⟨0, _⟩ => ⟨S1x2304x256, .bf16⟩
  | .local _ .vmem, ⟨1, _⟩ => ⟨S1x2304x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x256, .f32⟩
  | .local _ .vmem, ⟨5, _⟩ => ⟨S1x2304x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .bf16⟩
  | .local _ .vmem, ⟨9, _⟩ => ⟨S1x2304x256, .bf16⟩
  | .local _ .vmem, ⟨10, _⟩ => ⟨S1x128, .f32⟩
  | .local _ .vmem, ⟨11, _⟩ => ⟨S1x2304x256, .bf16⟩
  | .local _ .vmem, ⟨12, _⟩ => ⟨S1x2304x256, .bf16⟩
  | .local _ .vmem, ⟨13, _⟩ => ⟨S2304x256, .f32⟩
  | .local _ .vmem, ⟨14, _⟩ => ⟨S2304x256, .f32⟩
  | .local _ .vmem, ⟨15, _⟩ => ⟨S2x2x128x128, .f32⟩
  | _, _ => ⟨S16x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_mult1 : BitVec 32 :=
  let c0_i32_27 : BitVec 32 := 0#32
  let c17_i32 : BitVec 32 := 17#32
  let v99 : BitVec 32 := Scalar.minsi c0_i32_27 c17_i32
  let c128_i32 : BitVec 32 := 128#32
  let v106 : BitVec 32 := Scalar.muli v99 c128_i32
  v106
def k0_off1 : Fin 2 → Nat :=
  let c0_i32_27 : BitVec 32 := 0#32
  let c17_i32 : BitVec 32 := 17#32
  let v99 : BitVec 32 := Scalar.minsi c0_i32_27 c17_i32
  let c128_i32 : BitVec 32 := 128#32
  let v106 : BitVec 32 := Scalar.muli v99 c128_i32
  let v107 : BitVec 32 := v106
  let v108 : Index := Scalar.indexCast v107
  let c0 : Index := 0#32
  ![v108.toNat, 0]
def k0_mult2 : BitVec 32 :=
  let c0_i32_27 : BitVec 32 := 0#32
  let c17_i32 : BitVec 32 := 17#32
  let v99 : BitVec 32 := Scalar.minsi c0_i32_27 c17_i32
  let c2_i32 : BitVec 32 := 2#32
  let v100 : BitVec 1 := Scalar.cmpi .slt v99 c2_i32
  let c1_i32_28 : BitVec 32 := 1#32
  let v101 : BitVec 32 := Scalar.subi c1_i32_28 v99
  let c17_i32_30 : BitVec 32 := 17#32
  let c2_i32_29 : BitVec 32 := 2#32
  let v102 : BitVec 32 := Scalar.subi v99 c2_i32_29
  let v103 : BitVec 32 := Scalar.subi c17_i32_30 v102
  let v104 : BitVec 32 := Scalar.select v100 v101 v103
  let c128_i32_33 : BitVec 32 := 128#32
  let v113 : BitVec 32 := Scalar.muli v104 c128_i32_33
  v113
def k0_off2 : Fin 2 → Nat :=
  let c0_i32_27 : BitVec 32 := 0#32
  let c17_i32 : BitVec 32 := 17#32
  let v99 : BitVec 32 := Scalar.minsi c0_i32_27 c17_i32
  let c2_i32 : BitVec 32 := 2#32
  let v100 : BitVec 1 := Scalar.cmpi .slt v99 c2_i32
  let c1_i32_28 : BitVec 32 := 1#32
  let v101 : BitVec 32 := Scalar.subi c1_i32_28 v99
  let c17_i32_30 : BitVec 32 := 17#32
  let c2_i32_29 : BitVec 32 := 2#32
  let v102 : BitVec 32 := Scalar.subi v99 c2_i32_29
  let v103 : BitVec 32 := Scalar.subi c17_i32_30 v102
  let v104 : BitVec 32 := Scalar.select v100 v101 v103
  let c128_i32_33 : BitVec 32 := 128#32
  let v113 : BitVec 32 := Scalar.muli v104 c128_i32_33
  let v114 : BitVec 32 := v113
  let v115 : Index := Scalar.indexCast v114
  let c0_34 : Index := 0#32
  ![v115.toNat, 0]
def k0_mult3 : BitVec 32 :=
  let c0_i32_27 : BitVec 32 := 0#32
  let c17_i32 : BitVec 32 := 17#32
  let v99 : BitVec 32 := Scalar.minsi c0_i32_27 c17_i32
  let c128_i32_37 : BitVec 32 := 128#32
  let v121 : BitVec 32 := Scalar.muli v99 c128_i32_37
  v121
def k0_off3 : Fin 3 → Nat :=
  let c0_38 : Index := 0#32
  let c0_i32_27 : BitVec 32 := 0#32
  let c17_i32 : BitVec 32 := 17#32
  let v99 : BitVec 32 := Scalar.minsi c0_i32_27 c17_i32
  let c128_i32_37 : BitVec 32 := 128#32
  let v121 : BitVec 32 := Scalar.muli v99 c128_i32_37
  let v122 : BitVec 32 := v121
  let v123 : Index := Scalar.indexCast v122
  let c0_39 : Index := 0#32
  ![0, v123.toNat, 0]
def k0_mult4 : BitVec 32 :=
  let c0_i32_27 : BitVec 32 := 0#32
  let c17_i32 : BitVec 32 := 17#32
  let v99 : BitVec 32 := Scalar.minsi c0_i32_27 c17_i32
  let c2_i32 : BitVec 32 := 2#32
  let v100 : BitVec 1 := Scalar.cmpi .slt v99 c2_i32
  let c1_i32_28 : BitVec 32 := 1#32
  let v101 : BitVec 32 := Scalar.subi c1_i32_28 v99
  let c17_i32_30 : BitVec 32 := 17#32
  let c2_i32_29 : BitVec 32 := 2#32
  let v102 : BitVec 32 := Scalar.subi v99 c2_i32_29
  let v103 : BitVec 32 := Scalar.subi c17_i32_30 v102
  let v104 : BitVec 32 := Scalar.select v100 v101 v103
  let c128_i32_42 : BitVec 32 := 128#32
  let v139 : BitVec 32 := Scalar.muli v104 c128_i32_42
  v139
def k0_off4 : Fin 3 → Nat :=
  let c0_43 : Index := 0#32
  let c0_i32_27 : BitVec 32 := 0#32
  let c17_i32 : BitVec 32 := 17#32
  let v99 : BitVec 32 := Scalar.minsi c0_i32_27 c17_i32
  let c2_i32 : BitVec 32 := 2#32
  let v100 : BitVec 1 := Scalar.cmpi .slt v99 c2_i32
  let c1_i32_28 : BitVec 32 := 1#32
  let v101 : BitVec 32 := Scalar.subi c1_i32_28 v99
  let c17_i32_30 : BitVec 32 := 17#32
  let c2_i32_29 : BitVec 32 := 2#32
  let v102 : BitVec 32 := Scalar.subi v99 c2_i32_29
  let v103 : BitVec 32 := Scalar.subi c17_i32_30 v102
  let v104 : BitVec 32 := Scalar.select v100 v101 v103
  let c128_i32_42 : BitVec 32 := 128#32
  let v139 : BitVec 32 := Scalar.muli v104 c128_i32_42
  let v140 : BitVec 32 := v139
  let v141 : Index := Scalar.indexCast v140
  let c0_44 : Index := 0#32
  ![0, v141.toNat, 0]
@[reducible] def k0_t1_loop : Scf.Loop 32 :=
  let c0_i32_47 : BitVec 32 := 0#32
  let c18_i32 : BitVec 32 := 18#32
  let v157 : BitVec 32 := Scalar.addi c0_i32_47 c18_i32
  let c1_i32_48 : BitVec 32 := 1#32
  ⟨c0_i32_47, v157, c1_i32_48⟩
def k0_mult5 (arg19 : BitVec 32) : BitVec 32 :=
  let c128_i32_71 : BitVec 32 := 128#32
  let v196 : BitVec 32 := Scalar.muli arg19 c128_i32_71
  v196

def k0_off5 (arg19 : BitVec 32) : Fin 3 → Nat :=
  let c0_72 : Index := 0#32
  let c128_i32_71 : BitVec 32 := 128#32
  let v196 : BitVec 32 := Scalar.muli arg19 c128_i32_71
  let v197 : BitVec 32 := v196
  let v198 : Index := Scalar.indexCast v197
  let c0_73 : Index := 0#32
  ![0, v198.toNat, 0]
def k0_off6 (arg19 : BitVec 32) : Fin 3 → Nat :=
  let c0_75 : Index := 0#32
  let c128_i32_71 : BitVec 32 := 128#32
  let v196 : BitVec 32 := Scalar.muli arg19 c128_i32_71
  let v197 : BitVec 32 := v196
  let v202 : Index := Scalar.indexCast v197
  let c128_76 : Index := 128#32
  ![0, v202.toNat, 128]
def k0_off7 (arg19 : BitVec 32) : Fin 2 → Nat :=
  let c128_i32_71 : BitVec 32 := 128#32
  let v196 : BitVec 32 := Scalar.muli arg19 c128_i32_71
  let v197 : BitVec 32 := v196
  let v206 : Index := Scalar.indexCast v197
  let c0_78 : Index := 0#32
  ![v206.toNat, 0]

def k0_chk1 (arg19 : BitVec 32) : Prop :=
  (128 ∣ (k0_mult5 arg19).toNat) ∧
  (∀ a, (k0_off5 arg19) a + S1x128x128.size a ≤ S1x2304x256.size a) ∧
  (∀ a, (k0_off6 arg19) a + S1x128x128.size a ≤ S1x2304x256.size a) ∧
  (∀ a, (k0_off7 arg19) a + S128x256.size a ≤ S2304x256.size a)
theorem k0_mult5_dvd : ∀ (arg19 : BitVec 32) (k0_hw1 : k0_chk1 arg19), 128 ∣ (k0_mult5 arg19).toNat := fun arg19 k0_hw1 => k0_hw1.1
theorem k0_off5_inb : ∀ (arg19 : BitVec 32) (k0_hw1 : k0_chk1 arg19), ∀ a, (k0_off5 arg19) a + S1x128x128.size a ≤ S1x2304x256.size a := fun arg19 k0_hw1 => k0_hw1.2.1
theorem k0_off6_inb : ∀ (arg19 : BitVec 32) (k0_hw1 : k0_chk1 arg19), ∀ a, (k0_off6 arg19) a + S1x128x128.size a ≤ S1x2304x256.size a := fun arg19 k0_hw1 => k0_hw1.2.2.1
theorem k0_off7_inb : ∀ (arg19 : BitVec 32) (k0_hw1 : k0_chk1 arg19), ∀ a, (k0_off7 arg19) a + S128x256.size a ≤ S2304x256.size a := fun arg19 k0_hw1 => k0_hw1.2.2.2

def k0_mult6 (arg20 : BitVec 32) : BitVec 32 :=
  let c128_i32_80 : BitVec 32 := 128#32
  let v214 : BitVec 32 := Scalar.muli arg20 c128_i32_80
  v214

def k0_off8 (arg20 : BitVec 32) : Fin 3 → Nat :=
  let c0_81 : Index := 0#32
  let c128_i32_80 : BitVec 32 := 128#32
  let v214 : BitVec 32 := Scalar.muli arg20 c128_i32_80
  let v215 : BitVec 32 := v214
  let v216 : Index := Scalar.indexCast v215
  let c0_82 : Index := 0#32
  ![0, v216.toNat, 0]
def k0_off9 (arg20 : BitVec 32) : Fin 3 → Nat :=
  let c0_84 : Index := 0#32
  let c128_i32_80 : BitVec 32 := 128#32
  let v214 : BitVec 32 := Scalar.muli arg20 c128_i32_80
  let v215 : BitVec 32 := v214
  let v220 : Index := Scalar.indexCast v215
  let c128_85 : Index := 128#32
  ![0, v220.toNat, 128]
def k0_off10 (arg20 : BitVec 32) : Fin 2 → Nat :=
  let c128_i32_80 : BitVec 32 := 128#32
  let v214 : BitVec 32 := Scalar.muli arg20 c128_i32_80
  let v215 : BitVec 32 := v214
  let v224 : Index := Scalar.indexCast v215
  let c0_87 : Index := 0#32
  ![v224.toNat, 0]

def k0_chk2 (arg20 : BitVec 32) : Prop :=
  (128 ∣ (k0_mult6 arg20).toNat) ∧
  (∀ a, (k0_off8 arg20) a + S1x128x128.size a ≤ S1x2304x256.size a) ∧
  (∀ a, (k0_off9 arg20) a + S1x128x128.size a ≤ S1x2304x256.size a) ∧
  (∀ a, (k0_off10 arg20) a + S128x256.size a ≤ S2304x256.size a)
theorem k0_mult6_dvd : ∀ (arg20 : BitVec 32) (k0_hw2 : k0_chk2 arg20), 128 ∣ (k0_mult6 arg20).toNat := fun arg20 k0_hw2 => k0_hw2.1
theorem k0_off8_inb : ∀ (arg20 : BitVec 32) (k0_hw2 : k0_chk2 arg20), ∀ a, (k0_off8 arg20) a + S1x128x128.size a ≤ S1x2304x256.size a := fun arg20 k0_hw2 => k0_hw2.2.1
theorem k0_off9_inb : ∀ (arg20 : BitVec 32) (k0_hw2 : k0_chk2 arg20), ∀ a, (k0_off9 arg20) a + S1x128x128.size a ≤ S1x2304x256.size a := fun arg20 k0_hw2 => k0_hw2.2.2.1
theorem k0_off10_inb : ∀ (arg20 : BitVec 32) (k0_hw2 : k0_chk2 arg20), ∀ a, (k0_off10 arg20) a + S128x256.size a ≤ S2304x256.size a := fun arg20 k0_hw2 => k0_hw2.2.2.2

def k0_mult7 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c128_i32_94 : BitVec 32 := 128#32
  let v238 : BitVec 32 := Scalar.muli v232 c128_i32_94
  v238
def k0_off11 (k0_t1 : Fin k0_t1_loop.trips) : Fin 3 → Nat :=
  let c0_95 : Index := 0#32
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c128_i32_94 : BitVec 32 := 128#32
  let v238 : BitVec 32 := Scalar.muli v232 c128_i32_94
  let v239 : BitVec 32 := v238
  let v240 : Index := Scalar.indexCast v239
  let c0_96 : Index := 0#32
  ![0, v240.toNat, 0]
def k0_mult8 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c128_i32_97 : BitVec 32 := 128#32
  let v243 : BitVec 32 := Scalar.muli v232 c128_i32_97
  v243
def k0_mult9 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c128_i32_100 : BitVec 32 := 128#32
  let v248 : BitVec 32 := Scalar.muli v232 c128_i32_100
  v248
def k0_mult10 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c2_i32_90 : BitVec 32 := 2#32
  let v233 : BitVec 1 := Scalar.cmpi .slt v232 c2_i32_90
  let c1_i32_91 : BitVec 32 := 1#32
  let v234 : BitVec 32 := Scalar.subi c1_i32_91 v232
  let c17_i32_93 : BitVec 32 := 17#32
  let c2_i32_92 : BitVec 32 := 2#32
  let v235 : BitVec 32 := Scalar.subi v232 c2_i32_92
  let v236 : BitVec 32 := Scalar.subi c17_i32_93 v235
  let v237 : BitVec 32 := Scalar.select v233 v234 v236
  let c128_i32_103 : BitVec 32 := 128#32
  let v254 : BitVec 32 := Scalar.muli v237 c128_i32_103
  v254
def k0_off12 (k0_t1 : Fin k0_t1_loop.trips) : Fin 3 → Nat :=
  let c0_104 : Index := 0#32
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c2_i32_90 : BitVec 32 := 2#32
  let v233 : BitVec 1 := Scalar.cmpi .slt v232 c2_i32_90
  let c1_i32_91 : BitVec 32 := 1#32
  let v234 : BitVec 32 := Scalar.subi c1_i32_91 v232
  let c17_i32_93 : BitVec 32 := 17#32
  let c2_i32_92 : BitVec 32 := 2#32
  let v235 : BitVec 32 := Scalar.subi v232 c2_i32_92
  let v236 : BitVec 32 := Scalar.subi c17_i32_93 v235
  let v237 : BitVec 32 := Scalar.select v233 v234 v236
  let c128_i32_103 : BitVec 32 := 128#32
  let v254 : BitVec 32 := Scalar.muli v237 c128_i32_103
  let v255 : BitVec 32 := v254
  let v256 : Index := Scalar.indexCast v255
  let c0_105 : Index := 0#32
  ![0, v256.toNat, 0]
def k0_mult11 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c2_i32_90 : BitVec 32 := 2#32
  let v233 : BitVec 1 := Scalar.cmpi .slt v232 c2_i32_90
  let c1_i32_91 : BitVec 32 := 1#32
  let v234 : BitVec 32 := Scalar.subi c1_i32_91 v232
  let c17_i32_93 : BitVec 32 := 17#32
  let c2_i32_92 : BitVec 32 := 2#32
  let v235 : BitVec 32 := Scalar.subi v232 c2_i32_92
  let v236 : BitVec 32 := Scalar.subi c17_i32_93 v235
  let v237 : BitVec 32 := Scalar.select v233 v234 v236
  let c128_i32_106 : BitVec 32 := 128#32
  let v259 : BitVec 32 := Scalar.muli v237 c128_i32_106
  v259
def k0_mult12 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c2_i32_90 : BitVec 32 := 2#32
  let v233 : BitVec 1 := Scalar.cmpi .slt v232 c2_i32_90
  let c1_i32_91 : BitVec 32 := 1#32
  let v234 : BitVec 32 := Scalar.subi c1_i32_91 v232
  let c17_i32_93 : BitVec 32 := 17#32
  let c2_i32_92 : BitVec 32 := 2#32
  let v235 : BitVec 32 := Scalar.subi v232 c2_i32_92
  let v236 : BitVec 32 := Scalar.subi c17_i32_93 v235
  let v237 : BitVec 32 := Scalar.select v233 v234 v236
  let c128_i32_109 : BitVec 32 := 128#32
  let v264 : BitVec 32 := Scalar.muli v237 c128_i32_109
  v264
def k0_mult13 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c128_i32_480 : BitVec 32 := 128#32
  let v1263 : BitVec 32 := Scalar.muli v232 c128_i32_480
  v1263
def k0_off13 (k0_t1 : Fin k0_t1_loop.trips) : Fin 2 → Nat :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c128_i32_480 : BitVec 32 := 128#32
  let v1263 : BitVec 32 := Scalar.muli v232 c128_i32_480
  let v1264 : BitVec 32 := v1263
  let v1265 : Index := Scalar.indexCast v1264
  let c0_481 : Index := 0#32
  ![v1265.toNat, 0]
def k0_mult14 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c2_i32_90 : BitVec 32 := 2#32
  let v233 : BitVec 1 := Scalar.cmpi .slt v232 c2_i32_90
  let c1_i32_91 : BitVec 32 := 1#32
  let v234 : BitVec 32 := Scalar.subi c1_i32_91 v232
  let c17_i32_93 : BitVec 32 := 17#32
  let c2_i32_92 : BitVec 32 := 2#32
  let v235 : BitVec 32 := Scalar.subi v232 c2_i32_92
  let v236 : BitVec 32 := Scalar.subi c17_i32_93 v235
  let v237 : BitVec 32 := Scalar.select v233 v234 v236
  let c128_i32_482 : BitVec 32 := 128#32
  let v1269 : BitVec 32 := Scalar.muli v237 c128_i32_482
  v1269
def k0_off14 (k0_t1 : Fin k0_t1_loop.trips) : Fin 2 → Nat :=
  let c0_i32_47 : BitVec 32 := 0#32
  let c1_i32_48 : BitVec 32 := 1#32
  let arg12 : BitVec 32 := Scf.iv c0_i32_47 c1_i32_48 k0_t1
  let c17_i32_89 : BitVec 32 := 17#32
  let v232 : BitVec 32 := Scalar.minsi arg12 c17_i32_89
  let c2_i32_90 : BitVec 32 := 2#32
  let v233 : BitVec 1 := Scalar.cmpi .slt v232 c2_i32_90
  let c1_i32_91 : BitVec 32 := 1#32
  let v234 : BitVec 32 := Scalar.subi c1_i32_91 v232
  let c17_i32_93 : BitVec 32 := 17#32
  let c2_i32_92 : BitVec 32 := 2#32
  let v235 : BitVec 32 := Scalar.subi v232 c2_i32_92
  let v236 : BitVec 32 := Scalar.subi c17_i32_93 v235
  let v237 : BitVec 32 := Scalar.select v233 v234 v236
  let c128_i32_482 : BitVec 32 := 128#32
  let v1269 : BitVec 32 := Scalar.muli v237 c128_i32_482
  let v1270 : BitVec 32 := v1269
  let v1271 : Index := Scalar.indexCast v1270
  let c0_483 : Index := 0#32
  ![v1271.toNat, 0]
def k0_mult15 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c1_i32_484 : BitVec 32 := 1#32
  let v1275 : BitVec 32 := Scalar.addi arg12 c1_i32_484
  let c17_i32_485 : BitVec 32 := 17#32
  let v1276 : BitVec 32 := Scalar.minsi v1275 c17_i32_485
  let c128_i32_490 : BitVec 32 := 128#32
  let v1282 : BitVec 32 := Scalar.muli v1276 c128_i32_490
  v1282
def k0_off15 (k0_t1 : Fin k0_t1_loop.trips) : Fin 3 → Nat :=
  let c0_491 : Index := 0#32
  let c0_i32_47 : BitVec 32 := 0#32
  let c1_i32_48 : BitVec 32 := 1#32
  let arg12 : BitVec 32 := Scf.iv c0_i32_47 c1_i32_48 k0_t1
  let c1_i32_484 : BitVec 32 := 1#32
  let v1275 : BitVec 32 := Scalar.addi arg12 c1_i32_484
  let c17_i32_485 : BitVec 32 := 17#32
  let v1276 : BitVec 32 := Scalar.minsi v1275 c17_i32_485
  let c128_i32_490 : BitVec 32 := 128#32
  let v1282 : BitVec 32 := Scalar.muli v1276 c128_i32_490
  let v1283 : BitVec 32 := v1282
  let v1284 : Index := Scalar.indexCast v1283
  let c0_492 : Index := 0#32
  ![0, v1284.toNat, 0]
def k0_mult16 (k0_t1 : Fin k0_t1_loop.trips) : BitVec 32 :=
  let c0_i32_47 : BitVec 32 := 0#32
  let c1_i32_48 : BitVec 32 := 1#32
  let arg12 : BitVec 32 := Scf.iv c0_i32_47 c1_i32_48 k0_t1
  let c1_i32_484 : BitVec 32 := 1#32
  let v1275 : BitVec 32 := Scalar.addi arg12 c1_i32_484
  let c17_i32_485 : BitVec 32 := 17#32
  let v1276 : BitVec 32 := Scalar.minsi v1275 c17_i32_485
  let c2_i32_486 : BitVec 32 := 2#32
  let v1277 : BitVec 1 := Scalar.cmpi .slt v1276 c2_i32_486
  let c1_i32_487 : BitVec 32 := 1#32
  let v1278 : BitVec 32 := Scalar.subi c1_i32_487 v1276
  let c17_i32_489 : BitVec 32 := 17#32
  let c2_i32_488 : BitVec 32 := 2#32
  let v1279 : BitVec 32 := Scalar.subi v1276 c2_i32_488
  let v1280 : BitVec 32 := Scalar.subi c17_i32_489 v1279
  let v1281 : BitVec 32 := Scalar.select v1277 v1278 v1280
  let c128_i32_495 : BitVec 32 := 128#32
  let v1300 : BitVec 32 := Scalar.muli v1281 c128_i32_495
  v1300
def k0_off16 (k0_t1 : Fin k0_t1_loop.trips) : Fin 3 → Nat :=
  let c0_496 : Index := 0#32
  let c0_i32_47 : BitVec 32 := 0#32
  let c1_i32_48 : BitVec 32 := 1#32
  let arg12 : BitVec 32 := Scf.iv c0_i32_47 c1_i32_48 k0_t1
  let c1_i32_484 : BitVec 32 := 1#32
  let v1275 : BitVec 32 := Scalar.addi arg12 c1_i32_484
  let c17_i32_485 : BitVec 32 := 17#32
  let v1276 : BitVec 32 := Scalar.minsi v1275 c17_i32_485
  let c2_i32_486 : BitVec 32 := 2#32
  let v1277 : BitVec 1 := Scalar.cmpi .slt v1276 c2_i32_486
  let c1_i32_487 : BitVec 32 := 1#32
  let v1278 : BitVec 32 := Scalar.subi c1_i32_487 v1276
  let c17_i32_489 : BitVec 32 := 17#32
  let c2_i32_488 : BitVec 32 := 2#32
  let v1279 : BitVec 32 := Scalar.subi v1276 c2_i32_488
  let v1280 : BitVec 32 := Scalar.subi c17_i32_489 v1279
  let v1281 : BitVec 32 := Scalar.select v1277 v1278 v1280
  let c128_i32_495 : BitVec 32 := 128#32
  let v1300 : BitVec 32 := Scalar.muli v1281 c128_i32_495
  let v1301 : BitVec 32 := v1300
  let v1302 : Index := Scalar.indexCast v1301
  let c0_497 : Index := 0#32
  ![0, v1302.toNat, 0]
def k0_mult17 (v158_6 : BitVec 32) : BitVec 32 :=
  let c128_i32_50 : BitVec 32 := 128#32
  let v159 : BitVec 32 := Scalar.muli v158_6 c128_i32_50
  v159

def k0_off17 (v158_6 : BitVec 32) : Fin 3 → Nat :=
  let c0_51 : Index := 0#32
  let c128_i32_50 : BitVec 32 := 128#32
  let v159 : BitVec 32 := Scalar.muli v158_6 c128_i32_50
  let v160 : BitVec 32 := v159
  let v161 : Index := Scalar.indexCast v160
  let c0_52 : Index := 0#32
  ![0, v161.toNat, 0]
def k0_off18 (v158_6 : BitVec 32) : Fin 3 → Nat :=
  let c0_54 : Index := 0#32
  let c128_i32_50 : BitVec 32 := 128#32
  let v159 : BitVec 32 := Scalar.muli v158_6 c128_i32_50
  let v160 : BitVec 32 := v159
  let v165 : Index := Scalar.indexCast v160
  let c128 : Index := 128#32
  ![0, v165.toNat, 128]
def k0_off19 (v158_6 : BitVec 32) : Fin 2 → Nat :=
  let c128_i32_50 : BitVec 32 := 128#32
  let v159 : BitVec 32 := Scalar.muli v158_6 c128_i32_50
  let v160 : BitVec 32 := v159
  let v169 : Index := Scalar.indexCast v160
  let c0_56 : Index := 0#32
  ![v169.toNat, 0]

def k0_chk3 (v158_6 : BitVec 32) : Prop :=
  (128 ∣ (k0_mult17 v158_6).toNat) ∧
  (∀ a, (k0_off17 v158_6) a + S1x128x128.size a ≤ S1x2304x256.size a) ∧
  (∀ a, (k0_off18 v158_6) a + S1x128x128.size a ≤ S1x2304x256.size a) ∧
  (∀ a, (k0_off19 v158_6) a + S128x256.size a ≤ S2304x256.size a)
theorem k0_mult17_dvd : ∀ (v158_6 : BitVec 32) (k0_hw3 : k0_chk3 v158_6), 128 ∣ (k0_mult17 v158_6).toNat := fun v158_6 k0_hw3 => k0_hw3.1
theorem k0_off17_inb : ∀ (v158_6 : BitVec 32) (k0_hw3 : k0_chk3 v158_6), ∀ a, (k0_off17 v158_6) a + S1x128x128.size a ≤ S1x2304x256.size a := fun v158_6 k0_hw3 => k0_hw3.2.1
theorem k0_off18_inb : ∀ (v158_6 : BitVec 32) (k0_hw3 : k0_chk3 v158_6), ∀ a, (k0_off18 v158_6) a + S1x128x128.size a ≤ S1x2304x256.size a := fun v158_6 k0_hw3 => k0_hw3.2.2.1
theorem k0_off19_inb : ∀ (v158_6 : BitVec 32) (k0_hw3 : k0_chk3 v158_6), ∀ a, (k0_off19 v158_6) a + S128x256.size a ≤ S2304x256.size a := fun v158_6 k0_hw3 => k0_hw3.2.2.2

def k0_mult18 (v158_7 : BitVec 32) : BitVec 32 :=
  let c128_i32_58 : BitVec 32 := 128#32
  let v177 : BitVec 32 := Scalar.muli v158_7 c128_i32_58
  v177

def k0_off20 (v158_7 : BitVec 32) : Fin 3 → Nat :=
  let c0_59 : Index := 0#32
  let c128_i32_58 : BitVec 32 := 128#32
  let v177 : BitVec 32 := Scalar.muli v158_7 c128_i32_58
  let v178 : BitVec 32 := v177
  let v179 : Index := Scalar.indexCast v178
  let c0_60 : Index := 0#32
  ![0, v179.toNat, 0]
def k0_off21 (v158_7 : BitVec 32) : Fin 3 → Nat :=
  let c0_62 : Index := 0#32
  let c128_i32_58 : BitVec 32 := 128#32
  let v177 : BitVec 32 := Scalar.muli v158_7 c128_i32_58
  let v178 : BitVec 32 := v177
  let v183 : Index := Scalar.indexCast v178
  let c128_63 : Index := 128#32
  ![0, v183.toNat, 128]
def k0_off22 (v158_7 : BitVec 32) : Fin 2 → Nat :=
  let c128_i32_58 : BitVec 32 := 128#32
  let v177 : BitVec 32 := Scalar.muli v158_7 c128_i32_58
  let v178 : BitVec 32 := v177
  let v187 : Index := Scalar.indexCast v178
  let c0_65 : Index := 0#32
  ![v187.toNat, 0]

def k0_chk4 (v158_7 : BitVec 32) : Prop :=
  (128 ∣ (k0_mult18 v158_7).toNat) ∧
  (∀ a, (k0_off20 v158_7) a + S1x128x128.size a ≤ S1x2304x256.size a) ∧
  (∀ a, (k0_off21 v158_7) a + S1x128x128.size a ≤ S1x2304x256.size a) ∧
  (∀ a, (k0_off22 v158_7) a + S128x256.size a ≤ S2304x256.size a)
theorem k0_mult18_dvd : ∀ (v158_7 : BitVec 32) (k0_hw4 : k0_chk4 v158_7), 128 ∣ (k0_mult18 v158_7).toNat := fun v158_7 k0_hw4 => k0_hw4.1
theorem k0_off20_inb : ∀ (v158_7 : BitVec 32) (k0_hw4 : k0_chk4 v158_7), ∀ a, (k0_off20 v158_7) a + S1x128x128.size a ≤ S1x2304x256.size a := fun v158_7 k0_hw4 => k0_hw4.2.1
theorem k0_off21_inb : ∀ (v158_7 : BitVec 32) (k0_hw4 : k0_chk4 v158_7), ∀ a, (k0_off21 v158_7) a + S1x128x128.size a ≤ S1x2304x256.size a := fun v158_7 k0_hw4 => k0_hw4.2.2.1
theorem k0_off22_inb : ∀ (v158_7 : BitVec 32) (k0_hw4 : k0_chk4 v158_7), ∀ a, (k0_off22 v158_7) a + S128x256.size a ≤ S2304x256.size a := fun v158_7 k0_hw4 => k0_hw4.2.2.2

@[reducible] def k0_t2_loop : Scf.Loop 32 :=
  let c0_i32_67 : BitVec 32 := 0#32
  let c18_i32_68 : BitVec 32 := 18#32
  let v195 : BitVec 32 := Scalar.addi c0_i32_67 c18_i32_68
  let c1_i32_69 : BitVec 32 := 1#32
  ⟨c0_i32_67, v195, c1_i32_69⟩
def k0_mult19 (k0_t2 : Fin k0_t2_loop.trips) : BitVec 32 :=
  let c0_i32_67 : BitVec 32 := 0#32
  let c1_i32_69 : BitVec 32 := 1#32
  let arg12 : BitVec 32 := Scf.iv c0_i32_67 c1_i32_69 k0_t2
  let c128_i32_71 : BitVec 32 := 128#32
  let v196 : BitVec 32 := Scalar.muli arg12 c128_i32_71
  v196
def k0_off23 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let c128_i32_71 : BitVec 32 := 128#32
  let v196 : BitVec 32 := Scalar.muli arg12 c128_i32_71
  let v197 : BitVec 32 := v196
  let v198 : Index := Scalar.indexCast v197
  let c0_72 : Index := 0#32
  ![v198.toNat, 0]
def k0_off24 (k0_t2 : Fin k0_t2_loop.trips) : Fin 3 → Nat :=
  let c0_79 : Index := 0#32
  let c0_i32_67 : BitVec 32 := 0#32
  let c1_i32_69 : BitVec 32 := 1#32
  let arg12 : BitVec 32 := Scf.iv c0_i32_67 c1_i32_69 k0_t2
  let c128_i32_71 : BitVec 32 := 128#32
  let v196 : BitVec 32 := Scalar.muli arg12 c128_i32_71
  let v197 : BitVec 32 := v196
  let v216 : Index := Scalar.indexCast v197
  let c0_80 : Index := 0#32
  ![0, v216.toNat, 0]
def k0_off25 (k0_t2 : Fin k0_t2_loop.trips) : Fin 2 → Nat :=
  let c0_i32_67 : BitVec 32 := 0#32
  let c1_i32_69 : BitVec 32 := 1#32
  let arg12 : BitVec 32 := Scf.iv c0_i32_67 c1_i32_69 k0_t2
  let c128_i32_71 : BitVec 32 := 128#32
  let v196 : BitVec 32 := Scalar.muli arg12 c128_i32_71
  let v197 : BitVec 32 := v196
  let v226 : Index := Scalar.indexCast v197
  let c128_83 : Index := 128#32
  ![v226.toNat, 128]
def k0_off26 (k0_t2 : Fin k0_t2_loop.trips) : Fin 3 → Nat :=
  let c0_90 : Index := 0#32
  let c0_i32_67 : BitVec 32 := 0#32
  let c1_i32_69 : BitVec 32 := 1#32
  let arg12 : BitVec 32 := Scf.iv c0_i32_67 c1_i32_69 k0_t2
  let c128_i32_71 : BitVec 32 := 128#32
  let v196 : BitVec 32 := Scalar.muli arg12 c128_i32_71
  let v197 : BitVec 32 := v196
  let v244 : Index := Scalar.indexCast v197
  let c128_91 : Index := 128#32
  ![0, v244.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2304x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2304x1024 : Shape := ⟨3, ![16, 2304, 1024]⟩
abbrev S1x128 : Shape := ⟨2, ![1, 128]⟩
abbrev S16x2304x8x128 : Shape := ⟨4, ![16, 2304, 8, 128]⟩
abbrev S_ : Shape := ⟨0, ![]⟩
abbrev S1x2304x2304x1x1 : Shape := ⟨5, ![1, 2304, 2304, 1, 1]⟩
abbrev S16x1x2304x8x128 : Shape := ⟨5, ![16, 1, 2304, 8, 128]⟩
abbrev S16x2304x2304x8x128 : Shape := ⟨5, ![16, 2304, 2304, 8, 128]⟩
abbrev S16x2304x1x8x128 : Shape := ⟨5, ![16, 2304, 1, 8, 128]⟩
abbrev S16x2304x2304x8 : Shape := ⟨4, ![16, 2304, 2304, 8]⟩
abbrev S16x8x128x2304 : Shape := ⟨4, ![16, 8, 128, 2304]⟩
abbrev S16x2304x8 : Shape := ⟨3, ![16, 2304, 8]⟩
abbrev S16x2304x8x1 : Shape := ⟨4, ![16, 2304, 8, 1]⟩
abbrev S128 : Shape := ⟨1, ![128]⟩
abbrev S1x1x1x128 : Shape := ⟨4, ![1, 1, 1, 128]⟩

abbrev nBuf : Space → Nat
  | .hbm => 209
  | .vmem => 0
  | .smem => 0
  | _ => 0

abbrev hbmTy0_0 (i : Nat) : BufTy := match i % 128 with
  | 0 => ⟨S16x2304x1024, .bf16⟩
  | 1 => ⟨S16x2304x1024, .bf16⟩
  | 2 => ⟨S16x2304x1024, .f32⟩
  | 3 => ⟨S16x2304x1024, .f32⟩
  | 4 => ⟨S16x2304x1024, .bf16⟩
  | 5 => ⟨S1x128, .f32⟩
  | 6 => ⟨S16x2304x1024, .f32⟩
  | 7 => ⟨S16x2304x8x128, .f32⟩
  | 8 => ⟨S16x2304x1024, .f32⟩
  | 9 => ⟨S16x2304x8x128, .f32⟩
  | 10 => ⟨S16x2304x8x128, .f32⟩
  | 11 => ⟨S16x2304x8x128, .f32⟩
  | 12 => ⟨S16x2304x1024, .f32⟩
  | 13 => ⟨S16x2304x8x128, .f32⟩
  | 14 => ⟨S_, .f32⟩
  | 15 => ⟨S16x2304x8x128, .f32⟩
  | 16 => ⟨S16x2304x8x128, .f32⟩
  | 17 => ⟨S16x2304x8x128, .f32⟩
  | 18 => ⟨S1x2304x2304x1x1, .i32⟩
  | 19 => ⟨S_, .i32⟩
  | 20 => ⟨S1x2304x2304x1x1, .i32⟩
  | 21 => ⟨S1x2304x2304x1x1, .i32⟩
  | 22 => ⟨S_, .i32⟩
  | 23 => ⟨S1x2304x2304x1x1, .i32⟩
  | 24 => ⟨S1x2304x2304x1x1, .i32⟩
  | 25 => ⟨S_, .i32⟩
  | 26 => ⟨S1x2304x2304x1x1, .i32⟩
  | 27 => ⟨S1x2304x2304x1x1, .i32⟩
  | 28 => ⟨S_, .i32⟩
  | 29 => ⟨S1x2304x2304x1x1, .i32⟩
  | 30 => ⟨S1x2304x2304x1x1, .i32⟩
  | 31 => ⟨S1x2304x2304x1x1, .i32⟩
  | 32 => ⟨S_, .i32⟩
  | 33 => ⟨S1x2304x2304x1x1, .i32⟩
  | 34 => ⟨S1x2304x2304x1x1, .i32⟩
  | 35 => ⟨S_, .i32⟩
  | 36 => ⟨S1x2304x2304x1x1, .i32⟩
  | 37 => ⟨S1x2304x2304x1x1, .i32⟩
  | 38 => ⟨S1x2304x2304x1x1, .i32⟩
  | 39 => ⟨S1x2304x2304x1x1, .i32⟩
  | 40 => ⟨S_, .i32⟩
  | 41 => ⟨S1x2304x2304x1x1, .i32⟩
  | 42 => ⟨S1x2304x2304x1x1, .i32⟩
  | 43 => ⟨S_, .i32⟩
  | 44 => ⟨S1x2304x2304x1x1, .i32⟩
  | 45 => ⟨S1x2304x2304x1x1, .i32⟩
  | 46 => ⟨S_, .i32⟩
  | 47 => ⟨S1x2304x2304x1x1, .i32⟩
  | 48 => ⟨S1x2304x2304x1x1, .i32⟩
  | 49 => ⟨S_, .i32⟩
  | 50 => ⟨S1x2304x2304x1x1, .i32⟩
  | 51 => ⟨S1x2304x2304x1x1, .i32⟩
  | 52 => ⟨S1x2304x2304x1x1, .i32⟩
  | 53 => ⟨S_, .i32⟩
  | 54 => ⟨S1x2304x2304x1x1, .i32⟩
  | 55 => ⟨S1x2304x2304x1x1, .i32⟩
  | 56 => ⟨S_, .i32⟩
  | 57 => ⟨S1x2304x2304x1x1, .i32⟩
  | 58 => ⟨S1x2304x2304x1x1, .i32⟩
  | 59 => ⟨S1x2304x2304x1x1, .i32⟩
  | 60 => ⟨S1x2304x2304x1x1, .i1⟩
  | 61 => ⟨S16x1x2304x8x128, .f32⟩
  | 62 => ⟨S_, .f32⟩
  | 63 => ⟨S_, .f32⟩
  | 64 => ⟨S16x2304x2304x8x128, .i1⟩
  | 65 => ⟨S16x2304x2304x8x128, .f32⟩
  | 66 => ⟨S16x2304x2304x8x128, .f32⟩
  | 67 => ⟨S16x2304x2304x8x128, .f32⟩
  | 68 => ⟨S_, .f32⟩
  | 69 => ⟨S16x2304x8x128, .f32⟩
  | 70 => ⟨S16x2304x1x8x128, .f32⟩
  | 71 => ⟨S16x1x2304x8x128, .f32⟩
  | 72 => ⟨S16x2304x2304x8x128, .f32⟩
  | 73 => ⟨S16x2304x2304x8x128, .f32⟩
  | 74 => ⟨S16x2304x2304x8x128, .f32⟩
  | 75 => ⟨S_, .f32⟩
  | 76 => ⟨S_, .f32⟩
  | 77 => ⟨S16x2304x2304x8x128, .i1⟩
  | 78 => ⟨S16x2304x2304x8x128, .f32⟩
  | 79 => ⟨S16x2304x2304x8x128, .f32⟩
  | 80 => ⟨S16x2304x2304x8x128, .f32⟩
  | 81 => ⟨S16x2304x1x8x128, .f32⟩
  | 82 => ⟨S16x1x2304x8x128, .f32⟩
  | 83 => ⟨S16x2304x2304x8x128, .f32⟩
  | 84 => ⟨S16x2304x2304x8x128, .f32⟩
  | 85 => ⟨S16x2304x2304x8x128, .f32⟩
  | 86 => ⟨S16x2304x2304x8x128, .f32⟩
  | 87 => ⟨S_, .f32⟩
  | 88 => ⟨S16x2304x2304x8, .f32⟩
  | 89 => ⟨S16x8x128x2304, .f32⟩
  | 90 => ⟨S16x2304x8x128, .f32⟩
  | 91 => ⟨S_, .f32⟩
  | 92 => ⟨S16x2304x8x128, .f32⟩
  | 93 => ⟨S16x2304x8x128, .f32⟩
  | 94 => ⟨S16x2304x8x128, .f32⟩
  | 95 => ⟨S1x2304x2304x1x1, .i32⟩
  | 96 => ⟨S_, .i32⟩
  | 97 => ⟨S1x2304x2304x1x1, .i32⟩
  | 98 => ⟨S1x2304x2304x1x1, .i32⟩
  | 99 => ⟨S_, .i32⟩
  | 100 => ⟨S1x2304x2304x1x1, .i32⟩
  | 101 => ⟨S1x2304x2304x1x1, .i32⟩
  | 102 => ⟨S_, .i32⟩
  | 103 => ⟨S1x2304x2304x1x1, .i32⟩
  | 104 => ⟨S1x2304x2304x1x1, .i32⟩
  | 105 => ⟨S_, .i32⟩
  | 106 => ⟨S1x2304x2304x1x1, .i32⟩
  | 107 => ⟨S1x2304x2304x1x1, .i32⟩
  | 108 => ⟨S1x2304x2304x1x1, .i32⟩
  | 109 => ⟨S_, .i32⟩
  | 110 => ⟨S1x2304x2304x1x1, .i32⟩
  | 111 => ⟨S1x2304x2304x1x1, .i32⟩
  | 112 => ⟨S_, .i32⟩
  | 113 => ⟨S1x2304x2304x1x1, .i32⟩
  | 114 => ⟨S1x2304x2304x1x1, .i32⟩
  | 115 => ⟨S1x2304x2304x1x1, .i32⟩
  | 116 => ⟨S_, .i32⟩
  | 117 => ⟨S1x2304x2304x1x1, .i32⟩
  | 118 => ⟨S1x2304x2304x1x1, .i1⟩
  | 119 => ⟨S_, .i32⟩
  | 120 => ⟨S1x2304x2304x1x1, .i32⟩
  | 121 => ⟨S1x2304x2304x1x1, .i32⟩
  | 122 => ⟨S_, .i32⟩
  | 123 => ⟨S1x2304x2304x1x1, .i32⟩
  | 124 => ⟨S1x2304x2304x1x1, .i32⟩
  | 125 => ⟨S1x2304x2304x1x1, .i32⟩
  | 126 => ⟨S1x2304x2304x1x1, .i32⟩
  | 127 => ⟨S_, .i32⟩
  | _ => ⟨S16x2304x1024, .bf16⟩

abbrev hbmTy0_1 (i : Nat) : BufTy := match i % 128 with
  | 0 => ⟨S1x2304x2304x1x1, .i32⟩
  | 1 => ⟨S1x2304x2304x1x1, .i32⟩
  | 2 => ⟨S_, .i32⟩
  | 3 => ⟨S1x2304x2304x1x1, .i32⟩
  | 4 => ⟨S1x2304x2304x1x1, .i32⟩
  | 5 => ⟨S_, .i32⟩
  | 6 => ⟨S1x2304x2304x1x1, .i32⟩
  | 7 => ⟨S1x2304x2304x1x1, .i32⟩
  | 8 => ⟨S_, .i32⟩
  | 9 => ⟨S1x2304x2304x1x1, .i32⟩
  | 10 => ⟨S1x2304x2304x1x1, .i32⟩
  | 11 => ⟨S1x2304x2304x1x1, .i32⟩
  | 12 => ⟨S_, .i32⟩
  | 13 => ⟨S1x2304x2304x1x1, .i32⟩
  | 14 => ⟨S1x2304x2304x1x1, .i32⟩
  | 15 => ⟨S_, .i32⟩
  | 16 => ⟨S1x2304x2304x1x1, .i32⟩
  | 17 => ⟨S1x2304x2304x1x1, .i32⟩
  | 18 => ⟨S1x2304x2304x1x1, .i32⟩
  | 19 => ⟨S_, .i32⟩
  | 20 => ⟨S1x2304x2304x1x1, .i32⟩
  | 21 => ⟨S1x2304x2304x1x1, .i1⟩
  | 22 => ⟨S_, .i32⟩
  | 23 => ⟨S1x2304x2304x1x1, .i32⟩
  | 24 => ⟨S1x2304x2304x1x1, .i32⟩
  | 25 => ⟨S_, .i32⟩
  | 26 => ⟨S1x2304x2304x1x1, .i32⟩
  | 27 => ⟨S1x2304x2304x1x1, .i32⟩
  | 28 => ⟨S1x2304x2304x1x1, .i32⟩
  | 29 => ⟨S1x2304x2304x1x1, .i1⟩
  | 30 => ⟨S16x1x2304x8x128, .f32⟩
  | 31 => ⟨S_, .f32⟩
  | 32 => ⟨S_, .f32⟩
  | 33 => ⟨S16x2304x2304x8x128, .i1⟩
  | 34 => ⟨S16x2304x2304x8x128, .f32⟩
  | 35 => ⟨S16x2304x2304x8x128, .f32⟩
  | 36 => ⟨S16x2304x2304x8x128, .f32⟩
  | 37 => ⟨S_, .f32⟩
  | 38 => ⟨S16x2304x8x128, .f32⟩
  | 39 => ⟨S16x2304x1x8x128, .f32⟩
  | 40 => ⟨S16x1x2304x8x128, .f32⟩
  | 41 => ⟨S16x2304x2304x8x128, .f32⟩
  | 42 => ⟨S16x2304x2304x8x128, .f32⟩
  | 43 => ⟨S16x2304x2304x8x128, .f32⟩
  | 44 => ⟨S_, .f32⟩
  | 45 => ⟨S_, .f32⟩
  | 46 => ⟨S16x2304x2304x8x128, .i1⟩
  | 47 => ⟨S16x2304x2304x8x128, .f32⟩
  | 48 => ⟨S16x2304x2304x8x128, .f32⟩
  | 49 => ⟨S16x2304x2304x8x128, .f32⟩
  | 50 => ⟨S16x2304x1x8x128, .f32⟩
  | 51 => ⟨S16x1x2304x8x128, .f32⟩
  | 52 => ⟨S16x2304x2304x8x128, .f32⟩
  | 53 => ⟨S16x2304x2304x8x128, .f32⟩
  | 54 => ⟨S16x2304x2304x8x128, .f32⟩
  | 55 => ⟨S16x2304x2304x8x128, .f32⟩
  | 56 => ⟨S_, .f32⟩
  | 57 => ⟨S16x2304x2304x8, .f32⟩
  | 58 => ⟨S16x8x128x2304, .f32⟩
  | 59 => ⟨S16x2304x8x128, .f32⟩
  | 60 => ⟨S16x2304x8x128, .f32⟩
  | 61 => ⟨S16x2304x8x128, .f32⟩
  | 62 => ⟨S_, .f32⟩
  | 63 => ⟨S16x2304x8, .f32⟩
  | 64 => ⟨S16x2304x8x1, .f32⟩
  | 65 => ⟨S_, .f32⟩
  | 66 => ⟨S16x2304x8x1, .f32⟩
  | 67 => ⟨S16x2304x8x1, .f32⟩
  | 68 => ⟨S_, .f32⟩
  | 69 => ⟨S16x2304x8x1, .f32⟩
  | 70 => ⟨S16x2304x8x1, .f32⟩
  | 71 => ⟨S16x2304x8x1, .f32⟩
  | 72 => ⟨S16x2304x8x128, .f32⟩
  | 73 => ⟨S16x2304x8x128, .f32⟩
  | 74 => ⟨S128, .f32⟩
  | 75 => ⟨S1x1x1x128, .f32⟩
  | 76 => ⟨S16x2304x8x128, .f32⟩
  | 77 => ⟨S16x2304x8x128, .f32⟩
  | 78 => ⟨S16x2304x8x128, .f32⟩
  | 79 => ⟨S16x2304x1024, .f32⟩
  | 80 => ⟨S16x2304x1024, .bf16⟩
  | _ => ⟨S16x2304x1024, .bf16⟩

abbrev hbmTy (i : Nat) : BufTy := match i / 128 with
  | 0 => hbmTy0_0 i
  | 1 => hbmTy0_1 i
  | _ => ⟨S16x2304x1024, .bf16⟩

abbrev bufTy : (tb : Table) → Fin (tcTables nBuf tb) → BufTy
  | .hbm, ⟨i, _⟩ => hbmTy i
  | _, _ => ⟨S16x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_v43 : Ref sig .tc := ⟨.hbm, 67, rfl⟩
abbrev main_cst_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_16 : Ref sig .tc := ⟨.hbm, 96, rfl⟩
abbrev main_v65 : Ref sig .tc := ⟨.hbm, 97, rfl⟩
abbrev main_v66 : Ref sig .tc := ⟨.hbm, 98, rfl⟩
abbrev main_c_17 : Ref sig .tc := ⟨.hbm, 99, rfl⟩
abbrev main_v67 : Ref sig .tc := ⟨.hbm, 100, rfl⟩
abbrev main_v68 : Ref sig .tc := ⟨.hbm, 101, rfl⟩
abbrev main_c_18 : Ref sig .tc := ⟨.hbm, 102, rfl⟩
abbrev main_v69 : Ref sig .tc := ⟨.hbm, 103, rfl⟩
abbrev main_v70 : Ref sig .tc := ⟨.hbm, 104, rfl⟩
abbrev main_c_19 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_20 : Ref sig .tc := ⟨.hbm, 109, rfl⟩
abbrev main_v74 : Ref sig .tc := ⟨.hbm, 110, rfl⟩
abbrev main_v75 : Ref sig .tc := ⟨.hbm, 111, rfl⟩
abbrev main_c_21 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_22 : Ref sig .tc := ⟨.hbm, 116, rfl⟩
abbrev main_v79 : Ref sig .tc := ⟨.hbm, 117, rfl⟩
abbrev main_v80 : Ref sig .tc := ⟨.hbm, 118, rfl⟩
abbrev main_c_23 : Ref sig .tc := ⟨.hbm, 119, rfl⟩
abbrev main_v81 : Ref sig .tc := ⟨.hbm, 120, rfl⟩
abbrev main_v82 : Ref sig .tc := ⟨.hbm, 121, rfl⟩
abbrev main_c_24 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_25 : Ref sig .tc := ⟨.hbm, 127, rfl⟩
abbrev main_v87 : Ref sig .tc := ⟨.hbm, 128, rfl⟩
abbrev main_v88 : Ref sig .tc := ⟨.hbm, 129, rfl⟩
abbrev main_c_26 : Ref sig .tc := ⟨.hbm, 130, rfl⟩
abbrev main_v89 : Ref sig .tc := ⟨.hbm, 131, rfl⟩
abbrev main_v90 : Ref sig .tc := ⟨.hbm, 132, rfl⟩
abbrev main_c_27 : Ref sig .tc := ⟨.hbm, 133, rfl⟩
abbrev main_v91 : Ref sig .tc := ⟨.hbm, 134, rfl⟩
abbrev main_v92 : Ref sig .tc := ⟨.hbm, 135, rfl⟩
abbrev main_c_28 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_29 : Ref sig .tc := ⟨.hbm, 140, rfl⟩
abbrev main_v96 : Ref sig .tc := ⟨.hbm, 141, rfl⟩
abbrev main_v97 : Ref sig .tc := ⟨.hbm, 142, rfl⟩
abbrev main_c_30 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_31 : Ref sig .tc := ⟨.hbm, 147, rfl⟩
abbrev main_v101 : Ref sig .tc := ⟨.hbm, 148, rfl⟩
abbrev main_v102 : Ref sig .tc := ⟨.hbm, 149, rfl⟩
abbrev main_c_32 : Ref sig .tc := ⟨.hbm, 150, rfl⟩
abbrev main_v103 : Ref sig .tc := ⟨.hbm, 151, rfl⟩
abbrev main_v104 : Ref sig .tc := ⟨.hbm, 152, rfl⟩
abbrev main_c_33 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_34 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_v110 : Ref sig .tc := ⟨.hbm, 164, rfl⟩
abbrev main_cst_35 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_36 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_37 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_38 : Ref sig .tc := ⟨.hbm, 190, rfl⟩
abbrev main_v130 : Ref sig .tc := ⟨.hbm, 191, rfl⟩
abbrev main_v131 : Ref sig .tc := ⟨.hbm, 192, rfl⟩
abbrev main_cst_39 : Ref sig .tc := ⟨.hbm, 193, rfl⟩
abbrev main_v132 : Ref sig .tc := ⟨.hbm, 194, rfl⟩
abbrev main_v133 : Ref sig .tc := ⟨.hbm, 195, rfl⟩
abbrev main_cst_40 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩

abbrev nD : Nat := 1
abbrev τ : Topo := Topo.v7x

variable {F : FTy → Type} [FloatOps F]
-- ==== Kernel2.lean ====
abbrev S16x2304x1024 : Shape := ⟨3, ![16, 2304, 1024]⟩
abbrev S17x6x1024 : Shape := ⟨3, ![17, 6, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S17x6x1x1024 : Shape := ⟨4, ![17, 6, 1, 1024]⟩
abbrev S1x1024 : Shape := ⟨2, ![1, 1024]⟩
abbrev S1024 : Shape := ⟨1, ![1024]⟩
abbrev S1x256x1024 : Shape := ⟨3, ![1, 256, 1024]⟩
abbrev S1x1x1x1024 : Shape := ⟨4, ![1, 1, 1, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 12
  | .vmem => 13
  | .smem => 0
  | _ => 0

abbrev bufTy : (tb : Table) → Fin (tcTables nBuf tb) → BufTy
  | .hbm, ⟨0, _⟩ => ⟨S16x2304x1024, .f32⟩
  | .hbm, ⟨1, _⟩ => ⟨S17x6x1024, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x1024x5632, .bf16⟩
  | .hbm, ⟨6, _⟩ => ⟨S4x2816x1024, .bf16⟩
  | .hbm, ⟨7, _⟩ => ⟨S17x6x1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x5632, .bf16⟩
  | .local _ .vmem, ⟨10, _⟩ => ⟨S1x2816x1024, .bf16⟩
  | .local _ .vmem, ⟨11, _⟩ => ⟨S1x256x1024, .f32⟩
  | .local _ .vmem, ⟨12, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c3_i32 : BitVec 32 := 3#32
  let c0_i32_0 : BitVec 32 := 0#32
  let c0_i32_1 : BitVec 32 := 0#32
  let c0_i32_2 : BitVec 32 := 0#32
  ![v2.toNat, c3_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c4_i32 : BitVec 32 := 4#32
  let c0_i32_0 : BitVec 32 := 0#32
  let c0_i32_1 : BitVec 32 := 0#32
  let c0_i32_2 : BitVec 32 := 0#32
  ![v2.toNat, c4_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c5_i32 : BitVec 32 := 5#32
  let c0_i32_0 : BitVec 32 := 0#32
  let c0_i32_1 : BitVec 32 := 0#32
  let c0_i32_2 : BitVec 32 := 0#32
  ![v2.toNat, c5_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16x2304x1024 : Shape := ⟨3, ![16, 2304, 1024]⟩
abbrev S17x6x1024 : Shape := ⟨3, ![17, 6, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16x6x1024 : Shape := ⟨3, ![16, 6, 1024]⟩
abbrev S16x1x1024 : Shape := ⟨3, ![16, 1, 1024]⟩
abbrev S1x6x1024 : Shape := ⟨3, ![1, 6, 1024]⟩
abbrev S1x1x1024 : Shape := ⟨3, ![1, 1, 1024]⟩
abbrev S16x256x1024 : Shape := ⟨3, ![16, 256, 1024]⟩
abbrev S16x2048x1024 : Shape := ⟨3, ![16, 2048, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16x2048x5632 : Shape := ⟨3, ![16, 2048, 5632]⟩
abbrev S16x2048x2816 : Shape := ⟨3, ![16, 2048, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩

abbrev nBuf : Space → Nat
  | .hbm => 114
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S17x6x1024, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S16x6x1024, .f32⟩
  | .hbm, ⟨6, _⟩ => ⟨S16x1x1024, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S1x6x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S16x256x1024, .f32⟩
  | .hbm, ⟨20, _⟩ => ⟨S16x2048x1024, .f32⟩
  | .hbm, ⟨21, _⟩ => ⟨S1x1024, .f32⟩
  | .hbm, ⟨22, _⟩ => ⟨S1024, .f32⟩
  | .hbm, ⟨23, _⟩ => ⟨S16x2048x1024, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S1x1x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S1x1024x5632, .f32⟩
  | .hbm, ⟨47, _⟩ => ⟨S1024x5632, .f32⟩
  | .hbm, ⟨48, _⟩ => ⟨S1x2816x1024, .f32⟩
  | .hbm, ⟨49, _⟩ => ⟨S2816x1024, .f32⟩
  | .hbm, ⟨50, _⟩ => ⟨S16x2048x5632, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S_, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S16x2048x2816, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S1x1024, .f32⟩
  | .hbm, ⟨68, _⟩ => ⟨S1024, .f32⟩
  | .hbm, ⟨69, _⟩ => ⟨S16x256x1024, .f32⟩
  | .hbm, ⟨70, _⟩ => ⟨S_, .f32⟩
  | .hbm, ⟨71, _⟩ => ⟨S16x256, .f32⟩
  | .hbm, ⟨72, _⟩ => ⟨S16x256x1, .f32⟩
  | .hbm, ⟨73, _⟩ => ⟨S_, .f32⟩
  | .hbm, ⟨74, _⟩ => ⟨S16x256x1, .f32⟩
  | .hbm, ⟨75, _⟩ => ⟨S16x256x1, .f32⟩
  | .hbm, ⟨76, _⟩ => ⟨S_, .f32⟩
  | .hbm, ⟨77, _⟩ => ⟨S16x256x1, .f32⟩
  | .hbm, ⟨78, _⟩ => ⟨S16x256x1, .f32⟩
  | .hbm, ⟨79, _⟩ => ⟨S16x256x1, .f32⟩
  | .hbm, ⟨80, _⟩ => ⟨S16x256x1024, .f32⟩
  | .hbm, ⟨81, _⟩ => ⟨S16x256x1024, .f32⟩
  | .hbm, ⟨82, _⟩ => ⟨S1x1x1024, .f32⟩
  | .hbm, ⟨83, _⟩ => ⟨S16x256x1024, .f32⟩
  | .hbm, ⟨84, _⟩ => ⟨S16x256x1024, .f32⟩
  | .hbm, ⟨85, _⟩ => ⟨S_, .f32⟩
  | .hbm, ⟨86, _⟩ => ⟨S1x1x1024, .f32⟩
  | .hbm, ⟨87, _⟩ => ⟨S1x1x1024, .f32⟩
  | .hbm, ⟨88, _⟩ => ⟨S16x256x1024, .f32⟩
  | .hbm, ⟨89, _⟩ => ⟨S16x256x1024, .f32⟩
  | .hbm, ⟨90, _⟩ => ⟨S16x256x1024, .f32⟩
  | .hbm, ⟨91, _⟩ => ⟨S16x256x1024, .f32⟩
  | .hbm, ⟨92, _⟩ => ⟨S1x1024x5632, .f32⟩
  | .hbm, ⟨93, _⟩ => ⟨S1024x5632, .f32⟩
  | .hbm, ⟨94, _⟩ => ⟨S1x2816x1024, .f32⟩
  | .hbm, ⟨95, _⟩ => ⟨S2816x1024, .f32⟩
  | .hbm, ⟨96, _⟩ => ⟨S16x256x5632, .f32⟩
  | .hbm, ⟨97, _⟩ => ⟨S16x256x2816, .f32⟩
  | .hbm, ⟨98, _⟩ => ⟨S16x256x2816, .f32⟩
  | .hbm, ⟨99, _⟩ => ⟨S16x256x2816, .f32⟩
  | .hbm, ⟨100, _⟩ => ⟨S16x256x2816, .f32⟩
  | .hbm, ⟨101, _⟩ => ⟨S_, .f32⟩
  | .hbm, ⟨102, _⟩ => ⟨S16x256x2816, .f32⟩
  | .hbm, ⟨103, _⟩ => ⟨S16x256x2816, .f32⟩
  | .hbm, ⟨104, _⟩ => ⟨S_, .f32⟩
  | .hbm, ⟨105, _⟩ => ⟨S16x256x2816, .f32⟩
  | .hbm, ⟨106, _⟩ => ⟨S16x256x2816, .f32⟩
  | .hbm, ⟨107, _⟩ => ⟨S16x256x2816, .f32⟩
  | .hbm, ⟨108, _⟩ => ⟨S16x256x2816, .f32⟩
  | .hbm, ⟨109, _⟩ => ⟨S16x256x1024, .f32⟩
  | .hbm, ⟨110, _⟩ => ⟨S16x256x1024, .f32⟩
  | .hbm, ⟨111, _⟩ => ⟨S16x256x1024, .f32⟩
  | .hbm, ⟨112, _⟩ => ⟨S16x256x1024, .f32⟩
  | .hbm, ⟨113, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_3 : Ref sig .tc := ⟨.hbm, 70, rfl⟩
abbrev main_v53 : Ref sig .tc := ⟨.hbm, 71, rfl⟩
abbrev main_v54 : Ref sig .tc := ⟨.hbm, 72, rfl⟩
abbrev main_cst_4 : Ref sig .tc := ⟨.hbm, 73, rfl⟩
abbrev main_v55 : Ref sig .tc := ⟨.hbm, 74, rfl⟩
abbrev main_v56 : Ref sig .tc := ⟨.hbm, 75, rfl⟩
abbrev main_cst_5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_6 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]
-- ==== Kernel3.lean ====
abbrev S16x2304x1024 : Shape := ⟨3, ![16, 2304, 1024]⟩
abbrev S17x6x1024 : Shape := ⟨3, ![17, 6, 1024]⟩
abbrev S4x1024 : Shape := ⟨2, ![4, 1024]⟩
abbrev S4x1024x11776 : Shape := ⟨3, ![4, 1024, 11776]⟩
abbrev S2x4x1024 : Shape := ⟨3, ![2, 4, 1024]⟩
abbrev S17x6x1x1024 : Shape := ⟨4, ![17, 6, 1, 1024]⟩
abbrev S1x1024 : Shape := ⟨2, ![1, 1024]⟩
abbrev S1024 : Shape := ⟨1, ![1024]⟩
abbrev S1x1x1024 : Shape := ⟨3, ![1, 1, 1024]⟩
abbrev S1x256x1024 : Shape := ⟨3, ![1, 256, 1024]⟩
abbrev S1x1x1x1024 : Shape := ⟨4, ![1, 1, 1, 1024]⟩
abbrev S1x1024x5120 : Shape := ⟨3, ![1, 1024, 5120]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 21
  | .vmem => 20
  | .smem => 0
  | _ => 0

abbrev bufTy : (tb : Table) → Fin (tcTables nBuf tb) → BufTy
  | .hbm, ⟨0, _⟩ => ⟨S16x2304x1024, .f32⟩
  | .hbm, ⟨1, _⟩ => ⟨S17x6x1024, .f32⟩
  | .hbm, ⟨2, _⟩ => ⟨S4x1024, .f32⟩
  | .hbm, ⟨3, _⟩ => ⟨S4x1024x11776, .f32⟩
  | .hbm, ⟨4, _⟩ => ⟨S2x4x1024, .f32⟩
  | .hbm, ⟨5, _⟩ => ⟨S4x1024x11776, .bf16⟩
  | .hbm, ⟨6, _⟩ => ⟨S17x6x1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S16x2304x1024, .bf16⟩
  | .hbm, ⟨17, _⟩ => ⟨S16x2304x1024, .bf16⟩
  | .hbm, ⟨18, _⟩ => ⟨S16x2304x1024, .f32⟩
  | .hbm, ⟨19, _⟩ => ⟨S16x2304x1024, .f32⟩
  | .hbm, ⟨20, _⟩ => ⟨S16x2304x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1024x5120, .bf16⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .bf16⟩
  | .local _ .vmem, ⟨19, _⟩ => ⟨S1x256x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c1_i32_0 : BitVec 32 := 1#32
  let c0_i32_1 : BitVec 32 := 0#32
  let c0_i32_2 : BitVec 32 := 0#32
  let c0_i32_3 : BitVec 32 := 0#32
  ![v2.toNat, c1_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x2304x1024 : Shape := ⟨3, ![16, 2304, 1024]⟩
abbrev S17x6x1024 : Shape := ⟨3, ![17, 6, 1024]⟩
abbrev S4x1024 : Shape := ⟨2, ![4, 1024]⟩
abbrev S4x1024x11776 : Shape := ⟨3, ![4, 1024, 11776]⟩
abbrev S2x4x1024 : Shape := ⟨3, ![2, 4, 1024]⟩
abbrev S16x6x1024 : Shape := ⟨3, ![16, 6, 1024]⟩
abbrev S16x1x1024 : Shape := ⟨3, ![16, 1, 1024]⟩
abbrev S1x6x1024 : Shape := ⟨3, ![1, 6, 1024]⟩
abbrev S1x1x1024 : Shape := ⟨3, ![1, 1, 1024]⟩
abbrev S16x256x1024 : Shape := ⟨3, ![16, 256, 1024]⟩
abbrev S16x2048x1024 : Shape := ⟨3, ![16, 2048, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S1x1024x5120 : Shape := ⟨3, ![1, 1024, 5120]⟩
abbrev S1024x5120 : Shape := ⟨2, ![1024, 5120]⟩
abbrev S16x2048x5120 : Shape := ⟨3, ![16, 2048, 5120]⟩
abbrev S16x256x5120 : Shape := ⟨3, ![16, 256, 5120]⟩
abbrev S16x2304x5120 : Shape := ⟨3, ![16, 2304, 5120]⟩

abbrev nBuf : Space → Nat
  | .hbm => 145
  | .vmem => 0
  | .smem => 0
  | _ => 0

abbrev hbmTy0_0 (i : Nat) : BufTy := match i % 128 with
  | 0 => ⟨S16x2304x1024, .f32⟩
  | 1 => ⟨S17x6x1024, .f32⟩
  | 2 => ⟨S4x1024, .f32⟩
  | 3 => ⟨S4x1024x11776, .f32⟩
  | 4 => ⟨S2x4x1024, .f32⟩
  | 5 => ⟨S16x6x1024, .f32⟩
  | 6 => ⟨S16x1x1024, .f32⟩
  | 7 => ⟨S16x1x1024, .f32⟩
  | 8 => ⟨S16x1x1024, .f32⟩
  | 9 => ⟨S16x1x1024, .f32⟩
  | 10 => ⟨S16x1x1024, .f32⟩
  | 11 => ⟨S16x1x1024, .f32⟩
  | 12 => ⟨S1x6x1024, .f32⟩
  | 13 => ⟨S1x1x1024, .f32⟩
  | 14 => ⟨S1x1x1024, .f32⟩
  | 15 => ⟨S1x1x1024, .f32⟩
  | 16 => ⟨S1x1x1024, .f32⟩
  | 17 => ⟨S1x1x1024, .f32⟩
  | 18 => ⟨S1x1x1024, .f32⟩
  | 19 => ⟨S16x256x1024, .f32⟩
  | 20 => ⟨S16x2048x1024, .f32⟩
  | 21 => ⟨S1x1024, .f32⟩
  | 22 => ⟨S1024, .f32⟩
  | 23 => ⟨S16x2048x1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S_, .f32⟩
  | 31 => ⟨S16x2048x1, .f32⟩
  | 32 => ⟨S16x2048x1, .f32⟩
  | 33 => ⟨S16x2048x1, .f32⟩
  | 34 => ⟨S16x2048x1024, .f32⟩
  | 35 => ⟨S16x2048x1024, .f32⟩
  | 36 => ⟨S1x1x1024, .f32⟩
  | 37 => ⟨S16x2048x1024, .f32⟩
  | 38 => ⟨S16x2048x1024, .f32⟩
  | 39 => ⟨S_, .f32⟩
  | 40 => ⟨S16x1x1024, .f32⟩
  | 41 => ⟨S16x1x1024, .f32⟩
  | 42 => ⟨S16x2048x1024, .f32⟩
  | 43 => ⟨S16x2048x1024, .f32⟩
  | 44 => ⟨S16x2048x1024, .f32⟩
  | 45 => ⟨S16x2048x1024, .f32⟩
  | 46 => ⟨S1x1024, .f32⟩
  | 47 => ⟨S1024, .f32⟩
  | 48 => ⟨S16x256x1024, .f32⟩
  | 49 => ⟨S_, .f32⟩
  | 50 => ⟨S16x256, .f32⟩
  | 51 => ⟨S16x256x1, .f32⟩
  | 52 => ⟨S_, .f32⟩
  | 53 => ⟨S16x256x1, .f32⟩
  | 54 => ⟨S16x256x1, .f32⟩
  | 55 => ⟨S_, .f32⟩
  | 56 => ⟨S16x256x1, .f32⟩
  | 57 => ⟨S16x256x1, .f32⟩
  | 58 => ⟨S16x256x1, .f32⟩
  | 59 => ⟨S16x256x1024, .f32⟩
  | 60 => ⟨S16x256x1024, .f32⟩
  | 61 => ⟨S1x1x1024, .f32⟩
  | 62 => ⟨S16x256x1024, .f32⟩
  | 63 => ⟨S16x256x1024, .f32⟩
  | 64 => ⟨S_, .f32⟩
  | 65 => ⟨S1x1x1024, .f32⟩
  | 66 => ⟨S1x1x1024, .f32⟩
  | 67 => ⟨S16x256x1024, .f32⟩
  | 68 => ⟨S16x256x1024, .f32⟩
  | 69 => ⟨S16x256x1024, .f32⟩
  | 70 => ⟨S16x256x1024, .f32⟩
  | 71 => ⟨S1x1024x5120, .f32⟩
  | 72 => ⟨S1024x5120, .f32⟩
  | 73 => ⟨S16x2048x5120, .f32⟩
  | 74 => ⟨S1x1024x5120, .f32⟩
  | 75 => ⟨S1024x5120, .f32⟩
  | 76 => ⟨S16x256x5120, .f32⟩
  | 77 => ⟨S16x2304x5120, .f32⟩
  | 78 => ⟨S1x1x1024, .f32⟩
  | 79 => ⟨S1024, .f32⟩
  | 80 => ⟨S1x1x1024, .f32⟩
  | 81 => ⟨S1024, .f32⟩
  | 82 => ⟨S16x2304x1024, .f32⟩
  | 83 => ⟨S16x2304x1024, .f32⟩
  | 84 => ⟨S16x2304x1024, .f32⟩
  | 85 => ⟨S16x2304x1024, .f32⟩
  | 86 => ⟨S16x2304x1024, .f32⟩
  | 87 => ⟨S16x2304x1024, .f32⟩
  | 88 => ⟨S16x2304x1024, .f32⟩
  | 89 => ⟨S_, .f32⟩
  | 90 => ⟨S16x2304x1024, .f32⟩
  | 91 => ⟨S16x2304x1024, .f32⟩
  | 92 => ⟨S_, .f32⟩
  | 93 => ⟨S16x2304x1024, .f32⟩
  | 94 => ⟨S16x2304x1024, .f32⟩
  | 95 => ⟨S16x2304x1024, .f32⟩
  | 96 => ⟨S_, .f32⟩
  | 97 => ⟨S16x2304x1024, .f32⟩
  | 98 => ⟨S16x2304x1024, .f32⟩
  | 99 => ⟨S_, .f32⟩
  | 100 => ⟨S1024, .f32⟩
  | 101 => ⟨S1024, .f32⟩
  | 102 => ⟨S16x2304x1024, .f32⟩
  | 103 => ⟨S16x2304x1024, .f32⟩
  | 104 => ⟨S_, .f32⟩
  | 105 => ⟨S16x2304x1024, .f32⟩
  | 106 => ⟨S16x2304x1024, .f32⟩
  | 107 => ⟨S_, .f32⟩
  | 108 => ⟨S16x2304x1024, .f32⟩
  | 109 => ⟨S16x2304x1024, .f32⟩
  | 110 => ⟨S1x1x1024, .f32⟩
  | 111 => ⟨S16x2304x1024, .f32⟩
  | 112 => ⟨S16x2304x1024, .f32⟩
  | 113 => ⟨S1x1x1024, .f32⟩
  | 114 => ⟨S16x2304x1024, .f32⟩
  | 115 => ⟨S16x2304x1024, .f32⟩
  | 116 => ⟨S_, .f32⟩
  | 117 => ⟨S1024, .f32⟩
  | 118 => ⟨S1024, .f32⟩
  | 119 => ⟨S16x2304x1024, .f32⟩
  | 120 => ⟨S16x2304x1024, .f32⟩
  | 121 => ⟨S_, .f32⟩
  | 122 => ⟨S16x2304x1024, .f32⟩
  | 123 => ⟨S16x2304x1024, .f32⟩
  | 124 => ⟨S_, .f32⟩
  | 125 => ⟨S16x2304x1024, .f32⟩
  | 126 => ⟨S16x2304x1024, .f32⟩
  | 127 => ⟨S1x1x1024, .f32⟩
  | _ => ⟨S16x2304x1024, .f32⟩

abbrev hbmTy0_1 (i : Nat) : BufTy := match i % 128 with
  | 0 => ⟨S16x2304x1024, .f32⟩
  | 1 => ⟨S16x2304x1024, .f32⟩
  | 2 => ⟨S1x1x1024, .f32⟩
  | 3 => ⟨S16x2304x1024, .f32⟩
  | 4 => ⟨S16x2304x1024, .f32⟩
  | 5 => ⟨S16x2304x1024, .bf16⟩
  | 6 => ⟨S16x2304x1024, .bf16⟩
  | 7 => ⟨S16x2304x1024, .f32⟩
  | 8 => ⟨S16x2304x1024, .f32⟩
  | 9 => ⟨S_, .f32⟩
  | 10 => ⟨S16x2304x1024, .f32⟩
  | 11 => ⟨S16x2304x1024, .f32⟩
  | 12 => ⟨S_, .f32⟩
  | 13 => ⟨S16x2304x1024, .f32⟩
  | 14 => ⟨S16x2304x1024, .f32⟩
  | 15 => ⟨S16x2304x1024, .f32⟩
  | 16 => ⟨S16x2304x1024, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_6 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v74 : Ref sig .tc := ⟨.hbm, 95, rfl⟩
abbrev main_cst_7 : Ref sig .tc := ⟨.hbm, 96, rfl⟩
abbrev main_v75 : Ref sig .tc := ⟨.hbm, 97, rfl⟩
abbrev main_v76 : Ref sig .tc := ⟨.hbm, 98, rfl⟩
abbrev main_cst_8 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_9 : Ref sig .tc := ⟨.hbm, 104, rfl⟩
abbrev main_v81 : Ref sig .tc := ⟨.hbm, 105, rfl⟩
abbrev main_v82 : Ref sig .tc := ⟨.hbm, 106, rfl⟩
abbrev main_cst_10 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_12 : Ref sig .tc := ⟨.hbm, 121, rfl⟩
abbrev main_v95 : Ref sig .tc := ⟨.hbm, 122, rfl⟩
abbrev main_v96 : Ref sig .tc := ⟨.hbm, 123, rfl⟩
abbrev main_cst_13 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_call1_v0 : Ref sig .tc := ⟨.hbm, 135, rfl⟩
abbrev main_call1_v1 : Ref sig .tc := ⟨.hbm, 136, rfl⟩
abbrev main_call1_cst : Ref sig .tc := ⟨.hbm, 137, rfl⟩
abbrev main_call1_v2 : Ref sig .tc := ⟨.hbm, 138, rfl⟩
abbrev main_call1_v3 : Ref sig .tc := ⟨.hbm, 139, rfl⟩
abbrev main_call1_cst_0 : Ref sig .tc := ⟨.hbm, 140, rfl⟩
abbrev main_call1_v4 : Ref sig .tc := ⟨.hbm, 141, rfl⟩
abbrev main_call1_v5 : Ref sig .tc := ⟨.hbm, 142, rfl⟩
abbrev main_v107 : Ref sig .tc := ⟨.hbm, 143, rfl⟩
abbrev main_v108 : Ref sig .tc := ⟨.hbm, 144, rfl⟩

abbrev nD : Nat := 1
abbrev τ : Topo := Topo.v7x

variable {F : FTy → Type} [FloatOps F]
-- ==== Kernel4.lean ====
abbrev S16x2304x1024 : Shape := ⟨3, ![16, 2304, 1024]⟩
abbrev S16x2304x3072 : Shape := ⟨3, ![16, 2304, 3072]⟩
abbrev S17x6x1024 : Shape := ⟨3, ![17, 6, 1024]⟩
abbrev S4x3x1024x1024 : Shape := ⟨4, ![4, 3, 1024, 1024]⟩
abbrev S4x1024x1024 : Shape := ⟨3, ![4, 1024, 1024]⟩
abbrev S17x6x1x1024 : Shape := ⟨4, ![17, 6, 1, 1024]⟩
abbrev S1x256x1024 : Shape := ⟨3, ![1, 256, 1024]⟩
abbrev S1x256x3072 : Shape := ⟨3, ![1, 256, 3072]⟩
abbrev S1x3x1024x1024 : Shape := ⟨4, ![1, 3, 1024, 1024]⟩
abbrev S1x1024x1024 : Shape := ⟨3, ![1, 1024, 1024]⟩
abbrev S1x1x1x1024 : Shape := ⟨4, ![1, 1, 1, 1024]⟩
abbrev S256x1024 : Shape := ⟨2, ![256, 1024]⟩
abbrev S1x1x1024x1024 : Shape := ⟨4, ![1, 1, 1024, 1024]⟩
abbrev S1024x1024 : Shape := ⟨2, ![1024, 1024]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S16x2304x1024, .bf16⟩
  | .hbm, ⟨3, _⟩ => ⟨S16x2304x1024, .bf16⟩
  | .hbm, ⟨4, _⟩ => ⟨S16x2304x3072, .bf16⟩
  | .hbm, ⟨5, _⟩ => ⟨S17x6x1024, .f32⟩
  | .hbm, ⟨6, _⟩ => ⟨S4x3x1024x1024, .f32⟩
  | .hbm, ⟨7, _⟩ => ⟨S4x1024x1024, .f32⟩
  | .hbm, ⟨8, _⟩ => ⟨S4x3x1024x1024, .bf16⟩
  | .hbm, ⟨9, _⟩ => ⟨S4x1024x1024, .bf16⟩
  | .hbm, ⟨10, _⟩ => ⟨S17x6x1x1024, .f32⟩
  | .hbm, ⟨11, _⟩ => ⟨S16x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x3072, .bf16⟩
  | .local _ .vmem, ⟨9, _⟩ => ⟨S1x256x3072, .bf16⟩
  | .local _ .vmem, ⟨10, _⟩ => ⟨S1x3x1024x1024, .bf16⟩
  | .local _ .vmem, ⟨11, _⟩ => ⟨S1x1024x1024, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S1x256x1024, .f32⟩
  | .local _ .vmem, ⟨15, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c2_i32 : BitVec 32 := 2#32
  let c0_i32_0 : BitVec 32 := 0#32
  let c0_i32_1 : BitVec 32 := 0#32
  let c0_i32_2 : BitVec 32 := 0#32
  ![v2.toNat, c2_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S16x2304x1024 : Shape := ⟨3, ![16, 2304, 1024]⟩
abbrev S16x2304x3072 : Shape := ⟨3, ![16, 2304, 3072]⟩
abbrev S17x6x1024 : Shape := ⟨3, ![17, 6, 1024]⟩
abbrev S4x3x1024x1024 : Shape := ⟨4, ![4, 3, 1024, 1024]⟩
abbrev S4x1024x1024 : Shape := ⟨3, ![4, 1024, 1024]⟩
abbrev S16x6x1024 : Shape := ⟨3, ![16, 6, 1024]⟩
abbrev S16x1x1024 : Shape := ⟨3, ![16, 1, 1024]⟩
abbrev S1x6x1024 : Shape := ⟨3, ![1, 6, 1024]⟩
abbrev S1x1x1024 : Shape := ⟨3, ![1, 1, 1024]⟩
abbrev S1x3x1024x1024 : Shape := ⟨4, ![1, 3, 1024, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S16x2048x1024 : Shape := ⟨3, ![16, 2048, 1024]⟩
abbrev S16x256x1024 : Shape := ⟨3, ![16, 256, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S16x2304x1024, .bf16⟩
  | .hbm, ⟨2, _⟩ => ⟨S16x2304x1024, .bf16⟩
  | .hbm, ⟨3, _⟩ => ⟨S16x2304x1024, .bf16⟩
  | .hbm, ⟨4, _⟩ => ⟨S16x2304x3072, .bf16⟩
  | .hbm, ⟨5, _⟩ => ⟨S17x6x1024, .f32⟩
  | .hbm, ⟨6, _⟩ => ⟨S4x3x1024x1024, .f32⟩
  | .hbm, ⟨7, _⟩ => ⟨S4x1024x1024, .f32⟩
  | .hbm, ⟨8, _⟩ => ⟨S16x6x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S1x6x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S1x1x1024, .f32⟩
  | .hbm, ⟨22, _⟩ => ⟨S16x2304x1024, .f32⟩
  | .hbm, ⟨23, _⟩ => ⟨S16x2304x1024, .f32⟩
  | .hbm, ⟨24, _⟩ => ⟨S16x2304x1024, .f32⟩
  | .hbm, ⟨25, _⟩ => ⟨S16x2304x3072, .f32⟩
  | .hbm, ⟨26, _⟩ => ⟨S1x3x1024x1024, .f32⟩
  | .hbm, ⟨27, _⟩ => ⟨S3x1024x1024, .f32⟩
  | .hbm, ⟨28, _⟩ => ⟨S1x1024x1024, .f32⟩
  | .hbm, ⟨29, _⟩ => ⟨S1024x1024, .f32⟩
  | .hbm, ⟨30, _⟩ => ⟨S16x2304x1024, .f32⟩
  | .hbm, ⟨31, _⟩ => ⟨S16x2304x1024, .f32⟩
  | .hbm, ⟨32, _⟩ => ⟨S16x2304x1024, .f32⟩
  | .hbm, ⟨33, _⟩ => ⟨S1x1024x1024, .f32⟩
  | .hbm, ⟨34, _⟩ => ⟨S1024x1024, .f32⟩
  | .hbm, ⟨35, _⟩ => ⟨S16x2304x1024, .f32⟩
  | .hbm, ⟨36, _⟩ => ⟨S16x2304x1024, .f32⟩
  | .hbm, ⟨37, _⟩ => ⟨S1x1024x1024, .f32⟩
  | .hbm, ⟨38, _⟩ => ⟨S1024x1024, .f32⟩
  | .hbm, ⟨39, _⟩ => ⟨S16x2304x1024, .f32⟩
  | .hbm, ⟨40, _⟩ => ⟨S16x2304x1024, .f32⟩
  | .hbm, ⟨41, _⟩ => ⟨S16x2304x1024, .f32⟩
  | .hbm, ⟨42, _⟩ => ⟨S1x1024x1024, .f32⟩
  | .hbm, ⟨43, _⟩ => ⟨S1024x1024, .f32⟩
  | .hbm, ⟨44, _⟩ => ⟨S16x2304x1024, .f32⟩
  | .hbm, ⟨45, _⟩ => ⟨S16x2304x1024, .f32⟩
  | .hbm, ⟨46, _⟩ => ⟨S16x2304x1024, .f32⟩
  | .hbm, ⟨47, _⟩ => ⟨S16x2304x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1024, .f32⟩
  | .hbm, ⟨53, _⟩ => ⟨S16x256x1024, .f32⟩
  | .hbm, ⟨54, _⟩ => ⟨S16x256x1024, .f32⟩
  | .hbm, ⟨55, _⟩ => ⟨S16x256x1024, .f32⟩
  | .hbm, ⟨56, _⟩ => ⟨S16x256x1024, .f32⟩
  | .hbm, ⟨57, _⟩ => ⟨S16x256x1024, .f32⟩
  | .hbm, ⟨58, _⟩ => ⟨S16x2304x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Kernel5.lean ====
abbrev S16x2304x1024 : Shape := ⟨3, ![16, 2304, 1024]⟩
abbrev S17x6x1024 : Shape := ⟨3, ![17, 6, 1024]⟩
abbrev S4x1024 : Shape := ⟨2, ![4, 1024]⟩
abbrev S4x1024x11776 : Shape := ⟨3, ![4, 1024, 11776]⟩
abbrev S4x128 : Shape := ⟨2, ![4, 128]⟩
abbrev S2048x32 : Shape := ⟨2, ![2048, 32]⟩
abbrev S17x6x1x1024 : Shape := ⟨4, ![17, 6, 1, 1024]⟩
abbrev S2048x128 : Shape := ⟨2, ![2048, 128]⟩
abbrev S_ : Shape := ⟨0, ![]⟩
abbrev S256x128 : Shape := ⟨2, ![256, 128]⟩
abbrev S2304x128 : Shape := ⟨2, ![2304, 128]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S16x2304x256 : Shape := ⟨3, ![16, 2304, 256]⟩
abbrev S16x2304x3072 : Shape := ⟨3, ![16, 2304, 3072]⟩
abbrev S1x256x1024 : Shape := ⟨3, ![1, 256, 1024]⟩
abbrev S1x1x1x1024 : Shape := ⟨4, ![1, 1, 1, 1024]⟩
abbrev S1x1024x11776 : Shape := ⟨3, ![1, 1024, 11776]⟩
abbrev S1x256x256 : Shape := ⟨3, ![1, 256, 256]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x128 : Shape := ⟨3, ![1, 256, 128]⟩
abbrev S1x1024x256 : Shape := ⟨3, ![1, 1024, 256]⟩
abbrev S1024x256 : Shape := ⟨2, ![1024, 256]⟩
abbrev S256x256 : Shape := ⟨2, ![256, 256]⟩
abbrev S1x1024x3072 : Shape := ⟨3, ![1, 1024, 3072]⟩
abbrev S1024x3072 : Shape := ⟨2, ![1024, 3072]⟩
abbrev S256x3072 : Shape := ⟨2, ![256, 3072]⟩

abbrev nBuf : Space → Nat
  | .hbm => 37
  | .vmem => 26
  | .smem => 0
  | _ => 0

abbrev bufTy : (tb : Table) → Fin (tcTables nBuf tb) → BufTy
  | .hbm, ⟨0, _⟩ => ⟨S16x2304x1024, .f32⟩
  | .hbm, ⟨1, _⟩ => ⟨S17x6x1024, .f32⟩
  | .hbm, ⟨2, _⟩ => ⟨S4x1024, .f32⟩
  | .hbm, ⟨3, _⟩ => ⟨S4x1024x11776, .f32⟩
  | .hbm, ⟨4, _⟩ => ⟨S4x128, .f32⟩
  | .hbm, ⟨5, _⟩ => ⟨S4x128, .f32⟩
  | .hbm, ⟨6, _⟩ => ⟨S2048x32, .f32⟩
  | .hbm, ⟨7, _⟩ => ⟨S2048x32, .f32⟩
  | .hbm, ⟨8, _⟩ => ⟨S2048x32, .f32⟩
  | .hbm, ⟨9, _⟩ => ⟨S2048x32, .f32⟩
  | .hbm, ⟨10, _⟩ => ⟨S4x1024x11776, .bf16⟩
  | .hbm, ⟨11, _⟩ => ⟨S17x6x1x1024, .f32⟩
  | .hbm, ⟨12, _⟩ => ⟨S2048x128, .f32⟩
  | .hbm, ⟨13, _⟩ => ⟨S2048x32, .f32⟩
  | .hbm, ⟨14, _⟩ => ⟨S2048x32, .f32⟩
  | .hbm, ⟨15, _⟩ => ⟨S2048x128, .f32⟩
  | .hbm, ⟨16, _⟩ => ⟨S_, .f32⟩
  | .hbm, ⟨17, _⟩ => ⟨S256x128, .f32⟩
  | .hbm, ⟨18, _⟩ => ⟨S2304x128, .f32⟩
  | .hbm, ⟨19, _⟩ => ⟨S_, .f32⟩
  | .hbm, ⟨20, _⟩ => ⟨S256x128, .f32⟩
  | .hbm, ⟨21, _⟩ => ⟨S2304x128, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S16x2304x1024, .bf16⟩
  | .hbm, ⟨32, _⟩ => ⟨S16x2304x256, .bf16⟩
  | .hbm, ⟨33, _⟩ => ⟨S16x2304x256, .bf16⟩
  | .hbm, ⟨34, _⟩ => ⟨S16x2304x1024, .f32⟩
  | .hbm, ⟨35, _⟩ => ⟨S16x2304x1024, .bf16⟩
  | .hbm, ⟨36, _⟩ => ⟨S16x2304x3072, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1024x11776, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x1024, .bf16⟩
  | .local _ .vmem, ⟨23, _⟩ => ⟨S1x256x1024, .bf16⟩
  | .local _ .vmem, ⟨24, _⟩ => ⟨S1x256x3072, .bf16⟩
  | .local _ .vmem, ⟨25, _⟩ => ⟨S1x256x3072, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 1 := Scalar.cmpi .slt v0 c1_i32
  let c16_i32 : BitVec 32 := 16#32
  let v2 : BitVec 32 := Scalar.select v1 c16_i32 arg0
  let c1_i32_0 : BitVec 32 := 1#32
  let c0_i32_1 : BitVec 32 := 0#32
  let c0_i32_2 : BitVec 32 := 0#32
  let c0_i32_3 : BitVec 32 := 0#32
  ![v2.toNat, c1_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x11776 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S16x2304x1024 : Shape := ⟨3, ![16, 2304, 1024]⟩
abbrev S17x6x1024 : Shape := ⟨3, ![17, 6, 1024]⟩
abbrev S4x1024 : Shape := ⟨2, ![4, 1024]⟩
abbrev S4x1024x11776 : Shape := ⟨3, ![4, 1024, 11776]⟩
abbrev S4x128 : Shape := ⟨2, ![4, 128]⟩
abbrev S2048x32 : Shape := ⟨2, ![2048, 32]⟩
abbrev S16x6x1024 : Shape := ⟨3, ![16, 6, 1024]⟩
abbrev S16x1x1024 : Shape := ⟨3, ![16, 1, 1024]⟩
abbrev S1x6x1024 : Shape := ⟨3, ![1, 6, 1024]⟩
abbrev S1x1x1024 : Shape := ⟨3, ![1, 1, 1024]⟩
abbrev S16x256x1024 : Shape := ⟨3, ![16, 256, 1024]⟩
abbrev S16x2048x1024 : Shape := ⟨3, ![16, 2048, 1024]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1024x6656 : Shape := ⟨3, ![1, 1024, 6656]⟩
abbrev S1024x6656 : Shape := ⟨2, ![1024, 6656]⟩
abbrev S16x2048x6656 : Shape := ⟨3, ![16, 2048, 6656]⟩
abbrev S16x256 : Shape := ⟨2, ![16, 256]⟩
abbrev S16x256x1 : Shape := ⟨3, ![16, 256, 1]⟩
abbrev S16x256x6656 : Shape := ⟨3, ![16, 256, 6656]⟩
abbrev S16x2048x256 : Shape := ⟨3, ![16, 2048, 256]⟩
abbrev S16x2048x3072 : Shape := ⟨3, ![16, 2048, 3072]⟩
abbrev S16x256x256 : Shape := ⟨3, ![16, 256, 256]⟩
abbrev S16x256x3072 : Shape := ⟨3, ![16, 256, 3072]⟩
abbrev S16x2048x8x128 : Shape := ⟨4, ![16, 2048, 8, 128]⟩
abbrev S1x128 : Shape := ⟨2, ![1, 128]⟩
abbrev S128 : Shape := ⟨1, ![128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x8x64 : Shape := ⟨4, ![16, 2048, 8, 64]⟩
abbrev S16x2048x8x32 : Shape := ⟨4, ![16, 2048, 8, 32]⟩
abbrev S2048x1x32 : Shape := ⟨3, ![2048, 1, 32]⟩
abbrev S1x2048x1x32 : Shape := ⟨4, ![1, 2048, 1, 32]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S16x2048x2x64 : Shape := ⟨4, ![16, 2048, 2, 64]⟩
abbrev S16x2048x2x32 : Shape := ⟨4, ![16, 2048, 2, 32]⟩
abbrev S16x256x8x128 : Shape := ⟨4, ![16, 256, 8, 128]⟩
abbrev S16x256x8 : Shape := ⟨3, ![16, 256, 8]⟩
abbrev S16x256x8x1 : Shape := ⟨4, ![16, 256, 8, 1]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S16x2304x8x128 : Shape := ⟨4, ![16, 2304, 8, 128]⟩
abbrev S16x2304x2x128 : Shape := ⟨4, ![16, 2304, 2, 128]⟩
abbrev S16x2304x6656 : Shape := ⟨3, ![16, 2304, 6656]⟩
abbrev S16x2304x256 : Shape := ⟨3, ![16, 2304, 256]⟩
abbrev S16x2304x3072 : Shape := ⟨3, ![16, 2304, 3072]⟩

abbrev nBuf : Space → Nat
  | .hbm => 296
  | .vmem => 0
  | .smem => 0
  | _ => 0

abbrev hbmTy0_0 (i : Nat) : BufTy := match i % 128 with
  | 0 => ⟨S16x2304x1024, .f32⟩
  | 1 => ⟨S17x6x1024, .f32⟩
  | 2 => ⟨S4x1024, .f32⟩
  | 3 => ⟨S4x1024x11776, .f32⟩
  | 4 => ⟨S4x128, .f32⟩
  | 5 => ⟨S4x128, .f32⟩
  | 6 => ⟨S2048x32, .f32⟩
  | 7 => ⟨S2048x32, .f32⟩
  | 8 => ⟨S2048x32, .f32⟩
  | 9 => ⟨S2048x32, .f32⟩
  | 10 => ⟨S16x6x1024, .f32⟩
  | 11 => ⟨S16x1x1024, .f32⟩
  | 12 => ⟨S16x1x1024, .f32⟩
  | 13 => ⟨S16x1x1024, .f32⟩
  | 14 => ⟨S16x1x1024, .f32⟩
  | 15 => ⟨S16x1x1024, .f32⟩
  | 16 => ⟨S16x1x1024, .f32⟩
  | 17 => ⟨S1x6x1024, .f32⟩
  | 18 => ⟨S1x1x1024, .f32⟩
  | 19 => ⟨S1x1x1024, .f32⟩
  | 20 => ⟨S1x1x1024, .f32⟩
  | 21 => ⟨S1x1x1024, .f32⟩
  | 22 => ⟨S1x1x1024, .f32⟩
  | 23 => ⟨S1x1x1024, .f32⟩
  | 24 => ⟨S16x256x1024, .f32⟩
  | 25 => ⟨S16x2048x1024, .f32⟩
  | 26 => ⟨S1x1024, .f32⟩
  | 27 => ⟨S1024, .f32⟩
  | 28 => ⟨S16x2048x1024, .f32⟩
  | 29 => ⟨S_, .f32⟩
  | 30 => ⟨S16x2048, .f32⟩
  | 31 => ⟨S16x2048x1, .f32⟩
  | 32 => ⟨S_, .f32⟩
  | 33 => ⟨S16x2048x1, .f32⟩
  | 34 => ⟨S16x2048x1, .f32⟩
  | 35 => ⟨S_, .f32⟩
  | 36 => ⟨S16x2048x1, .f32⟩
  | 37 => ⟨S16x2048x1, .f32⟩
  | 38 => ⟨S16x2048x1, .f32⟩
  | 39 => ⟨S16x2048x1024, .f32⟩
  | 40 => ⟨S16x2048x1024, .f32⟩
  | 41 => ⟨S1x1x1024, .f32⟩
  | 42 => ⟨S16x2048x1024, .f32⟩
  | 43 => ⟨S16x2048x1024, .f32⟩
  | 44 => ⟨S_, .f32⟩
  | 45 => ⟨S16x1x1024, .f32⟩
  | 46 => ⟨S16x1x1024, .f32⟩
  | 47 => ⟨S16x2048x1024, .f32⟩
  | 48 => ⟨S16x2048x1024, .f32⟩
  | 49 => ⟨S16x2048x1024, .f32⟩
  | 50 => ⟨S16x2048x1024, .f32⟩
  | 51 => ⟨S1x1024x6656, .f32⟩
  | 52 => ⟨S1024x6656, .f32⟩
  | 53 => ⟨S16x2048x6656, .f32⟩
  | 54 => ⟨S1x1024, .f32⟩
  | 55 => ⟨S1024, .f32⟩
  | 56 => ⟨S16x256x1024, .f32⟩
  | 57 => ⟨S_, .f32⟩
  | 58 => ⟨S16x256, .f32⟩
  | 59 => ⟨S16x256x1, .f32⟩
  | 60 => ⟨S_, .f32⟩
  | 61 => ⟨S16x256x1, .f32⟩
  | 62 => ⟨S16x256x1, .f32⟩
  | 63 => ⟨S_, .f32⟩
  | 64 => ⟨S16x256x1, .f32⟩
  | 65 => ⟨S16x256x1, .f32⟩
  | 66 => ⟨S16x256x1, .f32⟩
  | 67 => ⟨S16x256x1024, .f32⟩
  | 68 => ⟨S16x256x1024, .f32⟩
  | 69 => ⟨S1x1x1024, .f32⟩
  | 70 => ⟨S16x256x1024, .f32⟩
  | 71 => ⟨S16x256x1024, .f32⟩
  | 72 => ⟨S_, .f32⟩
  | 73 => ⟨S1x1x1024, .f32⟩
  | 74 => ⟨S1x1x1024, .f32⟩
  | 75 => ⟨S16x256x1024, .f32⟩
  | 76 => ⟨S16x256x1024, .f32⟩
  | 77 => ⟨S16x256x1024, .f32⟩
  | 78 => ⟨S16x256x1024, .f32⟩
  | 79 => ⟨S1x1024x6656, .f32⟩
  | 80 => ⟨S1024x6656, .f32⟩
  | 81 => ⟨S16x256x6656, .f32⟩
  | 82 => ⟨S16x2048x1024, .f32⟩
  | 83 => ⟨S16x2048x256, .f32⟩
  | 84 => ⟨S16x2048x256, .f32⟩
  | 85 => ⟨S16x2048x1024, .f32⟩
  | 86 => ⟨S16x2048x1024, .f32⟩
  | 87 => ⟨S16x2048x3072, .f32⟩
  | 88 => ⟨S16x256x1024, .f32⟩
  | 89 => ⟨S16x256x256, .f32⟩
  | 90 => ⟨S16x256x256, .f32⟩
  | 91 => ⟨S16x256x1024, .f32⟩
  | 92 => ⟨S16x256x1024, .f32⟩
  | 93 => ⟨S16x256x3072, .f32⟩
  | 94 => ⟨S16x2048x8x128, .f32⟩
  | 95 => ⟨S1x128, .f32⟩
  | 96 => ⟨S128, .f32⟩
  | 97 => ⟨S16x2048x8x128, .f32⟩
  | 98 => ⟨S_, .f32⟩
  | 99 => ⟨S16x2048x8, .f32⟩
  | 100 => ⟨S16x2048x8x1, .f32⟩
  | 101 => ⟨S_, .f32⟩
  | 102 => ⟨S16x2048x8x1, .f32⟩
  | 103 => ⟨S16x2048x8x1, .f32⟩
  | 104 => ⟨S_, .f32⟩
  | 105 => ⟨S16x2048x8x1, .f32⟩
  | 106 => ⟨S16x2048x8x1, .f32⟩
  | 107 => ⟨S16x2048x8x1, .f32⟩
  | 108 => ⟨S16x2048x8x128, .f32⟩
  | 109 => ⟨S16x2048x8x128, .f32⟩
  | 110 => ⟨S1x1x1x128, .f32⟩
  | 111 => ⟨S16x2048x8x128, .f32⟩
  | 112 => ⟨S16x2048x8x128, .f32⟩
  | 113 => ⟨S16x2048x8x64, .f32⟩
  | 114 => ⟨S16x2048x8x64, .f32⟩
  | 115 => ⟨S16x2048x8x32, .f32⟩
  | 116 => ⟨S16x2048x8x32, .f32⟩
  | 117 => ⟨S2048x1x32, .f32⟩
  | 118 => ⟨S2048x1x32, .f32⟩
  | 119 => ⟨S1x2048x1x32, .f32⟩
  | 120 => ⟨S16x2048x8x32, .f32⟩
  | 121 => ⟨S16x2048x8x32, .f32⟩
  | 122 => ⟨S1x2048x1x32, .f32⟩
  | 123 => ⟨S16x2048x8x32, .f32⟩
  | 124 => ⟨S16x2048x8x32, .f32⟩
  | 125 => ⟨S16x2048x8x32, .f32⟩
  | 126 => ⟨S1x2048x1x32, .f32⟩
  | 127 => ⟨S16x2048x8x32, .f32⟩
  | _ => ⟨S16x2304x1024, .f32⟩

abbrev hbmTy0_1 (i : Nat) : BufTy := match i % 128 with
  | 0 => ⟨S16x2048x8x32, .f32⟩
  | 1 => ⟨S1x2048x1x32, .f32⟩
  | 2 => ⟨S16x2048x8x32, .f32⟩
  | 3 => ⟨S16x2048x8x32, .f32⟩
  | 4 => ⟨S16x2048x8x32, .f32⟩
  | 5 => ⟨S16x2048x8x64, .f32⟩
  | 6 => ⟨S16x2048x8x32, .f32⟩
  | 7 => ⟨S16x2048x8x32, .f32⟩
  | 8 => ⟨S2048x1x32, .f32⟩
  | 9 => ⟨S2048x1x32, .f32⟩
  | 10 => ⟨S1x2048x1x32, .f32⟩
  | 11 => ⟨S16x2048x8x32, .f32⟩
  | 12 => ⟨S16x2048x8x32, .f32⟩
  | 13 => ⟨S1x2048x1x32, .f32⟩
  | 14 => ⟨S16x2048x8x32, .f32⟩
  | 15 => ⟨S16x2048x8x32, .f32⟩
  | 16 => ⟨S16x2048x8x32, .f32⟩
  | 17 => ⟨S1x2048x1x32, .f32⟩
  | 18 => ⟨S16x2048x8x32, .f32⟩
  | 19 => ⟨S16x2048x8x32, .f32⟩
  | 20 => ⟨S1x2048x1x32, .f32⟩
  | 21 => ⟨S16x2048x8x32, .f32⟩
  | 22 => ⟨S16x2048x8x32, .f32⟩
  | 23 => ⟨S16x2048x8x32, .f32⟩
  | 24 => ⟨S16x2048x8x64, .f32⟩
  | 25 => ⟨S16x2048x8x128, .f32⟩
  | 26 => ⟨S16x2048x2x128, .f32⟩
  | 27 => ⟨S1x128, .f32⟩
  | 28 => ⟨S128, .f32⟩
  | 29 => ⟨S16x2048x2x128, .f32⟩
  | 30 => ⟨S_, .f32⟩
  | 31 => ⟨S16x2048x2, .f32⟩
  | 32 => ⟨S16x2048x2x1, .f32⟩
  | 33 => ⟨S_, .f32⟩
  | 34 => ⟨S16x2048x2x1, .f32⟩
  | 35 => ⟨S16x2048x2x1, .f32⟩
  | 36 => ⟨S_, .f32⟩
  | 37 => ⟨S16x2048x2x1, .f32⟩
  | 38 => ⟨S16x2048x2x1, .f32⟩
  | 39 => ⟨S16x2048x2x1, .f32⟩
  | 40 => ⟨S16x2048x2x128, .f32⟩
  | 41 => ⟨S16x2048x2x128, .f32⟩
  | 42 => ⟨S1x1x1x128, .f32⟩
  | 43 => ⟨S16x2048x2x128, .f32⟩
  | 44 => ⟨S16x2048x2x128, .f32⟩
  | 45 => ⟨S16x2048x2x64, .f32⟩
  | 46 => ⟨S16x2048x2x64, .f32⟩
  | 47 => ⟨S16x2048x2x32, .f32⟩
  | 48 => ⟨S16x2048x2x32, .f32⟩
  | 49 => ⟨S2048x1x32, .f32⟩
  | 50 => ⟨S2048x1x32, .f32⟩
  | 51 => ⟨S1x2048x1x32, .f32⟩
  | 52 => ⟨S16x2048x2x32, .f32⟩
  | 53 => ⟨S16x2048x2x32, .f32⟩
  | 54 => ⟨S1x2048x1x32, .f32⟩
  | 55 => ⟨S16x2048x2x32, .f32⟩
  | 56 => ⟨S16x2048x2x32, .f32⟩
  | 57 => ⟨S16x2048x2x32, .f32⟩
  | 58 => ⟨S1x2048x1x32, .f32⟩
  | 59 => ⟨S16x2048x2x32, .f32⟩
  | 60 => ⟨S16x2048x2x32, .f32⟩
  | 61 => ⟨S1x2048x1x32, .f32⟩
  | 62 => ⟨S16x2048x2x32, .f32⟩
  | 63 => ⟨S16x2048x2x32, .f32⟩
  | 64 => ⟨S16x2048x2x32, .f32⟩
  | 65 => ⟨S16x2048x2x64, .f32⟩
  | 66 => ⟨S16x2048x2x32, .f32⟩
  | 67 => ⟨S16x2048x2x32, .f32⟩
  | 68 => ⟨S2048x1x32, .f32⟩
  | 69 => ⟨S2048x1x32, .f32⟩
  | 70 => ⟨S1x2048x1x32, .f32⟩
  | 71 => ⟨S16x2048x2x32, .f32⟩
  | 72 => ⟨S16x2048x2x32, .f32⟩
  | 73 => ⟨S1x2048x1x32, .f32⟩
  | 74 => ⟨S16x2048x2x32, .f32⟩
  | 75 => ⟨S16x2048x2x32, .f32⟩
  | 76 => ⟨S16x2048x2x32, .f32⟩
  | 77 => ⟨S1x2048x1x32, .f32⟩
  | 78 => ⟨S16x2048x2x32, .f32⟩
  | 79 => ⟨S16x2048x2x32, .f32⟩
  | 80 => ⟨S1x2048x1x32, .f32⟩
  | 81 => ⟨S16x2048x2x32, .f32⟩
  | 82 => ⟨S16x2048x2x32, .f32⟩
  | 83 => ⟨S16x2048x2x32, .f32⟩
  | 84 => ⟨S16x2048x2x64, .f32⟩
  | 85 => ⟨S16x2048x2x128, .f32⟩
  | 86 => ⟨S16x256x8x128, .f32⟩
  | 87 => ⟨S1x128, .f32⟩
  | 88 => ⟨S128, .f32⟩
  | 89 => ⟨S16x256x8x128, .f32⟩
  | 90 => ⟨S_, .f32⟩
  | 91 => ⟨S16x256x8, .f32⟩
  | 92 => ⟨S16x256x8x1, .f32⟩
  | 93 => ⟨S_, .f32⟩
  | 94 => ⟨S16x256x8x1, .f32⟩
  | 95 => ⟨S16x256x8x1, .f32⟩
  | 96 => ⟨S_, .f32⟩
  | 97 => ⟨S16x256x8x1, .f32⟩
  | 98 => ⟨S16x256x8x1, .f32⟩
  | 99 => ⟨S16x256x8x1, .f32⟩
  | 100 => ⟨S16x256x8x128, .f32⟩
  | 101 => ⟨S16x256x8x128, .f32⟩
  | 102 => ⟨S1x1x1x128, .f32⟩
  | 103 => ⟨S16x256x8x128, .f32⟩
  | 104 => ⟨S16x256x8x128, .f32⟩
  | 105 => ⟨S16x256x2x128, .f32⟩
  | 106 => ⟨S1x128, .f32⟩
  | 107 => ⟨S128, .f32⟩
  | 108 => ⟨S16x256x2x128, .f32⟩
  | 109 => ⟨S_, .f32⟩
  | 110 => ⟨S16x256x2, .f32⟩
  | 111 => ⟨S16x256x2x1, .f32⟩
  | 112 => ⟨S_, .f32⟩
  | 113 => ⟨S16x256x2x1, .f32⟩
  | 114 => ⟨S16x256x2x1, .f32⟩
  | 115 => ⟨S_, .f32⟩
  | 116 => ⟨S16x256x2x1, .f32⟩
  | 117 => ⟨S16x256x2x1, .f32⟩
  | 118 => ⟨S16x256x2x1, .f32⟩
  | 119 => ⟨S16x256x2x128, .f32⟩
  | 120 => ⟨S16x256x2x128, .f32⟩
  | 121 => ⟨S1x1x1x128, .f32⟩
  | 122 => ⟨S16x256x2x128, .f32⟩
  | 123 => ⟨S16x256x2x128, .f32⟩
  | 124 => ⟨S16x2304x8x128, .f32⟩
  | 125 => ⟨S_, .f32⟩
  | 126 => ⟨S16x2304x8x128, .f32⟩
  | 127 => ⟨S16x2304x8x128, .f32⟩
  | _ => ⟨S16x2304x1024, .f32⟩

abbrev hbmTy0_2 (i : Nat) : BufTy := match i % 128 with
  | 0 => ⟨S16x2304x2x128, .f32⟩
  | 1 => ⟨S16x2304x6656, .f32⟩
  | 2 => ⟨S16x2304x1024, .f32⟩
  | 3 => ⟨S16x2304x256, .f32⟩
  | 4 => ⟨S16x2304x256, .f32⟩
  | 5 => ⟨S16x2304x1024, .f32⟩
  | 6 => ⟨S16x2304x1024, .f32⟩
  | 7 => ⟨S16x2304x3072, .f32⟩
  | 8 => ⟨S16x2304x1024, .f32⟩
  | 9 => ⟨S16x2304x1024, .bf16⟩
  | 10 => ⟨S16x2304x256, .f32⟩
  | 11 => ⟨S16x2304x256, .bf16⟩
  | 12 => ⟨S16x2304x256, .bf16⟩
  | 13 => ⟨S16x2304x1024, .f32⟩
  | 14 => ⟨S16x2304x1024, .f32⟩
  | 15 => ⟨S_, .f32⟩
  | 16 => ⟨S16x2304x1024, .f32⟩
  | 17 => ⟨S16x2304x1024, .f32⟩
  | 18 => ⟨S16x2304x1024, .f32⟩
  | 19 => ⟨S_, .f32⟩
  | 20 => ⟨S16x2304x1024, .f32⟩
  | 21 => ⟨S16x2304x1024, .f32⟩
  | 22 => ⟨S16x2304x1024, .f32⟩
  | 23 => ⟨S_, .f32⟩
  | 24 => ⟨S16x2304x1024, .f32⟩
  | 25 => ⟨S16x2304x1024, .f32⟩
  | 26 => ⟨S_, .f32⟩
  | 27 => ⟨S16x2304x1024, .f32⟩
  | 28 => ⟨S16x2304x1024, .f32⟩
  | 29 => ⟨S16x2304x1024, .f32⟩
  | 30 => ⟨S16x2304x1024, .bf16⟩
  | 31 => ⟨S16x2304x3072, .f32⟩
  | 32 => ⟨S16x2304x3072, .f32⟩
  | 33 => ⟨S_, .f32⟩
  | 34 => ⟨S16x2304x3072, .f32⟩
  | 35 => ⟨S16x2304x3072, .f32⟩
  | 36 => ⟨S_, .f32⟩
  | 37 => ⟨S16x2304x3072, .f32⟩
  | 38 => ⟨S16x2304x3072, .f32⟩
  | 39 => ⟨S16x2304x3072, .bf16⟩
  | _ => ⟨S16x2304x1024, .f32⟩

abbrev hbmTy (i : Nat) : BufTy := match i / 128 with
  | 0 => hbmTy0_0 i
  | 1 => hbmTy0_1 i
  | 2 => hbmTy0_2 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_7 : Ref sig .tc := ⟨.hbm, 98, rfl⟩
abbrev main_v80 : Ref sig .tc := ⟨.hbm, 99, rfl⟩
abbrev main_v81 : Ref sig .tc := ⟨.hbm, 100, rfl⟩
abbrev main_cst_8 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_10 : Ref sig .tc := ⟨.hbm, 158, rfl⟩
abbrev main_v137 : Ref sig .tc := ⟨.hbm, 159, rfl⟩
abbrev main_v138 : Ref sig .tc := ⟨.hbm, 160, rfl⟩
abbrev main_cst_11 : Ref sig .tc := ⟨.hbm, 161, rfl⟩
abbrev main_v139 : Ref sig .tc := ⟨.hbm, 162, rfl⟩
abbrev main_v140 : Ref sig .tc := ⟨.hbm, 163, rfl⟩
abbrev main_cst_12 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_cst_13 : Ref sig .tc := ⟨.hbm, 218, rfl⟩
abbrev main_v194 : Ref sig .tc := ⟨.hbm, 219, rfl⟩
abbrev main_v195 : Ref sig .tc := ⟨.hbm, 220, rfl⟩
abbrev main_cst_14 : Ref sig .tc := ⟨.hbm, 221, rfl⟩
abbrev main_v196 : Ref sig .tc := ⟨.hbm, 222, rfl⟩
abbrev main_v197 : Ref sig .tc := ⟨.hbm, 223, rfl⟩
abbrev main_cst_15 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_cst_16 : Ref sig .tc := ⟨.hbm, 237, rfl⟩
abbrev main_v210 : Ref sig .tc := ⟨.hbm, 238, rfl⟩
abbrev main_v211 : Ref sig .tc := ⟨.hbm, 239, rfl⟩
abbrev main_cst_17 : Ref sig .tc := ⟨.hbm, 240, rfl⟩
abbrev main_v212 : Ref sig .tc := ⟨.hbm, 241, rfl⟩
abbrev main_v213 : Ref sig .tc := ⟨.hbm, 242, rfl⟩
abbrev main_cst_18 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_cst_19 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_v239 : Ref sig .tc := ⟨.hbm, 270, rfl⟩
abbrev main_cst_20 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_cst_21 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_cst_22 : Ref sig .tc := ⟨.hbm, 279, rfl⟩
abbrev main_v246 : Ref sig .tc := ⟨.hbm, 280, rfl⟩
abbrev main_v247 : Ref sig .tc := ⟨.hbm, 281, rfl⟩
abbrev main_cst_23 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_v251 : Ref sig .tc := ⟨.hbm, 286, rfl⟩
abbrev main_v252 : Ref sig .tc := ⟨.hbm, 287, rfl⟩
abbrev main_v253 : Ref sig .tc := ⟨.hbm, 288, rfl⟩
abbrev main_cst_24 : Ref sig .tc := ⟨.hbm, 289, rfl⟩
abbrev main_v254 : Ref sig .tc := ⟨.hbm, 290, rfl⟩
abbrev main_v255 : Ref sig .tc := ⟨.hbm, 291, rfl⟩
abbrev main_cst_25 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩

abbrev nD : Nat := 1
abbrev τ : Topo := Topo.v7x

variable {F : FTy → Type} [FloatOps F]
-- ==== Proof.Scan.Fill.lean ====
/- The chunks of a [2304, 256] scratch, written one after another: the piece a trip writes, the piece a trip writes
again when it adds the pairs of the trip before, and what every chunk holds once all trips are done. -/
module

public import proofs.«01_k».proof.Proof.Gen.KernelIdeal.Skeleton
public import proofs.«01_k».proof.Proof.Gen.KernelIdeal.Loops
public import Idealize.ShloMosaic.Lib.WritesUnit

@[expose] public section

set_option maxRecDepth 16384

noncomputable section

namespace Cert.Proof.Scan

open Cert.KernelIdeal
open Idealize.ShloMosaic

/-- Row `x 0` of chunk `c`, as a row of the whole scratch. -/
def rowIdx (c : Fin 18) (x : S128x256.Idx) : S2304x256.Idx
  | ⟨0, _⟩ => ⟨128 * c.val + (x (0 : Fin 2)).val, by
      have h : (x (0 : Fin 2)).val < 128 := (x (0 : Fin 2)).isLt
      have := c.isLt
      show _ < 2304
      omega⟩
  | ⟨1, _⟩ => x (1 : Fin 2)

/-- The chunk the forward recurrence works on at trip `j`. -/
def fwdChunk (j : ℕ) : Fin 18 := ⟨j % 18, Nat.mod_lt _ (by decide)⟩

/-- The chunk the backward recurrence works on at trip `j`: the context's two chunks first, the later one first,
then the latent chunks from the last. -/
def bwdChunk (j : ℕ) : Fin 18 := ⟨(if j < 2 then 1 - j else 19 - j) % 18, Nat.mod_lt _ (by decide)⟩

theorem fwdChunk_inj : ∀ i < 18, ∀ j < 18, fwdChunk i = fwdChunk j → i = j := by decide +kernel

theorem bwdChunk_inj : ∀ i < 18, ∀ j < 18, bwdChunk i = bwdChunk j → i = j := by decide +kernel

theorem bwdChunk_surj : ∀ c : Fin 18, ∃ j < 18, bwdChunk j = c := by decide +kernel

theorem fwdChunk_surj : ∀ c : Fin 18, ∃ j < 18, fwdChunk j = c := by decide +kernel

section

variable {sig : RefSig} {κ : Kind} {sp : Space} {e : EltTy} {Val : EltTy → Type}
variable (v : View sig κ sp S2304x256 e)

/-- Before trip `k`, contents `f` hold: at the chunk of every trip that a later one has already completed, `fin`; at
the chunk of the trip just done, `raw k`. -/
def Filled (cid : ℕ → Fin 18) (fin raw : ℕ → S128x256.Idx → Val e) (k : ℕ) (f : v.ty.Contents Val) : Prop :=
  ∀ j < 18, ∀ x, (j + 1 < k → v.read Val f (rowIdx (cid j) x) = fin j x)
    ∧ (j = k - 1 → v.read Val f (rowIdx (cid j) x) = raw k x)

/-- A load at a chunk's rows reads the chunk. -/
theorem readAt_chunk (f : v.ty.Contents Val) (c : Fin 18) {off : Fin 2 → ℕ}
    (inb : ∀ a, off a + S128x256.size a ≤ S2304x256.size a) (heq : off = ![128 * c.val, 0]) :
    v.readAt Val (Rect.unit (s := S2304x256) off S128x256.size inb).toLoadRect f = fun x => v.read Val f (rowIdx c x) := by
  subst heq
  funext x
  rw [View.readAt_apply]
  refine congrArg _ (funext fun a => Fin.ext ?_)
  match a with
  | ⟨0, _⟩ =>
    show 128 * c.val + 1 * (x (0 : Fin 2)).val = 128 * c.val + (x (0 : Fin 2)).val
    omega
  | ⟨1, _⟩ =>
    show 0 + 1 * (x (1 : Fin 2)).val = (x (1 : Fin 2)).val
    omega

/-- The chunk just written reads what was written. -/
theorem read_same (f : v.ty.Contents Val) (c : Fin 18) {off : Fin 2 → ℕ}
    (inb : ∀ a, off a + S128x256.size a ≤ S2304x256.size a) (heq : off = ![128 * c.val, 0])
    (w : S128x256.Idx → Val e) (L : List (View.Piece Val S2304x256 e)) (x : S128x256.Idx) :
    v.read Val (v.writes Val f ((⟨Rect.unit (s := S2304x256) off S128x256.size inb, w⟩ : View.Piece Val S2304x256 e) :: L))
      (rowIdx c x) = w x :=
  View.read_writes_cons_unit_of_mem v f inb w L _ x heq fun a => match a with
    | ⟨0, _⟩ => rfl
    | ⟨1, _⟩ => (Nat.zero_add _).symm

/-- Another chunk reads what was there. -/
theorem read_other (f : v.ty.Contents Val) (c c' : Fin 18) (hc : c' ≠ c) {off : Fin 2 → ℕ}
    (inb : ∀ a, off a + S128x256.size a ≤ S2304x256.size a) (heq : off = ![128 * c.val, 0])
    (w : S128x256.Idx → Val e) (L : List (View.Piece Val S2304x256 e)) (x : S128x256.Idx) :
    v.read Val (v.writes Val f ((⟨Rect.unit (s := S2304x256) off S128x256.size inb, w⟩ : View.Piece Val S2304x256 e) :: L))
      (rowIdx c' x) = v.read Val (v.writes Val f L) (rowIdx c' x) := by
  refine View.read_writes_cons_unit_of_not_mem v f inb w L _ heq (0 : Fin 2) ?_
  have h : (x (0 : Fin 2)).val < 128 := (x (0 : Fin 2)).isLt
  have hne : c'.val ≠ c.val := fun h => hc (Fin.ext h)
  show 128 * c'.val + (x (0 : Fin 2)).val < 128 * c.val ∨ 128 * c.val + 128 ≤ 128 * c'.val + (x (0 : Fin 2)).val
  omega

/-- The chunk of the trip before reads that trip's piece. -/
theorem Filled.readAt_prev {cid : ℕ → Fin 18} {fin raw : ℕ → S128x256.Idx → Val e} {k : ℕ} {f : v.ty.Contents Val}
    (h : Filled v cid fin raw k f) (hk : k ≤ 18) {off : Fin 2 → ℕ}
    (inb : ∀ a, off a + S128x256.size a ≤ S2304x256.size a) (heq : off = ![128 * (cid (k - 1)).val, 0]) :
    v.readAt Val (Rect.unit (s := S2304x256) off S128x256.size inb).toLoadRect f = raw k := by
  rw [readAt_chunk v f _ inb heq]
  exact funext fun x => (h (k - 1) (by omega) x).2 rfl

/-- ONE TRIP: the chunk of the trip before gets its final value, the trip's own chunk its piece. -/
theorem Filled.step {cid : ℕ → Fin 18} (hcid : ∀ i < 18, ∀ j < 18, cid i = cid j → i = j)
    {fin raw : ℕ → S128x256.Idx → Val e} {k : ℕ} {f : v.ty.Contents Val} (h : Filled v cid fin raw k f) (hk : k < 18)
    {off off' : Fin 2 → ℕ} (inb : ∀ a, off a + S128x256.size a ≤ S2304x256.size a)
    (inb' : ∀ a, off' a + S128x256.size a ≤ S2304x256.size a) (heq : off = ![128 * (cid k).val, 0])
    (heq' : off' = ![128 * (cid (k - 1)).val, 0]) (w w' : S128x256.Idx → Val e)
    (hw : w = raw (k + 1)) (hw' : 0 < k → w' = fin (k - 1)) :
    Filled v cid fin raw (k + 1) (v.writes Val f
      [(⟨Rect.unit (s := S2304x256) off S128x256.size inb, w⟩ : View.Piece Val S2304x256 e),
       (⟨Rect.unit (s := S2304x256) off' S128x256.size inb', w'⟩ : View.Piece Val S2304x256 e)]) := by
  intro j hj x
  constructor
  · intro hjk
    have hne : cid j ≠ cid k := fun hc => by have := hcid j hj k hk hc; omega
    rw [read_other v f _ _ hne inb heq]
    by_cases hj' : j = k - 1
    · subst hj'
      rw [read_same v f _ inb' heq', hw' (by omega)]
    · have hne' : cid j ≠ cid (k - 1) := fun hc => hj' (hcid j hj (k - 1) (by omega) hc)
      rw [read_other v f _ _ hne' inb' heq', View.writes_nil]
      exact (h j hj x).1 (by omega)
  · intro hjk
    obtain rfl : j = k := by omega
    rw [read_same v f _ inb heq, hw]

/-- AFTER THE LAST TRIP its chunk gets its final value too, and every chunk holds its own. -/
theorem Filled.finish {cid : ℕ → Fin 18} (hcid : ∀ i < 18, ∀ j < 18, cid i = cid j → i = j)
    {fin raw : ℕ → S128x256.Idx → Val e} {f : v.ty.Contents Val} (h : Filled v cid fin raw 18 f)
    {off : Fin 2 → ℕ} (inb : ∀ a, off a + S128x256.size a ≤ S2304x256.size a)
    (heq : off = ![128 * (cid 17).val, 0]) (w : S128x256.Idx → Val e) (hw : w = fin 17) (j : ℕ) (hj : j < 18)
    (x : S128x256.Idx) :
    v.read Val (v.writes Val f
      [(⟨Rect.unit (s := S2304x256) off S128x256.size inb, w⟩ : View.Piece Val S2304x256 e)]) (rowIdx (cid j) x)
      = fin j x := by
  by_cases hj' : j = 17
  · subst hj'
    rw [read_same v f _ inb heq, hw]
  · have hne : cid j ≠ cid 17 := fun hc => hj' (hcid j hj 17 (by decide) hc)
    rw [read_other v f _ _ hne inb heq, View.writes_nil]
    exact (h j hj x).1 (by omega)

end

/-- The chunk that holds a row of the scratch. -/
def chunkOf (y : S2304x256.Idx) : Fin 18 := ⟨(y (0 : Fin 2)).val / 128, by
  have h : (y (0 : Fin 2)).val < 2304 := (y (0 : Fin 2)).isLt
  omega⟩

/-- A row's place inside its chunk. -/
def inChunk (y : S2304x256.Idx) : S128x256.Idx
  | ⟨0, _⟩ => ⟨(y (0 : Fin 2)).val % 128, Nat.mod_lt _ (by decide)⟩
  | ⟨1, _⟩ => y (1 : Fin 2)

theorem rowIdx_chunkOf (y : S2304x256.Idx) : rowIdx (chunkOf y) (inChunk y) = y := by
  funext a
  refine Fin.ext ?_
  match a with
  | ⟨0, _⟩ => exact Nat.div_add_mod (y (0 : Fin 2)).val 128
  | ⟨1, _⟩ => rfl

/-- The trip at which the backward recurrence works on a chunk. -/
def bwdTrip (c : Fin 18) : ℕ := if c.val < 2 then 1 - c.val else 19 - c.val

theorem bwdTrip_lt : ∀ c : Fin 18, bwdTrip c < 18 := by decide +kernel

theorem bwdChunk_bwdTrip : ∀ c : Fin 18, bwdChunk (bwdTrip c) = c := by decide +kernel

theorem fwdChunk_val : ∀ c : Fin 18, fwdChunk c.val = c := by decide +kernel

end Cert.Proof.Scan

end
-- ==== Proof.Scan.Trip.lean ====
/- ONE TRIP of the mixer's main loop, run at a symbolic trip number: what it carries on, and what it leaves in the two
output scratches and in the pair scratch. -/
module

public import proofs.«01_k».proof.Proof.Scan.Fill
public import proofs.«01_k».proof.Proof.Gen.KernelIdeal.Frame

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the generated frame kit. -/
local notation "𝕄G" => MT nD τ sig Unit (Elt F) ℕ (UR sig nD τ) ℕ

/-- What one trip carries: the two directions' states per head, the two directions' decays, the two words that name
the chunks of the trip before, and the pairs of the trip before. -/
abbrev Acc (F : FTy → Type) : Type :=
  FVec F S128x128 .f32 × FVec F S128x128 .f32 × FVec F S128x128 .f32 × FVec F S128x128 .f32 ×
    FVec F S128x256 .f32 × FVec F S128x256 .f32 × BitVec 32 × BitVec 32 ×
    FVec F S128x128 .bf16 × FVec F S128x128 .bf16 × FVec F S128x128 .bf16 × FVec F S128x128 .bf16

/-- The buffers a trip touches: the four inputs it reads, the three scratches it writes. -/
abbrev Held (c : Dev nD) (arg2 : Memref sig .tc .vmem S1x2304x256 .bf16) (arg3 : Memref sig .tc .vmem S1x2304x256 .bf16)
    (arg4 : Memref sig .tc .vmem S1x2304x256 .f32) (arg5 : Memref sig .tc .vmem S1x2304x256 .f32)
    (arg9 : Memref sig .tc .vmem S2304x256 .f32) (arg10 : Memref sig .tc .vmem S2304x256 .f32)
    (arg11 : Memref sig .tc .vmem S2x2x128x128 .f32)
    (X2 : BufTy.Contents (Elt F) arg2.view.ty) (X3 : BufTy.Contents (Elt F) arg3.view.ty)
    (X4 : BufTy.Contents (Elt F) arg4.view.ty) (X5 : BufTy.Contents (Elt F) arg5.view.ty)
    (f9 : BufTy.Contents (Elt F) arg9.view.ty) (f10 : BufTy.Contents (Elt F) arg10.view.ty)
    (f11 : BufTy.Contents (Elt F) arg11.view.ty) : sProp 𝕄G :=
  iprop((arg2.view.loc (c : Thread nD τ) ↦[arg2.view.set]{fullShare} X2) ∗
    (arg3.view.loc (c : Thread nD τ) ↦[arg3.view.set]{fullShare} X3) ∗
    (arg4.view.loc (c : Thread nD τ) ↦[arg4.view.set]{fullShare} X4) ∗
    (arg5.view.loc (c : Thread nD τ) ↦[arg5.view.set]{fullShare} X5) ∗
    (arg9.view.loc (c : Thread nD τ) ↦[arg9.view.set]{fullShare} f9) ∗
    (arg10.view.loc (c : Thread nD τ) ↦[arg10.view.set]{fullShare} f10) ∗
    (arg11.view.loc (c : Thread nD τ) ↦[arg11.view.set]{fullShare} f11))

/-- The forward chunk of the trip before `k`, as the word the loop carries. -/
def fw (k : ℕ) : BitVec 32 := BitVec.ofNat 32 (fwdChunk (k - 1)).val

/-- The backward chunk of the trip before `k`, as the word the loop carries. -/
def bw (k : ℕ) : BitVec 32 := BitVec.ofNat 32 (bwdChunk (k - 1)).val

theorem chk1_fw : ∀ k : Fin 19, k0_chk1 (fw k.val) := by decide +kernel
theorem chk2_bw : ∀ k : Fin 19, k0_chk2 (bw k.val) := by decide +kernel
theorem chk3_fw : k0_chk3 (fw 18) := by decide +kernel
theorem chk4_bw : k0_chk4 (bw 18) := by decide +kernel

theorem off7_fw : ∀ k : Fin 19, k0_off7 (fw k.val) = ![128 * (fwdChunk (k.val - 1)).val, 0] := by decide +kernel
theorem off10_bw : ∀ k : Fin 19, k0_off10 (bw k.val) = ![128 * (bwdChunk (k.val - 1)).val, 0] := by decide +kernel
theorem off13_fwd : ∀ k : Fin k0_t1_loop.trips, k0_off13 k = ![128 * (fwdChunk k.val).val, 0] := by decide +kernel
theorem off14_bwd : ∀ k : Fin k0_t1_loop.trips, k0_off14 k = ![128 * (bwdChunk k.val).val, 0] := by decide +kernel
theorem off19_fw : k0_off19 (fw 18) = ![128 * (fwdChunk 17).val, 0] := by decide +kernel
theorem off22_bw : k0_off22 (bw 18) = ![128 * (bwdChunk 17).val, 0] := by decide +kernel

/-- The forward chunk's finished rows: the rows the trip wrote and the pairs' products with the chunk's values. -/
abbrev fin9W (arg3 : Memref sig .tc .vmem S1x2304x256 .bf16) (X3 : BufTy.Contents (Elt F) arg3.view.ty)
    (w : BitVec 32) (h : k0_chk1 w) (p q : FVec F S128x128 .bf16) (raw : FVec F S128x256 .f32) : FVec F S128x256 .f32 :=
  k0_pay4 p q
    (arg3.view.readAt (Elt F) (Rect.unit (s := S1x2304x256) (k0_off5 w) S1x128x128.size (k0_off5_inb w h)).toLoadRect X3)
    (arg3.view.readAt (Elt F) (Rect.unit (s := S1x2304x256) (k0_off6 w) S1x128x128.size (k0_off6_inb w h)).toLoadRect X3)
    raw

/-- The backward chunk's finished rows. -/
abbrev fin10W (arg3 : Memref sig .tc .vmem S1x2304x256 .bf16) (X3 : BufTy.Contents (Elt F) arg3.view.ty)
    (w : BitVec 32) (h : k0_chk2 w) (p q : FVec F S128x128 .bf16) (raw : FVec F S128x256 .f32) : FVec F S128x256 .f32 :=
  k0_pay5 p q
    (arg3.view.readAt (Elt F) (Rect.unit (s := S1x2304x256) (k0_off8 w) S1x128x128.size (k0_off8_inb w h)).toLoadRect X3)
    (arg3.view.readAt (Elt F) (Rect.unit (s := S1x2304x256) (k0_off9 w) S1x128x128.size (k0_off9_inb w h)).toLoadRect X3)
    raw

/-- The forward output scratch after a trip: the trip's own chunk over the finished chunk of the trip before. -/
abbrev next9 (arg3 : Memref sig .tc .vmem S1x2304x256 .bf16) (arg9 : Memref sig .tc .vmem S2304x256 .f32)
    (X3 : BufTy.Contents (Elt F) arg3.view.ty) (k : Fin k0_t1_loop.trips) (w : BitVec 32) (h : k0_chk1 w)
    (p q : FVec F S128x128 .bf16) (new : FVec F S128x256 .f32) (f9 : BufTy.Contents (Elt F) arg9.view.ty) :
    BufTy.Contents (Elt F) arg9.view.ty :=
  arg9.view.writes (Elt F) f9
    [(⟨Rect.unit (s := S2304x256) (k0_off13 k) S128x256.size (k0_off13_inb k), new⟩ : View.Piece (Elt F) S2304x256 .f32),
     (⟨Rect.unit (s := S2304x256) (k0_off7 w) S128x256.size (k0_off7_inb w h),
        fin9W arg3 X3 w h p q (arg9.view.readAt (Elt F) (Rect.unit (s := S2304x256) (k0_off7 w) S128x256.size (k0_off7_inb w h)).toLoadRect f9)⟩ : View.Piece (Elt F) S2304x256 .f32)]

/-- The backward output scratch after a trip. -/
abbrev next10 (arg3 : Memref sig .tc .vmem S1x2304x256 .bf16) (arg10 : Memref sig .tc .vmem S2304x256 .f32)
    (X3 : BufTy.Contents (Elt F) arg3.view.ty) (k : Fin k0_t1_loop.trips) (w : BitVec 32) (h : k0_chk2 w)
    (p q : FVec F S128x128 .bf16) (new : FVec F S128x256 .f32) (f10 : BufTy.Contents (Elt F) arg10.view.ty) :
    BufTy.Contents (Elt F) arg10.view.ty :=
  arg10.view.writes (Elt F) f10
    [(⟨Rect.unit (s := S2304x256) (k0_off14 k) S128x256.size (k0_off14_inb k), new⟩ : View.Piece (Elt F) S2304x256 .f32),
     (⟨Rect.unit (s := S2304x256) (k0_off10 w) S128x256.size (k0_off10_inb w h),
        fin10W arg3 X3 w h p q (arg10.view.readAt (Elt F) (Rect.unit (s := S2304x256) (k0_off10 w) S128x256.size (k0_off10_inb w h)).toLoadRect f10)⟩ : View.Piece (Elt F) S2304x256 .f32)]

set_option sl_exec.squeezeSlice true in
set_option maxHeartbeats 8000000 in
/-- ONE TRIP, from any contents of the scratches: what it carries on and the two pieces it writes depend on the
carried values and the inputs alone. -/
@[irreducible] def trip (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (k : Fin k0_t1_loop.trips)
    (a13 a14 a15 a16 : FVec F S128x128 .f32) (a17 a18 : FVec F S128x256 .f32) (w19 w20 : BitVec 32)
    (a21 a22 a23 a24 : FVec F S128x128 .bf16)
    (h1 : k0_chk1 w19) (h2 : k0_chk2 w20)
    (X2 : BufTy.Contents (Elt F) arg2.view.ty) (X3 : BufTy.Contents (Elt F) arg3.view.ty)
    (X4 : BufTy.Contents (Elt F) arg4.view.ty) (X5 : BufTy.Contents (Elt F) arg5.view.ty) :
    { r : Acc F × FVec F S128x256 .f32 × FVec F S128x256 .f32 //
      (r.1.2.2.2.2.2.2.1 = Scalar.minsi (Scf.iv 0#32 1#32 k) 17#32
        ∧ r.1.2.2.2.2.2.2.2.1 = Scalar.select (Scalar.cmpi .slt (Scalar.minsi (Scf.iv 0#32 1#32 k) 17#32) 2#32)
            (Scalar.subi 1#32 (Scalar.minsi (Scf.iv 0#32 1#32 k) 17#32))
            (Scalar.subi 17#32 (Scalar.subi (Scalar.minsi (Scf.iv 0#32 1#32 k) 17#32) 2#32)))
      ∧ ∀ (E : Set ℕ)
        (f9 : BufTy.Contents (Elt F) arg9.view.ty) (f10 : BufTy.Contents (Elt F) arg10.view.ty)
        (f11 : BufTy.Contents (Elt F) arg11.view.ty),
        Held (F := F) c arg2 arg3 arg4 arg5 arg9 arg10 arg11 X2 X3 X4 X5 f9 f10 f11
        ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v43 v87 v88 v93 v98 v99 v104 v119 v120 v126 k (a13, a14, a15, a16, a17, a18, w19, w20, a21, a22, a23, a24))
          (fun y => iprop((∃ f11', Held (F := F) c arg2 arg3 arg4 arg5 arg9 arg10 arg11 X2 X3 X4 X5
            (next9 arg3 arg9 X3 k w19 h1 a21 a22 r.2.1 f9) (next10 arg3 arg10 X3 k w20 h2 a23 a24 r.2.2 f10) f11') ∗ ⌜y = r.1⌝)) } := by
  have hk : k.val < 18 := Nat.lt_of_lt_of_le k.isLt k0_t1_abs.2.1
  refine ⟨⟨?_, ?_, ?_⟩, ⟨?w19, ?w20⟩, fun E f9 f10 f11 => ?run⟩
  case run =>
    unfold k0_t1_body
    iintro ⟨H2, H3, H4, H5, H9, H10, H11⟩
    sl_exec
    sl_step
    sl_close
  case w19 => rfl
  case w20 => rfl

theorem iv_fw : ∀ k : Fin k0_t1_loop.trips, Scalar.minsi (Scf.iv 0#32 1#32 k) 17#32 = fw (k.val + 1) := by decide +kernel

theorem iv_bw : ∀ k : Fin k0_t1_loop.trips,
    Scalar.select (Scalar.cmpi .slt (Scalar.minsi (Scf.iv 0#32 1#32 k) 17#32) 2#32)
      (Scalar.subi 1#32 (Scalar.minsi (Scf.iv 0#32 1#32 k) 17#32))
      (Scalar.subi 17#32 (Scalar.subi (Scalar.minsi (Scf.iv 0#32 1#32 k) 17#32) 2#32)) = bw (k.val + 1) := by
  decide +kernel

end Cert.Proof.Scan

end
-- ==== Proof.Scan.Run.lean ====
/- THE BODY at one grid point: the main loop by its invariant, the readout loop by its own, and what the output's
staging buffer holds at the end, named as a function of the input blocks alone. -/
module

public import proofs.«01_k».proof.Proof.Scan.Trip

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the generated frame kit. -/
local notation "𝕄G" => MT nD τ sig Unit (Elt F) ℕ (UR sig nD τ) ℕ

/-- One readout trip: the two heads' rows it writes depend on the inputs and the two output scratches alone. -/
@[irreducible] def tripB (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X6 : BufTy.Contents (Elt F) arg6.view.ty) (X7 : BufTy.Contents (Elt F) arg7.view.ty)
    (X9 : BufTy.Contents (Elt F) arg9.view.ty) (X10 : BufTy.Contents (Elt F) arg10.view.ty) (k : Fin k0_t2_loop.trips) :
    { r : FVec F S1x128x128 .bf16 × FVec F S1x128x128 .bf16 // ∀ (E : Set ℕ) (f8 : BufTy.Contents (Elt F) arg8.view.ty),
      Trip_k0_t2 (F := F) c arg6 arg7 arg9 arg10 arg8 X6 X7 X9 X10 f8
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 k PUnit.unit)
          (fun _ => Trip_k0_t2 (F := F) c arg6 arg7 arg9 arg10 arg8 X6 X7 X9 X10 (arg8.view.writes (Elt F) f8
            [(⟨Rect.unit (s := S1x2304x256) (k0_off26 k) S1x128x128.size (k0_off26_inb k), r.2⟩ : View.Piece (Elt F) S1x2304x256 .bf16),
             (⟨Rect.unit (s := S1x2304x256) (k0_off24 k) S1x128x128.size (k0_off24_inb k), r.1⟩ : View.Piece (Elt F) S1x2304x256 .bf16)])) } := by
  have hk : k.val < 18 := Nat.lt_of_lt_of_le k.isLt k0_t2_abs.2.1
  refine ⟨⟨?_, ?_⟩, fun E f8 => ?run⟩
  case run =>
    unfold k0_t2_body
    iintro ⟨H6, H7, H9, H10, H8⟩
    sl_exec
    sl_step
    sl_close

theorem chk1_all (c : Fin 18) : k0_chk1 (BitVec.ofNat 32 c.val) := by revert c; decide +kernel
theorem chk2_all (c : Fin 18) : k0_chk2 (BitVec.ofNat 32 c.val) := by revert c; decide +kernel

/-- One trip at the words the loop carries there. -/
def stepTrip (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (k : Fin k0_t1_loop.trips) (a : Acc F) : Acc F × FVec F S128x256 .f32 × FVec F S128x256 .f32 :=
  (trip 𝒱 c bd i arg2 harg2 arg3 harg3 arg4 harg4 arg5 harg5 arg6 harg6 arg7 harg7 arg8 harg8 arg9 harg9 arg10 harg10 arg11 harg11 v43 v87 v88 v93 v98 v99 v104 v119 v120 v126 k a.1 a.2.1 a.2.2.1 a.2.2.2.1 a.2.2.2.2.1 a.2.2.2.2.2.1 (fw k.val) (bw k.val)
    a.2.2.2.2.2.2.2.2.1 a.2.2.2.2.2.2.2.2.2.1 a.2.2.2.2.2.2.2.2.2.2.1 a.2.2.2.2.2.2.2.2.2.2.2
    (chk1_all _) (chk2_all _) X2 X3 X4 X5).1

/-- One trip from a carried value whose words name the chunks of the trip before. -/
theorem step_run (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (k : Fin k0_t1_loop.trips) (a : Acc F) (hw : a.2.2.2.2.2.2.1 = fw k.val) (hv : a.2.2.2.2.2.2.2.1 = bw k.val) (E : Set ℕ)
    (f9 : BufTy.Contents (Elt F) arg9.view.ty) (f10 : BufTy.Contents (Elt F) arg10.view.ty) (f11 : BufTy.Contents (Elt F) arg11.view.ty) :
    Held (F := F) c arg2 arg3 arg4 arg5 arg9 arg10 arg11 X2 X3 X4 X5 f9 f10 f11
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v43 v87 v88 v93 v98 v99 v104 v119 v120 v126 k a)
      (fun y => iprop((∃ f11', Held (F := F) c arg2 arg3 arg4 arg5 arg9 arg10 arg11 X2 X3 X4 X5
        (next9 arg3 arg9 X3 k (fw k.val) (chk1_all _) a.2.2.2.2.2.2.2.2.1 a.2.2.2.2.2.2.2.2.2.1 (stepTrip 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 k a).2.1 f9)
        (next10 arg3 arg10 X3 k (bw k.val) (chk2_all _) a.2.2.2.2.2.2.2.2.2.2.1 a.2.2.2.2.2.2.2.2.2.2.2 (stepTrip 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 k a).2.2 f10) f11')
        ∗ ⌜y = (stepTrip 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 k a).1⌝)) := by
  obtain ⟨a13, a14, a15, a16, a17, a18, w19, w20, a21, a22, a23, a24⟩ := a
  obtain rfl : w19 = fw k.val := hw
  obtain rfl : w20 = bw k.val := hv
  exact (trip 𝒱 c bd i arg2 harg2 arg3 harg3 arg4 harg4 arg5 harg5 arg6 harg6 arg7 harg7 arg8 harg8 arg9 harg9 arg10 harg10 arg11 harg11 v43 v87 v88 v93 v98 v99 v104 v119 v120 v126 k a13 a14 a15 a16 a17 a18 (fw k.val) (bw k.val) a21 a22 a23 a24 (chk1_all _) (chk2_all _) X2 X3 X4 X5).2.2 E f9 f10 f11

/-- What the loop carries before trip `k`, and the two pieces the trip before wrote. -/
def st (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32) :
    ℕ → Acc F × FVec F S128x256 .f32 × FVec F S128x256 .f32
  | 0 => r0
  | k + 1 => if h : k < k0_t1_loop.trips then stepTrip 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 ⟨k, h⟩ (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).1
      else st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k

/-- The finished rows of the forward chunk of trip `j`. -/
def fin9 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32) (j : ℕ) : FVec F S128x256 .f32 :=
  fin9W arg3 X3 (fw (j + 1)) (chk1_all _) (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (j + 1)).1.2.2.2.2.2.2.2.2.1 (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (j + 1)).1.2.2.2.2.2.2.2.2.2.1
    (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (j + 1)).2.1

/-- The finished rows of the backward chunk of trip `j`. -/
def fin10 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32) (j : ℕ) : FVec F S128x256 .f32 :=
  fin10W arg3 X3 (bw (j + 1)) (chk2_all _) (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (j + 1)).1.2.2.2.2.2.2.2.2.2.2.1 (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (j + 1)).1.2.2.2.2.2.2.2.2.2.2.2
    (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (j + 1)).2.2

/-- THE MAIN LOOP'S INVARIANT before trip `k`. -/
def inv1 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32) (k : ℕ) (acc : Acc F) : sProp 𝕄G :=
  iprop(∃ f9 f10 f11, Held (F := F) c arg2 arg3 arg4 arg5 arg9 arg10 arg11 X2 X3 X4 X5 f9 f10 f11 ∗
    ⌜acc = (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).1
      ∧ Filled arg9.view fwdChunk (fin9 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0) (fun k => (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).2.1) k f9
      ∧ Filled arg10.view bwdChunk (fin10 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0) (fun k => (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).2.2) k f10⌝)

/-- The words the loop carries name the chunks of the trip before. -/
theorem st_words (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32)
    (h0 : r0.1.2.2.2.2.2.2.1 = fw 0 ∧ r0.1.2.2.2.2.2.2.2.1 = bw 0) (k : ℕ) (hk : k ≤ 18) :
    (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).1.2.2.2.2.2.2.1 = fw k ∧ (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).1.2.2.2.2.2.2.2.1 = bw k := by
  cases k with
  | zero => exact h0
  | succ k =>
    have hk' : k < k0_t1_loop.trips := Nat.lt_of_lt_of_eq (Nat.lt_of_succ_le hk) (by decide)
    have e : st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (k + 1) = stepTrip 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 ⟨k, hk'⟩ (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k).1 := by
      rw [st]; exact dif_pos hk'
    rw [e]
    unfold stepTrip
    refine ⟨(trip 𝒱 c bd i arg2 harg2 arg3 harg3 arg4 harg4 arg5 harg5 arg6 harg6 arg7 harg7 arg8 harg8 arg9 harg9 arg10 harg10 arg11 harg11 v43 v87 v88 v93 v98 v99 v104 v119 v120 v126 _ _ _ _ _ _ _ _ _ _ _ _ _ _ _ X2 X3 X4 X5).2.1.1.trans (iv_fw ⟨k, hk'⟩),
      (trip 𝒱 c bd i arg2 harg2 arg3 harg3 arg4 harg4 arg5 harg5 arg6 harg6 arg7 harg7 arg8 harg8 arg9 harg9 arg10 harg10 arg11 harg11 v43 v87 v88 v93 v98 v99 v104 v119 v120 v126 _ _ _ _ _ _ _ _ _ _ _ _ _ _ _ X2 X3 X4 X5).2.1.2.trans (iv_bw ⟨k, hk'⟩)⟩

theorem st_succ (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32) (k : Fin k0_t1_loop.trips) :
    st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (k.val + 1) = stepTrip 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 k (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k.val).1 := by
  rw [st]; exact dif_pos k.isLt

theorem fin9W_congr (arg3 : Memref sig .tc .vmem S1x2304x256 .bf16) (X3 : BufTy.Contents (Elt F) arg3.view.ty)
    {w w' : BitVec 32} (e : w = w') (h : k0_chk1 w) (h' : k0_chk1 w') (p q : FVec F S128x128 .bf16) (raw : FVec F S128x256 .f32) :
    fin9W arg3 X3 w h p q raw = fin9W arg3 X3 w' h' p q raw := by subst e; rfl

theorem fin10W_congr (arg3 : Memref sig .tc .vmem S1x2304x256 .bf16) (X3 : BufTy.Contents (Elt F) arg3.view.ty)
    {w w' : BitVec 32} (e : w = w') (h : k0_chk2 w) (h' : k0_chk2 w') (p q : FVec F S128x128 .bf16) (raw : FVec F S128x256 .f32) :
    fin10W arg3 X3 w h p q raw = fin10W arg3 X3 w' h' p q raw := by subst e; rfl

/-- One trip keeps the invariant. -/
theorem inv1_step (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (v43 : IVec S128x128 32) (v87 : IVec S128x128 32) (v88 : IVec S128x128 32) (v93 : FVec F S128x128 .bf16) (v98 : FVec F S128x128 .bf16) (v99 : BitVec 32) (v104 : BitVec 32) (v119 : FVec F S128x128 .f32) (v120 : FVec F S128x128 .bf16) (v126 : FVec F S128x256 .f32)
    (X2 : BufTy.Contents (Elt F) arg2.view.ty) (X3 : BufTy.Contents (Elt F) arg3.view.ty)
    (X4 : BufTy.Contents (Elt F) arg4.view.ty) (X5 : BufTy.Contents (Elt F) arg5.view.ty) (r0 : Acc F × FVec F S128x256 .f32 × FVec F S128x256 .f32)
    (h0 : r0.1.2.2.2.2.2.2.1 = fw 0 ∧ r0.1.2.2.2.2.2.2.2.1 = bw 0) (k : Fin k0_t1_loop.trips) (acc : Acc F) (E : Set ℕ) :
    inv1 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k.val acc
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 v43 v87 v88 v93 v98 v99 v104 v119 v120 v126 k acc)
        (fun y => inv1 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 (k.val + 1) y) := by
  have hk : k.val < 18 := Nat.lt_of_lt_of_le k.isLt k0_t1_abs.2.1
  unfold inv1
  iintro ⟨%f9, %f10, %f11, H, %hp⟩
  obtain ⟨rfl, h9, h10⟩ := hp
  have hw := st_words 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 h0 k.val (le_of_lt hk)
  have hs := st_succ 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k
  have ht := step_run 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 k (st 𝒱 c bd i arg2 harg2 arg3 harg3 arg4 harg4 arg5 harg5 arg6 harg6 arg7 harg7 arg8 harg8 arg9 harg9 arg10 harg10 arg11 harg11 v43 v87 v88 v93 v98 v99 v104 v119 v120 v126 X2 X3 X4 X5 r0 k.val).1 hw.1 hw.2 E f9 f10 f11
  iapply (wp_wand_r Idealize.ShloMosaic.frame (wpE (defs₀ (F := F)) 𝒱 (c : Thread nD τ) bd) E)
  isplitl [H]
  · iapply ht
    iexact H
  · iintro %y ⟨⟨%f11', H⟩, %hy⟩
    subst hy
    iexists _; iexists _; iexists f11'
    isplitl [H]; · iexact H
    ipureintro
    refine ⟨?_, ?_, ?_⟩
    · rw [hs]
    · refine Filled.step arg9.view fwdChunk_inj h9 hk _ _ (off13_fwd k) (off7_fw ⟨k.val, by omega⟩) _ _ ?_ ?_
      · rw [hs]
      · intro h0k
        have e : k.val - 1 + 1 = k.val := by omega
        unfold fin9
        rw [Filled.readAt_prev arg9.view h9 (le_of_lt hk) _ (off7_fw ⟨k.val, by omega⟩)]
        simp only [e]
        exact fin9W_congr arg3 X3 (congrArg fw e.symm) _ _ _ _ _
    · refine Filled.step arg10.view bwdChunk_inj h10 hk _ _ (off14_bwd k) (off10_bw ⟨k.val, by omega⟩) _ _ ?_ ?_
      · rw [hs]
      · intro h0k
        have e : k.val - 1 + 1 = k.val := by omega
        unfold fin10
        rw [Filled.readAt_prev arg10.view h10 (le_of_lt hk) _ (off10_bw ⟨k.val, by omega⟩)]
        simp only [e]
        exact fin10W_congr arg3 X3 (congrArg bw e.symm) _ _ _ _ _

end Cert.Proof.Scan

end
-- ==== Proof.Scan.Body.lean ====
/- THE BODY at one grid point: both loops by their invariants, and what the output's staging buffer holds at the end. -/
module

public import proofs.«01_k».proof.Proof.Scan.Run

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the generated frame kit. -/
local notation "𝕄G" => MT nD τ sig Unit (Elt F) ℕ (UR sig nD τ) ℕ

/-- The words the loop starts from. -/
abbrev w99 : BitVec 32 := Scalar.minsi 0#32 17#32
abbrev w104 : BitVec 32 := Scalar.select (Scalar.cmpi .slt (Scalar.minsi 0#32 17#32) 2#32)
  (Scalar.subi 1#32 (Scalar.minsi 0#32 17#32)) (Scalar.subi 17#32 (Scalar.subi (Scalar.minsi 0#32 17#32) 2#32))

/-- The logarithms of the first forward chunk's gates. -/
abbrev first4 (arg4 : Memref sig .tc .vmem S1x2304x256 .f32) (X4 : BufTy.Contents (Elt F) arg4.view.ty) : FVec F S128x256 .f32 :=
  k0_pay224 (arg4.view.readAt (Elt F) (Rect.unit (s := S1x2304x256) k0_off3 S1x128x256.size k0_off3_inb).toLoadRect X4)

/-- What the loop starts from: no state, the first decays, the first chunks' words, no pairs; and the zeros both
output scratches start with. -/
abbrev start (arg4 : Memref sig .tc .vmem S1x2304x256 .f32) (arg5 : Memref sig .tc .vmem S1x2304x256 .f32)
    (X4 : BufTy.Contents (Elt F) arg4.view.ty) (X5 : BufTy.Contents (Elt F) arg5.view.ty) :
    Acc F × FVec F S128x256 .f32 × FVec F S128x256 .f32 :=
  ((k0_pay222 (F := F), k0_pay222 (F := F), k0_pay222 (F := F), k0_pay222 (F := F),
    k0_pay225 (k0_pay218 (F := F) (k0_pay217 k0_pay214)) (first4 arg4 X4),
    k0_pay226 (k0_pay219 (F := F) k0_pay214 k0_pay215)
      (arg5.view.readAt (Elt F) (Rect.unit (s := S1x2304x256) k0_off4 S1x128x256.size k0_off4_inb).toLoadRect X5),
    w99, w104, k0_pay223 (F := F), k0_pay223 (F := F), k0_pay223 (F := F), k0_pay223 (F := F)), k0_pay220 (F := F), k0_pay221 (F := F))

theorem start_words : w99 = fw 0 ∧ w104 = bw 0 := by decide +kernel

theorem off1_fwd : k0_off1 = ![128 * (fwdChunk 0).val, 0] := by decide +kernel
theorem off2_bwd : k0_off2 = ![128 * (bwdChunk 0).val, 0] := by decide +kernel

/-- What the forward output scratch holds after the main loop. -/
def G9 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty) : S2304x256.Idx → Elt F .f32 :=
  fun y => fin9 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) (chunkOf y).val (inChunk y)

/-- What the backward output scratch holds after the main loop. -/
def G10 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty) : S2304x256.Idx → Elt F .f32 :=
  fun y => fin10 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) (bwdTrip (chunkOf y)) (inChunk y)

theorem eq_G9 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty) (f : BufTy.Contents (Elt F) arg9.view.ty)
    (h : ∀ j < 18, ∀ x, arg9.view.read (Elt F) f (rowIdx (fwdChunk j) x) = fin9 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) j x) :
    arg9.view.read (Elt F) f = G9 𝒱 c bd i arg2 harg2 arg3 harg3 arg4 harg4 arg5 harg5 arg6 harg6 arg7 harg7 arg8 harg8 arg9 harg9 arg10 harg10 arg11 harg11 X2 X3 X4 X5 := by
  funext y
  have := h (chunkOf y).val (chunkOf y).isLt (inChunk y)
  rw [fwdChunk_val, rowIdx_chunkOf] at this
  exact this

theorem eq_G10 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty) (f : BufTy.Contents (Elt F) arg10.view.ty)
    (h : ∀ j < 18, ∀ x, arg10.view.read (Elt F) f (rowIdx (bwdChunk j) x) = fin10 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) j x) :
    arg10.view.read (Elt F) f = G10 𝒱 c bd i arg2 harg2 arg3 harg3 arg4 harg4 arg5 harg5 arg6 harg6 arg7 harg7 arg8 harg8 arg9 harg9 arg10 harg10 arg11 harg11 X2 X3 X4 X5 := by
  funext y
  have := h (bwdTrip (chunkOf y)) (bwdTrip_lt _) (inChunk y)
  rw [bwdChunk_bwdTrip, rowIdx_chunkOf] at this
  exact this

/-- Position `x` of head `h`'s block in chunk `c` of a [1, 2304, 256] block. -/
def outIdx (c : Fin 18) (h : Fin 2) (x : S1x128x128.Idx) : S1x2304x256.Idx
  | ⟨0, _⟩ => x (0 : Fin 3)
  | ⟨1, _⟩ => ⟨128 * c.val + (x (1 : Fin 3)).val, by
      have h : (x (1 : Fin 3)).val < 128 := (x (1 : Fin 3)).isLt
      have := c.isLt
      show _ < 2304
      omega⟩
  | ⟨2, _⟩ => ⟨128 * h.val + (x (2 : Fin 3)).val, by
      have h : (x (2 : Fin 3)).val < 128 := (x (2 : Fin 3)).isLt
      show _ < 256
      omega⟩

def outChunk (y : S1x2304x256.Idx) : Fin 18 := ⟨(y (1 : Fin 3)).val / 128, by
  have h : (y (1 : Fin 3)).val < 2304 := (y (1 : Fin 3)).isLt
  omega⟩

def outHead (y : S1x2304x256.Idx) : Fin 2 := ⟨(y (2 : Fin 3)).val / 128, by
  have h : (y (2 : Fin 3)).val < 256 := (y (2 : Fin 3)).isLt
  omega⟩

def outIn (y : S1x2304x256.Idx) : S1x128x128.Idx
  | ⟨0, _⟩ => y (0 : Fin 3)
  | ⟨1, _⟩ => ⟨(y (1 : Fin 3)).val % 128, Nat.mod_lt _ (by decide)⟩
  | ⟨2, _⟩ => ⟨(y (2 : Fin 3)).val % 128, Nat.mod_lt _ (by decide)⟩

theorem outIdx_parts (y : S1x2304x256.Idx) : outIdx (outChunk y) (outHead y) (outIn y) = y := by
  funext a
  refine Fin.ext ?_
  match a with
  | ⟨0, _⟩ => rfl
  | ⟨1, _⟩ => exact Nat.div_add_mod (y (1 : Fin 3)).val 128
  | ⟨2, _⟩ => exact Nat.div_add_mod (y (2 : Fin 3)).val 128

/-- One readout trip's two pieces: the chunk reads them, every other chunk what was there. -/
theorem out_step {sp : Space} (v : View sig .tc sp S1x2304x256 .bf16) (f : v.ty.Contents (Elt F)) (k : Fin k0_t2_loop.trips)
    (p : FVec F S1x128x128 .bf16 × FVec F S1x128x128 .bf16) (T : ℕ → Fin 2 → S1x128x128.Idx → Elt F .bf16)
    (hf : ∀ j < k.val, ∀ hj : j < 18, ∀ h x, v.read (Elt F) f (outIdx ⟨j, hj⟩ h x) = T j h x)
    (hT : ∀ x, T k.val 0 x = p.1 x ∧ T k.val 1 x = p.2 x) :
    ∀ j < k.val + 1, ∀ hj : j < 18, ∀ h x, v.read (Elt F) (v.writes (Elt F) f
      [(⟨Rect.unit (s := S1x2304x256) (k0_off26 k) S1x128x128.size (k0_off26_inb k), p.2⟩ : View.Piece (Elt F) S1x2304x256 .bf16),
       (⟨Rect.unit (s := S1x2304x256) (k0_off24 k) S1x128x128.size (k0_off24_inb k), p.1⟩ : View.Piece (Elt F) S1x2304x256 .bf16)])
      (outIdx ⟨j, hj⟩ h x) = T j h x := by
  intro j hjk hj h x
  have hx1 : (x (1 : Fin 3)).val < 128 := (x (1 : Fin 3)).isLt
  have hx2 : (x (2 : Fin 3)).val < 128 := (x (2 : Fin 3)).isLt
  by_cases hje : j = k.val
  · subst hje
    match h with
    | ⟨0, _⟩ =>
      rw [View.read_writes_cons_unit_of_not_mem v f _ _ _ _ (k0_off26_eq k) (2 : Fin 3)
        (.inl (by show 128 * 0 + (x (2 : Fin 3)).val < 128; omega))]
      exact (View.read_writes_cons_unit_of_mem v f _ _ _ _ x (k0_off24_eq k) fun a => match a with
        | ⟨0, _⟩ => (Nat.zero_add _).symm
        | ⟨1, _⟩ => rfl
        | ⟨2, _⟩ => rfl).trans (hT x).1.symm
    | ⟨1, _⟩ =>
      exact (View.read_writes_cons_unit_of_mem v f _ _ _ _ x (k0_off26_eq k) fun a => match a with
        | ⟨0, _⟩ => (Nat.zero_add _).symm
        | ⟨1, _⟩ => rfl
        | ⟨2, _⟩ => rfl).trans (hT x).2.symm
  · have e1 : 128 * j + (x (1 : Fin 3)).val < 128 * k.val ∨ 128 * k.val + 128 ≤ 128 * j + (x (1 : Fin 3)).val := by omega
    rw [View.read_writes_cons_unit_of_not_mem v f _ _ _ _ (k0_off26_eq k) (1 : Fin 3) e1,
      View.read_writes_cons_unit_of_not_mem v f _ _ _ _ (k0_off24_eq k) (1 : Fin 3) e1, View.writes_nil]
    exact hf j (by omega) hj h x

/-- The readout trip of chunk `j`. -/
def tripOf (j : ℕ) : Fin k0_t2_loop.trips := ⟨j % 18, by rw [show k0_t2_loop.trips = 18 by decide]; exact Nat.mod_lt _ (by decide)⟩

theorem tripOf_val (k : Fin k0_t2_loop.trips) : tripOf k.val = k :=
  Fin.ext (Nat.mod_eq_of_lt (Nat.lt_of_lt_of_le k.isLt k0_t2_abs.2.1))

/-- What the readout of chunk `j` writes for head `h`. -/
def outT (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X6 : BufTy.Contents (Elt F) arg6.view.ty) (X7 : BufTy.Contents (Elt F) arg7.view.ty)
    (X9 : BufTy.Contents (Elt F) arg9.view.ty) (X10 : BufTy.Contents (Elt F) arg10.view.ty) (j : ℕ) (h : Fin 2) : S1x128x128.Idx → Elt F .bf16 :=
  if h = 0 then (tripB 𝒱 c bd i arg2 harg2 arg3 harg3 arg4 harg4 arg5 harg5 arg6 harg6 arg7 harg7 arg8 harg8 arg9 harg9 arg10 harg10 arg11 harg11 X6 X7 X9 X10 (tripOf j)).1.1 else (tripB 𝒱 c bd i arg2 harg2 arg3 harg3 arg4 harg4 arg5 harg5 arg6 harg6 arg7 harg7 arg8 harg8 arg9 harg9 arg10 harg10 arg11 harg11 X6 X7 X9 X10 (tripOf j)).1.2

/-- THE READOUT LOOP'S INVARIANT before trip `k`. -/
def inv2 (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X6 : BufTy.Contents (Elt F) arg6.view.ty) (X7 : BufTy.Contents (Elt F) arg7.view.ty)
    (X9 : BufTy.Contents (Elt F) arg9.view.ty) (X10 : BufTy.Contents (Elt F) arg10.view.ty) (k : ℕ) (_ : Unit) : sProp 𝕄G :=
  iprop(∃ f8, Trip_k0_t2 (F := F) c arg6 arg7 arg9 arg10 arg8 X6 X7 X9 X10 f8 ∗
    ⌜∀ j < k, ∀ hj : j < 18, ∀ h x, arg8.view.read (Elt F) f8 (outIdx ⟨j, hj⟩ h x) = outT 𝒱 c bd i arg2 harg2 arg3 harg3 arg4 harg4 arg5 harg5 arg6 harg6 arg7 harg7 arg8 harg8 arg9 harg9 arg10 harg10 arg11 harg11 X6 X7 X9 X10 j h x⌝)

theorem inv2_step (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X6 : BufTy.Contents (Elt F) arg6.view.ty) (X7 : BufTy.Contents (Elt F) arg7.view.ty)
    (X9 : BufTy.Contents (Elt F) arg9.view.ty) (X10 : BufTy.Contents (Elt F) arg10.view.ty) (k : Fin k0_t2_loop.trips) (a : Unit) (E : Set ℕ) :
    inv2 𝒱 c bd i arg2 harg2 arg3 harg3 arg4 harg4 arg5 harg5 arg6 harg6 arg7 harg7 arg8 harg8 arg9 harg9 arg10 harg10 arg11 harg11 X6 X7 X9 X10 k.val a
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 k a)
        (fun y => inv2 𝒱 c bd i arg2 harg2 arg3 harg3 arg4 harg4 arg5 harg5 arg6 harg6 arg7 harg7 arg8 harg8 arg9 harg9 arg10 harg10 arg11 harg11 X6 X7 X9 X10 (k.val + 1) y) := by
  unfold inv2
  iintro ⟨%f8, H, %hp⟩
  iapply (wp_wand_r Idealize.ShloMosaic.frame (wpE (defs₀ (F := F)) 𝒱 (c : Thread nD τ) bd) E)
  isplitl [H]
  · iapply ((tripB 𝒱 c bd i arg2 harg2 arg3 harg3 arg4 harg4 arg5 harg5 arg6 harg6 arg7 harg7 arg8 harg8 arg9 harg9 arg10 harg10 arg11 harg11 X6 X7 X9 X10 k).2 E f8)
    iexact H
  · iintro %y H
    iexists _
    isplitl [H]; · iexact H
    ipureintro
    refine out_step arg8.view f8 k _ _ hp fun x => ?_
    constructor
    · unfold outT; rw [if_pos rfl]
      exact congrArg (fun kk => (tripB 𝒱 c bd i arg2 harg2 arg3 harg3 arg4 harg4 arg5 harg5 arg6 harg6 arg7 harg7 arg8 harg8 arg9 harg9 arg10 harg10 arg11 harg11 X6 X7 X9 X10 kk).1.1 x) (tripOf_val k)
    · unfold outT; rw [if_neg (by decide)]
      exact congrArg (fun kk => (tripB 𝒱 c bd i arg2 harg2 arg3 harg3 arg4 harg4 arg5 harg5 arg6 harg6 arg7 harg7 arg8 harg8 arg9 harg9 arg10 harg10 arg11 harg11 X6 X7 X9 X10 kk).1.2 x) (tripOf_val k)

/-- What the output's staging buffer holds at the end. -/
def outB (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty)
    (X6 : BufTy.Contents (Elt F) arg6.view.ty) (X7 : BufTy.Contents (Elt F) arg7.view.ty) : S1x2304x256.Idx → Elt F .bf16 :=
  fun y => outT 𝒱 c bd i arg2 harg2 arg3 harg3 arg4 harg4 arg5 harg5 arg6 harg6 arg7 harg7 arg8 harg8 arg9 harg9 arg10 harg10 arg11 harg11 X6 X7 (arg9.view.rep (G9 𝒱 c bd i arg2 harg2 arg3 harg3 arg4 harg4 arg5 harg5 arg6 harg6 arg7 harg7 arg8 harg8 arg9 harg9 arg10 harg10 arg11 harg11 X2 X3 X4 X5)) (arg10.view.rep (G10 𝒱 c bd i arg2 harg2 arg3 harg3 arg4 harg4 arg5 harg5 arg6 harg6 arg7 harg7 arg8 harg8 arg9 harg9 arg10 harg10 arg11 harg11 X2 X3 X4 X5)) (outChunk y).val (outHead y) (outIn y)

/-- A buffer held at contents that read `x` is the buffer held at `x`'s representative. -/
theorem pts_of_read (c : Dev nD) {s : Shape} {e : EltTy} (m : Memref sig .tc .vmem s e) (g : BufTy.Contents (Elt F) m.view.ty)
    (x : s.Idx → Elt F e) (h : m.view.read (Elt F) g = x) :
    (m.view.loc (c : Thread nD τ) ↦[m.view.set]{fullShare} g : sProp 𝕄G) ⊢ (m.view.loc (c : Thread nD τ) ↦[m.view.set]{fullShare} m.view.rep x) := by
  subst h
  exact Entails.of_eq (pointsTo_rep (c : Thread nD τ) m g fullShare)

/-- The last forward chunk's finishing store writes its finished rows. -/
theorem fin9_last (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty) (p q : FVec F S128x128 .bf16) (h3 : k0_chk3 (fw 18)) (g9 : BufTy.Contents (Elt F) arg9.view.ty)
    (h9 : Filled arg9.view fwdChunk (fin9 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5))
      (fun k => (st 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) k).2.1) 18 g9)
    (hfin : fin9 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 17 = fin9W arg3 X3 (fw 18) (chk1_all _) p q
      (st 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 18).2.1) :
    k0_pay1 q (k0_pay227 p (arg3.view.readAt (Elt F) (Rect.unit (s := S1x2304x256) (k0_off17 (fw 18)) S1x128x128.size (k0_off17_inb (fw 18) h3)).toLoadRect X3))
      (k0_pay228 (arg3.view.readAt (Elt F) (Rect.unit (s := S1x2304x256) (k0_off18 (fw 18)) S1x128x128.size (k0_off18_inb (fw 18) h3)).toLoadRect X3))
      (arg9.view.readAt (Elt F) (Rect.unit (s := S2304x256) (k0_off19 (fw 18)) S128x256.size (k0_off19_inb (fw 18) h3)).toLoadRect g9)
      = fin9 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 17 := by
  rw [hfin, Filled.readAt_prev arg9.view h9 le_rfl _ off19_fw]
  rfl

/-- The last backward chunk's finishing store writes its finished rows. -/
theorem fin10_last (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty) (p q : FVec F S128x128 .bf16) (h4 : k0_chk4 (bw 18)) (g10 : BufTy.Contents (Elt F) arg10.view.ty)
    (h10 : Filled arg10.view bwdChunk (fin10 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5))
      (fun k => (st 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) k).2.2) 18 g10)
    (hfin : fin10 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 17 = fin10W arg3 X3 (bw 18) (chk2_all _) p q
      (st 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 18).2.2) :
    k0_pay2 p q (arg3.view.readAt (Elt F) (Rect.unit (s := S1x2304x256) (k0_off20 (bw 18)) S1x128x128.size (k0_off20_inb (bw 18) h4)).toLoadRect X3)
      (arg3.view.readAt (Elt F) (Rect.unit (s := S1x2304x256) (k0_off21 (bw 18)) S1x128x128.size (k0_off21_inb (bw 18) h4)).toLoadRect X3)
      (arg10.view.readAt (Elt F) (Rect.unit (s := S2304x256) (k0_off22 (bw 18)) S128x256.size (k0_off22_inb (bw 18) h4)).toLoadRect g10)
      = fin10 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 17 := by
  rw [hfin, Filled.readAt_prev arg10.view h10 le_rfl _ off22_bw]
  rfl

set_option maxHeartbeats 8000000 in
/-- THE BODY, from any contents of the output's buffer and of the scratches. -/
theorem body_run (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (X2 : BufTy.Contents (Elt F) arg2.view.ty) (X3 : BufTy.Contents (Elt F) arg3.view.ty)
    (X4 : BufTy.Contents (Elt F) arg4.view.ty) (X5 : BufTy.Contents (Elt F) arg5.view.ty)
    (X6 : BufTy.Contents (Elt F) arg6.view.ty) (X7 : BufTy.Contents (Elt F) arg7.view.ty)
    (f8 : BufTy.Contents (Elt F) arg8.view.ty) (f9 : BufTy.Contents (Elt F) arg9.view.ty)
    (f10 : BufTy.Contents (Elt F) arg10.view.ty) (f11 : BufTy.Contents (Elt F) arg11.view.ty) (E : Set ℕ) :
    iprop(Held (F := F) c arg2 arg3 arg4 arg5 arg9 arg10 arg11 X2 X3 X4 X5 f9 f10 f11
      ∗ (arg6.view.loc (c : Thread nD τ) ↦[arg6.view.set]{fullShare} X6) ∗ (arg7.view.loc (c : Thread nD τ) ↦[arg7.view.set]{fullShare} X7)
      ∗ (arg8.view.loc (c : Thread nD τ) ↦[arg8.view.set]{fullShare} f8))
    ⊢ wp frame (wpE (defs₀ (F := F)) 𝒱 (c : Thread nD τ) bd) E (cc0_hgrn2_mixer_skel (F := F) i arg2 harg2 arg3 harg3 arg4 harg4 arg5 harg5 arg6 harg6 arg7 harg7 arg8 harg8 arg9 harg9 arg10 harg10 arg11 harg11)
      (fun _ => iprop(∃ g8 g9 g10 g11, (Held (F := F) c arg2 arg3 arg4 arg5 arg9 arg10 arg11 X2 X3 X4 X5 g9 g10 g11
        ∗ (arg6.view.loc (c : Thread nD τ) ↦[arg6.view.set]{fullShare} X6) ∗ (arg7.view.loc (c : Thread nD τ) ↦[arg7.view.set]{fullShare} X7)
        ∗ (arg8.view.loc (c : Thread nD τ) ↦[arg8.view.set]{fullShare} g8))
        ∗ ⌜arg8.view.read (Elt F) g8 = outB 𝒱 c bd i arg2 harg2 arg3 harg3 arg4 harg4 arg5 harg5 arg6 harg6 arg7 harg7 arg8 harg8 arg9 harg9 arg10 harg10 arg11 harg11 X2 X3 X4 X5 X6 X7⌝)) := by
  have hc3 := chk3_fw
  have hc4 := chk4_bw
  unfold cc0_hgrn2_mixer_skel
  iintro ⟨⟨H2, H3, H4, H5, H9, H10, H11⟩, H6, H7, H8⟩
  sl_exec
  sl_for (inv1 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5)) $$ [H2 H3 H4 H5 H9 H10 H11]
  case region =>
    intro k acc
    exact inv1_step 𝒱 c bd i arg2 harg2 arg3 harg3 arg4 harg4 arg5 harg5 arg6 harg6 arg7 harg7 arg8 harg8 arg9 harg9 arg10 harg10 arg11 harg11 _ _ _ _ _ _ _ _ _ _ X2 X3 X4 X5 (start arg4 arg5 X4 X5) start_words k acc E
  · unfold inv1
    iexists _; iexists _; iexists _
    isplitl [H2 H3 H4 H5 H9 H10 H11]
    · isplitl [H2]; · iexact H2
      isplitl [H3]; · iexact H3
      isplitl [H4]; · iexact H4
      isplitl [H5]; · iexact H5
      isplitl [H9]; · iexact H9
      isplitl [H10]; · iexact H10
      iexact H11
    ipureintro
    refine ⟨rfl, fun j hj x => ⟨fun h => absurd h (Nat.not_lt_zero _), fun h => ?_⟩, fun j hj x => ⟨fun h => absurd h (Nat.not_lt_zero _), fun h => ?_⟩⟩
    · subst h; exact read_same arg9.view f9 _ _ off1_fwd _ _ _
    · subst h; exact read_same arg10.view f10 _ _ off2_bwd _ _ _
  iintro %acc HI
  unfold inv1
  icases HI with ⟨%g9, %g10, %g11, ⟨H2, H3, H4, H5, H9, H10, H11⟩, %hp⟩
  have hw := st_words 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) start_words 18 le_rfl
  rw [show Scf.trips k0_t1_loop.lb k0_t1_loop.ub k0_t1_loop.st = 18 by decide] at hp
  obtain ⟨a13, a14, a15, a16, a17, a18, w19, w20, a21, a22, a23, a24⟩ := acc
  obtain ⟨hacc, h9, h10⟩ := hp
  have hfin9 : fin9 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 17 = fin9W arg3 X3 (fw 18) (chk1_all _) a21 a22
      (st 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 18).2.1 := by
    unfold fin9; rw [← hacc]
  have hfin10 : fin10 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 17 = fin10W arg3 X3 (bw 18) (chk2_all _) a23 a24
      (st 𝒱 c bd i arg2 harg2 arg3 harg3 arg4 harg4 arg5 harg5 arg6 harg6 arg7 harg7 arg8 harg8 arg9 harg9 arg10 harg10 arg11 harg11 k0_pay214 k0_pay215 (k0_pay216 k0_pay214) (k0_pay218 (F := F) (k0_pay217 k0_pay214)) (k0_pay219 (F := F) k0_pay214 k0_pay215) w99 w104 (k0_pay222 (F := F)) (k0_pay223 (F := F)) (first4 arg4 X4) X2 X3 X4 X5 (start arg4 arg5 X4 X5) 18).2.2 := by
    unfold fin10; rw [← hacc]
  rw [← hacc] at hw
  obtain rfl : w19 = fw 18 := hw.1
  obtain rfl : w20 = bw 18 := hw.2
  clear hw
  set_option sl_exec.maxSteps 13 in sl_exec
  have e9 := eq_G9 𝒱 c bd i arg2 harg2 arg3 harg3 arg4 harg4 arg5 harg5 arg6 harg6 arg7 harg7 arg8 harg8 arg9 harg9 arg10 harg10 arg11 harg11 X2 X3 X4 X5 _ (Filled.finish arg9.view fwdChunk_inj h9 (k0_off19_inb (fw 18) hc3) off19_fw _
    (fin9_last 𝒱 c bd i arg2 harg2 arg3 harg3 arg4 harg4 arg5 harg5 arg6 harg6 arg7 harg7 arg8 harg8 arg9 harg9 arg10 harg10 arg11 harg11 X2 X3 X4 X5 a21 a22 hc3 g9 h9 hfin9))
  have e10 := eq_G10 𝒱 c bd i arg2 harg2 arg3 harg3 arg4 harg4 arg5 harg5 arg6 harg6 arg7 harg7 arg8 harg8 arg9 harg9 arg10 harg10 arg11 harg11 X2 X3 X4 X5 _ (Filled.finish arg10.view bwdChunk_inj h10 (k0_off22_inb (bw 18) hc4) off22_bw _
    (fin10_last 𝒱 c bd i arg2 harg2 arg3 harg3 arg4 harg4 arg5 harg5 arg6 harg6 arg7 harg7 arg8 harg8 arg9 harg9 arg10 harg10 arg11 harg11 X2 X3 X4 X5 a23 a24 hc4 g10 h10 hfin10))
  ihave K9 : (arg9.view.loc (c : Thread nD τ) ↦[arg9.view.set]{fullShare} arg9.view.rep (G9 𝒱 c bd i arg2 harg2 arg3 harg3 arg4 harg4 arg5 harg5 arg6 harg6 arg7 harg7 arg8 harg8 arg9 harg9 arg10 harg10 arg11 harg11 X2 X3 X4 X5)) $$ [H9]
  · exact pts_of_read c arg9 _ _ e9
  ihave K10 : (arg10.view.loc (c : Thread nD τ) ↦[arg10.view.set]{fullShare} arg10.view.rep (G10 𝒱 c bd i arg2 harg2 arg3 harg3 arg4 harg4 arg5 harg5 arg6 harg6 arg7 harg7 arg8 harg8 arg9 harg9 arg10 harg10 arg11 harg11 X2 X3 X4 X5)) $$ [H10]
  · exact pts_of_read c arg10 _ _ e10
  beta_reduce
  sl_for (inv2 𝒱 c bd i arg2 harg2 arg3 harg3 arg4 harg4 arg5 harg5 arg6 harg6 arg7 harg7 arg8 harg8 arg9 harg9 arg10 harg10 arg11 harg11 X6 X7 (arg9.view.rep (G9 𝒱 c bd i arg2 harg2 arg3 harg3 arg4 harg4 arg5 harg5 arg6 harg6 arg7 harg7 arg8 harg8 arg9 harg9 arg10 harg10 arg11 harg11 X2 X3 X4 X5)) (arg10.view.rep (G10 𝒱 c bd i arg2 harg2 arg3 harg3 arg4 harg4 arg5 harg5 arg6 harg6 arg7 harg7 arg8 harg8 arg9 harg9 arg10 harg10 arg11 harg11 X2 X3 X4 X5))) $$ [H6 H7 H8 K9 K10]
  case region =>
    intro k acc
    exact inv2_step 𝒱 c bd i arg2 harg2 arg3 harg3 arg4 harg4 arg5 harg5 arg6 harg6 arg7 harg7 arg8 harg8 arg9 harg9 arg10 harg10 arg11 harg11 X6 X7 _ _ k acc E
  · unfold inv2
    iexists f8
    isplitl [H6 H7 H8 K9 K10]
    · isplitl [H6]; · iexact H6
      isplitl [H7]; · iexact H7
      isplitl [K9]; · iexact K9
      isplitl [K10]; · iexact K10
      iexact H8
    ipureintro
    exact fun j hj => absurd hj (Nat.not_lt_zero _)
  iintro %acc HI
  unfold inv2
  icases HI with ⟨%g8, ⟨H6, H7, K9, K10, H8⟩, %hp⟩
  rw [show Scf.trips k0_t2_loop.lb k0_t2_loop.ub k0_t2_loop.st = 18 by decide] at hp
  sl_step
  iexists g8; iexists _; iexists _; iexists g11
  isplitl
  · isplitl [H2 H3 H4 H5 K9 K10 H11]
    · isplitl [H2]; · iexact H2
      isplitl [H3]; · iexact H3
      isplitl [H4]; · iexact H4
      isplitl [H5]; · iexact H5
      isplitl [K9]; · iexact K9
      isplitl [K10]; · iexact K10
      iexact H11
    isplitl [H6]; · iexact H6
    isplitl [H7]; · iexact H7
    iexact H8
  ipureintro
  funext y
  have := hp (outChunk y).val (outChunk y).isLt (outChunk y).isLt (outHead y) (outIn y)
  rw [show (⟨(outChunk y).val, (outChunk y).isLt⟩ : Fin 18) = outChunk y from rfl, outIdx_parts] at this
  exact this

end Cert.Proof.Scan

end
-- ==== Proof.Scan.Launch.lean ====
/- THE LAUNCH: the pipeline's proof data from the body's run, every argument array as it was launched, every counter
at zero, and the output's array at what the pipeline computes from the blocks. -/
module

public import proofs.«01_k».proof.Proof.Scan.Body
public import Idealize.ShloMosaic.Lib.Claim

@[expose] public section

set_option maxRecDepth 16384

noncomputable section

namespace Cert.Proof.Scan

open Cert.KernelIdeal Cert.KernelIdeal.Gen
open Idealize.ShloMosaic.Pipeline (Dat Cfg Window BodyObligation cellOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the generated frame kit. -/
local notation "𝕄" => MT nD τ sig Unit (Elt F) ℕ (UR sig nD τ) ℕ

variable (m : (ℓ : Loc nD τ sig) → Buf (Elt F) ℓ) (ρ : Dev nD → PrngReg)

/-- The body from the input blocks: the output's buffer ends at `outB` of their representatives. -/
theorem sound_kernel (c : Dev nD) (i : grid0.Coords) (E : Set ℕ) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
    (x2 : Vec F S1x2304x256 .bf16) (x3 : Vec F S1x2304x256 .bf16) (x4 : Vec F S1x2304x256 .f32) (x5 : Vec F S1x2304x256 .f32)
    (x6 : Vec F S1x2304x256 .bf16) (x7 : Vec F S1x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare (outB Variants.none c none i arg2 harg2 arg3 harg3 arg4 harg4 arg5 harg5 arg6 harg6 arg7 harg7 arg8 harg8 arg9 harg9 arg10 harg10 arg11 harg11 (arg2.view.rep x2) (arg3.view.rep x3) (arg4.view.rep x4) (arg5.view.rep x5) (arg6.view.rep x6) (arg7.view.rep x7))
          ∗ (∃ d, owns (c : Thread nD τ) arg9 fullShare d)
          ∗ (∃ d, owns (c : Thread nD τ) arg10 fullShare d) ∗ (∃ d, owns (c : Thread nD τ) arg11 fullShare d)) -∗ K ⟨⟩))
      ⊢ wp frame (wpE (defs₀ (F := F)) Variants.none c none) E (cc0_hgrn2_mixer i arg2 harg2 arg3 harg3 arg4 harg4 arg5 harg5 arg6 harg6 arg7 harg7 arg8 harg8 arg9 harg9 arg10 harg10 arg11 harg11) K := by
  simp only [cc0_hgrn2_mixer_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, ⟨%d11, %f11, -, H11⟩, Hk⟩
  ihave K2 : (arg2.view.loc (c : Thread nD τ) ↦[arg2.view.set]{fullShare} arg2.view.rep x2) $$ [H2]
  · exact pts_of_read c arg2 _ _ hf2
  ihave K3 : (arg3.view.loc (c : Thread nD τ) ↦[arg3.view.set]{fullShare} arg3.view.rep x3) $$ [H3]
  · exact pts_of_read c arg3 _ _ hf3
  ihave K4 : (arg4.view.loc (c : Thread nD τ) ↦[arg4.view.set]{fullShare} arg4.view.rep x4) $$ [H4]
  · exact pts_of_read c arg4 _ _ hf4
  ihave K5 : (arg5.view.loc (c : Thread nD τ) ↦[arg5.view.set]{fullShare} arg5.view.rep x5) $$ [H5]
  · exact pts_of_read c arg5 _ _ hf5
  ihave K6 : (arg6.view.loc (c : Thread nD τ) ↦[arg6.view.set]{fullShare} arg6.view.rep x6) $$ [H6]
  · exact pts_of_read c arg6 _ _ hf6
  ihave K7 : (arg7.view.loc (c : Thread nD τ) ↦[arg7.view.set]{fullShare} arg7.view.rep x7) $$ [H7]
  · exact pts_of_read c arg7 _ _ hf7
  iapply (wp_wand_r Idealize.ShloMosaic.frame (wpE (defs₀ (F := F)) Variants.none (c : Thread nD τ) none) E)
  isplitl [K2 K3 K4 K5 K6 K7 H8 H9 H10 H11]
  · iapply (body_run Variants.none c none i arg2 harg2 arg3 harg3 arg4 harg4 arg5 harg5 arg6 harg6 arg7 harg7 arg8 harg8 arg9 harg9 arg10 harg10 arg11 harg11 (arg2.view.rep x2) (arg3.view.rep x3) (arg4.view.rep x4) (arg5.view.rep x5) (arg6.view.rep x6) (arg7.view.rep x7) f8 f9 f10 f11 E)
    isplitl [K2 K3 K4 K5 H9 H10 H11]
    · isplitl [K2]; · iexact K2
      isplitl [K3]; · iexact K3
      isplitl [K4]; · iexact K4
      isplitl [K5]; · iexact K5
      isplitl [H9]; · iexact H9
      isplitl [H10]; · iexact H10
      iexact H11
    isplitl [K6]; · iexact K6
    isplitl [K7]; · iexact K7
    iexact H8
  · iintro %_ ⟨%g8, %g9, %g10, %g11, ⟨⟨K2, K3, K4, K5, H9, H10, H11⟩, K6, K7, H8⟩, %hout⟩
    iapply Hk
    isplitl [K2]
    · iexists _; isplitr
      swap; · iexact K2
      ipureintro; exact View.read_rep arg2.view x2
    isplitl [K3]
    · iexists _; isplitr
      swap; · iexact K3
      ipureintro; exact View.read_rep arg3.view x3
    isplitl [K4]
    · iexists _; isplitr
      swap; · iexact K4
      ipureintro; exact View.read_rep arg4.view x4
    isplitl [K5]
    · iexists _; isplitr
      swap; · iexact K5
      ipureintro; exact View.read_rep arg5.view x5
    isplitl [K6]
    · iexists _; isplitr
      swap; · iexact K6
      ipureintro; exact View.read_rep arg6.view x6
    isplitl [K7]
    · iexists _; isplitr
      swap; · iexact K7
      ipureintro; exact View.read_rep arg7.view x7
    isplitl [H8]
    · iexists g8; isplitr; · ipureintro; exact hout
      iexact H8
    isplitl [H9]
    · iexists _; iexists g9; isplitr; · ipureintro; rfl
      iexact H9
    isplitl [H10]
    · iexists _; iexists g10; isplitr; · ipureintro; rfl
      iexact H10
    iexists _; iexists g11; isplitr; · ipureintro; rfl
    iexact H11

/-- What the body leaves in the output's buffer at point `t`. -/
def outAt (c : Dev nD) (t : Fin cfg0.N) : S1x2304x256.Idx → Elt F .bf16 :=
  outB Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) ((win0_0.stage (cfg0.slots t 0)).view.rep (iblk m c 0 t)) ((win0_1.stage (cfg0.slots t 1)).view.rep (iblk m c 1 t)) ((win0_2.stage (cfg0.slots t 2)).view.rep (iblk m c 2 t)) ((win0_3.stage (cfg0.slots t 3)).view.rep (iblk m c 3 t)) ((win0_4.stage (cfg0.slots t 4)).view.rep (iblk m c 4 t)) ((win0_5.stage (cfg0.slots t 5)).view.rep (iblk m c 5 t))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  iintro ⟨⟨⟨⟨%g9, H9⟩, ⟨%g10, H10⟩, ⟨%g11, H11⟩⟩, Hp⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H9]
  · iexists g9; rw [owns_whole_eq]; iexists g9; isplitr; · ipureintro; rfl
    iexact H9
  isplitl [H10]
  · iexists g10; rw [owns_whole_eq]; iexists g10; isplitr; · ipureintro; rfl
    iexact H10
  isplitl [H11]
  · iexists g11; rw [owns_whole_eq]; iexists g11; isplitr; · ipureintro; rfl
    iexact H11
  simp only [owns_whole_eq]
  iintro ⟨H0, H1, H2, H3, H4, H5, H6, ⟨%d9, %e9, -, H9⟩, ⟨%d10, %e10, -, H10⟩, ⟨%d11, %e11, -, H11⟩⟩
  isplitl [H9 H10 H11 Hp]
  · isplitl [H9 H10 H11]
    · isplitl [H9]; · iexists e9; iexact H9
      isplitl [H10]; · iexists e10; iexact H10
      iexists e11; iexact H11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the pipeline's post, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME, at any values: the argument arrays end unchanged and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_main_quiescent m ρ))

end Cert.Proof.Scan

end
-- ==== Proof.Scan.Planes.lean ====
/- The pair scratch read plane by plane: a masked or a whole store through one plane of a squeezed slice, and a load
through one, each at the plane's row and column. -/
module

public import proofs.«01_k».proof.Proof.Scan.Trip
public import Idealize.ShloMosaic.Lib.Pointwise
public import Idealize.ShloMosaic.Lib.TopK.GroupedStream

@[expose] public section

set_option maxRecDepth 16384

noncomputable section

namespace Cert.Proof.Scan

open Cert.KernelIdeal Cert.KernelIdeal.Gen
open Idealize.ShloMosaic

variable {F : FTy → Type} [FloatOps F]

/-- Element `(r, s)` of plane `(d, h)` of the pair scratch. -/
def pl (arg11 : Memref sig .tc .vmem S2x2x128x128 .f32) (g : BufTy.Contents (Elt F) arg11.view.ty)
    (d h : Fin 2) (r s : Fin 128) : F .f32 := arg11.view.read (Elt F) g (ix4 d h r s)

section

variable (d h : Fin 2) (i0 : ∀ a, (![d.val, 0, 0, 0] : Fin 4 → ℕ) a + S1x2x128x128.size a ≤ S2x2x128x128.size a)
  (ih : ∀ a, (![h.val, 0, 0] : Fin 3 → ℕ) a + S1x128x128.size a ≤ S2x128x128.size a)

theorem emb_plane (hn : S2x128x128.numel = S1x2x128x128.numel) (r s : Fin 128) :
    (Rect.unit (s := S2x2x128x128) ![d.val, 0, 0, 0] S1x2x128x128.size i0).emb (Shape.reshapeEquiv hn
      ((Rect.unit (s := S2x128x128) ![h.val, 0, 0] S1x128x128.size ih).emb (ix3 0 r s))) = ix4 d h r s := by
  have e := Shape.reshapeEquiv_cons_one (d := S2x128x128.size) hn
      ((Rect.unit (s := S2x128x128) ![h.val, 0, 0] S1x128x128.size ih).emb (ix3 0 r s))
  refine (congrArg _ e).trans ?_
  funext a
  apply Fin.ext
  rw [Rect.emb_apply]
  fin_cases a
  · show d.val + 1 * 0 = d.val; omega
  · show 0 + 1 * (h.val + 1 * 0) = h.val; omega
  · show 0 + 1 * (0 + 1 * r.val) = r.val; omega
  · show 0 + 1 * (0 + 1 * s.val) = s.val; omega

variable (arg11 : Memref sig .tc .vmem S2x2x128x128 .f32) (hq : S1x2x128x128.Squeezes S2x128x128)
  (h1 : ∀ a, (Rect.unit (s := S2x2x128x128) ![d.val, 0, 0, 0] S1x2x128x128.size i0).stride a = 1)
  (g : BufTy.Contents (Elt F) arg11.view.ty)

set_option maxHeartbeats 2000000 in
theorem pl_write (w : Vec F S1x128x128 .f32) (M : Finset S1x128x128.Idx) (d' h' : Fin 2) (r s : Fin 128) :
    pl arg11 (View.write (Elt F) (((arg11.slice (Rect.unit (s := S2x2x128x128) ![d.val, 0, 0, 0] S1x2x128x128.size i0) h1).squeeze
      S2x128x128 hq).access (Rect.unit (s := S2x128x128) ![h.val, 0, 0] S1x128x128.size ih)) g w M) d' h' r s
      = if d' = d ∧ h' = h ∧ ix3 0 r s ∈ M then w (ix3 0 r s) else pl arg11 g d' h' r s := by
  have he : ∀ r s, (((arg11.slice (Rect.unit (s := S2x2x128x128) ![d.val, 0, 0, 0] S1x2x128x128.size i0) h1).squeeze
      S2x128x128 hq).access (Rect.unit (s := S2x128x128) ![h.val, 0, 0] S1x128x128.size ih)).emb (ix3 0 r s)
      = arg11.view.emb (ix4 d h r s) := fun r s => congrArg arg11.view.emb (emb_plane d h i0 ih _ r s)
  unfold pl
  rw [View.read_apply, View.read_apply]
  split_ifs with hc
  · obtain ⟨rfl, rfl, hM⟩ := hc
    rw [← he]
    refine (congrArg _ (View.write_emb_of_mem _ _ hM)).trans ?_
    rw [cast_cast, cast_eq]
  · congr 1
    refine View.write_of_not_mem _ _ _ ?_
    intro hm
    obtain ⟨x, hx, e⟩ := Finset.mem_map.mp hm
    obtain ⟨a, b, c, rfl⟩ : ∃ a b c, x = ix3 a b c := ⟨_, _, _, eq_ix3 x⟩
    obtain rfl : a = 0 := Fin.fin_one_eq_zero a
    rw [he] at e
    have e' := arg11.view.emb.injective e
    refine hc ⟨congrFun e'.symm 0, congrFun e'.symm 1, ?_⟩
    have e2 : b = r := congrFun e' 2
    have e3 : c = s := congrFun e' 3
    rwa [← e2, ← e3]

include hq in
theorem pl_read (hz : (![1, 2, 128, 128] : Fin 4 → ℕ) 0 = 1) (hs : ∀ i, (![1, 2, 128, 128] : Fin 4 → ℕ) i.succ = S2x128x128.size i)
    (r s : Fin 128) :
    LoadRect.valAlong (lr := (Rect.unit (s := S2x128x128) ![h.val, 0, 0] S1x128x128.size ih).toLoadRect)
      (((Rect.unit (s := S2x128x128) ![h.val, 0, 0] S1x128x128.size ih).toLoadRect).numel_consLift ![1, 2, 128, 128] hz hs)
      (arg11.view.readAt (Elt F) ((Rect.unit (s := S2x2x128x128) ![d.val, 0, 0, 0] S1x2x128x128.size i0).withinL
        (((Rect.unit (s := S2x128x128) ![h.val, 0, 0] S1x128x128.size ih).toLoadRect).consLift ![1, 2, 128, 128] hz hs) h1) g)
      (ix3 0 r s) = pl arg11 g d h r s := by
  have := View.readAt_slice_reshape (Val := Elt F) arg11.view (Rect.unit (s := S2x2x128x128) ![d.val, 0, 0, 0] S1x2x128x128.size i0) h1
    hq.numel_eq _ _ _ (LoadRect.liftsTo_consLift ((Rect.unit (s := S2x128x128) ![h.val, 0, 0] S1x128x128.size ih).toLoadRect)
      ![1, 2, 128, 128] hz hs) g
  rw [← this]
  exact congrArg (arg11.view.read (Elt F) g) (emb_plane d h i0 ih _ r s)

include hq in
theorem pl_writes (hz : (![1, 2, 128, 128] : Fin 4 → ℕ) 0 = 1) (hs : ∀ i, (![1, 2, 128, 128] : Fin 4 → ℕ) i.succ = S2x128x128.size i)
    (w : Vec F S1x128x128 .f32) (L : List (View.Piece (Elt F) S2x2x128x128 .f32)) (d' h' : Fin 2) (r s : Fin 128) :
    pl arg11 (arg11.view.writes (Elt F) g (⟨(Rect.unit (s := S2x2x128x128) ![d.val, 0, 0, 0] S1x2x128x128.size i0).within
        ((Rect.unit (s := S2x128x128) ![h.val, 0, 0] S1x128x128.size ih).consLift ![1, 2, 128, 128] hz hs) h1,
        Rect.payAlong ((Rect.unit (s := S2x128x128) ![h.val, 0, 0] S1x128x128.size ih).numel_consLift ![1, 2, 128, 128] hz hs) w⟩ :: L)) d' h' r s
      = if d' = d ∧ h' = h then w (ix3 0 r s) else pl arg11 (arg11.view.writes (Elt F) g L) d' h' r s := by
  rw [View.writes_cons]
  have := View.write_slice_reshape_slice (Val := Elt F) arg11.view (Rect.unit (s := S2x2x128x128) ![d.val, 0, 0, 0] S1x2x128x128.size i0) h1
    hq.numel_eq _ _ _ (Rect.liftsTo_consLift (Rect.unit (s := S2x128x128) ![h.val, 0, 0] S1x128x128.size ih)
      ![1, 2, 128, 128] hz hs) (arg11.view.writes (Elt F) g L) w
  refine (congrArg (fun g => pl arg11 g d' h' r s) this.symm).trans ?_
  refine (pl_write d h i0 ih arg11 hq h1 _ w Finset.univ d' h' r s).trans ?_
  simp only [Finset.mem_univ, and_true]

end

end Cert.Proof.Scan

end
-- ==== Proof.Scan.Exps.lean ====
/- The decay exponents of the six levels at the extended reals: at level `blk` every row's factor is two to minus the
distance of its running decay from that of the block's reference row. -/
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.Proof.Scan

open Cert.KernelIdeal Cert.KernelIdeal.Gen
open Idealize.ShloMosaic

/-- The token a row of a chunk holds, and the row that holds a token. -/
abbrev tok (r : Fin 128) : ℕ := r.val % 8 * 16 + r.val / 8
abbrev rowOf (t : ℕ) : Fin 128 := ⟨(t % 16 * 8 + t / 16) % 128, Nat.mod_lt _ (by decide)⟩

/-- The reference row of a row's block of `blk` tokens: forward the first of its upper half, backward the last of its
lower half. -/
abbrev refF (blk : ℕ) (r : Fin 128) : Fin 128 := rowOf (blk * (tok r / blk) + blk / 2)
abbrev refB (blk : ℕ) (r : Fin 128) : Fin 128 := rowOf (blk * (tok r / blk) + blk / 2 - 1)

theorem refF_16 : ∀ r : Fin 128, (refF 16 r).val = (r.val / 8 / 16 * 16 + 8) * 8 + r.val % 8 := by
  decide +kernel
theorem refB_16 : ∀ r : Fin 128, (refB 16 r).val = (r.val / 8 / 16 * 16 + 7) * 8 + r.val % 8 := by
  decide +kernel
theorem refF_8 : ∀ r : Fin 128, (refF 8 r).val = (r.val / 8 / 8 * 8 + 4) * 8 + r.val % 8 := by
  decide +kernel
theorem refB_8 : ∀ r : Fin 128, (refB 8 r).val = (r.val / 8 / 8 * 8 + 3) * 8 + r.val % 8 := by
  decide +kernel
theorem refF_4 : ∀ r : Fin 128, (refF 4 r).val = (r.val / 8 / 4 * 4 + 2) * 8 + r.val % 8 := by
  decide +kernel
theorem refB_4 : ∀ r : Fin 128, (refB 4 r).val = (r.val / 8 / 4 * 4 + 1) * 8 + r.val % 8 := by
  decide +kernel

theorem exp2_of {x : EReal} {e : ℝ} (h : x = e) :
    FloatOps.exp2 (F := Ideal) (φ := .f32) x = ((Real.rpow 2 e : ℝ) : EReal) := by subst h; rfl

theorem coe_sub_of {x y : EReal} {a b : ℝ} (hx : x = a) (hy : y = b) : x - y = ((a - b : ℝ) : EReal) := by
  subst hx hy; exact (EReal.coe_sub a b).symm

theorem at_row {b : FVec Ideal S128x256 .f32} {β : Fin 128 → Fin 256 → ℝ} (hb : ∀ r k, b (ix2 r k) = (β r k : EReal))
    {r r' : Fin 128} {k : Fin 256} (h : r.val = r'.val) : b (ix2 r k) = (β r' k : EReal) := by
  obtain rfl := Fin.ext h; exact hb r k

/-- One step of the row shuffle: where the condition holds, the row `n` places up. -/
def rollSel (c : IVec S8x1 1) (n : BitVec 32) (y : FVec Ideal S8x256 .f32) : FVec Ideal S8x256 .f32 :=
  select (broadcastTo S8x256 (shapeCast S8x1 c shapeCasts_S8x1_S8x1) broadcasts_S8x1_S8x256)
    (dynamicRotate 0 n none y rotates_S8x256_d0) y

def rho (c : IVec S8x1 1) (n : ℕ) (s : Fin 8) : Fin 8 :=
  if c (ix2 s 0) = 1#1 then ⟨(s.val + 8 - n) % 8, Nat.mod_lt _ (by decide)⟩ else s

theorem rollSel_1 (c : IVec S8x1 1) (y : FVec Ideal S8x256 .f32) (s : Fin 8) (k : Fin 256) :
    rollSel c 1#32 y (ix2 s k) = y (ix2 (rho c 1 s) k) := by
  pointwise [rollSel]
  by_cases h : c (ix2 s 0) = 1#1
  · rw [rho, if_pos h, h]; rfl
  · rw [rho, if_neg h, ValueIdx.eq_zero_of_ne_one h]; rfl

theorem rollSel_2 (c : IVec S8x1 1) (y : FVec Ideal S8x256 .f32) (s : Fin 8) (k : Fin 256) :
    rollSel c 2#32 y (ix2 s k) = y (ix2 (rho c 2 s) k) := by
  pointwise [rollSel]
  by_cases h : c (ix2 s 0) = 1#1
  · rw [rho, if_pos h, h]; rfl
  · rw [rho, if_neg h, ValueIdx.eq_zero_of_ne_one h]; rfl

theorem rollSel_4 (c : IVec S8x1 1) (y : FVec Ideal S8x256 .f32) (s : Fin 8) (k : Fin 256) :
    rollSel c 4#32 y (ix2 s k) = y (ix2 (rho c 4 s) k) := by
  pointwise [rollSel]
  by_cases h : c (ix2 s 0) = 1#1
  · rw [rho, if_pos h, h]; rfl
  · rw [rho, if_neg h, ValueIdx.eq_zero_of_ne_one h]; rfl

theorem rollSel_6 (c : IVec S8x1 1) (y : FVec Ideal S8x256 .f32) (s : Fin 8) (k : Fin 256) :
    rollSel c 6#32 y (ix2 s k) = y (ix2 (rho c 6 s) k) := by
  pointwise [rollSel]
  by_cases h : c (ix2 s 0) = 1#1
  · rw [rho, if_pos h, h]; rfl
  · rw [rho, if_neg h, ValueIdx.eq_zero_of_ne_one h]; rfl

theorem rollSel_7 (c : IVec S8x1 1) (y : FVec Ideal S8x256 .f32) (s : Fin 8) (k : Fin 256) :
    rollSel c 7#32 y (ix2 s k) = y (ix2 (rho c 7 s) k) := by
  pointwise [rollSel]
  by_cases h : c (ix2 s 0) = 1#1
  · rw [rho, if_pos h, h]; rfl
  · rw [rho, if_neg h, ValueIdx.eq_zero_of_ne_one h]; rfl

/-- The factor from the shuffled reference rows. -/
def tailE (b3 : FVec Ideal S16x8x256 .f32) (y : FVec Ideal S8x256 .f32) : FVec Ideal S128x256 .bf16 :=
  truncf .bf16 (exp2 (shapeCast S128x256 (subf (broadcast S16x8x256 (Scalar.ofBits .f32 0x00000000#32))
    (absf (subf b3 (broadcastTo S16x8x256 (shapeCast S1x8x256 y shapeCasts_S8x256_S1x8x256) broadcasts_S1x8x256_S16x8x256))))
    shapeCasts_S16x8x256_S128x256)) bitsLt_bf16_f32

theorem tailE_at (b : FVec Ideal S128x256 .f32) (y : FVec Ideal S8x256 .f32) (r : Fin 128) (k : Fin 256) :
    tailE (k0_pay32 b) y (ix2 r k) = FloatOps.exp2 (F := Ideal) (φ := .f32) (0 - FloatOps.absf (F := Ideal) (φ := .f32)
      (b (ix2 r k) - y (ix2 ⟨r.val % 8, Nat.mod_lt _ (by decide)⟩ k))) := by
  pointwise [tailE, k0_pay32]

theorem top_at (b : FVec Ideal S128x256 .f32) (s : Fin 8) (k : Fin 256) :
    k0_pay56 b (ix2 s k) = b (ix2 ⟨s.val, by omega⟩ k) := by
  pointwise [k0_pay56, k0_pay55]

theorem bot_at (b : FVec Ideal S128x256 .f32) (s : Fin 8) (k : Fin 256) :
    k0_pay44 b (ix2 s k) = b (ix2 ⟨120 + s.val, by omega⟩ k) := by
  pointwise [k0_pay44, k0_pay43]

theorem dist_of {x y : EReal} {a b : ℝ} (hx : x = a) (hy : y = b) :
    FloatOps.exp2 (F := Ideal) (φ := .f32) (0 - FloatOps.absf (F := Ideal) (φ := .f32) (x - y))
      = ((Real.rpow 2 (-|a - b|) : ℝ) : EReal) := by
  refine exp2_of ?_
  subst hx hy
  rw [← EReal.coe_sub]
  show (0 : EReal) - max ((a - b : ℝ) : EReal) (-((a - b : ℝ) : EReal)) = _
  rw [zero_sub, ← EReal.coe_neg]
  rcases le_total 0 (a - b) with h | h
  · rw [max_eq_left (EReal.coe_le_coe_iff.2 (by linarith)), abs_of_nonneg h, EReal.coe_neg]
  · rw [max_eq_right (EReal.coe_le_coe_iff.2 (by linarith)), abs_of_nonpos h, neg_neg, ← EReal.coe_neg, neg_neg]

/-- The factors of the six levels, by direction. -/
abbrev E1f (b : FVec Ideal S128x256 .f32) : FVec Ideal S128x256 .bf16 :=
  k0_pay37 (k0_pay32 b) k0_pay33 (k0_pay34 b) k0_pay35 k0_pay36
abbrev E1b (b : FVec Ideal S128x256 .f32) : FVec Ideal S128x256 .bf16 :=
  k0_pay50 (k0_pay48 (k0_pay43 b) (k0_pay44 b) k0_pay45 k0_pay46 k0_pay47) k0_pay49
abbrev E2f (b : FVec Ideal S128x256 .f32) : FVec Ideal S128x256 .bf16 :=
  k0_pay61 (k0_pay55 b) (k0_pay56 b) 4#32 k0_pay57 k0_pay58 k0_pay59 k0_pay60
abbrev E2b (b : FVec Ideal S128x256 .f32) : FVec Ideal S128x256 .bf16 :=
  k0_pay75 (k0_pay70 b) (k0_pay71 b) k0_pay72 k0_pay73 k0_pay74
abbrev E3f (b : FVec Ideal S128x256 .f32) : FVec Ideal S128x256 .bf16 :=
  k0_pay88 (k0_pay84 b) (k0_pay85 b) k0_pay86 k0_pay87
abbrev E3b (b : FVec Ideal S128x256 .f32) : FVec Ideal S128x256 .bf16 := k0_pay97 b

theorem form1f (b : FVec Ideal S128x256 .f32) : ∃ c1 c2 c3 c4 c5 : IVec S8x1 1,
    E1f b = tailE (k0_pay32 b) (rollSel c5 4#32 (rollSel c4 6#32 (rollSel c3 7#32 (rollSel c2 2#32 (rollSel c1 1#32 (k0_pay56 b))))))
      ∧ ∀ s : Fin 8, (rho c1 1 (rho c2 2 (rho c3 7 (rho c4 6 (rho c5 4 s))))).val = (refF 128 ⟨s.val, by omega⟩).val := by
  refine ⟨_, _, _, _, _, rfl, ?_⟩
  decide +kernel

theorem form1b (b : FVec Ideal S128x256 .f32) : ∃ c1 c2 c3 c4 c5 : IVec S8x1 1,
    E1b b = tailE (k0_pay32 b) (rollSel c5 6#32 (rollSel c4 7#32 (rollSel c3 4#32 (rollSel c2 2#32 (rollSel c1 1#32 (k0_pay44 b))))))
      ∧ ∀ s : Fin 8, 120 + (rho c1 1 (rho c2 2 (rho c3 4 (rho c4 7 (rho c5 6 s))))).val = (refB 128 ⟨s.val, by omega⟩).val := by
  refine ⟨_, _, _, _, _, rfl, ?_⟩
  decide +kernel

theorem form2f (b : FVec Ideal S128x256 .f32) : ∃ c1 c2 c3 : IVec S8x1 1,
    E2f b = tailE (k0_pay32 b) (rollSel c3 6#32 (rollSel c2 7#32 (rollSel c1 1#32 (k0_pay56 b))))
      ∧ ∀ s : Fin 8, (rho c1 1 (rho c2 7 (rho c3 6 s))).val = (refF 64 ⟨s.val, by omega⟩).val := by
  refine ⟨_, _, _, rfl, ?_⟩
  decide +kernel

theorem form2b (b : FVec Ideal S128x256 .f32) : ∃ c1 c2 c3 : IVec S8x1 1,
    E2b b = tailE (k0_pay32 b) (rollSel c3 7#32 (rollSel c2 2#32 (rollSel c1 1#32 (k0_pay44 b))))
      ∧ ∀ s : Fin 8, 120 + (rho c1 1 (rho c2 2 (rho c3 7 s))).val = (refB 64 ⟨s.val, by omega⟩).val := by
  refine ⟨_, _, _, rfl, ?_⟩
  decide +kernel

theorem form3f (b : FVec Ideal S128x256 .f32) : ∃ c1 : IVec S8x1 1,
    E3f b = tailE (k0_pay32 b) (rollSel c1 7#32 (k0_pay56 b))
      ∧ ∀ s : Fin 8, (rho c1 7 s).val = (refF 32 ⟨s.val, by omega⟩).val := by
  refine ⟨_, rfl, ?_⟩
  decide +kernel

theorem form3b (b : FVec Ideal S128x256 .f32) : ∃ c1 : IVec S8x1 1,
    E3b b = tailE (k0_pay32 b) (rollSel c1 1#32 (k0_pay44 b))
      ∧ ∀ s : Fin 8, 120 + (rho c1 1 s).val = (refB 32 ⟨s.val, by omega⟩).val := by
  refine ⟨_, rfl, ?_⟩
  decide +kernel

section

variable (b : FVec Ideal S128x256 .f32) (β : Fin 128 → Fin 256 → ℝ) (hb : ∀ r k, b (ix2 r k) = (β r k : EReal))
include hb

theorem exp_f16 (r : Fin 128) (k : Fin 256) : k0_pay106 b (ix2 r k) = ((Real.rpow 2
    (if tok r % 16 < 8 then β (refF 16 r) k - β r k else β r k - β (refF 16 r) k) : ℝ) : EReal) := by
  pointwise [k0_pay106]
  refine exp2_of ?_
  have ht : tok r % 16 = r.val / 8 % 16 := by
    show (r.val % 8 * 16 + r.val / 8) % 16 = _
    omega
  have hv : (refF 16 r).val = (r.val / 8 / 16 * 16 + 8) * 8 + r.val % 8 := refF_16 r
  rw [ht]
  generalize refF 16 r = ρ at hv ⊢
  by_cases hc : r.val / 8 % 16 < 8
  · rw [if_pos hc]
    split_ifs <;> first
      | (exfalso; omega)
      | exact coe_sub_of (at_row hb (by first | omega | (dsimp only; omega))) (at_row hb (by first | omega | (dsimp only; omega)))
  · rw [if_neg hc]
    split_ifs <;> first
      | (exfalso; omega)
      | exact coe_sub_of (at_row hb (by first | omega | (dsimp only; omega))) (at_row hb (by first | omega | (dsimp only; omega)))

theorem exp_b16 (r : Fin 128) (k : Fin 256) : k0_pay115 b (ix2 r k) = ((Real.rpow 2
    (if tok r % 16 < 8 then β r k - β (refB 16 r) k else β (refB 16 r) k - β r k) : ℝ) : EReal) := by
  pointwise [k0_pay115]
  refine exp2_of ?_
  have ht : tok r % 16 = r.val / 8 % 16 := by
    show (r.val % 8 * 16 + r.val / 8) % 16 = _
    omega
  have hv : (refB 16 r).val = (r.val / 8 / 16 * 16 + 7) * 8 + r.val % 8 := refB_16 r
  rw [ht]
  generalize refB 16 r = ρ at hv ⊢
  by_cases hc : r.val / 8 % 16 < 8
  · rw [if_pos hc]
    split_ifs <;> first
      | (exfalso; omega)
      | exact coe_sub_of (at_row hb (by first | omega | (dsimp only; omega))) (at_row hb (by first | omega | (dsimp only; omega)))
  · rw [if_neg hc]
    split_ifs <;> first
      | (exfalso; omega)
      | exact coe_sub_of (at_row hb (by first | omega | (dsimp only; omega))) (at_row hb (by first | omega | (dsimp only; omega)))

theorem exp_f8 (r : Fin 128) (k : Fin 256) : k0_pay124 b (ix2 r k) = ((Real.rpow 2
    (if tok r % 8 < 4 then β (refF 8 r) k - β r k else β r k - β (refF 8 r) k) : ℝ) : EReal) := by
  pointwise [k0_pay124]
  refine exp2_of ?_
  have ht : tok r % 8 = r.val / 8 % 8 := by
    show (r.val % 8 * 16 + r.val / 8) % 8 = _
    omega
  have hv : (refF 8 r).val = (r.val / 8 / 8 * 8 + 4) * 8 + r.val % 8 := refF_8 r
  rw [ht]
  generalize refF 8 r = ρ at hv ⊢
  by_cases hc : r.val / 8 % 8 < 4
  · rw [if_pos hc]
    split_ifs <;> first
      | (exfalso; omega)
      | exact coe_sub_of (at_row hb (by first | omega | (dsimp only; omega))) (at_row hb (by first | omega | (dsimp only; omega)))
  · rw [if_neg hc]
    split_ifs <;> first
      | (exfalso; omega)
      | exact coe_sub_of (at_row hb (by first | omega | (dsimp only; omega))) (at_row hb (by first | omega | (dsimp only; omega)))

theorem exp_b8 (r : Fin 128) (k : Fin 256) : k0_pay133 b (ix2 r k) = ((Real.rpow 2
    (if tok r % 8 < 4 then β r k - β (refB 8 r) k else β (refB 8 r) k - β r k) : ℝ) : EReal) := by
  pointwise [k0_pay133]
  refine exp2_of ?_
  have ht : tok r % 8 = r.val / 8 % 8 := by
    show (r.val % 8 * 16 + r.val / 8) % 8 = _
    omega
  have hv : (refB 8 r).val = (r.val / 8 / 8 * 8 + 3) * 8 + r.val % 8 := refB_8 r
  rw [ht]
  generalize refB 8 r = ρ at hv ⊢
  by_cases hc : r.val / 8 % 8 < 4
  · rw [if_pos hc]
    split_ifs <;> first
      | (exfalso; omega)
      | exact coe_sub_of (at_row hb (by first | omega | (dsimp only; omega))) (at_row hb (by first | omega | (dsimp only; omega)))
  · rw [if_neg hc]
    split_ifs <;> first
      | (exfalso; omega)
      | exact coe_sub_of (at_row hb (by first | omega | (dsimp only; omega))) (at_row hb (by first | omega | (dsimp only; omega)))

abbrev E4f : FVec Ideal S128x256 .bf16 := k0_pay156 (k0_pay144 b) (k0_pay145 b) (k0_pay147 b) (k0_pay148 b) (k0_pay150 b)
    (k0_pay151 b) (k0_pay152 b) (k0_pay153 b) (k0_pay154 b) (k0_pay155 b)

abbrev E4b : FVec Ideal S128x256 .bf16 := k0_pay168 (k0_pay163 b) (k0_pay165 b) (k0_pay166 b) (k0_pay167 b)

set_option maxHeartbeats 2000000 in
theorem exp_f4 (r : Fin 128) (k : Fin 256) : E4f b (ix2 r k) = ((Real.rpow 2
    (if tok r % 4 < 2 then β (refF 4 r) k - β r k else β r k - β (refF 4 r) k) : ℝ) : EReal) := by
  pointwise [E4f, k0_pay156, k0_pay144, k0_pay145, k0_pay147, k0_pay148, k0_pay150, k0_pay151, k0_pay152, k0_pay153,
    k0_pay154, k0_pay155, k0_pay142, k0_pay143, k0_pay146, k0_pay149]
  refine exp2_of ?_
  have ht : tok r % 4 = r.val / 8 % 4 := by
    show (r.val % 8 * 16 + r.val / 8) % 4 = _
    omega
  have hv : (refF 4 r).val = (r.val / 8 / 4 * 4 + 2) * 8 + r.val % 8 := refF_4 r
  rw [ht]
  generalize refF 4 r = ρ at hv ⊢
  by_cases hc : r.val / 8 % 4 < 2
  · rw [if_pos hc]
    split_ifs <;> first
      | (exfalso; omega)
      | exact coe_sub_of (at_row hb (by first | omega | (dsimp only; omega))) (at_row hb (by first | omega | (dsimp only; omega)))
  · rw [if_neg hc]
    split_ifs <;> first
      | (exfalso; omega)
      | exact coe_sub_of (at_row hb (by first | omega | (dsimp only; omega))) (at_row hb (by first | omega | (dsimp only; omega)))

set_option maxHeartbeats 2000000 in
theorem exp_b4 (r : Fin 128) (k : Fin 256) : E4b b (ix2 r k) = ((Real.rpow 2
    (if tok r % 4 < 2 then β r k - β (refB 4 r) k else β (refB 4 r) k - β r k) : ℝ) : EReal) := by
  pointwise [E4b, k0_pay168, k0_pay163, k0_pay164, k0_pay165, k0_pay166, k0_pay167]
  refine exp2_of ?_
  have ht : tok r % 4 = r.val / 8 % 4 := by
    show (r.val % 8 * 16 + r.val / 8) % 4 = _
    omega
  have hv : (refB 4 r).val = (r.val / 8 / 4 * 4 + 1) * 8 + r.val % 8 := refB_4 r
  rw [ht]
  generalize refB 4 r = ρ at hv ⊢
  by_cases hc : r.val / 8 % 4 < 2
  · rw [if_pos hc]
    split_ifs <;> first
      | (exfalso; omega)
      | exact coe_sub_of (at_row hb (by first | omega | (dsimp only; omega))) (at_row hb (by first | omega | (dsimp only; omega)))
  · rw [if_neg hc]
    split_ifs <;> first
      | (exfalso; omega)
      | exact coe_sub_of (at_row hb (by first | omega | (dsimp only; omega))) (at_row hb (by first | omega | (dsimp only; omega)))

theorem exp_f128 (hm : ∀ r s k, tok r ≤ tok s → β s k ≤ β r k) (r : Fin 128) (k : Fin 256) :
    E1f b (ix2 r k) = ((Real.rpow 2 (if tok r % 128 < 64 then β (refF 128 r) k - β r k else β r k - β (refF 128 r) k) : ℝ) : EReal) := by
  obtain ⟨c1, c2, c3, c4, c5, he, hs⟩ := form1f b
  rw [he, tailE_at, rollSel_4, rollSel_6, rollSel_7, rollSel_2, rollSel_1, top_at]
  have hr : refF 128 ⟨r.val % 8, by omega⟩ = refF 128 r := (by decide +kernel :
    ∀ r : Fin 128, refF 128 ⟨r.val % 8, by omega⟩ = refF 128 r) r
  rw [dist_of (hb r k) (at_row hb (r' := refF 128 r) (by rw [← hr]; exact hs ⟨r.val % 8, by omega⟩))]
  have h1 : ∀ r : Fin 128, tok r % 128 < 64 → tok r ≤ tok (refF 128 r) := by decide +kernel
  have h2 : ∀ r : Fin 128, ¬ tok r % 128 < 64 → tok (refF 128 r) ≤ tok r := by decide +kernel
  by_cases h : tok r % 128 < 64
  · rw [if_pos h, abs_of_nonneg (by linarith [hm r (refF 128 r) k (h1 r h)])]; congr 2; ring
  · rw [if_neg h, abs_of_nonpos (by linarith [hm (refF 128 r) r k (h2 r h)])]; congr 2; ring

theorem exp_b128 (hm : ∀ r s k, tok r ≤ tok s → β r k ≤ β s k) (r : Fin 128) (k : Fin 256) :
    E1b b (ix2 r k) = ((Real.rpow 2 (if tok r % 128 < 64 then β r k - β (refB 128 r) k else β (refB 128 r) k - β r k) : ℝ) : EReal) := by
  obtain ⟨c1, c2, c3, c4, c5, he, hs⟩ := form1b b
  rw [he, tailE_at, rollSel_6, rollSel_7, rollSel_4, rollSel_2, rollSel_1, bot_at]
  have hr : refB 128 ⟨r.val % 8, by omega⟩ = refB 128 r := (by decide +kernel :
    ∀ r : Fin 128, refB 128 ⟨r.val % 8, by omega⟩ = refB 128 r) r
  rw [dist_of (hb r k) (at_row hb (r' := refB 128 r) (by rw [← hr]; exact hs ⟨r.val % 8, by omega⟩))]
  have h1 : ∀ r : Fin 128, tok r % 128 < 64 → tok r ≤ tok (refB 128 r) := by decide +kernel
  have h2 : ∀ r : Fin 128, ¬ tok r % 128 < 64 → tok (refB 128 r) ≤ tok r := by decide +kernel
  by_cases h : tok r % 128 < 64
  · rw [if_pos h, abs_of_nonpos (by linarith [hm r (refB 128 r) k (h1 r h)])]; congr 2; ring
  · rw [if_neg h, abs_of_nonneg (by linarith [hm (refB 128 r) r k (h2 r h)])]; congr 2; ring

theorem exp_f64 (hm : ∀ r s k, tok r ≤ tok s → β s k ≤ β r k) (r : Fin 128) (k : Fin 256) :
    E2f b (ix2 r k) = ((Real.rpow 2 (if tok r % 64 < 32 then β (refF 64 r) k - β r k else β r k - β (refF 64 r) k) : ℝ) : EReal) := by
  obtain ⟨c1, c2, c3, he, hs⟩ := form2f b
  rw [he, tailE_at, rollSel_6, rollSel_7, rollSel_1, top_at]
  have hr : refF 64 ⟨r.val % 8, by omega⟩ = refF 64 r := (by decide +kernel :
    ∀ r : Fin 128, refF 64 ⟨r.val % 8, by omega⟩ = refF 64 r) r
  rw [dist_of (hb r k) (at_row hb (r' := refF 64 r) (by rw [← hr]; exact hs ⟨r.val % 8, by omega⟩))]
  have h1 : ∀ r : Fin 128, tok r % 64 < 32 → tok r ≤ tok (refF 64 r) := by decide +kernel
  have h2 : ∀ r : Fin 128, ¬ tok r % 64 < 32 → tok (refF 64 r) ≤ tok r := by decide +kernel
  by_cases h : tok r % 64 < 32
  · rw [if_pos h, abs_of_nonneg (by linarith [hm r (refF 64 r) k (h1 r h)])]; congr 2; ring
  · rw [if_neg h, abs_of_nonpos (by linarith [hm (refF 64 r) r k (h2 r h)])]; congr 2; ring

theorem exp_b64 (hm : ∀ r s k, tok r ≤ tok s → β r k ≤ β s k) (r : Fin 128) (k : Fin 256) :
    E2b b (ix2 r k) = ((Real.rpow 2 (if tok r % 64 < 32 then β r k - β (refB 64 r) k else β (refB 64 r) k - β r k) : ℝ) : EReal) := by
  obtain ⟨c1, c2, c3, he, hs⟩ := form2b b
  rw [he, tailE_at, rollSel_7, rollSel_2, rollSel_1, bot_at]
  have hr : refB 64 ⟨r.val % 8, by omega⟩ = refB 64 r := (by decide +kernel :
    ∀ r : Fin 128, refB 64 ⟨r.val % 8, by omega⟩ = refB 64 r) r
  rw [dist_of (hb r k) (at_row hb (r' := refB 64 r) (by rw [← hr]; exact hs ⟨r.val % 8, by omega⟩))]
  have h1 : ∀ r : Fin 128, tok r % 64 < 32 → tok r ≤ tok (refB 64 r) := by decide +kernel
  have h2 : ∀ r : Fin 128, ¬ tok r % 64 < 32 → tok (refB 64 r) ≤ tok r := by decide +kernel
  by_cases h : tok r % 64 < 32
  · rw [if_pos h, abs_of_nonpos (by linarith [hm r (refB 64 r) k (h1 r h)])]; congr 2; ring
  · rw [if_neg h, abs_of_nonneg (by linarith [hm (refB 64 r) r k (h2 r h)])]; congr 2; ring

theorem exp_f32 (hm : ∀ r s k, tok r ≤ tok s → β s k ≤ β r k) (r : Fin 128) (k : Fin 256) :
    E3f b (ix2 r k) = ((Real.rpow 2 (if tok r % 32 < 16 then β (refF 32 r) k - β r k else β r k - β (refF 32 r) k) : ℝ) : EReal) := by
  obtain ⟨c1, he, hs⟩ := form3f b
  rw [he, tailE_at, rollSel_7, top_at]
  have hr : refF 32 ⟨r.val % 8, by omega⟩ = refF 32 r := (by decide +kernel :
    ∀ r : Fin 128, refF 32 ⟨r.val % 8, by omega⟩ = refF 32 r) r
  rw [dist_of (hb r k) (at_row hb (r' := refF 32 r) (by rw [← hr]; exact hs ⟨r.val % 8, by omega⟩))]
  have h1 : ∀ r : Fin 128, tok r % 32 < 16 → tok r ≤ tok (refF 32 r) := by decide +kernel
  have h2 : ∀ r : Fin 128, ¬ tok r % 32 < 16 → tok (refF 32 r) ≤ tok r := by decide +kernel
  by_cases h : tok r % 32 < 16
  · rw [if_pos h, abs_of_nonneg (by linarith [hm r (refF 32 r) k (h1 r h)])]; congr 2; ring
  · rw [if_neg h, abs_of_nonpos (by linarith [hm (refF 32 r) r k (h2 r h)])]; congr 2; ring

theorem exp_b32 (hm : ∀ r s k, tok r ≤ tok s → β r k ≤ β s k) (r : Fin 128) (k : Fin 256) :
    E3b b (ix2 r k) = ((Real.rpow 2 (if tok r % 32 < 16 then β r k - β (refB 32 r) k else β (refB 32 r) k - β r k) : ℝ) : EReal) := by
  obtain ⟨c1, he, hs⟩ := form3b b
  rw [he, tailE_at, rollSel_1, bot_at]
  have hr : refB 32 ⟨r.val % 8, by omega⟩ = refB 32 r := (by decide +kernel :
    ∀ r : Fin 128, refB 32 ⟨r.val % 8, by omega⟩ = refB 32 r) r
  rw [dist_of (hb r k) (at_row hb (r' := refB 32 r) (by rw [← hr]; exact hs ⟨r.val % 8, by omega⟩))]
  have h1 : ∀ r : Fin 128, tok r % 32 < 16 → tok r ≤ tok (refB 32 r) := by decide +kernel
  have h2 : ∀ r : Fin 128, ¬ tok r % 32 < 16 → tok (refB 32 r) ≤ tok r := by decide +kernel
  by_cases h : tok r % 32 < 16
  · rw [if_pos h, abs_of_nonpos (by linarith [hm r (refB 32 r) k (h1 r h)])]; congr 2; ring
  · rw [if_neg h, abs_of_nonneg (by linarith [hm (refB 32 r) r k (h2 r h)])]; congr 2; ring

end

end Cert.Proof.Scan

end
-- ==== Proof.Scan.Pairs.lean ====
/- The pair scratch at the end of a trip's twenty-four stores: each plane holds, at a row and a column, the product of
the smallest level that covers both. -/
module

public import proofs.«01_k».proof.Proof.Scan.Planes
public import proofs.«01_k».proof.Proof.Scan.Exps

@[expose] public section

set_option maxRecDepth 16384

noncomputable section

namespace Cert.Proof.Scan

open Cert.KernelIdeal Cert.KernelIdeal.Gen
open Idealize.ShloMosaic

/-- One head's products of all pairs of rows, as a plane of the scratch. -/
def pairT0 (a b : FVec Ideal S128x256 .bf16) : FVec Ideal S1x128x128 .f32 :=
  shapeCast S1x128x128 (matmul dot_S128x128_S128x128_S128x128_1_1_0_0_n_n none
    (extractStridedSlice S128x128 ![0, 0] a slices_S128x256_o0_0_S128x128)
    (extractStridedSlice S128x128 ![0, 0] b slices_S128x256_o0_0_S128x128) (constant S128x128 .f32 0x00000000#32))
    shapeCasts_S128x128_S1x128x128

def pairT1 (a b : FVec Ideal S128x256 .bf16) : FVec Ideal S1x128x128 .f32 :=
  shapeCast S1x128x128 (matmul dot_S128x128_S128x128_S128x128_1_1_0_0_n_n none
    (extractStridedSlice S128x128 ![0, 128] a slices_S128x256_o0_128_S128x128)
    (extractStridedSlice S128x128 ![0, 128] b slices_S128x256_o0_128_S128x128) (constant S128x128 .f32 0x00000000#32))
    shapeCasts_S128x128_S1x128x128

/-- The mask of a level. -/
def maskT (v88 : IVec S128x128 32) (w : BitVec 32) : IVec S1x128x128 1 :=
  shapeCast S1x128x128 (cmpi .slt v88 (broadcast S128x128 w)) shapeCasts_S128x128_S1x128x128

/-- Column `x` of head `h`. -/
def hk (h : Fin 2) (x : Fin 128) : Fin 256 := if h = 0 then ⟨x.val, by omega⟩ else ⟨128 + x.val, by omega⟩

theorem hk_val (h : Fin 2) (x : Fin 128) : (hk h x).val = 128 * h.val + x.val := by
  fin_cases h <;> simp [hk]

def pairT (h : Fin 2) : FVec Ideal S128x256 .bf16 → FVec Ideal S128x256 .bf16 → FVec Ideal S1x128x128 .f32 :=
  if h = 0 then pairT0 else pairT1

theorem pairT_at (h : Fin 2) (q e f g : FVec Ideal S128x256 .bf16) (r s : Fin 128) :
    pairT h (mulf q e) (mulf f g) (ix3 0 r s)
      = ∑ x : Fin 128, q (ix2 r (hk h x)) * e (ix2 r (hk h x)) * (f (ix2 s (hk h x)) * g (ix2 s (hk h x))) := by
  obtain rfl | rfl : h = 0 ∨ h = 1 := by omega
  · show pairT0 (mulf q e) (mulf f g) (ix3 0 r s) = _
    pointwise [pairT0]
    rfl
  · show pairT1 (mulf q e) (mulf f g) (ix3 0 r s) = _
    pointwise [pairT1]
    rfl

theorem maskT_at (v88 : IVec S128x128 32) (w : BitVec 32) (r s : Fin 128) :
    maskT v88 w (ix3 0 r s) = IntOp.cmpi .slt (v88 (ix2 r s)) w := by
  pointwise [maskT]

section

variable (arg2 : Memref sig .tc .vmem S1x2304x256 .bf16) (arg4 : Memref sig .tc .vmem S1x2304x256 .f32)
  (arg5 : Memref sig .tc .vmem S1x2304x256 .f32) (arg11 : Memref sig .tc .vmem S2x2x128x128 .f32)
  (v88 : IVec S128x128 32) (k : Fin k0_t1_loop.trips) (a17 a18 : FVec Ideal S128x256 .f32)
  (X2 : BufTy.Contents (Elt Ideal) arg2.view.ty) (X4 : BufTy.Contents (Elt Ideal) arg4.view.ty)
  (X5 : BufTy.Contents (Elt Ideal) arg5.view.ty)

/-- What plane `(d, h)` holds after the trip's stores. -/
abbrev chainF (h : Fin 2) (q f : FVec Ideal S128x256 .bf16) (r s : Fin 128) : EReal :=
  if maskT v88 4#32 (ix3 0 r s) = 1 then pairT h (mulf q (E4f a17)) (mulf f (E4f a17)) (ix3 0 r s) else
  if maskT v88 8#32 (ix3 0 r s) = 1 then pairT h (mulf q (k0_pay124 a17)) (mulf f (k0_pay124 a17)) (ix3 0 r s) else
  if maskT v88 16#32 (ix3 0 r s) = 1 then pairT h (mulf q (k0_pay106 a17)) (mulf f (k0_pay106 a17)) (ix3 0 r s) else
  if maskT v88 32#32 (ix3 0 r s) = 1 then pairT h (mulf q (E3f a17)) (mulf f (E3f a17)) (ix3 0 r s) else
  if maskT v88 64#32 (ix3 0 r s) = 1 then pairT h (mulf q (E2f a17)) (mulf f (E2f a17)) (ix3 0 r s) else
  pairT h (mulf q (E1f a17)) (mulf f (E1f a17)) (ix3 0 r s)

abbrev chainB (h : Fin 2) (q f : FVec Ideal S128x256 .bf16) (r s : Fin 128) : EReal :=
  if maskT v88 4#32 (ix3 0 r s) = 1 then pairT h (mulf q (E4b a18)) (mulf f (E4b a18)) (ix3 0 r s) else
  if maskT v88 8#32 (ix3 0 r s) = 1 then pairT h (mulf q (k0_pay133 a18)) (mulf f (k0_pay133 a18)) (ix3 0 r s) else
  if maskT v88 16#32 (ix3 0 r s) = 1 then pairT h (mulf q (k0_pay115 a18)) (mulf f (k0_pay115 a18)) (ix3 0 r s) else
  if maskT v88 32#32 (ix3 0 r s) = 1 then pairT h (mulf q (E3b a18)) (mulf f (E3b a18)) (ix3 0 r s) else
  if maskT v88 64#32 (ix3 0 r s) = 1 then pairT h (mulf q (E2b a18)) (mulf f (E2b a18)) (ix3 0 r s) else
  pairT h (mulf q (E1b a18)) (mulf f (E1b a18)) (ix3 0 r s)

variable {arg11} in
theorem pl_hit {d h : Fin 2} {i0 ih hq h1} {g : BufTy.Contents (Elt Ideal) arg11.view.ty} {w : Vec Ideal S1x128x128 .f32}
    {M : IVec S1x128x128 1} {r s : Fin 128} {y : EReal} (hy : pl arg11 g d h r s = y) :
    pl arg11 (View.write (Elt Ideal) (((arg11.slice (Rect.unit (s := S2x2x128x128) ![d.val, 0, 0, 0] S1x2x128x128.size i0) h1).squeeze
      S2x128x128 hq).access (Rect.unit (s := S2x128x128) ![h.val, 0, 0] S1x128x128.size ih)) g w M.on) d h r s
      = if M (ix3 0 r s) = 1 then w (ix3 0 r s) else y := by
  rw [pl_write, hy]
  simp only [true_and, IVec.mem_on_iff]

variable {arg11} in
theorem pl_miss {d h d' h' : Fin 2} {i0 ih hq h1} {g : BufTy.Contents (Elt Ideal) arg11.view.ty} {w : Vec Ideal S1x128x128 .f32}
    {M : IVec S1x128x128 1} {r s : Fin 128} {y : EReal} (hne : ¬(d' = d ∧ h' = h)) (hy : pl arg11 g d' h' r s = y) :
    pl arg11 (View.write (Elt Ideal) (((arg11.slice (Rect.unit (s := S2x2x128x128) ![d.val, 0, 0, 0] S1x2x128x128.size i0) h1).squeeze
      S2x128x128 hq).access (Rect.unit (s := S2x128x128) ![h.val, 0, 0] S1x128x128.size ih)) g w M.on) d' h' r s = y := by
  rw [pl_write, if_neg (fun h => hne ⟨h.1, h.2.1⟩), hy]

set_option maxHeartbeats 4000000 in
theorem plane00 (r s : Fin 128) : pl arg11 (trip.sl.H11_w20 arg2 arg4 arg5 arg11 v88 k a17 a18 X2 X4 X5) 0 0 r s = chainF v88 a17 0 (trip.sl.v242 arg2 k X2) (trip.sl.r arg4 k X4) r s := by
  have base : pl arg11 (arg11.view.writes (Elt Ideal) arg11.view.junk (trip.sl.H11_4 arg2 arg4 arg5 k a17 a18 X2 X4 X5)) 0 0 r s = _ :=
    (pl_writes 1 1 _ _ arg11 squeezes_S1x2x128x128_S2x128x128 _ _ rfl (fun _ => rfl) _ _ _ _ r s).trans ((if_neg (by decide)).trans ((pl_writes 1 0 _ _ arg11 squeezes_S1x2x128x128_S2x128x128 _ _ rfl (fun _ => rfl) _ _ _ _ r s).trans ((if_neg (by decide)).trans ((pl_writes 0 1 _ _ arg11 squeezes_S1x2x128x128_S2x128x128 _ _ rfl (fun _ => rfl) _ _ _ _ r s).trans ((if_neg (by decide)).trans ((pl_writes 0 0 _ _ arg11 squeezes_S1x2x128x128_S2x128x128 _ _ rfl (fun _ => rfl) _ _ _ _ r s).trans (if_pos ⟨rfl, rfl⟩)))))))
  have e1 : pl arg11 (trip.sl.H11_w1 arg2 arg4 arg5 arg11 v88 k a17 a18 X2 X4 X5) 0 0 r s = _ := pl_hit (d := 0) (h := 0) (hq := squeezes_S1x2x128x128_S2x128x128) base
  have e2 : pl arg11 (trip.sl.H11_w2 arg2 arg4 arg5 arg11 v88 k a17 a18 X2 X4 X5) 0 0 r s = _ := pl_miss (d := 0) (h := 1) (hq := squeezes_S1x2x128x128_S2x128x128) (by decide) e1
  have e3 : pl arg11 (trip.sl.H11_w3 arg2 arg4 arg5 arg11 v88 k a17 a18 X2 X4 X5) 0 0 r s = _ := pl_miss (d := 1) (h := 0) (hq := squeezes_S1x2x128x128_S2x128x128) (by decide) e2
  have e4 : pl arg11 (trip.sl.H11_w4 arg2 arg4 arg5 arg11 v88 k a17 a18 X2 X4 X5) 0 0 r s = _ := pl_miss (d := 1) (h := 1) (hq := squeezes_S1x2x128x128_S2x128x128) (by decide) e3
  have e5 : pl arg11 (trip.sl.H11_w5 arg2 arg4 arg5 arg11 v88 k a17 a18 X2 X4 X5) 0 0 r s = _ := pl_hit (d := 0) (h := 0) (hq := squeezes_S1x2x128x128_S2x128x128) e4
  have e6 : pl arg11 (trip.sl.H11_w6 arg2 arg4 arg5 arg11 v88 k a17 a18 X2 X4 X5) 0 0 r s = _ := pl_miss (d := 0) (h := 1) (hq := squeezes_S1x2x128x128_S2x128x128) (by decide) e5
  have e7 : pl arg11 (trip.sl.H11_w7 arg2 arg4 arg5 arg11 v88 k a17 a18 X2 X4 X5) 0 0 r s = _ := pl_miss (d := 1) (h := 0) (hq := squeezes_S1x2x128x128_S2x128x128) (by decide) e6
  have e8 : pl arg11 (trip.sl.H11_w8 arg2 arg4 arg5 arg11 v88 k a17 a18 X2 X4 X5) 0 0 r s = _ := pl_miss (d := 1) (h := 1) (hq := squeezes_S1x2x128x128_S2x128x128) (by decide) e7
  have e9 : pl arg11 (trip.sl.H11_w9 arg2 arg4 arg5 arg11 v88 k a17 a18 X2 X4 X5) 0 0 r s = _ := pl_hit (d := 0) (h := 0) (hq := squeezes_S1x2x128x128_S2x128x128) e8
  have e10 : pl arg11 (trip.sl.H11_w10 arg2 arg4 arg5 arg11 v88 k a17 a18 X2 X4 X5) 0 0 r s = _ := pl_miss (d := 0) (h := 1) (hq := squeezes_S1x2x128x128_S2x128x128) (by decide) e9
  have e11 : pl arg11 (trip.sl.H11_w11 arg2 arg4 arg5 arg11 v88 k a17 a18 X2 X4 X5) 0 0 r s = _ := pl_miss (d := 1) (h := 0) (hq := squeezes_S1x2x128x128_S2x128x128) (by decide) e10
  have e12 : pl arg11 (trip.sl.H11_w12 arg2 arg4 arg5 arg11 v88 k a17 a18 X2 X4 X5) 0 0 r s = _ := pl_miss (d := 1) (h := 1) (hq := squeezes_S1x2x128x128_S2x128x128) (by decide) e11
  have e13 : pl arg11 (trip.sl.H11_w13 arg2 arg4 arg5 arg11 v88 k a17 a18 X2 X4 X5) 0 0 r s = _ := pl_hit (d := 0) (h := 0) (hq := squeezes_S1x2x128x128_S2x128x128) e12
  have e14 : pl arg11 (trip.sl.H11_w14 arg2 arg4 arg5 arg11 v88 k a17 a18 X2 X4 X5) 0 0 r s = _ := pl_miss (d := 0) (h := 1) (hq := squeezes_S1x2x128x128_S2x128x128) (by decide) e13
  have e15 : pl arg11 (trip.sl.H11_w15 arg2 arg4 arg5 arg11 v88 k a17 a18 X2 X4 X5) 0 0 r s = _ := pl_miss (d := 1) (h := 0) (hq := squeezes_S1x2x128x128_S2x128x128) (by decide) e14
  have e16 : pl arg11 (trip.sl.H11_w16 arg2 arg4 arg5 arg11 v88 k a17 a18 X2 X4 X5) 0 0 r s = _ := pl_miss (d := 1) (h := 1) (hq := squeezes_S1x2x128x128_S2x128x128) (by decide) e15
  have e17 : pl arg11 (trip.sl.H11_w17 arg2 arg4 arg5 arg11 v88 k a17 a18 X2 X4 X5) 0 0 r s = _ := pl_hit (d := 0) (h := 0) (hq := squeezes_S1x2x128x128_S2x128x128) e16
  have e18 : pl arg11 (trip.sl.H11_w18 arg2 arg4 arg5 arg11 v88 k a17 a18 X2 X4 X5) 0 0 r s = _ := pl_miss (d := 0) (h := 1) (hq := squeezes_S1x2x128x128_S2x128x128) (by decide) e17
  have e19 : pl arg11 (trip.sl.H11_w19 arg2 arg4 arg5 arg11 v88 k a17 a18 X2 X4 X5) 0 0 r s = _ := pl_miss (d := 1) (h := 0) (hq := squeezes_S1x2x128x128_S2x128x128) (by decide) e18
  have e20 : pl arg11 (trip.sl.H11_w20 arg2 arg4 arg5 arg11 v88 k a17 a18 X2 X4 X5) 0 0 r s = _ := pl_miss (d := 1) (h := 1) (hq := squeezes_S1x2x128x128_S2x128x128) (by decide) e19
  exact e20

set_option maxHeartbeats 4000000 in
theorem plane01 (r s : Fin 128) : pl arg11 (trip.sl.H11_w20 arg2 arg4 arg5 arg11 v88 k a17 a18 X2 X4 X5) 0 1 r s = chainF v88 a17 1 (trip.sl.v242 arg2 k X2) (trip.sl.r arg4 k X4) r s := by
  have base : pl arg11 (arg11.view.writes (Elt Ideal) arg11.view.junk (trip.sl.H11_4 arg2 arg4 arg5 k a17 a18 X2 X4 X5)) 0 1 r s = _ :=
    (pl_writes 1 1 _ _ arg11 squeezes_S1x2x128x128_S2x128x128 _ _ rfl (fun _ => rfl) _ _ _ _ r s).trans ((if_neg (by decide)).trans ((pl_writes 1 0 _ _ arg11 squeezes_S1x2x128x128_S2x128x128 _ _ rfl (fun _ => rfl) _ _ _ _ r s).trans ((if_neg (by decide)).trans ((pl_writes 0 1 _ _ arg11 squeezes_S1x2x128x128_S2x128x128 _ _ rfl (fun _ => rfl) _ _ _ _ r s).trans (if_pos ⟨rfl, rfl⟩)))))
  have e1 : pl arg11 (trip.sl.H11_w1 arg2 arg4 arg5 arg11 v88 k a17 a18 X2 X4 X5) 0 1 r s = _ := pl_miss (d := 0) (h := 0) (hq := squeezes_S1x2x128x128_S2x128x128) (by decide) base
  have e2 : pl arg11 (trip.sl.H11_w2 arg2 arg4 arg5 arg11 v88 k a17 a18 X2 X4 X5) 0 1 r s = _ := pl_hit (d := 0) (h := 1) (hq := squeezes_S1x2x128x128_S2x128x128) e1
  have e3 : pl arg11 (trip.sl.H11_w3 arg2 arg4 arg5 arg11 v88 k a17 a18 X2 X4 X5) 0 1 r s = _ := pl_miss (d := 1) (h := 0) (hq := squeezes_S1x2x128x128_S2x128x128) (by decide) e2
  have e4 : pl arg11 (trip.sl.H11_w4 arg2 arg4 arg5 arg11 v88 k a17 a18 X2 X4 X5) 0 1 r s = _ := pl_miss (d := 1) (h := 1) (hq := squeezes_S1x2x128x128_S2x128x128) (by decide) e3
  have e5 : pl arg11 (trip.sl.H11_w5 arg2 arg4 arg5 arg11 v88 k a17 a18 X2 X4 X5) 0 1 r s = _ := pl_miss (d := 0) (h := 0) (hq := squeezes_S1x2x128x128_S2x128x128) (by decide) e4
  have e6 : pl arg11 (trip.sl.H11_w6 arg2 arg4 arg5 arg11 v88 k a17 a18 X2 X4 X5) 0 1 r s = _ := pl_hit (d := 0) (h := 1) (hq := squeezes_S1x2x128x128_S2x128x128) e5
  have e7 : pl arg11 (trip.sl.H11_w7 arg2 arg4 arg5 arg11 v88 k a17 a18 X2 X4 X5) 0 1 r s = _ := pl_miss (d := 1) (h := 0) (hq := squeezes_S1x2x128x128_S2x128x128) (by decide) e6
  have e8 : pl arg11 (trip.sl.H11_w8 arg2 arg4 arg5 arg11 v88 k a17 a18 X2 X4 X5) 0 1 r s = _ := pl_miss (d := 1) (h := 1) (hq := squeezes_S1x2x128x128_S2x128x128) (by decide) e7
  have e9 : pl arg11 (trip.sl.H11_w9 arg2 arg4 arg5 arg11 v88 k a17 a18 X2 X4 X5) 0 1 r s = _ := pl_miss (d := 0) (h := 0) (hq := squeezes_S1x2x128x128_S2x128x128) (by decide) e8
  have e10 : pl arg11 (trip.sl.H11_w10 arg2 arg4 arg5 arg11 v88 k a17 a18 X2 X4 X5) 0 1 r s = _ := pl_hit (d := 0) (h := 1) (hq := squeezes_S1x2x128x128_S2x128x128) e9
  have e11 : pl arg11 (trip.sl.H11_w11 arg2 arg4 arg5 arg11 v88 k a17 a18 X2 X4 X5) 0 1 r s = _ := pl_miss (d := 1) (h := 0) (hq := squeezes_S1x2x128x128_S2x128x128) (by decide) e10
  have e12 : pl arg11 (trip.sl.H11_w12 arg2 arg4 arg5 arg11 v88 k a17 a18 X2 X4 X5) 0 1 r s = _ := pl_miss (d := 1) (h := 1) (hq := squeezes_S1x2x128x128_S2x128x128) (by decide) e11
  have e13 : pl arg11 (trip.sl.H11_w13 arg2 arg4 arg5 arg11 v88 k a17 a18 X2 X4 X5) 0 1 r s = _ := pl_miss (d := 0) (h := 0) (hq := squeezes_S1x2x128x128_S2x128x128) (by decide) e12
  have e14 : pl arg11 (trip.sl.H11_w14 arg2 arg4 arg5 arg11 v88 k a17 a18 X2 X4 X5) 0 1 r s = _ := pl_hit (d := 0) (h := 1) (hq := squeezes_S1x2x128x128_S2x128x128) e13
  have e15 : pl arg11 (trip.sl.H11_w15 arg2 arg4 arg5 arg11 v88 k a17 a18 X2 X4 X5) 0 1 r s = _ := pl_miss (d := 1) (h := 0) (hq := squeezes_S1x2x128x128_S2x128x128) (by decide) e14
  have e16 : pl arg11 (trip.sl.H11_w16 arg2 arg4 arg5 arg11 v88 k a17 a18 X2 X4 X5) 0 1 r s = _ := pl_miss (d := 1) (h := 1) (hq := squeezes_S1x2x128x128_S2x128x128) (by decide) e15
  have e17 : pl arg11 (trip.sl.H11_w17 arg2 arg4 arg5 arg11 v88 k a17 a18 X2 X4 X5) 0 1 r s = _ := pl_miss (d := 0) (h := 0) (hq := squeezes_S1x2x128x128_S2x128x128) (by decide) e16
  have e18 : pl arg11 (trip.sl.H11_w18 arg2 arg4 arg5 arg11 v88 k a17 a18 X2 X4 X5) 0 1 r s = _ := pl_hit (d := 0) (h := 1) (hq := squeezes_S1x2x128x128_S2x128x128) e17
  have e19 : pl arg11 (trip.sl.H11_w19 arg2 arg4 arg5 arg11 v88 k a17 a18 X2 X4 X5) 0 1 r s = _ := pl_miss (d := 1) (h := 0) (hq := squeezes_S1x2x128x128_S2x128x128) (by decide) e18
  have e20 : pl arg11 (trip.sl.H11_w20 arg2 arg4 arg5 arg11 v88 k a17 a18 X2 X4 X5) 0 1 r s = _ := pl_miss (d := 1) (h := 1) (hq := squeezes_S1x2x128x128_S2x128x128) (by decide) e19
  exact e20

set_option maxHeartbeats 4000000 in
theorem plane10 (r s : Fin 128) : pl arg11 (trip.sl.H11_w20 arg2 arg4 arg5 arg11 v88 k a17 a18 X2 X4 X5) 1 0 r s = chainB v88 a18 0 (trip.sl.v258 arg2 k X2) (trip.sl.r_5 arg5 k X5) r s := by
  have base : pl arg11 (arg11.view.writes (Elt Ideal) arg11.view.junk (trip.sl.H11_4 arg2 arg4 arg5 k a17 a18 X2 X4 X5)) 1 0 r s = _ :=
    (pl_writes 1 1 _ _ arg11 squeezes_S1x2x128x128_S2x128x128 _ _ rfl (fun _ => rfl) _ _ _ _ r s).trans ((if_neg (by decide)).trans ((pl_writes 1 0 _ _ arg11 squeezes_S1x2x128x128_S2x128x128 _ _ rfl (fun _ => rfl) _ _ _ _ r s).trans (if_pos ⟨rfl, rfl⟩)))
  have e1 : pl arg11 (trip.sl.H11_w1 arg2 arg4 arg5 arg11 v88 k a17 a18 X2 X4 X5) 1 0 r s = _ := pl_miss (d := 0) (h := 0) (hq := squeezes_S1x2x128x128_S2x128x128) (by decide) base
  have e2 : pl arg11 (trip.sl.H11_w2 arg2 arg4 arg5 arg11 v88 k a17 a18 X2 X4 X5) 1 0 r s = _ := pl_miss (d := 0) (h := 1) (hq := squeezes_S1x2x128x128_S2x128x128) (by decide) e1
  have e3 : pl arg11 (trip.sl.H11_w3 arg2 arg4 arg5 arg11 v88 k a17 a18 X2 X4 X5) 1 0 r s = _ := pl_hit (d := 1) (h := 0) (hq := squeezes_S1x2x128x128_S2x128x128) e2
  have e4 : pl arg11 (trip.sl.H11_w4 arg2 arg4 arg5 arg11 v88 k a17 a18 X2 X4 X5) 1 0 r s = _ := pl_miss (d := 1) (h := 1) (hq := squeezes_S1x2x128x128_S2x128x128) (by decide) e3
  have e5 : pl arg11 (trip.sl.H11_w5 arg2 arg4 arg5 arg11 v88 k a17 a18 X2 X4 X5) 1 0 r s = _ := pl_miss (d := 0) (h := 0) (hq := squeezes_S1x2x128x128_S2x128x128) (by decide) e4
  have e6 : pl arg11 (trip.sl.H11_w6 arg2 arg4 arg5 arg11 v88 k a17 a18 X2 X4 X5) 1 0 r s = _ := pl_miss (d := 0) (h := 1) (hq := squeezes_S1x2x128x128_S2x128x128) (by decide) e5
  have e7 : pl arg11 (trip.sl.H11_w7 arg2 arg4 arg5 arg11 v88 k a17 a18 X2 X4 X5) 1 0 r s = _ := pl_hit (d := 1) (h := 0) (hq := squeezes_S1x2x128x128_S2x128x128) e6
  have e8 : pl arg11 (trip.sl.H11_w8 arg2 arg4 arg5 arg11 v88 k a17 a18 X2 X4 X5) 1 0 r s = _ := pl_miss (d := 1) (h := 1) (hq := squeezes_S1x2x128x128_S2x128x128) (by decide) e7
  have e9 : pl arg11 (trip.sl.H11_w9 arg2 arg4 arg5 arg11 v88 k a17 a18 X2 X4 X5) 1 0 r s = _ := pl_miss (d := 0) (h := 0) (hq := squeezes_S1x2x128x128_S2x128x128) (by decide) e8
  have e10 : pl arg11 (trip.sl.H11_w10 arg2 arg4 arg5 arg11 v88 k a17 a18 X2 X4 X5) 1 0 r s = _ := pl_miss (d := 0) (h := 1) (hq := squeezes_S1x2x128x128_S2x128x128) (by decide) e9
  have e11 : pl arg11 (trip.sl.H11_w11 arg2 arg4 arg5 arg11 v88 k a17 a18 X2 X4 X5) 1 0 r s = _ := pl_hit (d := 1) (h := 0) (hq := squeezes_S1x2x128x128_S2x128x128) e10
  have e12 : pl arg11 (trip.sl.H11_w12 arg2 arg4 arg5 arg11 v88 k a17 a18 X2 X4 X5) 1 0 r s = _ := pl_miss (d := 1) (h := 1) (hq := squeezes_S1x2x128x128_S2x128x128) (by decide) e11
  have e13 : pl arg11 (trip.sl.H11_w13 arg2 arg4 arg5 arg11 v88 k a17 a18 X2 X4 X5) 1 0 r s = _ := pl_miss (d := 0) (h := 0) (hq := squeezes_S1x2x128x128_S2x128x128) (by decide) e12
  have e14 : pl arg11 (trip.sl.H11_w14 arg2 arg4 arg5 arg11 v88 k a17 a18 X2 X4 X5) 1 0 r s = _ := pl_miss (d := 0) (h := 1) (hq := squeezes_S1x2x128x128_S2x128x128) (by decide) e13
  have e15 : pl arg11 (trip.sl.H11_w15 arg2 arg4 arg5 arg11 v88 k a17 a18 X2 X4 X5) 1 0 r s = _ := pl_hit (d := 1) (h := 0) (hq := squeezes_S1x2x128x128_S2x128x128) e14
  have e16 : pl arg11 (trip.sl.H11_w16 arg2 arg4 arg5 arg11 v88 k a17 a18 X2 X4 X5) 1 0 r s = _ := pl_miss (d := 1) (h := 1) (hq := squeezes_S1x2x128x128_S2x128x128) (by decide) e15
  have e17 : pl arg11 (trip.sl.H11_w17 arg2 arg4 arg5 arg11 v88 k a17 a18 X2 X4 X5) 1 0 r s = _ := pl_miss (d := 0) (h := 0) (hq := squeezes_S1x2x128x128_S2x128x128) (by decide) e16
  have e18 : pl arg11 (trip.sl.H11_w18 arg2 arg4 arg5 arg11 v88 k a17 a18 X2 X4 X5) 1 0 r s = _ := pl_miss (d := 0) (h := 1) (hq := squeezes_S1x2x128x128_S2x128x128) (by decide) e17
  have e19 : pl arg11 (trip.sl.H11_w19 arg2 arg4 arg5 arg11 v88 k a17 a18 X2 X4 X5) 1 0 r s = _ := pl_hit (d := 1) (h := 0) (hq := squeezes_S1x2x128x128_S2x128x128) e18
  have e20 : pl arg11 (trip.sl.H11_w20 arg2 arg4 arg5 arg11 v88 k a17 a18 X2 X4 X5) 1 0 r s = _ := pl_miss (d := 1) (h := 1) (hq := squeezes_S1x2x128x128_S2x128x128) (by decide) e19
  exact e20

set_option maxHeartbeats 4000000 in
theorem plane11 (r s : Fin 128) : pl arg11 (trip.sl.H11_w20 arg2 arg4 arg5 arg11 v88 k a17 a18 X2 X4 X5) 1 1 r s = chainB v88 a18 1 (trip.sl.v258 arg2 k X2) (trip.sl.r_5 arg5 k X5) r s := by
  have base : pl arg11 (arg11.view.writes (Elt Ideal) arg11.view.junk (trip.sl.H11_4 arg2 arg4 arg5 k a17 a18 X2 X4 X5)) 1 1 r s = _ :=
    (pl_writes 1 1 _ _ arg11 squeezes_S1x2x128x128_S2x128x128 _ _ rfl (fun _ => rfl) _ _ _ _ r s).trans (if_pos ⟨rfl, rfl⟩)
  have e1 : pl arg11 (trip.sl.H11_w1 arg2 arg4 arg5 arg11 v88 k a17 a18 X2 X4 X5) 1 1 r s = _ := pl_miss (d := 0) (h := 0) (hq := squeezes_S1x2x128x128_S2x128x128) (by decide) base
  have e2 : pl arg11 (trip.sl.H11_w2 arg2 arg4 arg5 arg11 v88 k a17 a18 X2 X4 X5) 1 1 r s = _ := pl_miss (d := 0) (h := 1) (hq := squeezes_S1x2x128x128_S2x128x128) (by decide) e1
  have e3 : pl arg11 (trip.sl.H11_w3 arg2 arg4 arg5 arg11 v88 k a17 a18 X2 X4 X5) 1 1 r s = _ := pl_miss (d := 1) (h := 0) (hq := squeezes_S1x2x128x128_S2x128x128) (by decide) e2
  have e4 : pl arg11 (trip.sl.H11_w4 arg2 arg4 arg5 arg11 v88 k a17 a18 X2 X4 X5) 1 1 r s = _ := pl_hit (d := 1) (h := 1) (hq := squeezes_S1x2x128x128_S2x128x128) e3
  have e5 : pl arg11 (trip.sl.H11_w5 arg2 arg4 arg5 arg11 v88 k a17 a18 X2 X4 X5) 1 1 r s = _ := pl_miss (d := 0) (h := 0) (hq := squeezes_S1x2x128x128_S2x128x128) (by decide) e4
  have e6 : pl arg11 (trip.sl.H11_w6 arg2 arg4 arg5 arg11 v88 k a17 a18 X2 X4 X5) 1 1 r s = _ := pl_miss (d := 0) (h := 1) (hq := squeezes_S1x2x128x128_S2x128x128) (by decide) e5
  have e7 : pl arg11 (trip.sl.H11_w7 arg2 arg4 arg5 arg11 v88 k a17 a18 X2 X4 X5) 1 1 r s = _ := pl_miss (d := 1) (h := 0) (hq := squeezes_S1x2x128x128_S2x128x128) (by decide) e6
  have e8 : pl arg11 (trip.sl.H11_w8 arg2 arg4 arg5 arg11 v88 k a17 a18 X2 X4 X5) 1 1 r s = _ := pl_hit (d := 1) (h := 1) (hq := squeezes_S1x2x128x128_S2x128x128) e7
  have e9 : pl arg11 (trip.sl.H11_w9 arg2 arg4 arg5 arg11 v88 k a17 a18 X2 X4 X5) 1 1 r s = _ := pl_miss (d := 0) (h := 0) (hq := squeezes_S1x2x128x128_S2x128x128) (by decide) e8
  have e10 : pl arg11 (trip.sl.H11_w10 arg2 arg4 arg5 arg11 v88 k a17 a18 X2 X4 X5) 1 1 r s = _ := pl_miss (d := 0) (h := 1) (hq := squeezes_S1x2x128x128_S2x128x128) (by decide) e9
  have e11 : pl arg11 (trip.sl.H11_w11 arg2 arg4 arg5 arg11 v88 k a17 a18 X2 X4 X5) 1 1 r s = _ := pl_miss (d := 1) (h := 0) (hq := squeezes_S1x2x128x128_S2x128x128) (by decide) e10
  have e12 : pl arg11 (trip.sl.H11_w12 arg2 arg4 arg5 arg11 v88 k a17 a18 X2 X4 X5) 1 1 r s = _ := pl_hit (d := 1) (h := 1) (hq := squeezes_S1x2x128x128_S2x128x128) e11
  have e13 : pl arg11 (trip.sl.H11_w13 arg2 arg4 arg5 arg11 v88 k a17 a18 X2 X4 X5) 1 1 r s = _ := pl_miss (d := 0) (h := 0) (hq := squeezes_S1x2x128x128_S2x128x128) (by decide) e12
  have e14 : pl arg11 (trip.sl.H11_w14 arg2 arg4 arg5 arg11 v88 k a17 a18 X2 X4 X5) 1 1 r s = _ := pl_miss (d := 0) (h := 1) (hq := squeezes_S1x2x128x128_S2x128x128) (by decide) e13
  have e15 : pl arg11 (trip.sl.H11_w15 arg2 arg4 arg5 arg11 v88 k a17 a18 X2 X4 X5) 1 1 r s = _ := pl_miss (d := 1) (h := 0) (hq := squeezes_S1x2x128x128_S2x128x128) (by decide) e14
  have e16 : pl arg11 (trip.sl.H11_w16 arg2 arg4 arg5 arg11 v88 k a17 a18 X2 X4 X5) 1 1 r s = _ := pl_hit (d := 1) (h := 1) (hq := squeezes_S1x2x128x128_S2x128x128) e15
  have e17 : pl arg11 (trip.sl.H11_w17 arg2 arg4 arg5 arg11 v88 k a17 a18 X2 X4 X5) 1 1 r s = _ := pl_miss (d := 0) (h := 0) (hq := squeezes_S1x2x128x128_S2x128x128) (by decide) e16
  have e18 : pl arg11 (trip.sl.H11_w18 arg2 arg4 arg5 arg11 v88 k a17 a18 X2 X4 X5) 1 1 r s = _ := pl_miss (d := 0) (h := 1) (hq := squeezes_S1x2x128x128_S2x128x128) (by decide) e17
  have e19 : pl arg11 (trip.sl.H11_w19 arg2 arg4 arg5 arg11 v88 k a17 a18 X2 X4 X5) 1 1 r s = _ := pl_miss (d := 1) (h := 0) (hq := squeezes_S1x2x128x128_S2x128x128) (by decide) e18
  have e20 : pl arg11 (trip.sl.H11_w20 arg2 arg4 arg5 arg11 v88 k a17 a18 X2 X4 X5) 1 1 r s = _ := pl_hit (d := 1) (h := 1) (hq := squeezes_S1x2x128x128_S2x128x128) e19
  exact e20

end

end Cert.Proof.Scan

end
-- ==== Proof.Scan.Words.lean ====
/- The token numbers of a chunk's rows and columns as the program's words, and what its comparisons of them say. -/
module

public import proofs.«01_k».proof.Proof.Scan.Exps

@[expose] public section

set_option maxRecDepth 16384

noncomputable section

namespace Cert.Proof.Scan

open Cert.KernelIdeal Cert.KernelIdeal.Gen
open Idealize.ShloMosaic

theorem word214 (r s : Fin 128) : k0_pay214 (ix2 r s) = BitVec.ofNat 32 (tok r) := by
  pointwise [k0_pay214]
  revert r
  decide +kernel

theorem word215 (r s : Fin 128) : k0_pay215 (ix2 r s) = BitVec.ofNat 32 (tok s) := by
  pointwise [k0_pay215]
  revert s
  decide +kernel

theorem word_xor : ∀ x y : Fin 128, IntOp.xori (BitVec.ofNat 32 x.val) (BitVec.ofNat 32 y.val) = BitVec.ofNat 32 (x.val ^^^ y.val) := by
  decide +kernel

theorem tok_lt (r : Fin 128) : tok r < 128 := by
  show r.val % 8 * 16 + r.val / 8 < 128; omega

theorem word216 (r s : Fin 128) : k0_pay216 k0_pay214 (ix2 r s) = BitVec.ofNat 32 (tok r ^^^ tok s) := by
  pointwise [k0_pay216]
  rw [word214, word215]
  exact word_xor ⟨tok r, tok_lt r⟩ ⟨tok s, tok_lt s⟩

theorem xor_lt (r s : Fin 128) : tok r ^^^ tok s < 128 :=
  Nat.xor_lt_two_pow (n := 7) (tok_lt r) (tok_lt s)

theorem word_le : ∀ x y : Fin 128, IntOp.cmpi .sle (BitVec.ofNat 32 x.val) (BitVec.ofNat 32 y.val) = 1#1 ↔ x.val ≤ y.val := by
  decide +kernel
theorem word_ge : ∀ x y : Fin 128, IntOp.cmpi .sge (BitVec.ofNat 32 x.val) (BitVec.ofNat 32 y.val) = 1#1 ↔ y.val ≤ x.val := by
  decide +kernel
theorem word_lt {n : ℕ} (hn : n ∈ [4, 8, 16, 32, 64]) (x : Fin 128) :
    IntOp.cmpi .slt (BitVec.ofNat 32 x.val) (BitVec.ofNat 32 n) = 1#1 ↔ x.val < n :=
  (by decide +kernel : ∀ n ∈ [4, 8, 16, 32, 64], ∀ x : Fin 128,
    IntOp.cmpi .slt (BitVec.ofNat 32 x.val) (BitVec.ofNat 32 n) = 1#1 ↔ x.val < n) n hn x
theorem word_ge2 : ∀ x : Fin 128, IntOp.cmpi .sge (BitVec.ofNat 32 x.val) 2#32 = 1#1 ↔ 2 ≤ x.val := by
  decide +kernel
theorem word_and : ∀ a b : BitVec 1, IntOp.andi a b = 1#1 ↔ a = 1#1 ∧ b = 1#1 := by decide +kernel

theorem select_eq {α : Type} {c : BitVec 1} {P : Prop} [Decidable P] (h : c = 1#1 ↔ P) (x y : α) :
    Scalar.select c x y = if P then x else y := by
  by_cases hP : P
  · rw [if_pos hP, h.2 hP]; rfl
  · rw [if_neg hP, ValueIdx.eq_zero_of_ne_one (fun hc => hP (h.1 hc))]; rfl

end Cert.Proof.Scan

end
-- ==== Proof.Scan.Level.lean ====
/- The products of all levels together: at every pair of rows in order, at distance two or more, the query's row times
the key's row times the decay between them. -/
module

public import proofs.«01_k».proof.Proof.Scan.Pairs
public import proofs.«01_k».proof.Proof.Scan.Words

@[expose] public section

set_option maxRecDepth 16384

noncomputable section

namespace Cert.Proof.Scan

open Cert.KernelIdeal Cert.KernelIdeal.Gen
open Idealize.ShloMosaic

theorem rpow_two (x : ℝ) : Real.rpow 2 (x / Real.log 2) = Real.exp x := by
  show (2 : ℝ) ^ (x / Real.log 2) = _
  rw [Real.rpow_def_of_pos (by norm_num), mul_div_cancel₀ _ (Real.log_pos (by norm_num)).ne']

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product of row `r`'s query and row `s`'s key in head `h`, decayed from `L s` to `L r`. -/
def decP (L L' Q K : Fin 256 → ℝ) (h : Fin 2) : ℝ :=
  ∑ x : Fin 128, Q (hk h x) * K (hk h x) * Real.exp (L (hk h x) - L' (hk h x))

theorem pairT_real (h : Fin 2) (q f E : FVec Ideal S128x256 .bf16) {Q K e L : Fin 128 → Fin 256 → ℝ}
    (hq : ∀ r k, q (ix2 r k) = (Q r k : EReal)) (hf : ∀ r k, f (ix2 r k) = (K r k : EReal))
    (hE : ∀ r k, E (ix2 r k) = ((Real.rpow 2 (e r k) : ℝ) : EReal)) {r s : Fin 128}
    (he : ∀ k, e r k + e s k = (L r k - L s k) / Real.log 2) :
    pairT h (mulf q E) (mulf f E) (ix3 0 r s) = (decP (L r) (L s) (Q r) (K s) h : EReal) := by
  rw [pairT_at, decP, coe_sum]
  refine Finset.sum_congr rfl fun x _ => ?_
  rw [hq, hf, hE, hE, ← EReal.coe_mul, ← EReal.coe_mul, ← EReal.coe_mul, ← rpow_two, ← he]
  congr 1
  have : Real.rpow 2 (e r (hk h x) + e s (hk h x)) = Real.rpow 2 (e r (hk h x)) * Real.rpow 2 (e s (hk h x)) :=
    Real.rpow_add (by norm_num) _ _
  rw [this]; ring

theorem lev (n : ℕ) (hn : n ∈ [4, 8, 16, 32, 64, 128]) : ∀ r s : Fin 128, tok s ≤ tok r → tok r ^^^ tok s < n →
    ¬ tok r ^^^ tok s < n / 2 → ¬ tok r % n < n / 2 ∧ tok s % n < n / 2 ∧ refF n r = refF n s ∧ refB n r = refB n s := by
  fin_cases hn <;> decide +kernel

section
variable {b : FVec Ideal S128x256 .f32} {L : Fin 128 → Fin 256 → ℝ}
  (hb : ∀ r k, b (ix2 r k) = ((L r k / Real.log 2 : ℝ) : EReal))
include hb

theorem levF {n : ℕ} (hn : n ∈ [4, 8, 16, 32, 64, 128]) (h : Fin 2) (q f E : FVec Ideal S128x256 .bf16) {Q K : Fin 128 → Fin 256 → ℝ}
    (hq : ∀ r k, q (ix2 r k) = (Q r k : EReal)) (hf : ∀ r k, f (ix2 r k) = (K r k : EReal))
    (hE : ∀ r k, E (ix2 r k) = ((Real.rpow 2 (if tok r % n < n / 2 then L (refF n r) k / Real.log 2 - L r k / Real.log 2
      else L r k / Real.log 2 - L (refF n r) k / Real.log 2) : ℝ) : EReal)) {r s : Fin 128}
    (h1 : tok s ≤ tok r) (h2 : tok r ^^^ tok s < n) (h3 : ¬ tok r ^^^ tok s < n / 2) :
    pairT h (mulf q E) (mulf f E) (ix3 0 r s) = (decP (L r) (L s) (Q r) (K s) h : EReal) := by
  obtain ⟨a1, a2, a3, -⟩ := lev n hn r s h1 h2 h3
  refine pairT_real h q f E (L := L) hq hf hE fun k => ?_
  rw [if_neg a1, if_pos a2, a3]; ring

theorem levB {n : ℕ} (hn : n ∈ [4, 8, 16, 32, 64, 128]) (h : Fin 2) (q f E : FVec Ideal S128x256 .bf16) {Q K : Fin 128 → Fin 256 → ℝ}
    (hq : ∀ r k, q (ix2 r k) = (Q r k : EReal)) (hf : ∀ r k, f (ix2 r k) = (K r k : EReal))
    (hE : ∀ r k, E (ix2 r k) = ((Real.rpow 2 (if tok r % n < n / 2 then L r k / Real.log 2 - L (refB n r) k / Real.log 2
      else L (refB n r) k / Real.log 2 - L r k / Real.log 2) : ℝ) : EReal)) {r s : Fin 128}
    (h1 : tok r ≤ tok s) (h2 : tok r ^^^ tok s < n) (h3 : ¬ tok r ^^^ tok s < n / 2) :
    pairT h (mulf q E) (mulf f E) (ix3 0 r s) = (decP (L r) (L s) (Q r) (K s) h : EReal) := by
  rw [Nat.xor_comm] at h2 h3
  obtain ⟨a1, a2, -, a3⟩ := lev n hn s r h1 h2 h3
  refine pairT_real h q f E (L := L) hq hf hE fun k => ?_
  rw [if_neg a1, if_pos a2, a3]; ring

variable {v88 : IVec S128x128 32} (h88 : ∀ r s, v88 (ix2 r s) = BitVec.ofNat 32 (tok r ^^^ tok s))
include h88

omit hb in
theorem mask_iff {n : ℕ} (hn : n ∈ [4, 8, 16, 32, 64]) (r s : Fin 128) :
    maskT v88 (BitVec.ofNat 32 n) (ix3 0 r s) = 1 ↔ tok r ^^^ tok s < n := by
  rw [maskT_at, h88]; exact word_lt hn ⟨_, xor_lt r s⟩

theorem chainF_real (hm : ∀ r s k, tok r ≤ tok s → L s k ≤ L r k) (h : Fin 2) (q f : FVec Ideal S128x256 .bf16) {Q K : Fin 128 → Fin 256 → ℝ}
    (hq : ∀ r k, q (ix2 r k) = (Q r k : EReal)) (hf : ∀ r k, f (ix2 r k) = (K r k : EReal)) {r s : Fin 128}
    (h1 : tok s ≤ tok r) (h2 : 2 ≤ tok r ^^^ tok s) :
    chainF v88 b h q f r s = (decP (L r) (L s) (Q r) (K s) h : EReal) := by
  have hm' : ∀ r s k, tok r ≤ tok s → L s k / Real.log 2 ≤ L r k / Real.log 2 := fun r s k hh =>
    div_le_div_of_nonneg_right (hm r s k hh) (Real.log_nonneg (by norm_num))
  unfold chainF
  rw [show (4#32) = BitVec.ofNat 32 4 from rfl, show (8#32) = BitVec.ofNat 32 8 from rfl, show (16#32) = BitVec.ofNat 32 16 from rfl,
    show (32#32) = BitVec.ofNat 32 32 from rfl, show (64#32) = BitVec.ofNat 32 64 from rfl]
  simp only [mask_iff h88 (n := 4) (by decide), mask_iff h88 (n := 8) (by decide), mask_iff h88 (n := 16) (by decide),
    mask_iff h88 (n := 32) (by decide), mask_iff h88 (n := 64) (by decide)]
  split_ifs with m4 m8 m16 m32 m64
  · exact levF hb (n := 4) (by decide) h q f _ hq hf (exp_f4 b _ hb) h1 m4 (by omega)
  · exact levF hb (n := 8) (by decide) h q f _ hq hf (exp_f8 b _ hb) h1 m8 m4
  · exact levF hb (n := 16) (by decide) h q f _ hq hf (exp_f16 b _ hb) h1 m16 m8
  · exact levF hb (n := 32) (by decide) h q f _ hq hf (exp_f32 b _ hb hm') h1 m32 m16
  · exact levF hb (n := 64) (by decide) h q f _ hq hf (exp_f64 b _ hb hm') h1 m64 m32
  · exact levF hb (n := 128) (by decide) h q f _ hq hf (exp_f128 b _ hb hm') h1 (xor_lt r s) m64

theorem chainB_real (hm : ∀ r s k, tok r ≤ tok s → L r k ≤ L s k) (h : Fin 2) (q f : FVec Ideal S128x256 .bf16) {Q K : Fin 128 → Fin 256 → ℝ}
    (hq : ∀ r k, q (ix2 r k) = (Q r k : EReal)) (hf : ∀ r k, f (ix2 r k) = (K r k : EReal)) {r s : Fin 128}
    (h1 : tok r ≤ tok s) (h2 : 2 ≤ tok r ^^^ tok s) :
    chainB v88 b h q f r s = (decP (L r) (L s) (Q r) (K s) h : EReal) := by
  have hm' : ∀ r s k, tok r ≤ tok s → L r k / Real.log 2 ≤ L s k / Real.log 2 := fun r s k hh =>
    div_le_div_of_nonneg_right (hm r s k hh) (Real.log_nonneg (by norm_num))
  unfold chainB
  rw [show (4#32) = BitVec.ofNat 32 4 from rfl, show (8#32) = BitVec.ofNat 32 8 from rfl, show (16#32) = BitVec.ofNat 32 16 from rfl,
    show (32#32) = BitVec.ofNat 32 32 from rfl, show (64#32) = BitVec.ofNat 32 64 from rfl]
  simp only [mask_iff h88 (n := 4) (by decide), mask_iff h88 (n := 8) (by decide), mask_iff h88 (n := 16) (by decide),
    mask_iff h88 (n := 32) (by decide), mask_iff h88 (n := 64) (by decide)]
  split_ifs with m4 m8 m16 m32 m64
  · exact levB hb (n := 4) (by decide) h q f _ hq hf (exp_b4 b _ hb) h1 m4 (by omega)
  · exact levB hb (n := 8) (by decide) h q f _ hq hf (exp_b8 b _ hb) h1 m8 m4
  · exact levB hb (n := 16) (by decide) h q f _ hq hf (exp_b16 b _ hb) h1 m16 m8
  · exact levB hb (n := 32) (by decide) h q f _ hq hf (exp_b32 b _ hb hm') h1 m32 m16
  · exact levB hb (n := 64) (by decide) h q f _ hq hf (exp_b64 b _ hb hm') h1 m64 m32
  · exact levB hb (n := 128) (by decide) h q f _ hq hf (exp_b128 b _ hb hm') h1 (xor_lt r s) m64

end

end Cert.Proof.Scan

end
-- ==== Proof.Scan.Near.lean ====
/- One trip's other terms, each read at a row and a column: the carried state seen by the queries, the new state, the
row itself and its neighbour, the running decay. -/
module

public import proofs.«01_k».proof.Proof.Scan.Pairs
public import proofs.«01_k».proof.Proof.Scan.Words

@[expose] public section

set_option maxRecDepth 16384

noncomputable section

namespace Cert.Proof.Scan

open Cert.KernelIdeal Cert.KernelIdeal.Gen
open Idealize.ShloMosaic

theorem hk_zero (x : Fin 128) : hk 0 x = ⟨x.val, by omega⟩ := rfl
theorem hk_one (x : Fin 128) : hk 1 x = ⟨128 + x.val, by omega⟩ := rfl

def seenF (h : Fin 2) (S : FVec Ideal S128x128 .f32) (b : FVec Ideal S128x256 .f32) (q : FVec Ideal S128x256 .bf16) : FVec Ideal S128x128 .f32 :=
  if h = 0 then k0_pay16 S b q else k0_pay17 S b q
def seenB (h : Fin 2) (S : FVec Ideal S128x128 .f32) (b : FVec Ideal S128x256 .f32) (q : FVec Ideal S128x256 .bf16) : FVec Ideal S128x128 .f32 :=
  if h = 0 then k0_pay25 S b q else k0_pay26 S b q

theorem seenF_at (h : Fin 2) (S : FVec Ideal S128x128 .f32) (b : FVec Ideal S128x256 .f32) (q : FVec Ideal S128x256 .bf16) (r c : Fin 128) :
    seenF h S b q (ix2 r c) = ∑ x : Fin 128, q (ix2 r (hk h x)) * FloatOps.exp2 (b (ix2 r (hk h x))) * S (ix2 c x) := by
  obtain rfl | rfl : h = 0 ∨ h = 1 := by omega
  · show k0_pay16 S b q (ix2 r c) = _
    pointwise [k0_pay16, k0_pay15]
    rfl
  · show k0_pay17 S b q (ix2 r c) = _
    pointwise [k0_pay17, k0_pay15]
    rfl

theorem seenB_at (h : Fin 2) (S : FVec Ideal S128x128 .f32) (b : FVec Ideal S128x256 .f32) (q : FVec Ideal S128x256 .bf16) (r c : Fin 128) :
    seenB h S b q (ix2 r c) = ∑ x : Fin 128, q (ix2 r (hk h x)) * FloatOps.exp2 (b (ix2 r (hk h x))) * S (ix2 c x) := by
  obtain rfl | rfl : h = 0 ∨ h = 1 := by omega
  · show k0_pay25 S b q (ix2 r c) = _
    pointwise [k0_pay25, k0_pay24]
    rfl
  · show k0_pay26 S b q (ix2 r c) = _
    pointwise [k0_pay26, k0_pay24]
    rfl

def stateF (h : Fin 2) (S : FVec Ideal S128x128 .f32) (b : FVec Ideal S128x256 .f32) (v : FVec Ideal S128x256 .bf16) (g : FVec Ideal S128x256 .f32) : FVec Ideal S128x128 .f32 :=
  if h = 0 then k0_pay21 S b v g else k0_pay22 S b v g
def stateB (h : Fin 2) (S : FVec Ideal S128x128 .f32) (b : FVec Ideal S128x256 .f32) (v : FVec Ideal S128x256 .bf16) (g : FVec Ideal S128x256 .f32) : FVec Ideal S128x128 .f32 :=
  if h = 0 then k0_pay30 S v (k0_pay28 b g) (k0_pay29 b) else k0_pay31 S v (k0_pay28 b g) (k0_pay29 b)

theorem stateF_at (h : Fin 2) (S : FVec Ideal S128x128 .f32) (b : FVec Ideal S128x256 .f32) (v : FVec Ideal S128x256 .bf16) (g : FVec Ideal S128x256 .f32) (c k : Fin 128) :
    stateF h S b v g (ix2 c k) = S (ix2 c k) * FloatOps.exp2 (b (ix2 127 (hk h k)))
      + ∑ x : Fin 128, v (ix2 x (hk h c)) * (k0_pay14 g (ix2 x (hk h k)) * FloatOps.exp2 (b (ix2 127 (hk h k)) - b (ix2 x (hk h k)))) := by
  obtain rfl | rfl : h = 0 ∨ h = 1 := by omega
  · show k0_pay21 S b v g (ix2 c k) = _
    pointwise [k0_pay21, k0_pay18, k0_pay19, k0_pay20]
    rfl
  · show k0_pay22 S b v g (ix2 c k) = _
    pointwise [k0_pay22, k0_pay18, k0_pay19, k0_pay20]
    rfl

theorem stateB_at (h : Fin 2) (S : FVec Ideal S128x128 .f32) (b : FVec Ideal S128x256 .f32) (v : FVec Ideal S128x256 .bf16) (g : FVec Ideal S128x256 .f32) (c k : Fin 128) :
    stateB h S b v g (ix2 c k) = S (ix2 c k) * FloatOps.exp2 (b (ix2 0 (hk h k)))
      + ∑ x : Fin 128, v (ix2 x (hk h c)) * (k0_pay23 g (ix2 x (hk h k)) * FloatOps.exp2 (b (ix2 0 (hk h k)) - b (ix2 x (hk h k)))) := by
  obtain rfl | rfl : h = 0 ∨ h = 1 := by omega
  · show k0_pay30 S v (k0_pay28 b g) (k0_pay29 b) (ix2 c k) = _
    pointwise [k0_pay30, k0_pay27, k0_pay28, k0_pay29]
    rfl
  · show k0_pay31 S v (k0_pay28 b g) (k0_pay29 b) (ix2 c k) = _
    pointwise [k0_pay31, k0_pay27, k0_pay28, k0_pay29]
    rfl

theorem pay14_at (g : FVec Ideal S128x256 .f32) (r : Fin 128) (k : Fin 256) : k0_pay14 g (ix2 r k) = 1 - g (ix2 r k) := by
  pointwise [k0_pay14]
theorem pay23_at (g : FVec Ideal S128x256 .f32) (r : Fin 128) (k : Fin 256) : k0_pay23 g (ix2 r k) = 1 - g (ix2 r k) := by
  pointwise [k0_pay23]

def iotaN : IVec S16x1x1 32 := iota Kind.tc S16x1x1 32 [0] iota_S16x1x1_d0_w32

def nearF (h : Fin 2) (o : FVec Ideal S128x128 .f32) (q : FVec Ideal S128x256 .bf16) (v : FVec Ideal S128x256 .bf16) (g : FVec Ideal S128x256 .f32) (f : FVec Ideal S128x256 .bf16) : FVec Ideal S128x128 .f32 :=
  if h = 0 then k0_pay186 o (k0_pay180 v) k0_pay182 (k0_pay184 q v f) (k0_pay185 q g f)
  else k0_pay188 o (k0_pay179 v) (k0_pay180 v) (k0_pay181 q g f) k0_pay182 (k0_pay183 q f)
def nearB (h : Fin 2) (o : FVec Ideal S128x128 .f32) (q : FVec Ideal S128x256 .bf16) (v : FVec Ideal S128x256 .bf16) (g : FVec Ideal S128x256 .f32) (f : FVec Ideal S128x256 .bf16) : FVec Ideal S128x128 .f32 :=
  if h = 0 then k0_pay199 o (k0_pay194 v) (k0_pay195 q g f) (k0_pay196 iotaN) (k0_pay198 q v f)
  else k0_pay201 o (k0_pay193 v) (k0_pay194 v) (k0_pay195 q g f) (k0_pay196 iotaN) (k0_pay197 q f)

set_option maxHeartbeats 2000000 in
theorem nearF_at (h : Fin 2) (o : FVec Ideal S128x128 .f32) (q : FVec Ideal S128x256 .bf16) (v : FVec Ideal S128x256 .bf16) (g : FVec Ideal S128x256 .f32) (f : FVec Ideal S128x256 .bf16) (r c : Fin 128) :
    nearF h o q v g f (ix2 r c) = o (ix2 r c) + ((∑ x : Fin 128, q (ix2 r (hk h x)) * f (ix2 r (hk h x))) * v (ix2 r (hk h c))
      + if hc : r.val / 8 % 2 = 1 then (∑ x : Fin 128, q (ix2 r (hk h x)) * f (ix2 ⟨r.val - 8, by omega⟩ (hk h x)) * g (ix2 r (hk h x)))
          * v (ix2 ⟨r.val - 8, by omega⟩ (hk h c)) else 0) := by
  obtain rfl | rfl : h = 0 ∨ h = 1 := by omega
  · show k0_pay186 o (k0_pay180 v) k0_pay182 (k0_pay184 q v f) (k0_pay185 q g f) (ix2 r c) = _
    pointwise [k0_pay186, k0_pay180, k0_pay182, k0_pay184, k0_pay185, k0_pay181, k0_pay183, k0_pay179, k0_pay177, k0_pay178]
    rw [select_eq (P := r.val / 8 % 2 = 1) (by revert r; decide +kernel)]
    by_cases hc : r.val / 8 % 2 = 1
    · have hr : ¬ r.val / 8 < 1 := by omega
      have he : ∀ hh, (⟨(r.val / 8 - 1) * 8 + r.val % 8, hh⟩ : Fin 128) = ⟨r.val - 8, by omega⟩ := fun hh => Fin.ext (by show (r.val / 8 - 1) * 8 + r.val % 8 = r.val - 8; omega)
      simp only [if_pos hc, dif_pos hc, dif_neg hr, he, hk_zero]
    · simp only [if_neg hc, dif_neg hc, hk_zero]
  · show k0_pay188 o (k0_pay179 v) (k0_pay180 v) (k0_pay181 q g f) k0_pay182 (k0_pay183 q f) (ix2 r c) = _
    pointwise [k0_pay188, k0_pay180, k0_pay182, k0_pay184, k0_pay185, k0_pay181, k0_pay183, k0_pay179, k0_pay177, k0_pay178]
    rw [select_eq (P := r.val / 8 % 2 = 1) (by revert r; decide +kernel)]
    by_cases hc : r.val / 8 % 2 = 1
    · have hr : ¬ r.val / 8 < 1 := by omega
      have he : ∀ hh, (⟨(r.val / 8 - 1) * 8 + r.val % 8, hh⟩ : Fin 128) = ⟨r.val - 8, by omega⟩ := fun hh => Fin.ext (by show (r.val / 8 - 1) * 8 + r.val % 8 = r.val - 8; omega)
      simp only [if_pos hc, dif_pos hc, dif_neg hr, he, hk_one]
    · simp only [if_neg hc, dif_neg hc, hk_one]

set_option maxHeartbeats 2000000 in
theorem nearB_at (h : Fin 2) (o : FVec Ideal S128x128 .f32) (q : FVec Ideal S128x256 .bf16) (v : FVec Ideal S128x256 .bf16) (g : FVec Ideal S128x256 .f32) (f : FVec Ideal S128x256 .bf16) (r c : Fin 128) :
    nearB h o q v g f (ix2 r c) = o (ix2 r c) + ((∑ x : Fin 128, q (ix2 r (hk h x)) * f (ix2 r (hk h x))) * v (ix2 r (hk h c))
      + if hc : r.val / 8 % 2 = 0 then (∑ x : Fin 128, q (ix2 r (hk h x)) * f (ix2 ⟨r.val + 8, by omega⟩ (hk h x)) * g (ix2 r (hk h x)))
          * v (ix2 ⟨r.val + 8, by omega⟩ (hk h c)) else 0) := by
  obtain rfl | rfl : h = 0 ∨ h = 1 := by omega
  · show k0_pay199 o (k0_pay194 v) (k0_pay195 q g f) (k0_pay196 iotaN) (k0_pay198 q v f) (ix2 r c) = _
    pointwise [k0_pay199, k0_pay194, k0_pay195, k0_pay196, k0_pay198, k0_pay197, k0_pay193, k0_pay191, k0_pay192, iotaN]
    rw [select_eq (P := r.val / 8 % 2 = 0) (by revert r; decide +kernel)]
    by_cases hc : r.val / 8 % 2 = 0
    · have hr : r.val / 8 < 15 := by omega
      have he : ∀ hh, (⟨(1 + r.val / 8) * 8 + r.val % 8, hh⟩ : Fin 128) = ⟨r.val + 8, by omega⟩ := fun hh => Fin.ext (by show (1 + r.val / 8) * 8 + r.val % 8 = r.val + 8; omega)
      simp only [if_pos hc, dif_pos hc, dif_pos hr, he, hk_zero]
    · simp only [if_neg hc, dif_neg hc, hk_zero]
  · show k0_pay201 o (k0_pay193 v) (k0_pay194 v) (k0_pay195 q g f) (k0_pay196 iotaN) (k0_pay197 q f) (ix2 r c) = _
    pointwise [k0_pay201, k0_pay194, k0_pay195, k0_pay196, k0_pay198, k0_pay197, k0_pay193, k0_pay191, k0_pay192, iotaN]
    rw [select_eq (P := r.val / 8 % 2 = 0) (by revert r; decide +kernel)]
    by_cases hc : r.val / 8 % 2 = 0
    · have hr : r.val / 8 < 15 := by omega
      have he : ∀ hh, (⟨(1 + r.val / 8) * 8 + r.val % 8, hh⟩ : Fin 128) = ⟨r.val + 8, by omega⟩ := fun hh => Fin.ext (by show (1 + r.val / 8) * 8 + r.val % 8 = r.val + 8; omega)
      simp only [if_pos hc, dif_pos hc, dif_pos hr, he, hk_one]
    · simp only [if_neg hc, dif_neg hc, hk_one]

end Cert.Proof.Scan

end
-- ==== Proof.Scan.Step.lean ====
/- One trip of the chunked recurrence over the reals, in each direction and head: what a chunk's queries read of the
carried state and of the chunk itself, and the state it hands on. -/
module

public import proofs.«01_k».proof.Proof.Scan.Level
public import proofs.«01_k».proof.Proof.Scan.Near

@[expose] public section

set_option maxRecDepth 16384

noncomputable section

namespace Cert.Proof.Scan

open Cert.KernelIdeal Cert.KernelIdeal.Gen
open Idealize.ShloMosaic

/-- The logarithms of the decay from the chunk's start (forward) or end (backward) through row `r`. -/
def Lf (F : Fin 128 → Fin 256 → ℝ) (r : Fin 128) (k : Fin 256) : ℝ := ∑ s : Fin 128, if tok s ≤ tok r then Real.log (F s k) else 0
def Lb (F : Fin 128 → Fin 256 → ℝ) (r : Fin 128) (k : Fin 256) : ℝ := ∑ s : Fin 128, if tok r ≤ tok s then Real.log (F s k) else 0

theorem exp2_real {x : EReal} {l : ℝ} (h : x = ((l / Real.log 2 : ℝ) : EReal)) :
    FloatOps.exp2 (F := Ideal) (φ := FTy.f32) x = (Real.exp l : EReal) := by
  rw [exp2_of h, rpow_two]

theorem Lf_mono {F : Fin 128 → Fin 256 → ℝ} (h0 : ∀ r k, 0 < F r k) (h1 : ∀ r k, F r k ≤ 1) (r s : Fin 128) (k : Fin 256)
    (h : tok r ≤ tok s) : Lf F s k ≤ Lf F r k := by
  refine Finset.sum_le_sum fun x _ => ?_
  have := Real.log_nonpos (h0 x k).le (h1 x k)
  split_ifs <;> first | exact le_rfl | exact this | omega

theorem Lb_mono {F : Fin 128 → Fin 256 → ℝ} (h0 : ∀ r k, 0 < F r k) (h1 : ∀ r k, F r k ≤ 1) (r s : Fin 128) (k : Fin 256)
    (h : tok r ≤ tok s) : Lb F r k ≤ Lb F s k := by
  refine Finset.sum_le_sum fun x _ => ?_
  have := Real.log_nonpos (h0 x k).le (h1 x k)
  split_ifs <;> first | exact le_rfl | exact this | omega

theorem prevF : ∀ r s : Fin 128, r.val / 8 % 2 = 1 →
    (tok s ≤ tok r ↔ tok s ≤ (r.val - 8) % 8 * 16 + (r.val - 8) / 8 ∨ s = r) ∧ (s = r → ¬ tok s ≤ (r.val - 8) % 8 * 16 + (r.val - 8) / 8) := by
  decide +kernel
theorem nextB : ∀ r s : Fin 128, r.val / 8 % 2 = 0 →
    (tok r ≤ tok s ↔ (r.val + 8) % 8 * 16 + (r.val + 8) / 8 ≤ tok s ∨ s = r) ∧ (s = r → ¬ (r.val + 8) % 8 * 16 + (r.val + 8) / 8 ≤ tok s) := by
  decide +kernel

theorem exp_prevF {F : Fin 128 → Fin 256 → ℝ} (h0 : ∀ r k, 0 < F r k) (r : Fin 128) (k : Fin 256) (hr : r.val / 8 % 2 = 1) :
    Real.exp (Lf F r k - Lf F ⟨r.val - 8, by omega⟩ k) = F r k := by
  have : Lf F r k = Lf F ⟨r.val - 8, by omega⟩ k + ∑ s : Fin 128, if s = r then Real.log (F s k) else 0 := by
    unfold Lf
    rw [← Finset.sum_add_distrib]
    refine Finset.sum_congr rfl fun s _ => ?_
    obtain ⟨a, b⟩ := prevF r s hr
    show (if tok s ≤ tok r then _ else _) = (if tok s ≤ (r.val - 8) % 8 * 16 + (r.val - 8) / 8 then _ else _) + _
    by_cases hs : s = r
    · rw [if_pos (a.2 (.inr hs)), if_neg (b hs), if_pos hs, zero_add]
    · by_cases hq : tok s ≤ (r.val - 8) % 8 * 16 + (r.val - 8) / 8
      · rw [if_pos (a.2 (.inl hq)), if_pos hq, if_neg hs, add_zero]
      · rw [if_neg (fun h => (a.1 h).elim hq hs), if_neg hq, if_neg hs, add_zero]
  rw [this, Finset.sum_ite_eq' Finset.univ r, if_pos (Finset.mem_univ _), add_sub_cancel_left, Real.exp_log (h0 r k)]

theorem exp_nextB {F : Fin 128 → Fin 256 → ℝ} (h0 : ∀ r k, 0 < F r k) (r : Fin 128) (k : Fin 256) (hr : r.val / 8 % 2 = 0) :
    Real.exp (Lb F r k - Lb F ⟨r.val + 8, by omega⟩ k) = F r k := by
  have : Lb F r k = Lb F ⟨r.val + 8, by omega⟩ k + ∑ s : Fin 128, if s = r then Real.log (F s k) else 0 := by
    unfold Lb
    rw [← Finset.sum_add_distrib]
    refine Finset.sum_congr rfl fun s _ => ?_
    obtain ⟨a, b⟩ := nextB r s hr
    show (if tok r ≤ tok s then _ else _) = (if (r.val + 8) % 8 * 16 + (r.val + 8) / 8 ≤ tok s then _ else _) + _
    by_cases hs : s = r
    · rw [if_pos (a.2 (.inr hs)), if_neg (b hs), if_pos hs, zero_add]
    · by_cases hq : (r.val + 8) % 8 * 16 + (r.val + 8) / 8 ≤ tok s
      · rw [if_pos (a.2 (.inl hq)), if_pos hq, if_neg hs, add_zero]
      · rw [if_neg (fun h => (a.1 h).elim hq hs), if_neg hq, if_neg hs, add_zero]
  rw [this, Finset.sum_ite_eq' Finset.univ r, if_pos (Finset.mem_univ _), add_sub_cancel_left, Real.exp_log (h0 r k)]

theorem splitF : ∀ r s : Fin 128, (tok s ≤ tok r ∧ ¬ 2 ≤ tok r ^^^ tok s ↔ s = r ∨ (r.val / 8 % 2 = 1 ∧ s.val = r.val - 8))
    ∧ (s = r → ¬ (r.val / 8 % 2 = 1 ∧ s.val = r.val - 8)) := by
  decide +kernel
theorem splitB : ∀ r s : Fin 128, (tok r ≤ tok s ∧ ¬ 2 ≤ tok r ^^^ tok s ↔ s = r ∨ (r.val / 8 % 2 = 0 ∧ s.val = r.val + 8))
    ∧ (s = r → ¬ (r.val / 8 % 2 = 0 ∧ s.val = r.val + 8)) := by
  decide +kernel

theorem split_sum {P D N : Fin 128 → Prop} [DecidablePred P] [DecidablePred D] [DecidablePred N] (r : Fin 128) (X : Fin 128 → ℝ)
    (h : ∀ s, (P s ∧ ¬ D s ↔ s = r ∨ N s) ∧ (s = r → ¬ N s)) :
    (∑ s, if P s then X s else 0) = (∑ s, if P s ∧ D s then X s else 0) + (X r + ∑ s, if N s then X s else 0) := by
  rw [show X r = ∑ s, if s = r then X s else 0 by rw [Finset.sum_ite_eq' Finset.univ r, if_pos (Finset.mem_univ _)],
    ← Finset.sum_add_distrib, ← Finset.sum_add_distrib]
  refine Finset.sum_congr rfl fun s _ => ?_
  obtain ⟨a, b⟩ := h s
  by_cases hs : s = r
  · have hN := b hs
    obtain ⟨hP, hD⟩ := a.2 (.inl hs)
    rw [if_pos hP, if_neg (fun hh => hD hh.2), if_pos hs, if_neg hN, zero_add, add_zero]
  · rw [if_neg hs, zero_add]
    by_cases hN : N s
    · obtain ⟨hP, hD⟩ := a.2 (.inr hN)
      rw [if_pos hP, if_neg (fun hh => hD hh.2), if_pos hN, zero_add]
    · rw [if_neg hN, add_zero]
      refine if_congr ⟨fun hP => ⟨hP, ?_⟩, And.left⟩ rfl rfl
      by_contra hD
      exact (a.1 ⟨hP, hD⟩).elim hs hN

theorem near_sum {c : Prop} [Decidable c] (n : ℕ) (X : Fin 128 → ℝ) (hn : c → n < 128) :
    (∑ s : Fin 128, if c ∧ s.val = n then X s else 0) = if hc : c then X ⟨n, hn hc⟩ else 0 := by
  by_cases hc : c
  · rw [dif_pos hc, Finset.sum_eq_single (⟨n, hn hc⟩ : Fin 128)]
    · rw [if_pos ⟨hc, rfl⟩]
    · intro b _ hb; rw [if_neg (fun h => hb (Fin.ext h.2))]
    · intro h; exact absurd (Finset.mem_univ _) h
  · rw [dif_neg hc]
    exact Finset.sum_eq_zero fun s _ => if_neg (fun h => hc h.1)

section
variable {q v : FVec Ideal S128x256 .bf16} {f : FVec Ideal S128x256 .f32} {b : FVec Ideal S128x256 .f32} {S : FVec Ideal S128x128 .f32}
  {Q V F : Fin 128 → Fin 256 → ℝ} {St : Fin 128 → Fin 128 → ℝ} {v43 v87 v88 : IVec S128x128 32} {P : FVec Ideal S128x128 .bf16}
  (h0 : ∀ r k, 0 < F r k) (h1 : ∀ r k, F r k ≤ 1)
  (hq : ∀ r k, q (ix2 r k) = (Q r k : EReal)) (hv : ∀ r k, v (ix2 r k) = (V r k : EReal)) (hf : ∀ r k, f (ix2 r k) = (F r k : EReal))
  (hS : ∀ c k, S (ix2 c k) = (St c k : EReal))
  (h43 : ∀ r s, v43 (ix2 r s) = BitVec.ofNat 32 (tok r)) (h87 : ∀ r s, v87 (ix2 r s) = BitVec.ofNat 32 (tok s))
  (h88 : ∀ r s, v88 (ix2 r s) = BitVec.ofNat 32 (tok r ^^^ tok s))

include hf in
theorem key14 (r : Fin 128) (k : Fin 256) : k0_pay14 f (ix2 r k) = ((1 - F r k : ℝ) : EReal) := by
  rw [pay14_at, hf, EReal.coe_sub]; rfl
include hf in
theorem key23 (r : Fin 128) (k : Fin 256) : k0_pay23 f (ix2 r k) = ((1 - F r k : ℝ) : EReal) := by
  rw [pay23_at, hf, EReal.coe_sub]; rfl

/-- What row `r` of a chunk reads at column `c` of head `h`. -/
def readF (Q V F : Fin 128 → Fin 256 → ℝ) (St : Fin 128 → Fin 128 → ℝ) (h : Fin 2) (r c : Fin 128) : ℝ :=
  (∑ x : Fin 128, Q r (hk h x) * Real.exp (Lf F r (hk h x)) * St c x)
    + ∑ s : Fin 128, if tok s ≤ tok r then decP (Lf F r) (Lf F s) (Q r) (fun k => 1 - F s k) h * V s (hk h c) else 0
def readB (Q V F : Fin 128 → Fin 256 → ℝ) (St : Fin 128 → Fin 128 → ℝ) (h : Fin 2) (r c : Fin 128) : ℝ :=
  (∑ x : Fin 128, Q r (hk h x) * Real.exp (Lb F r (hk h x)) * St c x)
    + ∑ s : Fin 128, if tok r ≤ tok s then decP (Lb F r) (Lb F s) (Q r) (fun k => 1 - F s k) h * V s (hk h c) else 0

/-- The state a chunk hands on. -/
def passF (V F : Fin 128 → Fin 256 → ℝ) (St : Fin 128 → Fin 128 → ℝ) (h : Fin 2) (c k : Fin 128) : ℝ :=
  St c k * Real.exp (Lf F 127 (hk h k))
    + ∑ s : Fin 128, V s (hk h c) * ((1 - F s (hk h k)) * Real.exp (Lf F 127 (hk h k) - Lf F s (hk h k)))
def passB (V F : Fin 128 → Fin 256 → ℝ) (St : Fin 128 → Fin 128 → ℝ) (h : Fin 2) (c k : Fin 128) : ℝ :=
  St c k * Real.exp (Lb F 0 (hk h k))
    + ∑ s : Fin 128, V s (hk h c) * ((1 - F s (hk h k)) * Real.exp (Lb F 0 (hk h k) - Lb F s (hk h k)))

include hv hf hS in
theorem stateF_real (hb : ∀ r k, b (ix2 r k) = ((Lf F r k / Real.log 2 : ℝ) : EReal)) (h : Fin 2) (c k : Fin 128) :
    stateF h S b v f (ix2 c k) = (passF V F St h c k : EReal) := by
  rw [stateF_at, hS, exp2_real (hb _ _), passF, EReal.coe_add, EReal.coe_mul, coe_sum]
  congr 1
  refine Finset.sum_congr rfl fun s _ => ?_
  rw [hv, key14 hf, exp2_real (l := Lf F 127 (hk h k) - Lf F s (hk h k)) (by rw [hb, hb, ← EReal.coe_sub, sub_div]),
    ← EReal.coe_mul, ← EReal.coe_mul]

include hv hf hS in
theorem stateB_real (hb : ∀ r k, b (ix2 r k) = ((Lb F r k / Real.log 2 : ℝ) : EReal)) (h : Fin 2) (c k : Fin 128) :
    stateB h S b v f (ix2 c k) = (passB V F St h c k : EReal) := by
  rw [stateB_at, hS, exp2_real (hb _ _), passB, EReal.coe_add, EReal.coe_mul, coe_sum]
  congr 1
  refine Finset.sum_congr rfl fun s _ => ?_
  rw [hv, key23 hf, exp2_real (l := Lb F 0 (hk h k) - Lb F s (hk h k)) (by rw [hb, hb, ← EReal.coe_sub, sub_div]),
    ← EReal.coe_mul, ← EReal.coe_mul]

theorem decP_self (L Q K : Fin 256 → ℝ) (h : Fin 2) : decP L L Q K h = ∑ x : Fin 128, Q (hk h x) * K (hk h x) := by
  unfold decP
  refine Finset.sum_congr rfl fun x _ => ?_
  rw [sub_self, Real.exp_zero, mul_one]

include h0 h1 hq hv hf hS h43 h87 h88 in
theorem readF_real (hb : ∀ r k, b (ix2 r k) = ((Lf F r k / Real.log 2 : ℝ) : EReal)) (h : Fin 2)
    (hP : ∀ r s, P (ix2 r s) = Scalar.select (IntOp.andi (IntOp.cmpi .sle (v87 (ix2 r s)) (v43 (ix2 r s)))
      (IntOp.cmpi .sge (v88 (ix2 r s)) 2#32)) (chainF v88 b h q (k0_pay14 f) r s) 0) (r c : Fin 128) :
    nearF h (seenF h S b q) q v f (k0_pay14 f) (ix2 r c) + ∑ x : Fin 128, P (ix2 r x) * v (ix2 x (hk h c))
      = (readF Q V F St h r c : EReal) := by
  have e1 : ∀ x : Fin 128, P (ix2 r x) * v (ix2 x (hk h c))
      = ((if tok x ≤ tok r ∧ 2 ≤ tok r ^^^ tok x then decP (Lf F r) (Lf F x) (Q r) (fun k => 1 - F x k) h * V x (hk h c) else 0 : ℝ) : EReal) := by
    intro x
    rw [hP, h43, h87, h88, select_eq ((word_and _ _).trans (and_congr (word_le ⟨_, tok_lt x⟩ ⟨_, tok_lt r⟩) (word_ge2 ⟨_, xor_lt r x⟩))), hv]
    by_cases hx : tok x ≤ tok r ∧ 2 ≤ tok r ^^^ tok x
    · rw [if_pos hx, if_pos hx, chainF_real hb h88 (Lf_mono h0 h1) h q (k0_pay14 f) hq (key14 hf) hx.1 hx.2, EReal.coe_mul]
    · rw [if_neg hx, if_neg hx, zero_mul, EReal.coe_zero]
  have e2 : seenF h S b q (ix2 r c) = ((∑ x : Fin 128, Q r (hk h x) * Real.exp (Lf F r (hk h x)) * St c x : ℝ) : EReal) := by
    rw [seenF_at, coe_sum]
    refine Finset.sum_congr rfl fun x _ => ?_
    rw [hq, exp2_real (hb _ _), hS, ← EReal.coe_mul, ← EReal.coe_mul]
  have e3 : (∑ x : Fin 128, q (ix2 r (hk h x)) * k0_pay14 f (ix2 r (hk h x))) * v (ix2 r (hk h c))
      = ((decP (Lf F r) (Lf F r) (Q r) (fun k => 1 - F r k) h * V r (hk h c) : ℝ) : EReal) := by
    rw [decP_self, hv, EReal.coe_mul, coe_sum]
    congr 1
    refine Finset.sum_congr rfl fun x _ => ?_
    rw [hq, key14 hf, ← EReal.coe_mul]
  have e4 : (if hc : r.val / 8 % 2 = 1 then (∑ x : Fin 128, q (ix2 r (hk h x)) * k0_pay14 f (ix2 ⟨r.val - 8, by omega⟩ (hk h x)) * f (ix2 r (hk h x)))
          * v (ix2 ⟨r.val - 8, by omega⟩ (hk h c)) else 0)
      = ((∑ s : Fin 128, if r.val / 8 % 2 = 1 ∧ s.val = r.val - 8 then decP (Lf F r) (Lf F s) (Q r) (fun k => 1 - F s k) h * V s (hk h c) else 0 : ℝ) : EReal) := by
    rw [near_sum (r.val - 8) _ (fun _ => by omega)]
    by_cases hc : r.val / 8 % 2 = 1
    · rw [dif_pos hc, dif_pos hc, hv, EReal.coe_mul, decP, coe_sum]
      congr 1
      refine Finset.sum_congr rfl fun x _ => ?_
      rw [hq, key14 hf, hf, exp_prevF h0 r _ hc, ← EReal.coe_mul, ← EReal.coe_mul]
    · rw [dif_neg hc, dif_neg hc, EReal.coe_zero]
  rw [nearF_at, e2, e3, e4, Finset.sum_congr rfl fun x _ => e1 x, ← coe_sum, ← EReal.coe_add, ← EReal.coe_add, ← EReal.coe_add, readF,
    split_sum r (fun s => decP (Lf F r) (Lf F s) (Q r) (fun k => 1 - F s k) h * V s (hk h c)) (splitF r)]
  congr 1
  ring

include h0 h1 hq hv hf hS h43 h87 h88 in
theorem readB_real (hb : ∀ r k, b (ix2 r k) = ((Lb F r k / Real.log 2 : ℝ) : EReal)) (h : Fin 2)
    (hP : ∀ r s, P (ix2 r s) = Scalar.select (IntOp.andi (IntOp.cmpi .sge (v87 (ix2 r s)) (v43 (ix2 r s)))
      (IntOp.cmpi .sge (v88 (ix2 r s)) 2#32)) (chainB v88 b h q (k0_pay23 f) r s) 0) (r c : Fin 128) :
    nearB h (seenB h S b q) q v f (k0_pay23 f) (ix2 r c) + ∑ x : Fin 128, P (ix2 r x) * v (ix2 x (hk h c))
      = (readB Q V F St h r c : EReal) := by
  have e1 : ∀ x : Fin 128, P (ix2 r x) * v (ix2 x (hk h c))
      = ((if tok r ≤ tok x ∧ 2 ≤ tok r ^^^ tok x then decP (Lb F r) (Lb F x) (Q r) (fun k => 1 - F x k) h * V x (hk h c) else 0 : ℝ) : EReal) := by
    intro x
    rw [hP, h43, h87, h88, select_eq ((word_and _ _).trans (and_congr (word_ge ⟨_, tok_lt x⟩ ⟨_, tok_lt r⟩) (word_ge2 ⟨_, xor_lt r x⟩))), hv]
    by_cases hx : tok r ≤ tok x ∧ 2 ≤ tok r ^^^ tok x
    · rw [if_pos hx, if_pos hx, chainB_real hb h88 (Lb_mono h0 h1) h q (k0_pay23 f) hq (key23 hf) hx.1 hx.2, EReal.coe_mul]
    · rw [if_neg hx, if_neg hx, zero_mul, EReal.coe_zero]
  have e2 : seenB h S b q (ix2 r c) = ((∑ x : Fin 128, Q r (hk h x) * Real.exp (Lb F r (hk h x)) * St c x : ℝ) : EReal) := by
    rw [seenB_at, coe_sum]
    refine Finset.sum_congr rfl fun x _ => ?_
    rw [hq, exp2_real (hb _ _), hS, ← EReal.coe_mul, ← EReal.coe_mul]
  have e3 : (∑ x : Fin 128, q (ix2 r (hk h x)) * k0_pay23 f (ix2 r (hk h x))) * v (ix2 r (hk h c))
      = ((decP (Lb F r) (Lb F r) (Q r) (fun k => 1 - F r k) h * V r (hk h c) : ℝ) : EReal) := by
    rw [decP_self, hv, EReal.coe_mul, coe_sum]
    congr 1
    refine Finset.sum_congr rfl fun x _ => ?_
    rw [hq, key23 hf, ← EReal.coe_mul]
  have e4 : (if hc : r.val / 8 % 2 = 0 then (∑ x : Fin 128, q (ix2 r (hk h x)) * k0_pay23 f (ix2 ⟨r.val + 8, by omega⟩ (hk h x)) * f (ix2 r (hk h x)))
          * v (ix2 ⟨r.val + 8, by omega⟩ (hk h c)) else 0)
      = ((∑ s : Fin 128, if r.val / 8 % 2 = 0 ∧ s.val = r.val + 8 then decP (Lb F r) (Lb F s) (Q r) (fun k => 1 - F s k) h * V s (hk h c) else 0 : ℝ) : EReal) := by
    rw [near_sum (r.val + 8) _ (fun _ => by omega)]
    by_cases hc : r.val / 8 % 2 = 0
    · rw [dif_pos hc, dif_pos hc, hv, EReal.coe_mul, decP, coe_sum]
      congr 1
      refine Finset.sum_congr rfl fun x _ => ?_
      rw [hq, key23 hf, hf, exp_nextB h0 r _ hc, ← EReal.coe_mul, ← EReal.coe_mul]
    · rw [dif_neg hc, dif_neg hc, EReal.coe_zero]
  rw [nearB_at, e2, e3, e4, Finset.sum_congr rfl fun x _ => e1 x, ← coe_sum, ← EReal.coe_add, ← EReal.coe_add, ← EReal.coe_add, readB,
    split_sum r (fun s => decP (Lb F r) (Lb F s) (Q r) (fun k => 1 - F s k) h * V s (hk h c)) (splitB r)]
  congr 1
  ring

end

end Cert.Proof.Scan

end
-- ==== Proof.Scan.Closed.lean ====
/- The chunked recurrence in closed form: the state is the sum over all rows before the chunk, and what a chunk reads is
the sum over all rows up to its own, each decayed from there. -/
module

public import proofs.«01_k».proof.Proof.Scan.Step

@[expose] public section

noncomputable section

namespace Cert.Proof.Scan

section
variable (L : ℕ → Fin 128 → Fin 256 → ℝ) (last : Fin 128) (Q K V : ℕ → Fin 128 → Fin 256 → ℝ) (h : Fin 2)
  (ord : Fin 128 → Fin 128 → Prop) [∀ s r, Decidable (ord s r)]

/-- The logarithm of the decay of the chunks before chunk `j`. -/
def total (j : ℕ) (k : Fin 256) : ℝ := ∑ i ∈ Finset.range j, L i last k

/-- The logarithm of the decay through row `r` of chunk `j`. -/
def G (j : ℕ) (r : Fin 128) (k : Fin 256) : ℝ := total L last j k + L j r k

/-- The state before chunk `j`. -/
def stR : ℕ → Fin 128 → Fin 128 → ℝ
  | 0 => fun _ _ => 0
  | j + 1 => fun c k => stR j c k * Real.exp (L j last (hk h k))
      + ∑ s : Fin 128, V j s (hk h c) * (K j s (hk h k) * Real.exp (L j last (hk h k) - L j s (hk h k)))

theorem stR_closed (j : ℕ) (c k : Fin 128) : stR L last K V h j c k = ∑ i ∈ Finset.range j, ∑ s : Fin 128,
    V i s (hk h c) * (K i s (hk h k) * Real.exp (total L last j (hk h k) - G L last i s (hk h k))) := by
  induction j with
  | zero => rfl
  | succ j ih =>
    show stR L last K V h j c k * Real.exp (L j last (hk h k)) + _ = _
    rw [ih, Finset.sum_range_succ, Finset.sum_mul]
    have ht : ∀ x, total L last (j + 1) x = total L last j x + L j last x := fun x => Finset.sum_range_succ _ _
    congr 1
    · refine Finset.sum_congr rfl fun i _ => ?_
      rw [Finset.sum_mul]
      refine Finset.sum_congr rfl fun s _ => ?_
      rw [ht, show total L last j (hk h k) + L j last (hk h k) - G L last i s (hk h k)
        = (total L last j (hk h k) - G L last i s (hk h k)) + L j last (hk h k) by ring, Real.exp_add]
      ring
    · refine Finset.sum_congr rfl fun s _ => ?_
      rw [ht, G, show total L last j (hk h k) + L j last (hk h k) - (total L last j (hk h k) + L j s (hk h k))
        = L j last (hk h k) - L j s (hk h k) by ring]

theorem read_closed (j : ℕ) (r c : Fin 128) :
    (∑ x : Fin 128, Q j r (hk h x) * Real.exp (L j r (hk h x)) * stR L last K V h j c x)
      + (∑ s : Fin 128, if ord s r then decP (L j r) (L j s) (Q j r) (K j s) h * V j s (hk h c) else 0)
    = (∑ i ∈ Finset.range j, ∑ s : Fin 128, decP (G L last j r) (G L last i s) (Q j r) (K i s) h * V i s (hk h c))
      + ∑ s : Fin 128, if ord s r then decP (G L last j r) (G L last j s) (Q j r) (K j s) h * V j s (hk h c) else 0 := by
  congr 1
  · rw [Finset.sum_congr rfl fun x _ => by rw [stR_closed, Finset.mul_sum], Finset.sum_comm]
    refine Finset.sum_congr rfl fun i _ => ?_
    rw [Finset.sum_congr rfl fun x _ => Finset.mul_sum _ _ _, Finset.sum_comm]
    refine Finset.sum_congr rfl fun s _ => ?_
    rw [decP, Finset.sum_mul]
    refine Finset.sum_congr rfl fun x _ => ?_
    rw [show G L last j r (hk h x) - G L last i s (hk h x)
      = L j r (hk h x) + (total L last j (hk h x) - G L last i s (hk h x)) by
        rw [show G L last j r (hk h x) = total L last j (hk h x) + L j r (hk h x) from rfl]; ring, Real.exp_add]
    ring
  · refine Finset.sum_congr rfl fun s _ => ?_
    have : decP (G L last j r) (G L last j s) (Q j r) (K j s) h = decP (L j r) (L j s) (Q j r) (K j s) h := by
      unfold decP G
      refine Finset.sum_congr rfl fun x _ => ?_
      rw [add_sub_add_left_eq_sub]
    rw [this]

end

end Cert.Proof.Scan

end
-- ==== Proof.Scan.Decay.lean ====
/- The reads of one chunk's rows out of an input block, and the running logarithms of the decay inside a chunk. -/
module

public import proofs.«01_k».proof.Proof.Scan.Run
public import proofs.«01_k».proof.Proof.Scan.Closed

@[expose] public section

set_option maxRecDepth 16384

noncomputable section

namespace Cert.Proof.Scan

open Cert.KernelIdeal Cert.KernelIdeal.Gen
open Idealize.ShloMosaic

/-- Row `r` of chunk `c`. -/
def chunkRow (c : Fin 18) (r : Fin 128) : Fin 2304 := ⟨128 * c.val + r.val, by omega⟩

section
variable {sig : RefSig} {κ : Kind} {sp : Space} {e : EltTy} {Val : EltTy → Type} (v : View sig κ sp S1x2304x256 e)

theorem chunk_at (f : v.ty.Contents Val) (c : Fin 18) {off : Fin 3 → ℕ}
    (inb : ∀ a, off a + S1x128x256.size a ≤ S1x2304x256.size a) (heq : off = ![0, 128 * c.val, 0]) (r : Fin 128) (k : Fin 256) :
    v.readAt Val (Rect.unit (s := S1x2304x256) off S1x128x256.size inb).toLoadRect f (ix3 0 r k) = v.read Val f (ix3 0 (chunkRow c r) k) := by
  subst heq
  rw [View.readAt_apply]
  refine congrArg _ (funext fun a => Fin.ext ?_)
  match a with
  | ⟨0, _⟩ => rfl
  | ⟨1, _⟩ => show 128 * c.val + 1 * r.val = 128 * c.val + r.val; omega
  | ⟨2, _⟩ => show 0 + 1 * k.val = k.val; omega

theorem half_at (f : v.ty.Contents Val) (c : Fin 18) (h : Fin 2) {off : Fin 3 → ℕ}
    (inb : ∀ a, off a + S1x128x128.size a ≤ S1x2304x256.size a) (heq : off = ![0, 128 * c.val, 128 * h.val]) (r k : Fin 128) :
    v.readAt Val (Rect.unit (s := S1x2304x256) off S1x128x128.size inb).toLoadRect f (ix3 0 r k) = v.read Val f (ix3 0 (chunkRow c r) (hk h k)) := by
  subst heq
  rw [View.readAt_apply]
  refine congrArg _ (funext fun a => Fin.ext ?_)
  match a with
  | ⟨0, _⟩ => rfl
  | ⟨1, _⟩ => show 128 * c.val + 1 * r.val = 128 * c.val + r.val; omega
  | ⟨2, _⟩ => show 128 * h.val + 1 * k.val = (hk h k).val; rw [hk_val]; omega

end

theorem off11 : ∀ k : Fin k0_t1_loop.trips, k0_off11 k = ![0, 128 * (fwdChunk k.val).val, 0] := by decide +kernel
theorem off12 : ∀ k : Fin k0_t1_loop.trips, k0_off12 k = ![0, 128 * (bwdChunk k.val).val, 0] := by decide +kernel
theorem off15 : ∀ k : Fin k0_t1_loop.trips, k.val + 1 < 18 → k0_off15 k = ![0, 128 * (fwdChunk (k.val + 1)).val, 0] := by decide +kernel
theorem off16 : ∀ k : Fin k0_t1_loop.trips, k.val + 1 < 18 → k0_off16 k = ![0, 128 * (bwdChunk (k.val + 1)).val, 0] := by decide +kernel
theorem off3 : k0_off3 = ![0, 128 * (fwdChunk 0).val, 0] := by decide +kernel
theorem off4 : k0_off4 = ![0, 128 * (bwdChunk 0).val, 0] := by decide +kernel
theorem off5 : ∀ c : Fin 18, k0_off5 (BitVec.ofNat 32 c.val) = ![0, 128 * c.val, 128 * (0 : Fin 2).val] := by decide +kernel
theorem off6 : ∀ c : Fin 18, k0_off6 (BitVec.ofNat 32 c.val) = ![0, 128 * c.val, 128 * (1 : Fin 2).val] := by decide +kernel
theorem off8 : ∀ c : Fin 18, k0_off8 (BitVec.ofNat 32 c.val) = ![0, 128 * c.val, 128 * (0 : Fin 2).val] := by decide +kernel
theorem off9 : ∀ c : Fin 18, k0_off9 (BitVec.ofNat 32 c.val) = ![0, 128 * c.val, 128 * (1 : Fin 2).val] := by decide +kernel

theorem two_bits : Ideal.ofBits FTy.f32 1073741824#32 = ((2 : ℝ) : EReal) := by
  simp [Ideal.ofBits, Ideal.ieee]
  rw [← EReal.coe_mul]
  congr 1
  norm_num

theorem log2_real {x : EReal} {y : ℝ} (hx : x = (y : EReal)) (hy : 0 < y) :
    Ideal.div (Ideal.log x) (Ideal.log (Ideal.ofBits FTy.f32 1073741824#32)) = ((Real.log y / Real.log 2 : ℝ) : EReal) := by
  have h2 : (0 : ℝ) < Real.log 2 := Real.log_pos (by norm_num)
  rw [hx, two_bits, Ideal.log_coe, Ideal.log_coe, if_neg (not_le.2 hy), if_neg (by norm_num), Ideal.div, if_neg (by
    rw [← EReal.coe_zero, EReal.coe_eq_coe_iff]; exact h2.ne'), ← EReal.coe_inv, ← EReal.coe_mul, div_eq_mul_inv]

/-- The matrices of ones at the rows before (forward) and after (backward). -/
abbrev onesF : FVec Ideal S128x128 .bf16 := k0_pay218 (F := Ideal) (k0_pay217 k0_pay214)
abbrev onesB : FVec Ideal S128x128 .bf16 := k0_pay219 (F := Ideal) k0_pay214 k0_pay215

theorem onesF_at (r s : Fin 128) : onesF (ix2 r s) = ((if tok s ≤ tok r then 1 else 0 : ℝ) : EReal) := by
  have : onesF (ix2 r s) = Scalar.select (IntOp.cmpi .sle (k0_pay215 (ix2 r s)) (k0_pay214 (ix2 r s))) 1 0 := by
    pointwise [k0_pay218, k0_pay217]
  rw [this, word215, word214, select_eq (word_le ⟨_, tok_lt s⟩ ⟨_, tok_lt r⟩)]
  by_cases h : tok s ≤ tok r
  · rw [if_pos h, if_pos h, EReal.coe_one]
  · rw [if_neg h, if_neg h, EReal.coe_zero]

theorem onesB_at (r s : Fin 128) : onesB (ix2 r s) = ((if tok r ≤ tok s then 1 else 0 : ℝ) : EReal) := by
  have : onesB (ix2 r s) = Scalar.select (IntOp.cmpi .sge (k0_pay215 (ix2 r s)) (k0_pay214 (ix2 r s))) 1 0 := by
    pointwise [k0_pay219]
  rw [this, word215, word214, select_eq (word_ge ⟨_, tok_lt s⟩ ⟨_, tok_lt r⟩)]
  by_cases h : tok r ≤ tok s
  · rw [if_pos h, if_pos h, EReal.coe_one]
  · rw [if_neg h, if_neg h, EReal.coe_zero]

theorem twice (t D : Fin 128 → EReal) {τ δ : Fin 128 → ℝ} (ht : ∀ x, t x = (τ x : EReal)) (hD : ∀ x, D x = (δ x : EReal)) :
    ∑ x, t x * D x + ∑ x, t x * (D x - D x) = ((∑ x, τ x * δ x : ℝ) : EReal) := by
  rw [Finset.sum_eq_zero (s := Finset.univ) (f := fun x => t x * (D x - D x)) (fun x _ => by
    show t x * (D x - D x) = 0
    rw [hD, ← EReal.coe_sub, sub_self, EReal.coe_zero, mul_zero]), add_zero, coe_sum]
  exact Finset.sum_congr rfl fun x _ => by rw [ht, hD, EReal.coe_mul]

theorem runF {t D : Fin 128 → EReal} {F : Fin 128 → Fin 256 → ℝ} {r : Fin 128} {k : Fin 256}
    (ht : ∀ x, t x = ((if tok x ≤ tok r then 1 else 0 : ℝ) : EReal)) (hD : ∀ x, D x = ((Real.log (F x k) / Real.log 2 : ℝ) : EReal)) :
    ∑ x, t x * D x + ∑ x, t x * (D x - D x) = ((Lf F r k / Real.log 2 : ℝ) : EReal) := by
  rw [twice t D ht hD, Lf, Finset.sum_div]
  congr 1
  refine Finset.sum_congr rfl fun x _ => ?_
  by_cases h : tok x ≤ tok r
  · rw [if_pos h, if_pos h, one_mul]
  · rw [if_neg h, if_neg h, zero_mul, zero_div]

theorem runB {t D : Fin 128 → EReal} {F : Fin 128 → Fin 256 → ℝ} {r : Fin 128} {k : Fin 256}
    (ht : ∀ x, t x = ((if tok r ≤ tok x then 1 else 0 : ℝ) : EReal)) (hD : ∀ x, D x = ((Real.log (F x k) / Real.log 2 : ℝ) : EReal)) :
    ∑ x, t x * D x + ∑ x, t x * (D x - D x) = ((Lb F r k / Real.log 2 : ℝ) : EReal) := by
  rw [twice t D ht hD, Lb, Finset.sum_div]
  congr 1
  refine Finset.sum_congr rfl fun x _ => ?_
  by_cases h : tok r ≤ tok x
  · rw [if_pos h, if_pos h, one_mul]
  · rw [if_neg h, if_neg h, zero_mul, zero_div]

section
variable {X : Vec Ideal S1x128x256 .f32} {F : Fin 128 → Fin 256 → ℝ} (hX : ∀ r k, X (ix3 0 r k) = (F r k : EReal)) (h0 : ∀ r k, 0 < F r k)
include hX h0

theorem pay225_real (r : Fin 128) (k : Fin 256) : k0_pay225 onesF (k0_pay224 X) (ix2 r k) = ((Lf F r k / Real.log 2 : ℝ) : EReal) := by
  generalize ht : onesF = t
  pointwise [k0_pay225, k0_pay224]
  subst ht
  exact runF (fun x => onesF_at r x) (fun x => log2_real (hX x k) (h0 x k))

theorem pay208_real (r : Fin 128) (k : Fin 256) : k0_pay208 onesF (k0_pay206 X) k0_pay207 (ix2 r k) = ((Lf F r k / Real.log 2 : ℝ) : EReal) := by
  generalize ht : onesF = t
  pointwise [k0_pay208, k0_pay206, k0_pay207]
  subst ht
  exact runF (fun x => onesF_at r x) (fun x => log2_real (hX x k) (h0 x k))

theorem pay226_real (r : Fin 128) (k : Fin 256) : k0_pay226 onesB X (ix2 r k) = ((Lb F r k / Real.log 2 : ℝ) : EReal) := by
  generalize ht : onesB = t
  pointwise [k0_pay226]
  subst ht
  exact runB (fun x => onesB_at r x) (fun x => log2_real (hX x k) (h0 x k))

theorem pay209_real (r : Fin 128) (k : Fin 256) : k0_pay209 onesB X (ix2 r k) = ((Lb F r k / Real.log 2 : ℝ) : EReal) := by
  generalize ht : onesB = t
  pointwise [k0_pay209]
  subst ht
  exact runB (fun x => onesB_at r x) (fun x => log2_real (hX x k) (h0 x k))

end

theorem pay222_at (r c : Fin 128) : k0_pay222 (F := Ideal) (ix2 r c) = ((0 : ℝ) : EReal) := by
  pointwise [k0_pay222]
  rfl

/-- The two heads' columns side by side. -/
theorem pay204_at (A B : FVec Ideal S128x128 .f32) (h : Fin 2) (r c : Fin 128) :
    k0_pay204 A B (ix2 r (hk h c)) = (if h = 0 then A else B) (ix2 r c) := by
  obtain rfl | rfl : h = 0 ∨ h = 1 := by omega
  · rw [hk_zero]
    pointwise [k0_pay204]
  · rw [hk_one]
    pointwise [k0_pay204]
theorem pay205_at (A B : FVec Ideal S128x128 .f32) (h : Fin 2) (r c : Fin 128) :
    k0_pay205 A B (ix2 r (hk h c)) = (if h = 0 then A else B) (ix2 r c) := by
  obtain rfl | rfl : h = 0 ∨ h = 1 := by omega
  · rw [hk_zero]
    pointwise [k0_pay205]
  · rw [hk_one]
    pointwise [k0_pay205]

theorem pay4_at (p p' : FVec Ideal S128x128 .bf16) (x y : Vec Ideal S1x128x128 .bf16) (w : FVec Ideal S128x256 .f32) (h : Fin 2) (r c : Fin 128) :
    k0_pay4 p p' x y w (ix2 r (hk h c)) = w (ix2 r (hk h c)) + ∑ s : Fin 128, (if h = 0 then p else p') (ix2 r s) * (if h = 0 then x else y) (ix3 0 s c) := by
  have e : ∀ k : Fin 256, k0_pay4 p p' x y w (ix2 r k) = w (ix2 r k) + (if hh : k.val < 128 then ∑ s : Fin 128, p (ix2 r s) * x (ix3 0 s ⟨k.val, hh⟩)
      else ∑ s : Fin 128, p' (ix2 r s) * y (ix3 0 s ⟨k.val - 128, by omega⟩)) := by
    intro k
    pointwise [k0_pay4]
  rw [e]
  obtain rfl | rfl : h = 0 ∨ h = 1 := by omega
  · rw [dif_pos (show (hk 0 c).val < 128 from c.isLt)]; rfl
  · rw [dif_neg (show ¬ (hk 1 c).val < 128 by rw [hk_one]; show ¬ 128 + c.val < 128; omega)]
    simp only [hk_one, Nat.add_sub_cancel_left]
    rfl

theorem pay5_at (p p' : FVec Ideal S128x128 .bf16) (x y : Vec Ideal S1x128x128 .bf16) (w : FVec Ideal S128x256 .f32) (h : Fin 2) (r c : Fin 128) :
    k0_pay5 p p' x y w (ix2 r (hk h c)) = w (ix2 r (hk h c)) + ∑ s : Fin 128, (if h = 0 then p else p') (ix2 r s) * (if h = 0 then x else y) (ix3 0 s c) := by
  have e : ∀ k : Fin 256, k0_pay5 p p' x y w (ix2 r k) = w (ix2 r k) + (if hh : k.val < 128 then ∑ s : Fin 128, p (ix2 r s) * x (ix3 0 s ⟨k.val, hh⟩)
      else ∑ s : Fin 128, p' (ix2 r s) * y (ix3 0 s ⟨k.val - 128, by omega⟩)) := by
    intro k
    pointwise [k0_pay5]
  rw [e]
  obtain rfl | rfl : h = 0 ∨ h = 1 := by omega
  · rw [dif_pos (show (hk 0 c).val < 128 from c.isLt)]; rfl
  · rw [dif_neg (show ¬ (hk 1 c).val < 128 by rw [hk_one]; show ¬ 128 + c.val < 128; omega)]
    simp only [hk_one, Nat.add_sub_cancel_left]
    rfl

end Cert.Proof.Scan

end
-- ==== Proof.Scan.TripReal.lean ====
/- One trip's own words over the reals: from the real values of the chunks it reads and of what it carries, those of the
states it hands on and of the rows it finishes. -/
module

public import proofs.«01_k».proof.Proof.Scan.Decay

@[expose] public section

set_option maxRecDepth 16384

noncomputable section

namespace Cert.Proof.Scan

open Cert.KernelIdeal Cert.KernelIdeal.Gen
open Idealize.ShloMosaic

theorem pay187_at (v88 : IVec S128x128 32) (m : IVec S128x128 1) (pp : Vec Ideal S1x128x128 .f32) (r c : Fin 128) :
    k0_pay187 v88 m pp (ix2 r c) = Scalar.select (IntOp.andi (m (ix2 r c)) (IntOp.cmpi .sge (v88 (ix2 r c)) 2#32)) (pp (ix3 0 r c)) 0 := by
  pointwise [k0_pay187]
theorem pay190_at (v88 : IVec S128x128 32) (m : IVec S128x128 1) (pp : Vec Ideal S1x128x128 .f32) (r c : Fin 128) :
    k0_pay190 (k0_pay189 v88 m) pp (ix2 r c) = Scalar.select (IntOp.andi (m (ix2 r c)) (IntOp.cmpi .sge (v88 (ix2 r c)) 2#32)) (pp (ix3 0 r c)) 0 := by
  pointwise [k0_pay190, k0_pay189]
theorem pay200_at (v88 : IVec S128x128 32) (m : IVec S128x128 1) (pp : Vec Ideal S1x128x128 .f32) (r c : Fin 128) :
    k0_pay200 v88 m pp (ix2 r c) = Scalar.select (IntOp.andi (m (ix2 r c)) (IntOp.cmpi .sge (v88 (ix2 r c)) 2#32)) (pp (ix3 0 r c)) 0 := by
  pointwise [k0_pay200]
theorem pay203_at (v88 : IVec S128x128 32) (m : IVec S128x128 1) (pp : Vec Ideal S1x128x128 .f32) (r c : Fin 128) :
    k0_pay203 (k0_pay202 v88 m) pp (ix2 r c) = Scalar.select (IntOp.andi (m (ix2 r c)) (IntOp.cmpi .sge (v88 (ix2 r c)) 2#32)) (pp (ix3 0 r c)) 0 := by
  pointwise [k0_pay203, k0_pay202]

section

variable {arg2 arg3 : Memref sig .tc .vmem S1x2304x256 .bf16} {arg4 arg5 : Memref sig .tc .vmem S1x2304x256 .f32}
  {X2 : BufTy.Contents (Elt Ideal) arg2.view.ty} {X3 : BufTy.Contents (Elt Ideal) arg3.view.ty}
  {X4 : BufTy.Contents (Elt Ideal) arg4.view.ty} {X5 : BufTy.Contents (Elt Ideal) arg5.view.ty}
  {Qb Vb Fb Bb : Fin 2304 → Fin 256 → ℝ}

/-- The rows of chunk `c` of a block. -/
def cut (B : Fin 2304 → Fin 256 → ℝ) (c : Fin 18) (r : Fin 128) (k : Fin 256) : ℝ := B (chunkRow c r) k

theorem q_fwd (hQ : ∀ R k, arg2.view.read (Elt Ideal) X2 (ix3 0 R k) = (Qb R k : EReal)) (k : Fin k0_t1_loop.trips) (r : Fin 128) (x : Fin 256) :
    trip.sl.v242 arg2 k X2 (ix2 r x) = (cut Qb (fwdChunk k.val) r x : EReal) := by
  pointwise [trip.sl.v242]
  exact (chunk_at arg2.view X2 _ _ (off11 k) r x).trans (hQ _ _)
theorem v_fwd (hV : ∀ R k, arg3.view.read (Elt Ideal) X3 (ix3 0 R k) = (Vb R k : EReal)) (k : Fin k0_t1_loop.trips) (r : Fin 128) (x : Fin 256) :
    trip.sl.v247 arg3 k X3 (ix2 r x) = (cut Vb (fwdChunk k.val) r x : EReal) := by
  pointwise [trip.sl.v247]
  exact (chunk_at arg3.view X3 _ _ (off11 k) r x).trans (hV _ _)
theorem f_fwd (hF : ∀ R k, arg4.view.read (Elt Ideal) X4 (ix3 0 R k) = (Fb R k : EReal)) (k : Fin k0_t1_loop.trips) (r : Fin 128) (x : Fin 256) :
    trip.sl.v252 arg4 k X4 (ix2 r x) = (cut Fb (fwdChunk k.val) r x : EReal) := by
  pointwise [trip.sl.v252]
  exact (chunk_at arg4.view X4 _ _ (off11 k) r x).trans (hF _ _)
theorem q_bwd (hQ : ∀ R k, arg2.view.read (Elt Ideal) X2 (ix3 0 R k) = (Qb R k : EReal)) (k : Fin k0_t1_loop.trips) (r : Fin 128) (x : Fin 256) :
    trip.sl.v258 arg2 k X2 (ix2 r x) = (cut Qb (bwdChunk k.val) r x : EReal) := by
  pointwise [trip.sl.v258]
  exact (chunk_at arg2.view X2 _ _ (off12 k) r x).trans (hQ _ _)
theorem v_bwd (hV : ∀ R k, arg3.view.read (Elt Ideal) X3 (ix3 0 R k) = (Vb R k : EReal)) (k : Fin k0_t1_loop.trips) (r : Fin 128) (x : Fin 256) :
    trip.sl.v263 arg3 k X3 (ix2 r x) = (cut Vb (bwdChunk k.val) r x : EReal) := by
  pointwise [trip.sl.v263]
  exact (chunk_at arg3.view X3 _ _ (off12 k) r x).trans (hV _ _)
theorem f_bwd (hB : ∀ R k, arg5.view.read (Elt Ideal) X5 (ix3 0 R k) = (Bb R k : EReal)) (k : Fin k0_t1_loop.trips) (r : Fin 128) (x : Fin 256) :
    trip.sl.v268 arg5 k X5 (ix2 r x) = (cut Bb (bwdChunk k.val) r x : EReal) := by
  pointwise [trip.sl.v268]
  exact (chunk_at arg5.view X5 _ _ (off12 k) r x).trans (hB _ _)

/-- The decay of the next chunk. -/
theorem decay_fwd (hF : ∀ R k, arg4.view.read (Elt Ideal) X4 (ix3 0 R k) = (Fb R k : EReal)) (h0 : ∀ R k, 0 < Fb R k) (k : Fin k0_t1_loop.trips)
    (hk : k.val + 1 < 18) (r : Fin 128) (x : Fin 256) :
    trip.sl.r_61 arg4 onesF k X4 (ix2 r x) = ((Lf (cut Fb (fwdChunk (k.val + 1))) r x / Real.log 2 : ℝ) : EReal) :=
  pay208_real (fun r x => (chunk_at arg4.view X4 _ _ (off15 k hk) r x).trans (hF _ _)) (fun _ _ => h0 _ _) r x
theorem decay_bwd (hB : ∀ R k, arg5.view.read (Elt Ideal) X5 (ix3 0 R k) = (Bb R k : EReal)) (h0 : ∀ R k, 0 < Bb R k) (k : Fin k0_t1_loop.trips)
    (hk : k.val + 1 < 18) (r : Fin 128) (x : Fin 256) :
    trip.sl.r_62 arg5 onesB k X5 (ix2 r x) = ((Lb (cut Bb (bwdChunk (k.val + 1))) r x / Real.log 2 : ℝ) : EReal) :=
  pay209_real (fun r x => (chunk_at arg5.view X5 _ _ (off16 k hk) r x).trans (hB _ _)) (fun _ _ => h0 _ _) r x

end

section

variable (arg2 arg3 : Memref sig .tc .vmem S1x2304x256 .bf16) (arg4 arg5 : Memref sig .tc .vmem S1x2304x256 .f32)
  (arg11 : Memref sig .tc .vmem S2x2x128x128 .f32) (v43 v87 v88 : IVec S128x128 32) (k : Fin k0_t1_loop.trips)
  (a17 a18 : FVec Ideal S128x256 .f32) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)

theorem pairsF (h : Fin 2) (r s : Fin 128) :
    (if h = 0 then trip.sl.r_46 arg2 arg4 arg5 arg11 v43 v87 v88 k a17 a18 X2 X4 X5 else trip.sl.r_49 arg2 arg4 arg5 arg11 v43 v87 v88 k a17 a18 X2 X4 X5) (ix2 r s)
      = Scalar.select (IntOp.andi (IntOp.cmpi .sle (v87 (ix2 r s)) (v43 (ix2 r s))) (IntOp.cmpi .sge (v88 (ix2 r s)) 2#32))
          (chainF v88 a17 h (trip.sl.v242 arg2 k X2) (trip.sl.r arg4 k X4) r s) 0 := by
  obtain rfl | rfl : h = 0 ∨ h = 1 := by omega
  · rw [if_pos rfl]
    refine (pay187_at v88 _ _ r s).trans (congrArg (fun z => Scalar.select _ z (0 : EReal)) ?_)
    exact (pl_read 0 0 _ _ arg11 squeezes_S1x2x128x128_S2x128x128 _ _ rfl (fun _ => rfl) r s).trans (plane00 arg2 arg4 arg5 arg11 v88 k a17 a18 X2 X4 X5 r s)
  · rw [if_neg (by decide)]
    refine (pay190_at v88 _ _ r s).trans (congrArg (fun z => Scalar.select _ z (0 : EReal)) ?_)
    exact (pl_read 0 1 _ _ arg11 squeezes_S1x2x128x128_S2x128x128 _ _ rfl (fun _ => rfl) r s).trans (plane01 arg2 arg4 arg5 arg11 v88 k a17 a18 X2 X4 X5 r s)

theorem pairsB (h : Fin 2) (r s : Fin 128) :
    (if h = 0 then trip.sl.r_56 arg2 arg4 arg5 arg11 v43 v87 v88 k a17 a18 X2 X4 X5 else trip.sl.r_59 arg2 arg4 arg5 arg11 v43 v87 v88 k a17 a18 X2 X4 X5) (ix2 r s)
      = Scalar.select (IntOp.andi (IntOp.cmpi .sge (v87 (ix2 r s)) (v43 (ix2 r s))) (IntOp.cmpi .sge (v88 (ix2 r s)) 2#32))
          (chainB v88 a18 h (trip.sl.v258 arg2 k X2) (trip.sl.r_5 arg5 k X5) r s) 0 := by
  obtain rfl | rfl : h = 0 ∨ h = 1 := by omega
  · rw [if_pos rfl]
    refine (pay200_at v88 _ _ r s).trans (congrArg (fun z => Scalar.select _ z (0 : EReal)) ?_)
    exact (pl_read 1 0 _ _ arg11 squeezes_S1x2x128x128_S2x128x128 _ _ rfl (fun _ => rfl) r s).trans (plane10 arg2 arg4 arg5 arg11 v88 k a17 a18 X2 X4 X5 r s)
  · rw [if_neg (by decide)]
    refine (pay203_at v88 _ _ r s).trans (congrArg (fun z => Scalar.select _ z (0 : EReal)) ?_)
    exact (pl_read 1 1 _ _ arg11 squeezes_S1x2x128x128_S2x128x128 _ _ rfl (fun _ => rfl) r s).trans (plane11 arg2 arg4 arg5 arg11 v88 k a17 a18 X2 X4 X5 r s)

variable (S0 S1 : FVec Ideal S128x128 .f32)

/-- The words of the two heads, of the states handed on and of the rows before their far pairs. -/
theorem state_words_F (h : Fin 2) : (if h = 0 then trip.sl.r_3 arg3 arg4 k S0 a17 X3 X4 else trip.sl.r_4 arg3 arg4 k S1 a17 X3 X4)
    = stateF h (if h = 0 then S0 else S1) a17 (trip.sl.v247 arg3 k X3) (trip.sl.v252 arg4 k X4) := by
  obtain rfl | rfl : h = 0 ∨ h = 1 := by omega
  · rfl
  · rfl
theorem state_words_B (h : Fin 2) : (if h = 0 then trip.sl.r_9 arg3 arg5 k S0 a18 X3 X5 else trip.sl.r_10 arg3 arg5 k S1 a18 X3 X5)
    = stateB h (if h = 0 then S0 else S1) a18 (trip.sl.v263 arg3 k X3) (trip.sl.v268 arg5 k X5) := by
  obtain rfl | rfl : h = 0 ∨ h = 1 := by omega
  · rfl
  · rfl
theorem row_words_F (h : Fin 2) : (if h = 0 then trip.sl.r_45 arg2 arg3 arg4 k S0 a17 X2 X3 X4 else trip.sl.r_47 arg2 arg3 arg4 k S1 a17 X2 X3 X4)
    = nearF h (seenF h (if h = 0 then S0 else S1) a17 (trip.sl.v242 arg2 k X2)) (trip.sl.v242 arg2 k X2) (trip.sl.v247 arg3 k X3)
        (trip.sl.v252 arg4 k X4) (k0_pay14 (trip.sl.v252 arg4 k X4)) := by
  obtain rfl | rfl : h = 0 ∨ h = 1 := by omega
  · rw [if_pos rfl, if_pos rfl, nearF, seenF, if_pos rfl, if_pos rfl]
    unfold trip.sl.r_45 trip.sl.r_1 trip.sl.r_40 trip.sl.r_43 trip.sl.r_44 trip.sl.r
    rfl
  · rw [if_neg (by decide), if_neg (by decide), nearF, seenF, if_neg (by decide), if_neg (by decide)]
    unfold trip.sl.r_47 trip.sl.r_2 trip.sl.r_39 trip.sl.r_40 trip.sl.r_41 trip.sl.r_42 trip.sl.r
    rfl
theorem row_words_B (h : Fin 2) : (if h = 0 then trip.sl.r_55 arg2 arg3 arg5 k S0 a18 X2 X3 X5 else trip.sl.r_57 arg2 arg3 arg5 k S1 a18 X2 X3 X5)
    = nearB h (seenB h (if h = 0 then S0 else S1) a18 (trip.sl.v258 arg2 k X2)) (trip.sl.v258 arg2 k X2) (trip.sl.v263 arg3 k X3)
        (trip.sl.v268 arg5 k X5) (k0_pay23 (trip.sl.v268 arg5 k X5)) := by
  obtain rfl | rfl : h = 0 ∨ h = 1 := by omega
  · rw [if_pos rfl, if_pos rfl, nearB, seenB, if_pos rfl, if_pos rfl]
    unfold trip.sl.r_55 trip.sl.r_6 trip.sl.r_51 trip.sl.r_52 trip.sl.r_54 trip.sl.r_5 trip.sl.v1076 iotaN
    rfl
  · rw [if_neg (by decide), if_neg (by decide), nearB, seenB, if_neg (by decide), if_neg (by decide)]
    unfold trip.sl.r_57 trip.sl.r_7 trip.sl.r_50 trip.sl.r_51 trip.sl.r_52 trip.sl.r_53 trip.sl.r_5 trip.sl.v1076 iotaN
    rfl

end

end Cert.Proof.Scan

end
-- ==== Proof.Scan.Chain.lean ====
/- What the main loop computes, over the reals: before every trip the states of both heads in both directions, and at
every trip the finished rows of the forward and of the backward chunk. -/
module

public import proofs.«01_k».proof.Proof.Scan.Body
public import proofs.«01_k».proof.Proof.Scan.TripReal

@[expose] public section

set_option maxRecDepth 16384

noncomputable section

namespace Cert.Proof.Scan

open Cert.KernelIdeal Cert.KernelIdeal.Gen
open Idealize.ShloMosaic Idealize.ShloMosaic.TcCoe

section

variable {arg2 arg3 : Memref sig .tc .vmem S1x2304x256 .bf16} {arg4 arg5 : Memref sig .tc .vmem S1x2304x256 .f32}
  (arg11 : Memref sig .tc .vmem S2x2x128x128 .f32)
  {X2 : BufTy.Contents (Elt Ideal) arg2.view.ty} {X3 : BufTy.Contents (Elt Ideal) arg3.view.ty}
  {X4 : BufTy.Contents (Elt Ideal) arg4.view.ty} {X5 : BufTy.Contents (Elt Ideal) arg5.view.ty}
  {Qb Vb Fb Bb : Fin 2304 → Fin 256 → ℝ}
  (hQ : ∀ R k, arg2.view.read (Elt Ideal) X2 (ix3 0 R k) = (Qb R k : EReal))
  (hV : ∀ R k, arg3.view.read (Elt Ideal) X3 (ix3 0 R k) = (Vb R k : EReal))
  (hF : ∀ R k, arg4.view.read (Elt Ideal) X4 (ix3 0 R k) = (Fb R k : EReal))
  (hB : ∀ R k, arg5.view.read (Elt Ideal) X5 (ix3 0 R k) = (Bb R k : EReal))
  (h0 : ∀ R k, 0 < Fb R k) (h1 : ∀ R k, Fb R k ≤ 1) (h0' : ∀ R k, 0 < Bb R k) (h1' : ∀ R k, Bb R k ≤ 1)
  (k : Fin k0_t1_loop.trips) (S0 S1 : FVec Ideal S128x128 .f32) (a17 a18 : FVec Ideal S128x256 .f32) {St : Fin 128 → Fin 128 → ℝ}

include hQ hV hF h0 h1 in
/-- The rows a trip finishes. -/
theorem finF_real (h : Fin 2) (hS : ∀ c x, (if h = 0 then S0 else S1) (ix2 c x) = (St c x : EReal))
    (hb : ∀ r x, a17 (ix2 r x) = ((Lf (cut Fb (fwdChunk k.val)) r x / Real.log 2 : ℝ) : EReal))
    (w : BitVec 32) (hw : k0_chk1 w) (hwc : w = BitVec.ofNat 32 (fwdChunk k.val).val) (r c : Fin 128) :
    fin9W arg3 X3 w hw (trip.sl.r_46 arg2 arg4 arg5 arg11 k0_pay214 k0_pay215 (k0_pay216 k0_pay214) k a17 a18 X2 X4 X5) (trip.sl.r_49 arg2 arg4 arg5 arg11 k0_pay214 k0_pay215 (k0_pay216 k0_pay214) k a17 a18 X2 X4 X5) (k0_pay204 (trip.sl.r_45 arg2 arg3 arg4 k S0 a17 X2 X3 X4) (trip.sl.r_47 arg2 arg3 arg4 k S1 a17 X2 X3 X4)) (ix2 r (hk h c))
      = (readF (cut Qb (fwdChunk k.val)) (cut Vb (fwdChunk k.val)) (cut Fb (fwdChunk k.val)) St h r c : EReal) := by
  subst hwc
  unfold fin9W
  rw [pay4_at, pay204_at, row_words_F,
    ← readF_real (P := if h = 0 then trip.sl.r_46 arg2 arg4 arg5 arg11 k0_pay214 k0_pay215 (k0_pay216 k0_pay214) k a17 a18 X2 X4 X5 else trip.sl.r_49 arg2 arg4 arg5 arg11 k0_pay214 k0_pay215 (k0_pay216 k0_pay214) k a17 a18 X2 X4 X5) (v43 := k0_pay214) (v87 := k0_pay215) (v88 := k0_pay216 k0_pay214) (F := cut Fb (fwdChunk k.val))
      (fun _ _ => h0 _ _) (fun _ _ => h1 _ _) (q_fwd hQ k) (v_fwd hV k) (f_fwd hF k) hS word214 word215 word216 hb h
      (fun r s => pairsF arg2 arg4 arg5 arg11 k0_pay214 k0_pay215 (k0_pay216 k0_pay214) k a17 a18 X2 X4 X5 h r s) r c]
  congr 1
  refine Finset.sum_congr rfl fun s _ => ?_
  congr 1
  rw [v_fwd hV k]
  obtain rfl | rfl : h = 0 ∨ h = 1 := by omega
  · rw [if_pos rfl]; exact (half_at arg3.view X3 _ 0 _ (off5 _) s c).trans (hV _ _)
  · rw [if_neg (by decide)]; exact (half_at arg3.view X3 _ 1 _ (off6 _) s c).trans (hV _ _)

include hQ hV hB h0' h1' in
/-- The rows a trip finishes. -/
theorem finB_real (h : Fin 2) (hS : ∀ c x, (if h = 0 then S0 else S1) (ix2 c x) = (St c x : EReal))
    (hb : ∀ r x, a18 (ix2 r x) = ((Lb (cut Bb (bwdChunk k.val)) r x / Real.log 2 : ℝ) : EReal))
    (w : BitVec 32) (hw : k0_chk2 w) (hwc : w = BitVec.ofNat 32 (bwdChunk k.val).val) (r c : Fin 128) :
    fin10W arg3 X3 w hw (trip.sl.r_56 arg2 arg4 arg5 arg11 k0_pay214 k0_pay215 (k0_pay216 k0_pay214) k a17 a18 X2 X4 X5) (trip.sl.r_59 arg2 arg4 arg5 arg11 k0_pay214 k0_pay215 (k0_pay216 k0_pay214) k a17 a18 X2 X4 X5) (k0_pay205 (trip.sl.r_55 arg2 arg3 arg5 k S0 a18 X2 X3 X5) (trip.sl.r_57 arg2 arg3 arg5 k S1 a18 X2 X3 X5)) (ix2 r (hk h c))
      = (readB (cut Qb (bwdChunk k.val)) (cut Vb (bwdChunk k.val)) (cut Bb (bwdChunk k.val)) St h r c : EReal) := by
  subst hwc
  unfold fin10W
  rw [pay5_at, pay205_at, row_words_B,
    ← readB_real (P := if h = 0 then trip.sl.r_56 arg2 arg4 arg5 arg11 k0_pay214 k0_pay215 (k0_pay216 k0_pay214) k a17 a18 X2 X4 X5 else trip.sl.r_59 arg2 arg4 arg5 arg11 k0_pay214 k0_pay215 (k0_pay216 k0_pay214) k a17 a18 X2 X4 X5) (v43 := k0_pay214) (v87 := k0_pay215) (v88 := k0_pay216 k0_pay214) (F := cut Bb (bwdChunk k.val))
      (fun _ _ => h0' _ _) (fun _ _ => h1' _ _) (q_bwd hQ k) (v_bwd hV k) (f_bwd hB k) hS word214 word215 word216 hb h
      (fun r s => pairsB arg2 arg4 arg5 arg11 k0_pay214 k0_pay215 (k0_pay216 k0_pay214) k a17 a18 X2 X4 X5 h r s) r c]
  congr 1
  refine Finset.sum_congr rfl fun s _ => ?_
  congr 1
  rw [v_bwd hV k]
  obtain rfl | rfl : h = 0 ∨ h = 1 := by omega
  · rw [if_pos rfl]; exact (half_at arg3.view X3 _ 0 _ (off8 _) s c).trans (hV _ _)
  · rw [if_neg (by decide)]; exact (half_at arg3.view X3 _ 1 _ (off9 _) s c).trans (hV _ _)

end

/-- The chunks in the order of each direction. -/
abbrev Lfw (B : Fin 2304 → Fin 256 → ℝ) (j : ℕ) : Fin 128 → Fin 256 → ℝ := Lf (cut B (fwdChunk j))
abbrev Lbw (B : Fin 2304 → Fin 256 → ℝ) (j : ℕ) : Fin 128 → Fin 256 → ℝ := Lb (cut B (bwdChunk j))
abbrev Kfw (B : Fin 2304 → Fin 256 → ℝ) (j : ℕ) (r : Fin 128) (k : Fin 256) : ℝ := 1 - cut B (fwdChunk j) r k
abbrev Kbw (B : Fin 2304 → Fin 256 → ℝ) (j : ℕ) (r : Fin 128) (k : Fin 256) : ℝ := 1 - cut B (bwdChunk j) r k

section

variable (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)
  {X2 : BufTy.Contents (Elt Ideal) arg2.view.ty} {X3 : BufTy.Contents (Elt Ideal) arg3.view.ty}
  {X4 : BufTy.Contents (Elt Ideal) arg4.view.ty} {X5 : BufTy.Contents (Elt Ideal) arg5.view.ty}
  {Qb Vb Fb Bb : Fin 2304 → Fin 256 → ℝ}
  (hQ : ∀ R k, arg2.view.read (Elt Ideal) X2 (ix3 0 R k) = (Qb R k : EReal))
  (hV : ∀ R k, arg3.view.read (Elt Ideal) X3 (ix3 0 R k) = (Vb R k : EReal))
  (hF : ∀ R k, arg4.view.read (Elt Ideal) X4 (ix3 0 R k) = (Fb R k : EReal))
  (hB : ∀ R k, arg5.view.read (Elt Ideal) X5 (ix3 0 R k) = (Bb R k : EReal))
  (h0 : ∀ R k, 0 < Fb R k) (h1 : ∀ R k, Fb R k ≤ 1) (h0' : ∀ R k, 0 < Bb R k) (h1' : ∀ R k, Bb R k ≤ 1)

theorem stepTrip_eq (k : Fin k0_t1_loop.trips) (a : Acc Ideal) :
    stepTrip 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 k a
      = ((trip.sl.r_3 arg3 arg4 k a.1 a.2.2.2.2.1 X3 X4, trip.sl.r_4 arg3 arg4 k a.2.1 a.2.2.2.2.1 X3 X4,
          trip.sl.r_9 arg3 arg5 k a.2.2.1 a.2.2.2.2.2.1 X3 X5, trip.sl.r_10 arg3 arg5 k a.2.2.2.1 a.2.2.2.2.2.1 X3 X5,
          trip.sl.r_61 arg4 onesF k X4, trip.sl.r_62 arg5 onesB k X5, trip.sl.v232 k, trip.sl.v237 k,
          trip.sl.r_46 arg2 arg4 arg5 arg11 k0_pay214 k0_pay215 (k0_pay216 k0_pay214) k a.2.2.2.2.1 a.2.2.2.2.2.1 X2 X4 X5, trip.sl.r_49 arg2 arg4 arg5 arg11 k0_pay214 k0_pay215 (k0_pay216 k0_pay214) k a.2.2.2.2.1 a.2.2.2.2.2.1 X2 X4 X5, trip.sl.r_56 arg2 arg4 arg5 arg11 k0_pay214 k0_pay215 (k0_pay216 k0_pay214) k a.2.2.2.2.1 a.2.2.2.2.2.1 X2 X4 X5, trip.sl.r_59 arg2 arg4 arg5 arg11 k0_pay214 k0_pay215 (k0_pay216 k0_pay214) k a.2.2.2.2.1 a.2.2.2.2.2.1 X2 X4 X5),
        k0_pay204 (trip.sl.r_45 arg2 arg3 arg4 k a.1 a.2.2.2.2.1 X2 X3 X4) (trip.sl.r_47 arg2 arg3 arg4 k a.2.1 a.2.2.2.2.1 X2 X3 X4),
        k0_pay205 (trip.sl.r_55 arg2 arg3 arg5 k a.2.2.1 a.2.2.2.2.2.1 X2 X3 X5) (trip.sl.r_57 arg2 arg3 arg5 k a.2.2.2.1 a.2.2.2.2.2.1 X2 X3 X5)) := by
  unfold stepTrip trip
  rfl

include hV hF hB h0 h0' in
theorem carried (j : ℕ) (hj : j ≤ 18) :
    (∀ (h : Fin 2) (c' x : Fin 128), (if h = 0 then (st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j).1.1 else (st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j).1.2.1) (ix2 c' x)
      = (stR (Lfw Fb) 127 (Kfw Fb) (fun i => cut Vb (fwdChunk i)) h j c' x : EReal))
    ∧ (∀ (h : Fin 2) (c' x : Fin 128), (if h = 0 then (st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j).1.2.2.1 else (st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j).1.2.2.2.1) (ix2 c' x)
      = (stR (Lbw Bb) 0 (Kbw Bb) (fun i => cut Vb (bwdChunk i)) h j c' x : EReal))
    ∧ (j < 18 → ∀ r x, (st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j).1.2.2.2.2.1 (ix2 r x) = ((Lfw Fb j r x / Real.log 2 : ℝ) : EReal))
    ∧ (j < 18 → ∀ r x, (st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j).1.2.2.2.2.2.1 (ix2 r x) = ((Lbw Bb j r x / Real.log 2 : ℝ) : EReal)) := by
  induction j with
  | zero =>
    refine ⟨fun h c' x => ?_, fun h c' x => ?_, fun _ r x => ?_, fun _ r x => ?_⟩
    · rw [st, ite_self]; exact pay222_at c' x
    · rw [st, ite_self]; exact pay222_at c' x
    · rw [st]
      exact pay225_real (fun r x => (chunk_at arg4.view X4 _ _ off3 r x).trans (hF _ _)) (fun _ _ => h0 _ _) r x
    · rw [st]
      exact pay226_real (fun r x => (chunk_at arg5.view X5 _ _ off4 r x).trans (hB _ _)) (fun _ _ => h0' _ _) r x
  | succ j ih =>
    obtain ⟨i1, i2, i3, i4⟩ := ih (by omega)
    have hjt : j < k0_t1_loop.trips := by rw [show k0_t1_loop.trips = 18 by decide]; omega
    have e := st_succ 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) ⟨j, hjt⟩
    rw [stepTrip_eq] at e
    change st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) (j + 1) = _ at e
    rw [e]
    refine ⟨fun h c' x => ?_, fun h c' x => ?_, fun hj r x => ?_, fun hj r x => ?_⟩
    · dsimp only
      rw [state_words_F]
      exact stateF_real (v_fwd hV ⟨j, hjt⟩) (f_fwd hF ⟨j, hjt⟩) (i1 h) (i3 (by omega)) h c' x
    · dsimp only
      rw [state_words_B]
      exact stateB_real (v_bwd hV ⟨j, hjt⟩) (f_bwd hB ⟨j, hjt⟩) (i2 h) (i4 (by omega)) h c' x
    · exact decay_fwd hF h0 ⟨j, hjt⟩ hj r x
    · exact decay_bwd hB h0' ⟨j, hjt⟩ hj r x

include hQ hV hF hB h0 h1 h0' h1' in
theorem rowsF (j : ℕ) (hj : j < 18) (h : Fin 2) (r c' : Fin 128) :
    fin9 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j (ix2 r (hk h c'))
      = (readF (cut Qb (fwdChunk j)) (cut Vb (fwdChunk j)) (cut Fb (fwdChunk j))
          (stR (Lfw Fb) 127 (Kfw Fb) (fun i => cut Vb (fwdChunk i)) h j) h r c' : EReal) := by
  obtain ⟨i1, i2, i3, i4⟩ := carried 𝒱 c bd i arg2 harg2 arg3 harg3 arg4 harg4 arg5 harg5 arg6 harg6 arg7 harg7 arg8 harg8 arg9 harg9 arg10 harg10 arg11 harg11 (X2 := X2) hV hF hB h0 h0' j hj.le
  have hjt : j < k0_t1_loop.trips := by rw [show k0_t1_loop.trips = 18 by decide]; omega
  have e := st_succ 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) ⟨j, hjt⟩
  rw [stepTrip_eq] at e
  change st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) (j + 1) = _ at e
  unfold fin9
  rw [e]
  exact finF_real arg11 hQ hV hF h0 h1 ⟨j, hjt⟩ _ _ _ _ h (i1 h) (i3 hj) _ _ rfl r c'

include hQ hV hF hB h0 h1 h0' h1' in
theorem rowsB (j : ℕ) (hj : j < 18) (h : Fin 2) (r c' : Fin 128) :
    fin10 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) j (ix2 r (hk h c'))
      = (readB (cut Qb (bwdChunk j)) (cut Vb (bwdChunk j)) (cut Bb (bwdChunk j))
          (stR (Lbw Bb) 0 (Kbw Bb) (fun i => cut Vb (bwdChunk i)) h j) h r c' : EReal) := by
  obtain ⟨i1, i2, i3, i4⟩ := carried 𝒱 c bd i arg2 harg2 arg3 harg3 arg4 harg4 arg5 harg5 arg6 harg6 arg7 harg7 arg8 harg8 arg9 harg9 arg10 harg10 arg11 harg11 (X2 := X2) hV hF hB h0 h0' j hj.le
  have hjt : j < k0_t1_loop.trips := by rw [show k0_t1_loop.trips = 18 by decide]; omega
  have e := st_succ 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) ⟨j, hjt⟩
  rw [stepTrip_eq] at e
  change st 𝒱 c bd i arg2 harg2 arg3 harg3 arg4 harg4 arg5 harg5 arg6 harg6 arg7 harg7 arg8 harg8 arg9 harg9 arg10 harg10 arg11 harg11 k0_pay214 k0_pay215 (k0_pay216 k0_pay214) onesF onesB w99 w104 (k0_pay222 (F := Ideal)) (k0_pay223 (F := Ideal)) (first4 arg4 X4) X2 X3 X4 X5 (start arg4 arg5 X4 X5) (j + 1) = _ at e
  unfold fin10
  rw [e]
  exact finB_real arg11 hQ hV hB h0' h1' ⟨j, hjt⟩ _ _ _ _ h (i2 h) (i4 hj) _ _ rfl r c'

end

end Cert.Proof.Scan

end
-- ==== Proof.Scan.Rows.lean ====
/- The recurrence over all rows of one head pair's block, in closed form: every row reads the sum over the rows before it
and itself, in the order of the direction, each decayed by the gates between. -/
module

public import proofs.«01_k».proof.Proof.Scan.Chain
public import proofs.«01_k».proof.Proof.Scan.Closed

@[expose] public section

set_option maxRecDepth 16384

noncomputable section

namespace Cert.Proof.Scan

/-- The place in the order of the tokens, forward, of the row `R`. -/
def posF (R : Fin 2304) : ℕ := R.val / 128 * 128 + R.val % 8 * 16 + R.val % 128 / 8
/-- The place in the backward order: the context from its last token, then the latents from theirs. -/
def posB (R : Fin 2304) : ℕ := if posF R < 256 then 255 - posF R else 2559 - posF R

/-- The logarithm of the decay through row `R`. -/
def bR (pos : Fin 2304 → ℕ) (F : Fin 2304 → Fin 256 → ℝ) (R : Fin 2304) (k : Fin 256) : ℝ :=
  ∑ S : Fin 2304, if pos S ≤ pos R then Real.log (F S k) else 0

/-- What row `R` reads. -/
def outR (pos : Fin 2304 → ℕ) (Q V F : Fin 2304 → Fin 256 → ℝ) (h : Fin 2) (R : Fin 2304) (c : Fin 128) : ℝ :=
  ∑ S : Fin 2304, if pos S ≤ pos R then
    decP (bR pos F R) (bR pos F S) (Q R) (fun k => 1 - F S k) h * V S (hk h c) else 0

section
variable (pos : Fin 2304 → ℕ) (cid : ℕ → Fin 18) (ord : Fin 128 → Fin 128 → Prop) [∀ s r, Decidable (ord s r)]
  (surj : ∀ c : Fin 18, ∃ j < 18, cid j = c) (inj : ∀ i < 18, ∀ j < 18, cid i = cid j → i = j)
  (hpos : ∀ i < 18, ∀ j < 18, ∀ s r, pos (chunkRow (cid i) s) ≤ pos (chunkRow (cid j) r) ↔ i < j ∨ (i = j ∧ ord s r))

include surj inj in
theorem sum_rows (f : Fin 2304 → ℝ) :
    ∑ R : Fin 2304, f R = ∑ i ∈ Finset.range 18, ∑ s : Fin 128, f (chunkRow (cid i) s) := by
  rw [Finset.sum_range, ← Finset.sum_product', Finset.univ_product_univ]
  symm
  refine Fintype.sum_bijective (fun p : Fin 18 × Fin 128 => chunkRow (cid p.1.val) p.2) ⟨?_, ?_⟩ _ _ fun _ => rfl
  · rintro ⟨i, s⟩ ⟨j, r⟩ e
    have e' : 128 * (cid i.val).val + s.val = 128 * (cid j.val).val + r.val := congrArg Fin.val e
    have h1 : cid i.val = cid j.val := Fin.ext (by omega)
    have h2 : s = r := Fin.ext (by omega)
    rw [h2, Fin.ext (inj _ i.2 _ j.2 h1)]
  · intro R
    obtain ⟨j, hj, e⟩ := surj ⟨R.val / 128, by omega⟩
    refine ⟨(⟨j, hj⟩, ⟨R.val % 128, by omega⟩), Fin.ext ?_⟩
    show 128 * (cid j).val + R.val % 128 = R.val
    rw [e]
    show 128 * (R.val / 128) + R.val % 128 = R.val
    omega

include surj inj hpos in
theorem sum_before (j : ℕ) (hj : j < 18) (r : Fin 128) (f : Fin 2304 → ℝ) :
    (∑ R : Fin 2304, if pos R ≤ pos (chunkRow (cid j) r) then f R else 0)
      = (∑ i ∈ Finset.range j, ∑ s : Fin 128, f (chunkRow (cid i) s))
        + ∑ s : Fin 128, if ord s r then f (chunkRow (cid j) s) else 0 := by
  rw [sum_rows cid surj inj, ← Finset.sum_subset (Finset.range_subset_range.2 (show j + 1 ≤ 18 by omega)), Finset.sum_range_succ]
  · congr 1
    · refine Finset.sum_congr rfl fun i hi => Finset.sum_congr rfl fun s _ => ?_
      have := Finset.mem_range.1 hi
      rw [if_pos ((hpos i (by omega) j hj s r).2 (.inl this))]
    · refine Finset.sum_congr rfl fun s _ => ?_
      refine if_congr ((hpos j hj j hj s r).trans ?_) rfl rfl
      exact ⟨fun h => h.elim (fun h => absurd h (lt_irrefl _)) (·.2), fun h => .inr ⟨rfl, h⟩⟩
  · intro i hi hn
    have h1 := Finset.mem_range.1 hi
    have h2 : ¬ i < j + 1 := fun h => hn (Finset.mem_range.2 h)
    refine Finset.sum_eq_zero fun s _ => if_neg fun h => ?_
    rcases (hpos i h1 j hj s r).1 h with h | h <;> omega

variable (L : (Fin 128 → Fin 256 → ℝ) → Fin 128 → Fin 256 → ℝ) (last : Fin 128)
  (hL : ∀ F r k, L F r k = ∑ s : Fin 128, if ord s r then Real.log (F s k) else 0) (hlast : ∀ s, ord s last)

include surj inj hpos hL hlast in
theorem G_rows (F : Fin 2304 → Fin 256 → ℝ) (j : ℕ) (hj : j < 18) (r : Fin 128) (k : Fin 256) :
    G (fun i => L (cut F (cid i))) last j r k = bR pos F (chunkRow (cid j) r) k := by
  rw [bR, sum_before pos cid ord surj inj hpos j hj r, G, total, hL]
  congr 1
  refine Finset.sum_congr rfl fun i _ => ?_
  rw [hL]
  exact Finset.sum_congr rfl fun s _ => if_pos (hlast s)

include surj inj hpos hL hlast in
theorem out_rows (Q V F : Fin 2304 → Fin 256 → ℝ) (h : Fin 2) (j : ℕ) (hj : j < 18) (r c : Fin 128) :
    (∑ x : Fin 128, cut Q (cid j) r (hk h x) * Real.exp (L (cut F (cid j)) r (hk h x))
        * stR (fun i => L (cut F (cid i))) last (fun i r k => 1 - cut F (cid i) r k) (fun i => cut V (cid i)) h j c x)
      + (∑ s : Fin 128, if ord s r then decP (L (cut F (cid j)) r) (L (cut F (cid j)) s) (cut Q (cid j) r)
          (fun k => 1 - cut F (cid j) s k) h * cut V (cid j) s (hk h c) else 0)
    = outR pos Q V F h (chunkRow (cid j) r) c := by
  refine (read_closed (fun i => L (cut F (cid i))) last (fun i => cut Q (cid i)) (fun i r k => 1 - cut F (cid i) r k)
    (fun i => cut V (cid i)) h ord j r c).trans ?_
  rw [outR, sum_before pos cid ord surj inj hpos j hj r]
  have hg : ∀ i, i < 18 → ∀ s, G (fun i => L (cut F (cid i))) last i s = bR pos F (chunkRow (cid i) s) :=
    fun i hi s => funext fun k => G_rows pos cid ord surj inj hpos L last hL hlast F i hi s k
  congr 1
  · refine Finset.sum_congr rfl fun i hi => Finset.sum_congr rfl fun s _ => ?_
    have := Finset.mem_range.1 hi
    rw [hg j hj, hg i (by omega)]
    rfl
  · refine Finset.sum_congr rfl fun s _ => ?_
    rw [hg j hj, hg j hj]
    rfl

end

theorem tok_inj_lt (r : Fin 128) : tok r < 128 := by unfold tok; omega

theorem posF_row (c : Fin 18) (r : Fin 128) : posF (chunkRow c r) = 128 * c.val + tok r := by
  unfold posF chunkRow tok
  dsimp only
  omega

theorem posF_chunk : ∀ i < 18, ∀ j < 18, ∀ s r, posF (chunkRow (fwdChunk i) s) ≤ posF (chunkRow (fwdChunk j) r)
    ↔ i < j ∨ (i = j ∧ tok s ≤ tok r) := by
  intro i hi j hj s r
  rw [posF_row, posF_row]
  have := tok_inj_lt s
  have := tok_inj_lt r
  show 128 * (i % 18) + tok s ≤ 128 * (j % 18) + tok r ↔ _
  rw [Nat.mod_eq_of_lt hi, Nat.mod_eq_of_lt hj]
  omega

theorem posB_row (j : ℕ) (hj : j < 18) (r : Fin 128) : posB (chunkRow (bwdChunk j) r) = 128 * j + (127 - tok r) := by
  unfold posB
  rw [posF_row]
  have := tok_inj_lt r
  show (if 128 * ((if j < 2 then 1 - j else 19 - j) % 18) + tok r < 256 then 255 - (128 * ((if j < 2 then 1 - j else 19 - j) % 18) + tok r) else 2559 - (128 * ((if j < 2 then 1 - j else 19 - j) % 18) + tok r)) = _
  by_cases h : j < 2
  · rw [if_pos h, Nat.mod_eq_of_lt (by omega), if_pos (by omega)]
    omega
  · rw [if_neg h, Nat.mod_eq_of_lt (by omega), if_neg (by omega)]
    omega

theorem posB_chunk : ∀ i < 18, ∀ j < 18, ∀ s r, posB (chunkRow (bwdChunk i) s) ≤ posB (chunkRow (bwdChunk j) r)
    ↔ i < j ∨ (i = j ∧ tok r ≤ tok s) := by
  intro i hi j hj s r
  rw [posB_row i hi, posB_row j hj]
  have := tok_inj_lt s
  have := tok_inj_lt r
  omega

theorem tok_le_last : ∀ s : Fin 128, tok s ≤ tok 127 := by decide +kernel
theorem tok_first_le : ∀ s : Fin 128, tok 0 ≤ tok s := by decide +kernel

theorem readF_rows (Q V F : Fin 2304 → Fin 256 → ℝ) (h : Fin 2) (j : ℕ) (hj : j < 18) (r c : Fin 128) :
    readF (cut Q (fwdChunk j)) (cut V (fwdChunk j)) (cut F (fwdChunk j))
      (stR (Lfw F) 127 (Kfw F) (fun i => cut V (fwdChunk i)) h j) h r c = outR posF Q V F h (chunkRow (fwdChunk j) r) c :=
  out_rows posF fwdChunk (fun s r => tok s ≤ tok r) fwdChunk_surj fwdChunk_inj posF_chunk Lf 127 (fun _ _ _ => rfl)
    tok_le_last Q V F h j hj r c

theorem readB_rows (Q V F : Fin 2304 → Fin 256 → ℝ) (h : Fin 2) (j : ℕ) (hj : j < 18) (r c : Fin 128) :
    readB (cut Q (bwdChunk j)) (cut V (bwdChunk j)) (cut F (bwdChunk j))
      (stR (Lbw F) 0 (Kbw F) (fun i => cut V (bwdChunk i)) h j) h r c = outR posB Q V F h (chunkRow (bwdChunk j) r) c :=
  out_rows posB bwdChunk (fun s r => tok r ≤ tok s) bwdChunk_surj bwdChunk_inj posB_chunk Lb 0 (fun _ _ _ => rfl)
    tok_first_le Q V F h j hj r c

end Cert.Proof.Scan

end
-- ==== Proof.Scan.Readout.lean ====
/- The readout: the two directions' sum, normalized over its head, times the gain and the output gate. -/
module

public import proofs.«01_k».proof.Proof.Scan.Rows
public import proofs.«01_k».proof.Proof.Scan.Exps

@[expose] public section

set_option maxRecDepth 16384

noncomputable section

namespace Cert.Proof.Scan

open Cert.KernelIdeal Cert.KernelIdeal.Gen
open Idealize.ShloMosaic Idealize.ShloMosaic.TcCoe

/-- The readout of one row of one head at column `c`. -/
def readout (o : Fin 128 → EReal) (g s : EReal) (c : Fin 128) : EReal :=
  o c * Ideal.rsqrt (Ideal.div (∑ x, o x * o x) (Ideal.ofBits FTy.f32 0x43000000#32) + Ideal.ofBits FTy.f32 0x358637BD#32) * g * s

theorem pay210_at (A B : Vec Ideal S128x128 .f32) (g : Vec Ideal S1x128 .f32) (s : Vec Ideal S1x128x128 .bf16) (r c : Fin 128) :
    k0_pay210 (F := Ideal) A B g s (ix3 0 r c)
      = readout (fun x => A (ix2 r x) + B (ix2 r x)) (g (ix2 0 c)) (s (ix3 0 r c)) c := by
  unfold k0_pay210 readout
  pointwise

theorem pay3_at (A B : Vec Ideal S128x128 .f32) (g : Vec Ideal S1x128 .f32) (s : Vec Ideal S1x128x128 .bf16) (r c : Fin 128) :
    k0_pay3 (F := Ideal) (k0_pay211 A B) (k0_pay212 A B) k0_pay213 g s (ix3 0 r c)
      = readout (fun x => A (ix2 r x) + B (ix2 r x)) (g (ix2 0 c)) (s (ix3 0 r c)) c := by
  unfold k0_pay3 k0_pay211 k0_pay212 k0_pay213 k0_pay211 readout
  pointwise

theorem off23 : ∀ k : Fin k0_t2_loop.trips, k0_off23 k = ![128 * k.val, 128 * (0 : Fin 2).val] := by decide +kernel
theorem off25 : ∀ k : Fin k0_t2_loop.trips, k0_off25 k = ![128 * k.val, 128 * (1 : Fin 2).val] := by decide +kernel
theorem off24 : ∀ k : Fin 18, k0_off24 (tripOf k.val) = ![0, 128 * k.val, 128 * (0 : Fin 2).val] := by decide +kernel
theorem off26 : ∀ k : Fin 18, k0_off26 (tripOf k.val) = ![0, 128 * k.val, 128 * (1 : Fin 2).val] := by decide +kernel
theorem off23t : ∀ k : Fin 18, k0_off23 (tripOf k.val) = ![128 * k.val, 128 * (0 : Fin 2).val] := by decide +kernel
theorem off25t : ∀ k : Fin 18, k0_off25 (tripOf k.val) = ![128 * k.val, 128 * (1 : Fin 2).val] := by decide +kernel

section
variable {sig : RefSig} {κ : Kind} {sp : Space} {e : EltTy} {Val : EltTy → Type}

theorem scratch_at (v : View sig κ sp S2304x256 e) (f : v.ty.Contents Val) (c : Fin 18) (h : Fin 2) {off : Fin 2 → ℕ}
    (inb : ∀ a, off a + S128x128.size a ≤ S2304x256.size a) (heq : off = ![128 * c.val, 128 * h.val]) (r k : Fin 128) :
    v.readAt Val (Rect.unit (s := S2304x256) off S128x128.size inb).toLoadRect f (ix2 r k) = v.read Val f (ix2 (chunkRow c r) (hk h k)) := by
  subst heq
  rw [View.readAt_apply]
  refine congrArg _ (funext fun a => Fin.ext ?_)
  match a with
  | ⟨0, _⟩ => show 128 * c.val + 1 * r.val = 128 * c.val + r.val; omega
  | ⟨1, _⟩ => show 128 * h.val + 1 * k.val = (hk h k).val; rw [hk_val]; omega

theorem gain_at (v : View sig κ sp S1x128 e) (f : v.ty.Contents Val)
    (inb : ∀ a, (![0, 0] : Fin 2 → ℕ) a + S1x128.size a ≤ S1x128.size a) (k : Fin 128) :
    v.readAt Val (Rect.unit (s := S1x128) ![0, 0] S1x128.size inb).toLoadRect f (ix2 0 k) = v.read Val f (ix2 0 k) := by
  rw [View.readAt_apply]
  refine congrArg _ (funext fun a => Fin.ext ?_)
  match a with
  | ⟨0, _⟩ => rfl
  | ⟨1, _⟩ => show 0 + 1 * k.val = k.val; omega

end

section
variable (𝒱 : Variants) (c : Dev nD) (bd : Option 𝒱.V) (i : grid0.Coords) (arg2 : Memref sig .tc .vmem S1x2304x256 .bf16) (harg2 : arg2.IsWhole) (arg3 : Memref sig .tc .vmem S1x2304x256 .bf16) (harg3 : arg3.IsWhole) (arg4 : Memref sig .tc .vmem S1x2304x256 .f32) (harg4 : arg4.IsWhole) (arg5 : Memref sig .tc .vmem S1x2304x256 .f32) (harg5 : arg5.IsWhole) (arg6 : Memref sig .tc .vmem S1x2304x256 .bf16) (harg6 : arg6.IsWhole) (arg7 : Memref sig .tc .vmem S1x128 .f32) (harg7 : arg7.IsWhole) (arg8 : Memref sig .tc .vmem S1x2304x256 .bf16) (harg8 : arg8.IsWhole) (arg9 : Memref sig .tc .vmem S2304x256 .f32) (harg9 : arg9.IsWhole) (arg10 : Memref sig .tc .vmem S2304x256 .f32) (harg10 : arg10.IsWhole) (arg11 : Memref sig .tc .vmem S2x2x128x128 .f32) (harg11 : arg11.IsWhole)

/-- The readout of one chunk and head, from what the two scratches read. -/
theorem outT_at (X6 : BufTy.Contents (Elt Ideal) arg6.view.ty) (X7 : BufTy.Contents (Elt Ideal) arg7.view.ty)
    (X9 : BufTy.Contents (Elt Ideal) arg9.view.ty) (X10 : BufTy.Contents (Elt Ideal) arg10.view.ty) (j : Fin 18) (h : Fin 2) (r c' : Fin 128) :
    outT 𝒱 c bd i arg2 harg2 arg3 harg3 arg4 harg4 arg5 harg5 arg6 harg6 arg7 harg7 arg8 harg8 arg9 harg9 arg10 harg10 arg11 harg11 X6 X7 X9 X10 j.val h (ix3 0 r c')
      = readout (fun x => arg9.view.read (Elt Ideal) X9 (ix2 (chunkRow j r) (hk h x)) + arg10.view.read (Elt Ideal) X10 (ix2 (chunkRow j r) (hk h x)))
          (arg7.view.read (Elt Ideal) X7 (ix2 0 c')) (arg6.view.read (Elt Ideal) X6 (ix3 0 (chunkRow j r) (hk h c'))) c' := by
  unfold outT tripB tripB.sl.r tripB.sl.r_1
  obtain rfl | rfl : h = 0 ∨ h = 1 := by omega
  · rw [if_pos rfl]
    refine (pay210_at _ _ _ _ r c').trans ?_
    congr 1
    · funext x
      exact congrArg₂ (· + ·) (scratch_at arg9.view X9 j 0 _ (off23t j) r x) (scratch_at arg10.view X10 j 0 _ (off23t j) r x)
    · exact gain_at arg7.view X7 _ c'
    · exact half_at arg6.view X6 j 0 _ (off24 j) r c'
  · rw [if_neg (by decide)]
    refine (pay3_at _ _ _ _ r c').trans ?_
    congr 1
    · funext x
      exact congrArg₂ (· + ·) (scratch_at arg9.view X9 j 1 _ (off25t j) r x) (scratch_at arg10.view X10 j 1 _ (off25t j) r x)
    · exact gain_at arg7.view X7 _ c'
    · exact half_at arg6.view X6 j 1 _ (off26 j) r c'

variable {X2 : BufTy.Contents (Elt Ideal) arg2.view.ty} {X3 : BufTy.Contents (Elt Ideal) arg3.view.ty}
  {X4 : BufTy.Contents (Elt Ideal) arg4.view.ty} {X5 : BufTy.Contents (Elt Ideal) arg5.view.ty}
  (X6 : BufTy.Contents (Elt Ideal) arg6.view.ty) (X7 : BufTy.Contents (Elt Ideal) arg7.view.ty)
  {Qb Vb Fb Bb : Fin 2304 → Fin 256 → ℝ}
  (hQ : ∀ R k, arg2.view.read (Elt Ideal) X2 (ix3 0 R k) = (Qb R k : EReal))
  (hV : ∀ R k, arg3.view.read (Elt Ideal) X3 (ix3 0 R k) = (Vb R k : EReal))
  (hF : ∀ R k, arg4.view.read (Elt Ideal) X4 (ix3 0 R k) = (Fb R k : EReal))
  (hB : ∀ R k, arg5.view.read (Elt Ideal) X5 (ix3 0 R k) = (Bb R k : EReal))
  (h0 : ∀ R k, 0 < Fb R k) (h1 : ∀ R k, Fb R k ≤ 1) (h0' : ∀ R k, 0 < Bb R k) (h1' : ∀ R k, Bb R k ≤ 1)

theorem parts_row (j : Fin 18) (r : Fin 128) (k : Fin 256) :
    chunkOf (ix2 (chunkRow j r) k) = j ∧ inChunk (ix2 (chunkRow j r) k) = ix2 r k := by
  have hr := r.isLt
  refine ⟨Fin.ext ?_, funext fun a => Fin.ext ?_⟩
  · show (128 * j.val + r.val) / 128 = j.val
    omega
  · match a with
    | ⟨0, _⟩ => show (128 * j.val + r.val) % 128 = r.val; omega
    | ⟨1, _⟩ => rfl

include hQ hV hF hB h0 h1 h0' h1' in
theorem G9_at (j : Fin 18) (h : Fin 2) (r c' : Fin 128) :
    G9 𝒱 c bd i arg2 harg2 arg3 harg3 arg4 harg4 arg5 harg5 arg6 harg6 arg7 harg7 arg8 harg8 arg9 harg9 arg10 harg10 arg11 harg11 X2 X3 X4 X5 (ix2 (chunkRow j r) (hk h c')) = (outR posF Qb Vb Fb h (chunkRow j r) c' : EReal) := by
  obtain ⟨e1, e2⟩ := parts_row j r (hk h c')
  unfold G9
  rw [e1, e2]
  refine (rowsF 𝒱 c bd i arg2 harg2 arg3 harg3 arg4 harg4 arg5 harg5 arg6 harg6 arg7 harg7 arg8 harg8 arg9 harg9 arg10 harg10 arg11 harg11 hQ hV hF hB h0 h1 h0' h1' j.val j.isLt h r c').trans ?_
  rw [readF_rows _ _ _ _ _ j.isLt, fwdChunk_val]

include hQ hV hF hB h0 h1 h0' h1' in
theorem G10_at (j : Fin 18) (h : Fin 2) (r c' : Fin 128) :
    G10 𝒱 c bd i arg2 harg2 arg3 harg3 arg4 harg4 arg5 harg5 arg6 harg6 arg7 harg7 arg8 harg8 arg9 harg9 arg10 harg10 arg11 harg11 X2 X3 X4 X5 (ix2 (chunkRow j r) (hk h c')) = (outR posB Qb Vb Bb h (chunkRow j r) c' : EReal) := by
  obtain ⟨e1, e2⟩ := parts_row j r (hk h c')
  unfold G10
  rw [e1, e2]
  refine (rowsB 𝒱 c bd i arg2 harg2 arg3 harg3 arg4 harg4 arg5 harg5 arg6 harg6 arg7 harg7 arg8 harg8 arg9 harg9 arg10 harg10 arg11 harg11 hQ hV hF hB h0 h1 h0' h1' (bwdTrip j) (bwdTrip_lt j) h r c').trans ?_
  rw [readB_rows _ _ _ _ _ (bwdTrip_lt j), bwdChunk_bwdTrip]

include hQ hV hF hB h0 h1 h0' h1' in
/-- What the output block holds at row `r` of chunk `j`, column `c'` of head `h`. -/
theorem outB_at (j : Fin 18) (h : Fin 2) (r c' : Fin 128) :
    outB 𝒱 c bd i arg2 harg2 arg3 harg3 arg4 harg4 arg5 harg5 arg6 harg6 arg7 harg7 arg8 harg8 arg9 harg9 arg10 harg10 arg11 harg11 X2 X3 X4 X5 X6 X7 (ix3 0 (chunkRow j r) (hk h c'))
      = readout (fun x => (outR posF Qb Vb Fb h (chunkRow j r) x : EReal) + (outR posB Qb Vb Bb h (chunkRow j r) x : EReal))
          (arg7.view.read (Elt Ideal) X7 (ix2 0 c')) (arg6.view.read (Elt Ideal) X6 (ix3 0 (chunkRow j r) (hk h c'))) c' := by
  have hr := r.isLt
  have hc := c'.isLt
  have hh := h.isLt
  have e1 : outChunk (ix3 0 (chunkRow j r) (hk h c')) = j := Fin.ext (by show (128 * j.val + r.val) / 128 = j.val; omega)
  have e2 : outHead (ix3 0 (chunkRow j r) (hk h c')) = h := Fin.ext (by
    show (hk h c').val / 128 = h.val
    rw [hk_val]; omega)
  have e3 : outIn (ix3 0 (chunkRow j r) (hk h c')) = ix3 0 r c' := funext fun a => Fin.ext (by
    match a with
    | ⟨0, _⟩ => rfl
    | ⟨1, _⟩ => show (128 * j.val + r.val) % 128 = r.val; omega
    | ⟨2, _⟩ => show (hk h c').val % 128 = c'.val; rw [hk_val]; omega)
  unfold outB
  rw [e1, e2, e3, outT_at]
  congr 1
  funext x
  rw [View.read_rep, View.read_rep, G9_at 𝒱 c bd i arg2 harg2 arg3 harg3 arg4 harg4 arg5 harg5 arg6 harg6 arg7 harg7 arg8 harg8 arg9 harg9 arg10 harg10 arg11 harg11 hQ hV hF hB h0 h1 h0' h1', G10_at 𝒱 c bd i arg2 harg2 arg3 harg3 arg4 harg4 arg5 harg5 arg6 harg6 arg7 harg7 arg8 harg8 arg9 harg9 arg10 harg10 arg11 harg11 hQ hV hF hB h0 h1 h0' h1']

end

end Cert.Proof.Scan

end
-- ==== Proof.Scan.Ref.lean ====
/- The reference's operations at an index, and its result over the reals: every row reads the sum over the rows before it
and itself, each decayed by the gates between, in both directions. -/
module

public import proofs.«01_k».proof.Proof.Gen.ReferenceIdeal.Run
public import proofs.«01_k».proof.Proof.Scan.Readout
public import Idealize.ShloMosaic.Lib.Pointwise

@[expose] public section

set_option maxRecDepth 16384

noncomputable section

namespace Cert.Proof.Scan.Ref

open Cert.ReferenceIdeal Cert.ReferenceIdeal.Gen Cert.ReferenceIdeal.Value
open Idealize.ShloMosaic Idealize.ShloMosaic.TcCoe

/-- Column `k` of head `H` in an array's rows. -/
def col (H : Fin 8) (k : Fin 128) : Fin 1024 := ⟨128 * H.val + k.val, by omega⟩

theorem heads_at {φ : FTy} (x : FVec Ideal S16x2304x1024 φ) (b : Fin 16) (R : Fin 2304) (h : Fin 8) (k : Fin 128) :
    shapeCast S16x2304x8x128 x shapeCasts_S16x2304x1024_S16x2304x8x128 (ix4 b R h k) = x (ix3 b R (col h k)) := by
  pointwise
  exact congrArg x (congrArg (ix3 b R) (Fin.ext (by show h.val * 128 + k.val = 128 * h.val + k.val; omega)))

/-- The words of the rows' places in the order of the tokens. -/
def posW (v : IVec S1x2304x2304x1x1 32) : IVec S1x2304x2304x1x1 32 :=
  addi (addi (muli (Host.divsi v (broadcastInDim S1x2304x2304x1x1 ![] bcast_S_S1x2304x2304x1x1 (constantI S_ 32 128#32))) (broadcastInDim S1x2304x2304x1x1 ![] bcast_S_S1x2304x2304x1x1 (constantI S_ 32 128#32))) (muli (Host.remsi v (broadcastInDim S1x2304x2304x1x1 ![] bcast_S_S1x2304x2304x1x1 (constantI S_ 32 8#32))) (broadcastInDim S1x2304x2304x1x1 ![] bcast_S_S1x2304x2304x1x1 (constantI S_ 32 16#32)))) (Host.divsi (Host.remsi v (broadcastInDim S1x2304x2304x1x1 ![] bcast_S_S1x2304x2304x1x1 (constantI S_ 32 128#32))) (broadcastInDim S1x2304x2304x1x1 ![] bcast_S_S1x2304x2304x1x1 (constantI S_ 32 8#32)))

theorem place_word : ∀ R : Fin 2304, IntOp.addi
      (IntOp.addi (IntOp.muli (IntOp.divsi ArithUnit.host (BitVec.ofNat 32 R.val) 128#32) 128#32)
        (IntOp.muli (IntOp.remsi ArithUnit.host (BitVec.ofNat 32 R.val) 8#32) 16#32))
      (IntOp.divsi ArithUnit.host (IntOp.remsi ArithUnit.host (BitVec.ofNat 32 R.val) 128#32) 8#32)
    = BitVec.ofNat 32 (posF R) := by decide +kernel

theorem posW_at (v : IVec S1x2304x2304x1x1 32) (R S : Fin 2304) (X : Fin 2304) (hv : v (ix5 0 R S 0 0) = BitVec.ofNat 32 X.val) :
    posW v (ix5 0 R S 0 0) = BitVec.ofNat 32 (posF X) := by
  unfold posW
  pointwise
  rw [hv]
  exact place_word X

/-- The words of the rows' places in the backward order. -/
def posBW (w : IVec S1x2304x2304x1x1 32) : IVec S1x2304x2304x1x1 32 :=
  select (cmpi .slt w (broadcastInDim S1x2304x2304x1x1 ![] bcast_S_S1x2304x2304x1x1 (constantI S_ 32 256#32))) (subi (broadcastInDim S1x2304x2304x1x1 ![] bcast_S_S1x2304x2304x1x1 (constantI S_ 32 255#32)) w) (subi (broadcastInDim S1x2304x2304x1x1 ![] bcast_S_S1x2304x2304x1x1 (constantI S_ 32 2559#32)) w)

theorem place_word_back : ∀ R : Fin 2304, Scalar.select (IntOp.cmpi .slt (BitVec.ofNat 32 (posF R)) 256#32)
      (IntOp.subi 255#32 (BitVec.ofNat 32 (posF R))) (IntOp.subi 2559#32 (BitVec.ofNat 32 (posF R)))
    = BitVec.ofNat 32 (posB R) := by decide +kernel

theorem posBW_at (w : IVec S1x2304x2304x1x1 32) (R S : Fin 2304) (X : Fin 2304) (hw : w (ix5 0 R S 0 0) = BitVec.ofNat 32 (posF X)) :
    posBW w (ix5 0 R S 0 0) = BitVec.ofNat 32 (posB X) := by
  unfold posBW
  pointwise
  rw [hw]
  exact place_word_back X

theorem posF_lt (R : Fin 2304) : posF R < 2304 := by unfold posF; omega
theorem posB_lt (R : Fin 2304) : posB R < 2304 := by
  have := posF_lt R
  unfold posB
  split_ifs <;> omega

theorem small_le (x y : ℕ) (hx : x < 2304) (hy : y < 2304) :
    IntOp.cmpi .sle (BitVec.ofNat 32 x) (BitVec.ofNat 32 y) = 1#1 ↔ x ≤ y := by
  have e : IntOp.cmpi .sle (BitVec.ofNat 32 x) (BitVec.ofNat 32 y) = BitVec.ofBool ((BitVec.ofNat 32 x).sle (BitVec.ofNat 32 y)) := rfl
  have ht : ∀ z < 2304, (BitVec.ofNat 32 z).toInt = z := fun z hz => by
    rw [BitVec.toInt_eq_toNat_cond, BitVec.toNat_ofNat]
    omega
  rw [e, BitVec.sle, ht x hx, ht y hy]
  by_cases h : x ≤ y
  · simp [h]
  · simp [h]

theorem sle_at (v w : IVec S1x2304x2304x1x1 32) (i : S1x2304x2304x1x1.Idx) {x y : ℕ} (hx : x < 2304) (hy : y < 2304)
    (hv : v i = BitVec.ofNat 32 x) (hw : w i = BitVec.ofNat 32 y) : cmpi .sle v w i = 1#1 ↔ x ≤ y := by
  show IntOp.cmpi .sle (v i) (w i) = 1#1 ↔ _
  rw [hv, hw]
  exact small_le x y hx hy

variable (V0 : Valuation τ sig (Elt Ideal))

theorem v11_at (R S : Fin 2304) : res_main_v11 V0 (ix5 0 R S 0 0) = BitVec.ofNat 32 S.val := rfl
theorem v26_at (R S : Fin 2304) : res_main_v26 V0 (ix5 0 R S 0 0) = BitVec.ofNat 32 R.val := rfl
theorem v64_at (R S : Fin 2304) : res_main_v64 V0 (ix5 0 R S 0 0) = BitVec.ofNat 32 S.val := rfl
theorem v86_at (R S : Fin 2304) : res_main_v86 V0 (ix5 0 R S 0 0) = BitVec.ofNat 32 R.val := rfl

theorem v41_eq : res_main_v41 V0 = cmpi .sle (posW (res_main_v11 V0)) (posW (res_main_v26 V0)) := rfl
theorem v78_eq : res_main_v78 V0 = posW (res_main_v64 V0) := rfl
theorem v100_eq : res_main_v100 V0 = posW (res_main_v86 V0) := rfl
theorem v108_eq : res_main_v108 V0 = cmpi .sle (posBW (res_main_v78 V0)) (posBW (res_main_v100 V0)) := rfl

theorem v41_at (R S : Fin 2304) : res_main_v41 V0 (ix5 0 R S 0 0) = 1#1 ↔ posF S ≤ posF R := by
  rw [v41_eq]
  exact sle_at _ _ _ (posF_lt S) (posF_lt R) (posW_at _ R S S (v11_at V0 R S)) (posW_at _ R S R (v26_at V0 R S))

theorem v108_at (R S : Fin 2304) : res_main_v108 V0 (ix5 0 R S 0 0) = 1#1 ↔ posB S ≤ posB R := by
  rw [v108_eq, v78_eq, v100_eq]
  exact sle_at _ _ _ (posB_lt S) (posB_lt R) (posBW_at _ R S S (posW_at _ R S S (v64_at V0 R S)))
    (posBW_at _ R S R (posW_at _ R S R (v86_at V0 R S)))

/-- The logarithms of the decays through every row. -/
def decaysW (m : IVec S1x2304x2304x1x1 1) (x : FVec Ideal S16x2304x8x128 .f32) : FVec Ideal S16x2304x8x128 .f32 :=
  Host.reduceAdd (select (broadcastInDim S16x2304x2304x8x128 ![0, 1, 2, 3, 4] bcast_S1x2304x2304x1x1_S16x2304x2304x8x128_0_1_2_3_4 m) (broadcastInDim S16x2304x2304x8x128 ![0, 1, 2, 3, 4] bcast_S16x1x2304x8x128_S16x2304x2304x8x128_0_1_2_3_4 (broadcastInDim S16x1x2304x8x128 ![0, 2, 3, 4] bcast_S16x2304x8x128_S16x1x2304x8x128_0_2_3_4 (Host.log x))) (broadcastInDim S16x2304x2304x8x128 ![] bcast_S_S16x2304x2304x8x128 (id (constant S_ .f32 0x00000000#32)))) (constant S_ .f32 0x00000000#32) reducesTo_S16x2304x2304x8x128_S16x2304x8x128_d2 h_S_

theorem zero_bits : id (constant (F := Ideal) S_ FTy.f32 0#32) ix0 = ((0 : ℝ) : EReal) := by
  show Ideal.ofBits FTy.f32 0#32 = _
  simp [Ideal.ofBits, Ideal.ieee]

theorem bot_bits : id (constant (F := Ideal) S_ FTy.f32 4286578688#32) ix0 = (⊥ : EReal) := by
  show Ideal.ofBits FTy.f32 4286578688#32 = _
  simp [Ideal.ofBits, Ideal.ieee]

section
variable {m : IVec S1x2304x2304x1x1 1} {pos : Fin 2304 → ℕ} (hm : ∀ R S, m (ix5 0 R S 0 0) = 1#1 ↔ pos S ≤ pos R)
  {b : Fin 16} {H : Fin 8} {q v f d : FVec Ideal S16x2304x8x128 .f32} {Q V F D : Fin 2304 → Fin 128 → ℝ}

include hm in
theorem decaysW_at (hf : ∀ R k, f (ix4 b R H k) = (F R k : EReal)) (h0 : ∀ R k, 0 < F R k) (R : Fin 2304) (k : Fin 128) :
    decaysW m f (ix4 b R H k) = ((∑ S : Fin 2304, if pos S ≤ pos R then Real.log (F S k) else 0 : ℝ) : EReal) := by
  unfold decaysW
  pointwise
  rw [coe_sum]
  refine Finset.sum_congr rfl fun S _ => ?_
  rw [select_eq (hm R S), zero_bits, hf, Ideal.log_coe, if_neg (not_le.2 (h0 S k))]
  split_ifs <;> rfl

/-- What every row reads. -/
def readsW (m : IVec S1x2304x2304x1x1 1) (q v f d : FVec Ideal S16x2304x8x128 .f32) : FVec Ideal S16x2304x8x128 .f32 :=
  transpose S16x2304x8x128 [0, 3, 1, 2] (Host.dotGeneral dot_S16x2304x8x128_S16x2304x2304x8_S16x8x128x2304_1_2_3_1_02_03 none v (Host.reduceAdd (mulf (mulf (broadcastInDim S16x2304x2304x8x128 ![0, 1, 2, 3, 4] bcast_S16x2304x1x8x128_S16x2304x2304x8x128_0_1_2_3_4 (broadcastInDim S16x2304x1x8x128 ![0, 1, 3, 4] bcast_S16x2304x8x128_S16x2304x1x8x128_0_1_3_4 q)) (broadcastInDim S16x2304x2304x8x128 ![0, 1, 2, 3, 4] bcast_S16x1x2304x8x128_S16x2304x2304x8x128_0_1_2_3_4 (broadcastInDim S16x1x2304x8x128 ![0, 2, 3, 4] bcast_S16x2304x8x128_S16x1x2304x8x128_0_2_3_4 (subf (broadcastInDim S16x2304x8x128 ![] bcast_S_S16x2304x8x128 (constant S_ .f32 0x3F800000#32)) f)))) (Host.exp (select (broadcastInDim S16x2304x2304x8x128 ![0, 1, 2, 3, 4] bcast_S1x2304x2304x1x1_S16x2304x2304x8x128_0_1_2_3_4 m) (subf (broadcastInDim S16x2304x2304x8x128 ![0, 1, 2, 3, 4] bcast_S16x2304x1x8x128_S16x2304x2304x8x128_0_1_2_3_4 (broadcastInDim S16x2304x1x8x128 ![0, 1, 3, 4] bcast_S16x2304x8x128_S16x2304x1x8x128_0_1_3_4 d)) (broadcastInDim S16x2304x2304x8x128 ![0, 1, 2, 3, 4] bcast_S16x1x2304x8x128_S16x2304x2304x8x128_0_1_2_3_4 (broadcastInDim S16x1x2304x8x128 ![0, 2, 3, 4] bcast_S16x2304x8x128_S16x1x2304x8x128_0_2_3_4 d))) (broadcastInDim S16x2304x2304x8x128 ![] bcast_S_S16x2304x2304x8x128 (id (constant S_ .f32 0xFF800000#32)))))) (constant S_ .f32 0x00000000#32) reducesTo_S16x2304x2304x8x128_S16x2304x2304x8_d4 h_S_)) transposes_S16x8x128x2304_S16x2304x8x128_0_3_1_2

include hm in
theorem readsW_at (hq : ∀ R k, q (ix4 b R H k) = (Q R k : EReal)) (hv : ∀ R k, v (ix4 b R H k) = (V R k : EReal))
    (hf : ∀ R k, f (ix4 b R H k) = (F R k : EReal)) (hd : ∀ R k, d (ix4 b R H k) = (D R k : EReal)) (R : Fin 2304) (k : Fin 128) :
    readsW m q v f d (ix4 b R H k) = ((∑ S : Fin 2304, if pos S ≤ pos R then
      (∑ x : Fin 128, Q R x * (1 - F S x) * Real.exp (D R x - D S x)) * V S k else 0 : ℝ) : EReal) := by
  unfold readsW
  pointwise
  rw [coe_sum]
  refine Finset.sum_congr rfl fun S _ => ?_
  rw [hv]
  by_cases h : pos S ≤ pos R
  · rw [if_pos h, mul_comm, EReal.coe_mul, coe_sum]
    congr 1
    refine Finset.sum_congr rfl fun x _ => ?_
    rw [select_eq (hm R S), if_pos h, hq, hf, hd, hd, ← EReal.coe_one, ← EReal.coe_sub, ← EReal.coe_sub, Ideal.exp_coe,
      ← EReal.coe_mul, ← EReal.coe_mul]
  · rw [if_neg h, EReal.coe_zero, Finset.sum_eq_zero, mul_zero]
    intro x _
    rw [select_eq (hm R S), if_neg h, bot_bits, show Ideal.exp ⊥ = 0 from rfl, mul_zero]

end

theorem v128_eq : res_main_v128 V0 = addf (readsW (res_main_v41 V0) (res_main_v1 V0) (res_main_v3 V0) (res_main_v4 V0) (decaysW (res_main_v41 V0) (res_main_v4 V0)))
    (readsW (res_main_v108 V0) (res_main_v1 V0) (res_main_v3 V0) (res_main_v5 V0) (decaysW (res_main_v108 V0) (res_main_v5 V0))) := rfl

/-- The normalization, the gain and the output gate. -/
def finishW (o s : FVec Ideal S16x2304x8x128 .f32) (g : FVec Ideal S1x128 .f32) : FVec Ideal S16x2304x1024 .bf16 :=
  truncf .bf16 (shapeCast _ (mulf (mulf (mulf o (broadcastInDim S16x2304x8x128 ![0, 1, 2, 3] bcast_S16x2304x8x1_S16x2304x8x128_0_1_2_3 (Host.rsqrt (addf (Host.divf (broadcastInDim S16x2304x8x1 ![0, 1, 2] bcast_S16x2304x8_S16x2304x8x1_0_1_2 (Host.reduceAdd (mulf o o) (constant S_ .f32 0x00000000#32) reducesTo_S16x2304x8x128_S16x2304x8_d3 h_S_)) (broadcastInDim S16x2304x8x1 ![] bcast_S_S16x2304x8x1 (constant S_ .f32 0x43000000#32))) (broadcastInDim S16x2304x8x1 ![] bcast_S_S16x2304x8x1 (constant S_ .f32 0x358637BD#32)))))) (broadcastInDim S16x2304x8x128 ![0, 1, 2, 3] bcast_S1x1x1x128_S16x2304x8x128_0_1_2_3 (broadcastInDim S1x1x1x128 ![3] bcast_S128_S1x1x1x128_3 (shapeCast _ g shapeCasts_S1x128_S128)))) s) shapeCasts_S16x2304x8x128_S16x2304x1024) bitsLt_bf16_f32

theorem finishW_at (o s : FVec Ideal S16x2304x8x128 .f32) (g : FVec Ideal S1x128 .f32) (b : Fin 16) (R : Fin 2304) (K : Fin 1024) :
    finishW o s g (ix3 b R K) = readout (fun x => o (ix4 b R ⟨K.val / 128, by omega⟩ x)) (g (ix2 0 ⟨K.val % 128, by omega⟩))
      (s (ix4 b R ⟨K.val / 128, by omega⟩ ⟨K.val % 128, by omega⟩)) ⟨K.val % 128, by omega⟩ := by
  unfold finishW readout
  pointwise

theorem finishW_head (o s : FVec Ideal S16x2304x8x128 .f32) (g : FVec Ideal S1x128 .f32) (b : Fin 16) (R : Fin 2304) (H : Fin 8) (c : Fin 128) :
    finishW o s g (ix3 b R (col H c)) = readout (fun x => o (ix4 b R H x)) (g (ix2 0 c)) (s (ix4 b R H c)) c := by
  have e1 : (⟨(col H c).val / 128, by omega⟩ : Fin 8) = H := Fin.ext (by show (128 * H.val + c.val) / 128 = H.val; omega)
  have e2 : (⟨(col H c).val % 128, by omega⟩ : Fin 128) = c := Fin.ext (by show (128 * H.val + c.val) % 128 = c.val; omega)
  rw [finishW_at, e1, e2]

/-- What the reference leaves in its result. -/
def result : FVec Ideal S16x2304x1024 .bf16 :=
  finishW (res_main_v128 V0) (shapeCast _ (extf .f32 (V0 (Proc.devRef .tc main_arg4)) bitsLt_bf16_f32) shapeCasts_S16x2304x1024_S16x2304x8x128)
    (V0 (Proc.devRef .tc main_arg5))

/-- The reference's result over the reals, at column `c` of head `h` of head pair `p`. -/
theorem result_at {Q V F B : Fin 16 → Fin 2304 → Fin 1024 → ℝ}
    (hq : ∀ b R k, (V0 (Proc.devRef .tc main_arg0) : FVec Ideal S16x2304x1024 .bf16) (ix3 b R k) = (Q b R k : EReal))
    (hv : ∀ b R k, (V0 (Proc.devRef .tc main_arg1) : FVec Ideal S16x2304x1024 .bf16) (ix3 b R k) = (V b R k : EReal))
    (hf : ∀ b R k, (V0 (Proc.devRef .tc main_arg2) : FVec Ideal S16x2304x1024 .f32) (ix3 b R k) = (F b R k : EReal))
    (hb : ∀ b R k, (V0 (Proc.devRef .tc main_arg3) : FVec Ideal S16x2304x1024 .f32) (ix3 b R k) = (B b R k : EReal))
    (h0 : ∀ b R k, 0 < F b R k) (h0' : ∀ b R k, 0 < B b R k)
    (b : Fin 16) (H : Fin 8) (h : Fin 2) (g : Fin 256 → Fin 1024) (hg : ∀ k, g (hk h k) = col H k) (R : Fin 2304) (c : Fin 128) :
    result V0 (ix3 b R (col H c)) = readout (fun x =>
        (outR posF (fun R k => Q b R (g k)) (fun R k => V b R (g k)) (fun R k => F b R (g k)) h R x : EReal)
          + (outR posB (fun R k => Q b R (g k)) (fun R k => V b R (g k)) (fun R k => B b R (g k)) h R x : EReal))
      ((V0 (Proc.devRef .tc main_arg5) : FVec Ideal S1x128 .f32) (ix2 0 c))
      ((V0 (Proc.devRef .tc main_arg4) : FVec Ideal S16x2304x1024 .bf16) (ix3 b R (col H c))) c := by
  have eq1 : ∀ R k, res_main_v1 V0 (ix4 b R H k) = (Q b R (col H k) : EReal) := fun R k => (heads_at (φ := .bf16) (V0 (Proc.devRef .tc main_arg0)) b R H k).trans (hq b R _)
  have ev : ∀ R k, res_main_v3 V0 (ix4 b R H k) = (V b R (col H k) : EReal) := fun R k => (heads_at (φ := .bf16) (V0 (Proc.devRef .tc main_arg1)) b R H k).trans (hv b R _)
  have ef : ∀ R k, res_main_v4 V0 (ix4 b R H k) = (F b R (col H k) : EReal) := fun R k => (heads_at (φ := .f32) (V0 (Proc.devRef .tc main_arg2)) b R H k).trans (hf b R _)
  have eb : ∀ R k, res_main_v5 V0 (ix4 b R H k) = (B b R (col H k) : EReal) := fun R k => (heads_at (φ := .f32) (V0 (Proc.devRef .tc main_arg3)) b R H k).trans (hb b R _)
  unfold result
  rw [finishW_head, v128_eq]
  refine (congrArg (fun s => readout _ _ s c) (heads_at (φ := .bf16) (V0 (Proc.devRef .tc main_arg4)) b R H c)).trans ?_
  congr 1
  funext x
  refine congrArg₂ (· + ·)
    ((readsW_at (v41_at V0) eq1 ev ef (decaysW_at (v41_at V0) ef (fun R k => h0 b R _)) R x).trans ?_)
    ((readsW_at (v108_at V0) eq1 ev eb (decaysW_at (v108_at V0) eb (fun R k => h0' b R _)) R x).trans ?_)
  · unfold outR decP bR
    simp only [hg]
  · unfold outR decP bR
    simp only [hg]

end Cert.Proof.Scan.Ref

end
-- ==== Proof.Scan.Values.lean ====
/- The kernel's result array over the reals: every block from the body's run, every input block at its place in its array. -/
module

public import proofs.«01_k».proof.Proof.Scan.Launch
public import proofs.«01_k».proof.Proof.Scan.Readout
public import Idealize.ShloMosaic.Lib.Pipeline.ValueKit

@[expose] public section

set_option maxRecDepth 16384

noncomputable section

namespace Cert.Proof.Scan

open Cert.KernelIdeal Cert.KernelIdeal.Gen
open Idealize.ShloMosaic.Pipeline (Dat Cfg Window BodyObligation cellOf)
open Idealize.ShloMosaic Idealize.ShloMosaic.TcCoe Idealize.ShloMosaic.Tactic

/-- Column `k` of head pair `p`'s block in an array's rows. -/
def pcol (p : Fin 4) (k : Fin 256) : Fin 1024 := ⟨256 * p.val + k.val, by omega⟩

variable (m : (ℓ : Loc nD τ sig) → Buf (Elt Ideal) ℓ) (c : Dev nD)

theorem idx0 : ∀ t : Fin cfg0.N, win0_0.index t = ![(grid0.coords t 0).val, 0, (grid0.coords t 1).val] :=
  (by decide +kernel : ∀ t : Fin grid0.N, win0_0.index t = ![(grid0.coords t 0).val, 0, (grid0.coords t 1).val])
theorem idx1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem idx2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem idx3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
theorem idx4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])
theorem idx5 : ∀ t : Fin cfg0.N, win0_5.index t = ![0, 0] :=
  (by decide +kernel : ∀ t : Fin grid0.N, win0_5.index t = ![0, 0])
theorem idx6 : ∀ t : Fin cfg0.N, win0_6.index t = ![(grid0.coords t 0).val, 0, (grid0.coords t 1).val] :=
  (by decide +kernel : ∀ t : Fin grid0.N, win0_6.index t = ![(grid0.coords t 0).val, 0, (grid0.coords t 1).val])

theorem coords_lt (t : Fin cfg0.N) : (grid0.coords t 0).val < 16 ∧ (grid0.coords t 1).val < 4 := ⟨(grid0.coords t 0).isLt, (grid0.coords t 1).isLt⟩

/-- The batch row and the head pair of a grid point. -/
def batchAt (t : Fin cfg0.N) : Fin 16 := ⟨(grid0.coords t 0).val, (coords_lt t).1⟩
def pairAt (t : Fin cfg0.N) : Fin 4 := ⟨(grid0.coords t 1).val, (coords_lt t).2⟩

theorem blk0 (t : Fin cfg0.N) (R : Fin 2304) (k : Fin 256) :
    iblk m c 0 t (ix3 0 R k) = m ((c.tc : Thread nD τ).loc main_arg0) (ix3 (batchAt t) R (pcol (pairAt t) k)) := by
  have e := idx0 t
  blk_simp [iblk, e, V]
  refine congrArg (m ((c.tc : Thread nD τ).loc main_arg0)) ?_
  blk_ext [e, batchAt, pairAt, pcol]

theorem blk1 (t : Fin cfg0.N) (R : Fin 2304) (k : Fin 256) :
    iblk m c 1 t (ix3 0 R k) = m ((c.tc : Thread nD τ).loc main_arg1) (ix3 (batchAt t) R (pcol (pairAt t) k)) := by
  have e := idx1 t
  blk_simp [iblk, e, V]
  refine congrArg (m ((c.tc : Thread nD τ).loc main_arg1)) ?_
  blk_ext [e, batchAt, pairAt, pcol]

theorem blk2 (t : Fin cfg0.N) (R : Fin 2304) (k : Fin 256) :
    iblk m c 2 t (ix3 0 R k) = m ((c.tc : Thread nD τ).loc main_arg2) (ix3 (batchAt t) R (pcol (pairAt t) k)) := by
  have e := idx2 t
  blk_simp [iblk, e, V]
  refine congrArg (m ((c.tc : Thread nD τ).loc main_arg2)) ?_
  blk_ext [e, batchAt, pairAt, pcol]

theorem blk3 (t : Fin cfg0.N) (R : Fin 2304) (k : Fin 256) :
    iblk m c 3 t (ix3 0 R k) = m ((c.tc : Thread nD τ).loc main_arg3) (ix3 (batchAt t) R (pcol (pairAt t) k)) := by
  have e := idx3 t
  blk_simp [iblk, e, V]
  refine congrArg (m ((c.tc : Thread nD τ).loc main_arg3)) ?_
  blk_ext [e, batchAt, pairAt, pcol]

theorem blk4 (t : Fin cfg0.N) (R : Fin 2304) (k : Fin 256) :
    iblk m c 4 t (ix3 0 R k) = m ((c.tc : Thread nD τ).loc main_arg4) (ix3 (batchAt t) R (pcol (pairAt t) k)) := by
  have e := idx4 t
  blk_simp [iblk, e, V]
  refine congrArg (m ((c.tc : Thread nD τ).loc main_arg4)) ?_
  blk_ext [e, batchAt, pairAt, pcol]

theorem blk5 (t : Fin cfg0.N) (k : Fin 128) :
    iblk m c 5 t (ix2 0 k) = m ((c.tc : Thread nD τ).loc main_arg5) (ix2 0 k) := by
  have e := idx5 t
  blk_simp [iblk, e, V]
  refine congrArg (m ((c.tc : Thread nD τ).loc main_arg5)) ?_
  blk_ext [e]

theorem blk6 (t : Fin cfg0.N) (R : Fin 2304) (k : Fin 256) :
    (win0_6.blk t).view.emb (ix3 0 R k) = ix3 (batchAt t) R (pcol (pairAt t) k) := by
  have e := idx6 t
  blk_ext [e, batchAt, pairAt, pcol]

section
variable {Q U D E : Fin 16 → Fin 2304 → Fin 1024 → ℝ}
  (hq : ∀ b R k, (m ((c.tc : Thread nD τ).loc main_arg0) : FVec Ideal S16x2304x1024 .bf16) (ix3 b R k) = (Q b R k : EReal))
  (hv : ∀ b R k, (m ((c.tc : Thread nD τ).loc main_arg1) : FVec Ideal S16x2304x1024 .bf16) (ix3 b R k) = (U b R k : EReal))
  (hf : ∀ b R k, (m ((c.tc : Thread nD τ).loc main_arg2) : FVec Ideal S16x2304x1024 .f32) (ix3 b R k) = (D b R k : EReal))
  (hb : ∀ b R k, (m ((c.tc : Thread nD τ).loc main_arg3) : FVec Ideal S16x2304x1024 .f32) (ix3 b R k) = (E b R k : EReal))
  (h0 : ∀ b R k, 0 < D b R k) (h1 : ∀ b R k, D b R k ≤ 1) (h0' : ∀ b R k, 0 < E b R k) (h1' : ∀ b R k, E b R k ≤ 1)

include hq hv hf hb h0 h1 h0' h1' in
/-- A point's output block at row `r` of chunk `j`, column `x` of head `h`. -/
theorem outAt_at (t : Fin cfg0.N) (j : Fin 18) (h : Fin 2) (r x : Fin 128) :
    outAt m c t (ix3 0 (chunkRow j r) (hk h x)) = readout (fun y =>
        (outR posF (fun R k => Q (batchAt t) R (pcol (pairAt t) k)) (fun R k => U (batchAt t) R (pcol (pairAt t) k)) (fun R k => D (batchAt t) R (pcol (pairAt t) k)) h (chunkRow j r) y : EReal)
          + (outR posB (fun R k => Q (batchAt t) R (pcol (pairAt t) k)) (fun R k => U (batchAt t) R (pcol (pairAt t) k)) (fun R k => E (batchAt t) R (pcol (pairAt t) k)) h (chunkRow j r) y : EReal))
      ((m ((c.tc : Thread nD τ).loc main_arg5) : FVec Ideal S1x128 .f32) (ix2 0 x))
      ((m ((c.tc : Thread nD τ).loc main_arg4) : FVec Ideal S16x2304x1024 .bf16) (ix3 (batchAt t) (chunkRow j r) (pcol (pairAt t) (hk h x)))) x := by
  refine (outB_at _ _ _ _ _ _ _ _ _ _ _ _ _ _ _ _ _ _ _ _ _ _ _ _ _ _
    (Qb := fun R k => Q (batchAt t) R (pcol (pairAt t) k)) (Vb := fun R k => U (batchAt t) R (pcol (pairAt t) k))
    (Fb := fun R k => D (batchAt t) R (pcol (pairAt t) k)) (Bb := fun R k => E (batchAt t) R (pcol (pairAt t) k))
    (fun R k => ?_) (fun R k => ?_) (fun R k => ?_) (fun R k => ?_)
    (fun R k => h0 _ _ _) (fun R k => h1 _ _ _) (fun R k => h0' _ _ _) (fun R k => h1' _ _ _) j h r x).trans ?_
  · rw [View.read_rep]; exact (blk0 m c t R k).trans (hq _ _ _)
  · rw [View.read_rep]; exact (blk1 m c t R k).trans (hv _ _ _)
  · rw [View.read_rep]; exact (blk2 m c t R k).trans (hf _ _ _)
  · rw [View.read_rep]; exact (blk3 m c t R k).trans (hb _ _ _)
  · rw [View.read_rep, View.read_rep, blk4 m c t, blk5 m c t]

include hq hv hf hb h0 h1 h0' h1' in
/-- The result array, when `G` is the read-out of both recurrences at each entry. -/
theorem final_out (G : FVec Ideal S16x2304x1024 .bf16)
    (hG : ∀ (b : Fin 16) (p : Fin 4) (h : Fin 2) (R : Fin 2304) (x : Fin 128), G (ix3 b R (pcol p (hk h x))) = readout (fun y =>
        (outR posF (fun R k => Q b R (pcol p k)) (fun R k => U b R (pcol p k)) (fun R k => D b R (pcol p k)) h R y : EReal)
          + (outR posB (fun R k => Q b R (pcol p k)) (fun R k => U b R (pcol p k)) (fun R k => E b R (pcol p k)) h R y : EReal))
      ((m ((c.tc : Thread nD τ).loc main_arg5) : FVec Ideal S1x128 .f32) (ix2 0 x))
      ((m ((c.tc : Thread nD τ).loc main_arg4) : FVec Ideal S16x2304x1024 .bf16) (ix3 b R (pcol p (hk h x)))) x) :
    (dats m 0 c).arrAt 6 cfg0.N = G := by
  refine (dats m 0 c).arrAt_eq_of_covers 6 _ (by decide +kernel) fun t hfl y => ?_
  blk_simp
  rw [after0_6]
  obtain ⟨j, r, h, x, rfl⟩ : ∃ (j : Fin 18) (r : Fin 128) (h : Fin 2) (x : Fin 128), y = (ix3 0 (chunkRow j r) (hk h x) : S1x2304x256.Idx) := by
    have y1 : (y 1).val < 2304 := (y 1).isLt
    have y2 : (y 2).val < 256 := (y 2).isLt
    have y0 : (y 0).val < 1 := (y 0).isLt
    refine ⟨⟨(y 1).val / 128, by omega⟩, ⟨(y 1).val % 128, by omega⟩, ⟨(y 2).val / 128, by omega⟩, ⟨(y 2).val % 128, by omega⟩, funext fun a => Fin.ext ?_⟩
    match a with
    | ⟨0, _⟩ => show (y 0).val = 0; omega
    | ⟨1, _⟩ => show (y 1).val = 128 * ((y 1).val / 128) + (y 1).val % 128; omega
    | ⟨2, _⟩ => exact Eq.trans (by show (y 2).val = 128 * ((y 2).val / 128) + (y 2).val % 128; omega) (hk_val _ _).symm
  refine (outAt_at m c hq hv hf hb h0 h1 h0' h1' t j h r x).trans ?_
  exact ((congrArg G (blk6 t (chunkRow j r) (hk h x))).trans (hG _ _ _ _ _)).symm

end

end Cert.Proof.Scan

end
-- ==== Proof.Scan.Gates.lean ====
/- The precondition read over the reals: queries and values are reals, and every gate is a real in (0, 1]. -/
module

public import proofs.«01_k».proof.Proof.Gen.Pre_real_gates
public import Idealize.ShloMosaic.Lib.Pointwise
public import Idealize.ShloMosaic.Lib.ValueIdx

@[expose] public section

set_option maxRecDepth 16384

noncomputable section

namespace Cert.Proof.Scan.Gates

open Cert.Pre_real_gates Idealize.ShloMosaic

/-- The precondition at one index: both inputs are finite, and both gates lie in (0, 1]. -/
theorem at_one (q v : FVec Ideal S16x2304x1024 .bf16) (f b : FVec Ideal S16x2304x1024 .f32) (s : FVec Ideal S16x2304x1024 .bf16) (g : FVec Ideal S1x128 .f32)
    (h : fn (F := Ideal) q v f b s g = fun _ => 1#1) (i : S16x2304x1024.Idx) :
    ((q i < (⊤ : EReal) ∧ (⊥ : EReal) < q i) ∧ (v i < (⊤ : EReal) ∧ (⊥ : EReal) < v i))
      ∧ ((0 : EReal) < f i ∧ f i ≤ (1 : EReal)) ∧ ((0 : EReal) < b i ∧ b i ≤ (1 : EReal)) := by
  have htop : Ideal.ofBits .f32 2139095040#32 = ⊤ := by simp [Ideal.ofBits, Ideal.ieee]
  have hbot : Ideal.ofBits .f32 4286578688#32 = ⊥ := by simp [Ideal.ofBits, Ideal.ieee]
  have one (p : Prop) [Decidable p] : BitVec.ofBool (decide p) = 1#1 ↔ p := by
    by_cases hp : p <;> simp [hp]
  have e := congrFun h i
  pointwise [fn, fn_part1] at e
  rw [htop, hbot] at e
  simp only [IntOp.andi_eq_one, one] at e
  exact ⟨e.1.1, e.1.2, e.2⟩

/-- A finite extended real is a real. -/
theorem coe_of {x : EReal} (h : x < ⊤ ∧ ⊥ < x) : x = (x.toReal : EReal) := (EReal.coe_toReal h.1.ne h.2.ne').symm

/-- A gate in (0, 1] is a real there. -/
theorem gate_of {x : EReal} (h : 0 < x ∧ x ≤ 1) : x = (x.toReal : EReal) ∧ 0 < x.toReal ∧ x.toReal ≤ 1 := by
  have hx : x = (x.toReal : EReal) :=
    coe_of ⟨lt_of_le_of_lt h.2 (EReal.coe_lt_top 1), lt_trans (EReal.bot_lt_coe 0) h.1⟩
  refine ⟨hx, ?_, ?_⟩
  · have := h.1; rw [hx] at this; exact_mod_cast this
  · have := h.2; rw [hx] at this; exact_mod_cast this

end Cert.Proof.Scan.Gates

end
-- ==== Proof.Scan.Same.lean ====
/- The two results are one: under the precondition the kernel's result array is the reference's result. -/
module

public import proofs.«01_k».proof.Proof.Scan.Ref
public import proofs.«01_k».proof.Proof.Scan.Values
public import proofs.«01_k».proof.Proof.Scan.Gates

@[expose] public section

set_option maxRecDepth 16384

noncomputable section

namespace Cert.Proof.Scan

open Idealize.ShloMosaic Idealize.ShloMosaic.TcCoe Idealize.ShloMosaic.StableHlo
open Cert.KernelIdeal (nD τ sig main_arg0 main_arg1 main_arg2 main_arg3 main_arg4 main_arg5 S16x2304x1024 S1x128)
open Cert.KernelIdeal (cfg0)

theorem hk_pcol (p : Fin 4) (h : Fin 2) (k : Fin 128) :
    pcol p (hk h k) = Ref.col ⟨2 * p.val + h.val, by omega⟩ k := Fin.ext (by
  show 256 * p.val + (hk h k).val = 128 * (2 * p.val + h.val) + k.val
  rw [hk_val]; omega)

theorem result_same (m : (ℓ : Loc nD τ sig) → Buf (Elt Ideal) ℓ) (c : Dev nD) (V0 : Valuation Cert.ReferenceIdeal.τ Cert.ReferenceIdeal.sig (Elt Ideal))
    (h : Cert.Pre_real_gates.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = fun _ => 1#1)
    (e0 : V0 (Proc.devRef .tc Cert.ReferenceIdeal.main_arg0) = m ((c.tc : Thread nD τ).loc main_arg0))
    (e1 : V0 (Proc.devRef .tc Cert.ReferenceIdeal.main_arg1) = m ((c.tc : Thread nD τ).loc main_arg1))
    (e2 : V0 (Proc.devRef .tc Cert.ReferenceIdeal.main_arg2) = m ((c.tc : Thread nD τ).loc main_arg2))
    (e3 : V0 (Proc.devRef .tc Cert.ReferenceIdeal.main_arg3) = m ((c.tc : Thread nD τ).loc main_arg3))
    (e4 : V0 (Proc.devRef .tc Cert.ReferenceIdeal.main_arg4) = m ((c.tc : Thread nD τ).loc main_arg4))
    (e5 : V0 (Proc.devRef .tc Cert.ReferenceIdeal.main_arg5) = m ((c.tc : Thread nD τ).loc main_arg5)) :
    (dats m 0 c).arrAt 6 cfg0.N = Ref.result V0 := by
  have hg := Gates.at_one _ _ _ _ _ _ h
  have hq : ∀ b R k, (m ((c.tc : Thread nD τ).loc main_arg0) : FVec Ideal S16x2304x1024 .bf16) (ix3 b R k) = (((m ((c.tc : Thread nD τ).loc main_arg0) : FVec Ideal S16x2304x1024 .bf16) (ix3 b R k) : EReal).toReal : EReal) :=
    fun b R k => Gates.coe_of (hg _).1.1
  have hv : ∀ b R k, (m ((c.tc : Thread nD τ).loc main_arg1) : FVec Ideal S16x2304x1024 .bf16) (ix3 b R k) = (((m ((c.tc : Thread nD τ).loc main_arg1) : FVec Ideal S16x2304x1024 .bf16) (ix3 b R k) : EReal).toReal : EReal) :=
    fun b R k => Gates.coe_of (hg _).1.2
  have hf := fun (b : Fin 16) (R : Fin 2304) (k : Fin 1024) => Gates.gate_of (hg (ix3 b R k)).2.1
  have hb := fun (b : Fin 16) (R : Fin 2304) (k : Fin 1024) => Gates.gate_of (hg (ix3 b R k)).2.2
  refine final_out m c hq hv (fun b R k => (hf b R k).1) (fun b R k => (hb b R k).1) (fun b R k => (hf b R k).2.1) (fun b R k => (hf b R k).2.2)
    (fun b R k => (hb b R k).2.1) (fun b R k => (hb b R k).2.2) (Ref.result V0) fun b p h R x => ?_
  rw [hk_pcol p h x]
  refine (Ref.result_at V0 (fun b R k => (congrFun e0 _).trans (hq b R k)) (fun b R k => (congrFun e1 _).trans (hv b R k))
    (fun b R k => (congrFun e2 _).trans (hf b R k).1) (fun b R k => (congrFun e3 _).trans (hb b R k).1)
    (fun b R k => (hf b R k).2.1) (fun b R k => (hb b R k).2.1) b _ h (pcol p) (hk_pcol p h) R x).trans ?_
  rw [e4, e5]

end Cert.Proof.Scan

end
-- ==== Proof.Ffn.Row.lean ====
/- One row of a call, over the extended reals: the modulated norm, and the feed-forward part. -/
module

public import Idealize.ShloMosaic.Lib.Pointwise

@[expose] public section

noncomputable section

namespace Cert.Proof.Ffn

open Idealize.ShloMosaic

/-- The RMS norm of a row with its gain, then the modulation: 1 + scale, and the shift. -/
def normMod (x g sh sc : Fin 1024 → EReal) (k : Fin 1024) : EReal :=
  x k * Ideal.rsqrt (Ideal.div (∑ i, x i * x i) (Ideal.ofBits .f32 1149239296#32) + Ideal.ofBits .f32 897988541#32) * g k * (1 + sc k) + sh k

/-- The row of the modulations that row `R` of batch `b` takes: the last one for the 256 rows of context, else the batch's. -/
def modRow (b : Fin 16) (R : Fin 2304) : Fin 17 := if R.val < 256 then 16 else ⟨b.val, by omega⟩

theorem modRow_ctx {b : Fin 16} {R : Fin 2304} (h : R.val < 256) : modRow b R = 16 := if_pos h
theorem modRow_lat {b : Fin 16} {R : Fin 2304} (h : ¬ R.val < 256) : modRow b R = ⟨b.val, by omega⟩ := if_neg h

/-- Column `j` of the gate's half of the first weights, and of the other half. -/
def gateCol (j : Fin 2816) : Fin 5632 := ⟨j.val, by omega⟩
def upCol (j : Fin 2816) : Fin 5632 := ⟨2816 + j.val, by omega⟩

/-- A row through the SwiGLU part: the norm, the two products, silu of the one times the other, the last product, gated onto the row. -/
def ffnRow (x g sh sc gt : Fin 1024 → EReal) (wi : Fin 1024 → Fin 5632 → EReal) (wd : Fin 2816 → Fin 1024 → EReal) (k : Fin 1024) : EReal :=
  x k + gt k * ∑ j : Fin 2816, ((∑ i, normMod x g sh sc i * wi i (gateCol j)) * Ideal.logistic (∑ i, normMod x g sh sc i * wi i (gateCol j))
    * ∑ i, normMod x g sh sc i * wi i (upCol j)) * wd j k

end Cert.Proof.Ffn

end
-- ==== Proof.Ffn.Reference.lean ====
/- The feed-forward reference's result, at a row and a column. -/
module

public import proofs.«01_k».proof.Proof.Ffn.Row
public import proofs.«01_k».proof.Proof.Gen.Reference2Ideal.Run

@[expose] public section

set_option maxRecDepth 16384

noncomputable section

namespace Cert.Proof.Ffn

open Cert.Reference2Ideal Cert.Reference2Ideal.Gen Cert.Reference2Ideal.Value
open Idealize.ShloMosaic Idealize.ShloMosaic.TcCoe

variable (m : (ℓ : Loc nD τ sig) → Buf (Elt Ideal) ℓ) (c : Dev nD)

theorem ref_at (b : Fin 16) (R : Fin 2304) (k : Fin 1024) :
    (res_main_v84 m c : FVec Ideal S16x2304x1024 .f32) (ix3 b R k)
      = ffnRow (fun k => (m ((c.tc : Thread nD τ).loc main_arg0) : FVec Ideal S16x2304x1024 .f32) (ix3 b R k))
          (fun k => (m ((c.tc : Thread nD τ).loc main_arg2) : FVec Ideal S4x1024 .f32) (ix2 1 k))
          (fun k => (m ((c.tc : Thread nD τ).loc main_arg1) : FVec Ideal S17x6x1024 .f32) (ix3 (modRow b R) 3 k))
          (fun k => (m ((c.tc : Thread nD τ).loc main_arg1) : FVec Ideal S17x6x1024 .f32) (ix3 (modRow b R) 4 k))
          (fun k => (m ((c.tc : Thread nD τ).loc main_arg1) : FVec Ideal S17x6x1024 .f32) (ix3 (modRow b R) 5 k))
          (fun i j => (m ((c.tc : Thread nD τ).loc main_arg3) : FVec Ideal S4x1024x5632 .f32) (ix3 1 i j))
          (fun j k => (m ((c.tc : Thread nD τ).loc main_arg4) : FVec Ideal S4x2816x1024 .f32) (ix3 1 j k)) k := by
  unfold ffnRow normMod Ideal.logistic gateCol upCol
  by_cases h : R.val < 256
  · rw [modRow_ctx h]
    pointwise [res_main_v84]
    simp only [dif_pos h]
  · have e : (⟨256 + (R.val - 256), by omega⟩ : Fin 2304) = R := Fin.ext (by show 256 + (R.val - 256) = R.val; omega)
    rw [modRow_lat h]
    pointwise [res_main_v84]
    simp only [dif_neg h, e]

end Cert.Proof.Ffn

end
-- ==== Proof.Ffn.Body.lean ====
/- What the feed-forward call's body leaves of its blocks, at a row and a column. -/
module

public import proofs.«01_k».proof.Proof.Ffn.Row
public import proofs.«01_k».proof.Proof.Gen.Kernel2Ideal.Value
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe

theorem pay3_at (v0 : Vec Ideal S1x256x1024 .f32) (v2 : Vec Ideal S1x1024 .f32) (v4 v6 : Vec Ideal S1x1x1x1024 .f32)
    (r : Fin 256) (k : Fin 1024) : k0_pay3 (F := Ideal) v0 v2 v4 v6 (ix2 r k)
      = normMod (fun k => v0 (ix3 0 r k)) (fun k => v2 (ix2 0 k)) (fun k => v4 (ix4 0 0 0 k)) (fun k => v6 (ix4 0 0 0 k)) k := by
  unfold normMod
  pointwise [k0_pay2, k0_pay3]

theorem pay4_at (v0 : Vec Ideal S1x256x1024 .f32) (v2 : Vec Ideal S1x1024 .f32) (v4 v6 : Vec Ideal S1x1x1x1024 .f32) (w : Vec Ideal S1x1024x2816 .bf16)
    (r : Fin 256) (k : Fin 2816) : k0_pay4 (F := Ideal) v0 v2 v4 v6 w (ix2 r k)
      = (∑ x, k0_pay3 (F := Ideal) v0 v2 v4 v6 (ix2 r x) * w (ix3 0 x k) : EReal) * Ideal.logistic (∑ x, k0_pay3 (F := Ideal) v0 v2 v4 v6 (ix2 r x) * w (ix3 0 x k) : EReal) := by
  pointwise [k0_pay4]

theorem pay1_at (v1 : FVec Ideal S256x1024 .f32) (v26 : FVec Ideal S256x1024 .bf16) (v31 : FVec Ideal S256x2816 .f32) (v33 : FVec Ideal S1024x2816 .bf16) (v37 : Vec Ideal S1x1x1x1024 .f32) (v39 : Vec Ideal S1x2816x1024 .bf16)
    (r : Fin 256) (k : Fin 1024) : k0_pay1 (F := Ideal) v1 v26 v31 v33 v37 v39 (ix3 0 r k)
      = (v1 (ix2 r k) + v37 (ix4 0 0 0 k) * ∑ x, (v31 (ix2 r x) * ∑ y, v26 (ix2 r y) * v33 (ix2 y x)) * v39 (ix3 0 x k) : EReal) := by
  pointwise [k0_pay1]

theorem pay2_at (v0 : Vec Ideal S1x256x1024 .f32) (r : Fin 256) (k : Fin 1024) : k0_pay2 (F := Ideal) v0 (ix2 r k) = v0 (ix3 0 r k) := by
  pointwise [k0_pay2]

theorem pay5_at (w : Vec Ideal S1x1024x2816 .bf16) (i : Fin 1024) (j : Fin 2816) : k0_pay5 (F := Ideal) w (ix2 i j) = w (ix3 0 i j) := by
  pointwise [k0_pay5]

theorem body_at (x0 : Vec Ideal S1x256x1024 .f32) (x1 : Vec Ideal S1x1024 .f32) (x2 x3 x4 : Vec Ideal S1x1x1x1024 .f32) (x5 : Vec Ideal S1x1024x5632 .bf16) (x6 : Vec Ideal S1x2816x1024 .bf16)
    (r : Fin 256) (k : Fin 1024) : out0_7 x0 x1 x2 x3 x4 x5 x6 (ix3 0 r k)
      = ffnRow (fun k => x0 (ix3 0 r k)) (fun k => x1 (ix2 0 k)) (fun k => x2 (ix4 0 0 0 k)) (fun k => x3 (ix4 0 0 0 k)) (fun k => x4 (ix4 0 0 0 k))
          (fun i j => x5 (ix3 0 i j)) (fun j k => x6 (ix3 0 j k)) k := by
  have h0 : View.ld x0 r0_0 = x0 := View.ld_unit_lit (S := S1x256x1024) _ x0 (by decide)
  have h1 : View.ld x1 r0_1 = x1 := View.ld_unit_lit (S := S1x1024) _ x1 (by decide)
  have h2 : View.ld x2 r0_2 = x2 := View.ld_unit_lit (S := S1x1x1x1024) _ x2 (by decide)
  have h3 : View.ld x3 r0_2 = x3 := View.ld_unit_lit (S := S1x1x1x1024) _ x3 (by decide)
  have h4 : View.ld x4 r0_2 = x4 := View.ld_unit_lit (S := S1x1x1x1024) _ x4 (by decide)
  have h6 : View.ld x6 r0_5 = x6 := View.ld_unit_lit (S := S1x2816x1024) _ x6 (by decide)
  have h5 (i : Fin 1024) (j : Fin 2816) : View.ld x5 r0_3 (ix3 0 i j) = x5 (ix3 0 i (gateCol j)) :=
    View.ld_unit_apply_of _ _ _ _ _ _ (fun a => match a with | ⟨0, _⟩ => rfl | ⟨1, _⟩ => (Nat.zero_add _).symm | ⟨2, _⟩ => (Nat.zero_add _).symm)
  have h5' (i : Fin 1024) (j : Fin 2816) : View.ld x5 r0_4 (ix3 0 i j) = x5 (ix3 0 i (upCol j)) :=
    View.ld_unit_apply_of _ _ _ _ _ _ (fun a => match a with | ⟨0, _⟩ => rfl | ⟨1, _⟩ => (Nat.zero_add _).symm | ⟨2, _⟩ => rfl)
  rw [out0_7, h0, h1, h2, h3, h4, h6]
  refine (congrFun (View.canon_cons_unit_lit (S := S1x256x1024) _ _ _ (by decide)) _).trans ?_
  refine (pay1_at _ _ _ _ _ _ r k).trans ?_
  simp only [pay2_at, pay3_at, pay4_at, pay5_at, h5, h5', ffnRow]

end Cert.Proof.Ffn

end
-- ==== Proof.Ffn.Values.lean ====
/- The feed-forward call's result array: each block from the body, each input block at its place in its array. -/
module

public import proofs.«01_k».proof.Proof.Ffn.Body
public import Idealize.ShloMosaic.Lib.Pipeline.ValueKit
public import Idealize.ShloMosaic.Lib.StableHlo.Run

@[expose] public section

set_option maxRecDepth 16384

noncomputable section

namespace Cert.Proof.Ffn

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

/-! ## The arrays that the region reads, from the arguments -/

theorem gain_at (k : Fin 1024) : (V m c main_v5 : FVec Ideal S1x1024 .f32) (ix2 0 k)
    = (m ((c.tc : Thread nD τ).loc main_arg2) : FVec Ideal S4x1024 .f32) (ix2 1 k) := by
  have e : (V m c main_v5 : FVec Ideal S1x1024 .f32) = broadcastInDim S1x1024 ![1] bcast_S1024_S1x1024_1
      (shapeCast S1024 (extractStridedSlice S1x1024 ![1, 0] (m ((c.tc : Thread nD τ).loc main_arg2) : FVec Ideal S4x1024 .f32) slices_S4x1024_S1x1024_1_0) shapeCasts_S1x1024_S1024) := by
    unfold V; simp only [hostOps0]; after_results_simp <;> rfl
  rw [e]
  pointwise

theorem mods_at (b : Fin 17) (w : Fin 6) (k : Fin 1024) : (V m c main_v2 : FVec Ideal S17x6x1x1024 .f32) (ix4 b w 0 k)
    = (m ((c.tc : Thread nD τ).loc main_arg1) : FVec Ideal S17x6x1024 .f32) (ix3 b w k) := by
  have e : (V m c main_v2 : FVec Ideal S17x6x1x1024 .f32) = shapeCast S17x6x1x1024 (m ((c.tc : Thread nD τ).loc main_arg1) : FVec Ideal S17x6x1024 .f32) shapeCasts_S17x6x1024_S17x6x1x1024 := by
    unfold V; simp only [hostOps0]; after_results_simp <;> rfl
  rw [e]
  pointwise

theorem wi_eq : (V m c main_v0 : FVec Ideal S4x1024x5632 .bf16) = (m ((c.tc : Thread nD τ).loc main_arg3) : FVec Ideal S4x1024x5632 .f32) := by
  unfold V; simp only [hostOps0]; after_results_simp <;> rfl

theorem wd_eq : (V m c main_v1 : FVec Ideal S4x2816x1024 .bf16) = (m ((c.tc : Thread nD τ).loc main_arg4) : FVec Ideal S4x2816x1024 .f32) := by
  unfold V; simp only [hostOps0]; after_results_simp <;> rfl

/-! ## The blocks -/

theorem coords_lt (t : Fin cfg0.N) : (grid0.coords t 0).val < 16 ∧ (grid0.coords t 1).val < 9 := ⟨(grid0.coords t 0).isLt, (grid0.coords t 1).isLt⟩

/-- The batch of a grid point, and row `r` of its tile. -/
def batchAt (t : Fin cfg0.N) : Fin 16 := ⟨(grid0.coords t 0).val, (coords_lt t).1⟩
def rowAt (t : Fin cfg0.N) (r : Fin 256) : Fin 2304 := ⟨256 * (grid0.coords t 1).val + r.val, by have := (coords_lt t).2; omega⟩

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![if (grid0.coords t 1).val < 1 then 16 else (grid0.coords t 0).val, 3, 0, 0] :=
  (by decide +kernel : ∀ t : Fin grid0.N, win0_2.index t = ![if (grid0.coords t 1).val < 1 then 16 else (grid0.coords t 0).val, 3, 0, 0])
theorem idx3 : ∀ t : Fin cfg0.N, win0_3.index t = ![if (grid0.coords t 1).val < 1 then 16 else (grid0.coords t 0).val, 4, 0, 0] :=
  (by decide +kernel : ∀ t : Fin grid0.N, win0_3.index t = ![if (grid0.coords t 1).val < 1 then 16 else (grid0.coords t 0).val, 4, 0, 0])
theorem idx4 : ∀ t : Fin cfg0.N, win0_4.index t = ![if (grid0.coords t 1).val < 1 then 16 else (grid0.coords t 0).val, 5, 0, 0] :=
  (by decide +kernel : ∀ t : Fin grid0.N, win0_4.index t = ![if (grid0.coords t 1).val < 1 then 16 else (grid0.coords t 0).val, 5, 0, 0])
theorem idx5 : ∀ t : Fin cfg0.N, win0_5.index t = ![1, 0, 0] :=
  (by decide +kernel : ∀ t : Fin grid0.N, win0_5.index t = ![1, 0, 0])
theorem idx6 : ∀ t : Fin cfg0.N, win0_6.index t = ![1, 0, 0] :=
  (by decide +kernel : ∀ t : Fin grid0.N, win0_6.index t = ![1, 0, 0])
theorem idx7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])

theorem modRow_val (t : Fin cfg0.N) (r : Fin 256) :
    (modRow (batchAt t) (rowAt t r)).val = if (grid0.coords t 1).val < 1 then 16 else (grid0.coords t 0).val := by
  have hr := r.isLt
  by_cases h : (grid0.coords t 1).val < 1
  · rw [if_pos h, modRow_ctx (show 256 * (grid0.coords t 1).val + r.val < 256 by omega)]; rfl
  · rw [if_neg h, modRow_lat (show ¬ 256 * (grid0.coords t 1).val + r.val < 256 by omega)]; rfl

theorem blk0 (t : Fin cfg0.N) (r : Fin 256) (k : Fin 1024) :
    (iblk m c 0 t : FVec Ideal S1x256x1024 .f32) (ix3 0 r k) = (m ((c.tc : Thread nD τ).loc main_arg0) : FVec Ideal S16x2304x1024 .f32) (ix3 (batchAt t) (rowAt t r) k) := by
  have e := idx0 t
  rw [← V_main_arg0 m c]
  blk_simp [iblk, e]
  refine congrArg (V m c main_arg0) ?_
  blk_ext [e, batchAt, rowAt]

theorem blk1 (t : Fin cfg0.N) (k : Fin 1024) :
    (iblk m c 1 t : FVec Ideal S1x1024 .f32) (ix2 0 k) = (m ((c.tc : Thread nD τ).loc main_arg2) : FVec Ideal S4x1024 .f32) (ix2 1 k) := by
  have e := idx1 t
  rw [← gain_at m c]
  blk_simp [iblk, e]
  refine congrArg (V m c main_v5) ?_
  blk_ext [e]

theorem blk2 (t : Fin cfg0.N) (r : Fin 256) (k : Fin 1024) :
    (iblk m c 2 t : FVec Ideal S1x1x1x1024 .f32) (ix4 0 0 0 k) = (m ((c.tc : Thread nD τ).loc main_arg1) : FVec Ideal S17x6x1024 .f32) (ix3 (modRow (batchAt t) (rowAt t r)) 3 k) := by
  have e := idx2 t
  rw [← mods_at m c]
  blk_simp [iblk, e]
  refine congrArg (V m c main_v2) ?_
  blk_ext [e, modRow_val]

theorem blk3 (t : Fin cfg0.N) (r : Fin 256) (k : Fin 1024) :
    (iblk m c 3 t : FVec Ideal S1x1x1x1024 .f32) (ix4 0 0 0 k) = (m ((c.tc : Thread nD τ).loc main_arg1) : FVec Ideal S17x6x1024 .f32) (ix3 (modRow (batchAt t) (rowAt t r)) 4 k) := by
  have e := idx3 t
  rw [← mods_at m c]
  blk_simp [iblk, e]
  refine congrArg (V m c main_v2) ?_
  blk_ext [e, modRow_val]

theorem blk4 (t : Fin cfg0.N) (r : Fin 256) (k : Fin 1024) :
    (iblk m c 4 t : FVec Ideal S1x1x1x1024 .f32) (ix4 0 0 0 k) = (m ((c.tc : Thread nD τ).loc main_arg1) : FVec Ideal S17x6x1024 .f32) (ix3 (modRow (batchAt t) (rowAt t r)) 5 k) := by
  have e := idx4 t
  rw [← mods_at m c]
  blk_simp [iblk, e]
  refine congrArg (V m c main_v2) ?_
  blk_ext [e, modRow_val]

theorem blk5 (t : Fin cfg0.N) (i : Fin 1024) (j : Fin 5632) :
    (iblk m c 5 t : FVec Ideal S1x1024x5632 .bf16) (ix3 0 i j) = (m ((c.tc : Thread nD τ).loc main_arg3) : FVec Ideal S4x1024x5632 .f32) (ix3 1 i j) := by
  have e := idx5 t
  rw [← wi_eq m c]
  blk_simp [iblk, e]
  refine congrArg (V m c main_v0) ?_
  blk_ext [e]

theorem blk6 (t : Fin cfg0.N) (i : Fin 2816) (j : Fin 1024) :
    (iblk m c 6 t : FVec Ideal S1x2816x1024 .bf16) (ix3 0 i j) = (m ((c.tc : Thread nD τ).loc main_arg4) : FVec Ideal S4x2816x1024 .f32) (ix3 1 i j) := by
  have e := idx6 t
  rw [← wd_eq m c]
  blk_simp [iblk, e]
  refine congrArg (V m c main_v1) ?_
  blk_ext [e]

theorem blk7 (t : Fin cfg0.N) (r : Fin 256) (k : Fin 1024) :
    (win0_7.blk t).view.emb (ix3 0 r k) = ix3 (batchAt t) (rowAt t r) k := by
  have e := idx7 t
  blk_ext [e, batchAt, rowAt]

/-- The result array, when `G` is the row's value at each entry. -/
theorem final_out (G : FVec Ideal S16x2304x1024 .f32)
    (hG : ∀ (b : Fin 16) (R : Fin 2304) (k : Fin 1024), G (ix3 b R k)
      = ffnRow (fun k => (m ((c.tc : Thread nD τ).loc main_arg0) : FVec Ideal S16x2304x1024 .f32) (ix3 b R k))
          (fun k => (m ((c.tc : Thread nD τ).loc main_arg2) : FVec Ideal S4x1024 .f32) (ix2 1 k))
          (fun k => (m ((c.tc : Thread nD τ).loc main_arg1) : FVec Ideal S17x6x1024 .f32) (ix3 (modRow b R) 3 k))
          (fun k => (m ((c.tc : Thread nD τ).loc main_arg1) : FVec Ideal S17x6x1024 .f32) (ix3 (modRow b R) 4 k))
          (fun k => (m ((c.tc : Thread nD τ).loc main_arg1) : FVec Ideal S17x6x1024 .f32) (ix3 (modRow b R) 5 k))
          (fun i j => (m ((c.tc : Thread nD τ).loc main_arg3) : FVec Ideal S4x1024x5632 .f32) (ix3 1 i j))
          (fun j k => (m ((c.tc : Thread nD τ).loc main_arg4) : FVec Ideal S4x2816x1024 .f32) (ix3 1 j k)) k) :
    (dats m 0 c).arrAt 7 cfg0.N = G := by
  refine (dats m 0 c).arrAt_eq_of_covers 7 _ (by decide +kernel) fun t hfl y => ?_
  blk_simp
  rw [after0_7]
  obtain ⟨r, k, rfl⟩ : ∃ (r : Fin 256) (k : Fin 1024), y = (ix3 0 r k : S1x256x1024.Idx) := by
    have y0 : (y 0).val < 1 := (y 0).isLt
    refine ⟨⟨(y 1).val, (y 1).isLt⟩, ⟨(y 2).val, (y 2).isLt⟩, funext fun a => Fin.ext ?_⟩
    match a with
    | ⟨0, _⟩ => show (y 0).val = 0; omega
    | ⟨1, _⟩ => rfl
    | ⟨2, _⟩ => rfl
  refine (body_at _ _ _ _ _ _ _ r k).trans (Eq.trans ?_ ((congrArg G (blk7 t r k)).trans (hG _ _ _)).symm)
  simp only [blk0, blk1, blk2 m c t r, blk3 m c t r, blk4 m c t r, blk5, blk6]

end Cert.Proof.Ffn

end
-- ==== Proof.Ffn.Claims.lean ====
/- The claims of the feed-forward call: the three frames, and the values. -/
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Ffn.Reference
public import proofs.«01_k».proof.Proof.Ffn.Values
public import Idealize.ShloMosaic.Lib.Quiescent

@[expose] public section

noncomputable section

open Idealize.ShloMosaic Idealize.ShloMosaic.TcCoe

namespace Cert.Proof.Ffn

variable {F : FTy → Type} [FloatOps F]

/-- The two programs' tables of kernel bodies are one: their texts are the same. -/
theorem body_table_same [Cert.Kernel2.Facts] [Cert.Kernel2Ideal.Facts] :
    Cert.Kernel2.defs₀ (F := F) = Cert.Kernel2Ideal.defs₀ (F := F) := by
  unfold Cert.Kernel2.defs₀ Cert.Kernel2Ideal.defs₀
  congr 1
  funext l a
  match l, a with
  | ⟨0, _⟩, (t, s) => rfl
  | ⟨n + 1, h⟩, _ => exact absurd h (by omega)

theorem table_same [Cert.Kernel2.Facts] [Cert.Kernel2Ideal.Facts] :
    Cert.Kernel2.defs (F := F) = Cert.Kernel2Ideal.defs (F := F) :=
  congrArg (Pipeline.defs (Cert.Kernel2Ideal.pcfgs (F := F))) body_table_same

/-- The frame of the kernel as printed: its text is the idealized kernel's, so the one run serves at the bits. -/
theorem frame_kernel : Cert.quiescent_Kernel2 := fun m ρ _ =>
  Eq.mpr (congrArg (fun d => θ_run d _ _ _) table_same) (Cert.Kernel2Ideal.Gen.frame (F := Bits) m ρ)

theorem frame_ideal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => ((h c).2), sem_eq_zero_of_no_sems (by decide) r.2⟩)
    (Cert.Reference2Ideal.Value.run (F := Ideal) m ρ)

/-- The value claim: from agreeing arguments, the kernel's result array is the reference's. -/
theorem values : Cert.algebraic_Kernel2Ideal_Reference2Ideal := by
  intro m ρ m' ρ' _ hagree
  refine ⟨fun c => Cert.Reference2Ideal.Value.res_main_v84 m' c, ?_, ?_⟩
  · refine (θ_run Cert.Kernel2Ideal.defs _ _).mono (fun r h c => ?_) (Cert.Kernel2Ideal.Value.run_blocks (F := Ideal) m ρ)
    obtain ⟨a0, a1, a2, a3, a4⟩ := hagree c
    refine ⟨(h c).1.trans (final_out m c _ fun b R k => ?_), (h c).2⟩
    refine (ref_at m' c b R k).trans ?_
    rw [a0, a1, a2, a3, a4]
  · exact Cert.Reference2Ideal.Value.run (F := Ideal) m' ρ'

end Cert.Proof.Ffn

end
-- ==== Proof.Inproj.Row.lean ====
/- One row of the mixer's input projection, over the extended reals. -/
module

public import proofs.«01_k».proof.Proof.Ffn.Row

@[expose] public section

noncomputable section

namespace Cert.Proof.Inproj

open Idealize.ShloMosaic
open Cert.Proof.Ffn (normMod)

/-- Column `j` of the `n`-th 1024 columns of the weights. -/
def colAt (n : Fin 5) (j : Fin 1024) : Fin 11776 := ⟨1024 * n.val + j.val, by omega⟩

/-- The modulated row through the weights' column `j`. -/
def proj (h : Fin 1024 → EReal) (w : Fin 1024 → Fin 11776 → EReal) (j : Fin 11776) : EReal := ∑ i, h i * w i j

/-- silu, times the scale of the queries where there is one. -/
def silu (z : EReal) : EReal := z * Ideal.logistic z
def query (z : EReal) : EReal := silu z * Ideal.ofBits .f32 1035273459#32

/-- The forget gate, between its lower bound and 1. -/
def gate (lb z : EReal) : EReal := lb + (1 - lb) * Ideal.logistic z

end Cert.Proof.Inproj

end
-- ==== Proof.Inproj.Reference.lean ====
/- The input projection's reference, at a row and a column. -/
module

public import proofs.«01_k».proof.Proof.Inproj.Row
public import proofs.«01_k».proof.Proof.Gen.Reference3Ideal.Run

@[expose] public section

set_option maxRecDepth 16384

noncomputable section

namespace Cert.Proof.Inproj

open Cert.Reference3Ideal Cert.Reference3Ideal.Gen Cert.Reference3Ideal.Value
open Cert.Proof.Ffn (normMod modRow modRow_ctx modRow_lat)
open Idealize.ShloMosaic Idealize.ShloMosaic.TcCoe

variable (m : (ℓ : Loc nD τ sig) → Buf (Elt Ideal) ℓ) (c : Dev nD)

theorem ref_q (b : Fin 16) (R : Fin 2304) (k : Fin 1024) :
    (res_main_v105 m c : FVec Ideal S16x2304x1024 .bf16) (ix3 b R k)
      = query (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 0 k)) := by
  unfold normMod proj colAt query silu Ideal.logistic
  by_cases h : R.val < 256
  · rw [modRow_ctx h]
    pointwise [res_main_v105]
    simp only [dif_pos h]
  · have e : (⟨256 + (R.val - 256), by omega⟩ : Fin 2304) = R := Fin.ext (by show 256 + (R.val - 256) = R.val; omega)
    rw [modRow_lat h]
    pointwise [res_main_v105]
    simp only [dif_neg h, e]

theorem ref_v (b : Fin 16) (R : Fin 2304) (k : Fin 1024) :
    (res_main_v106 m c : FVec Ideal S16x2304x1024 .bf16) (ix3 b R k)
      = proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 1 k) := by
  unfold normMod proj colAt
  by_cases h : R.val < 256
  · rw [modRow_ctx h]
    pointwise [res_main_v106]
    simp only [dif_pos h]
  · have e : (⟨256 + (R.val - 256), by omega⟩ : Fin 2304) = R := Fin.ext (by show 256 + (R.val - 256) = R.val; omega)
    rw [modRow_lat h]
    pointwise [res_main_v106]
    simp only [dif_neg h, e]

theorem ref_ff (b : Fin 16) (R : Fin 2304) (k : Fin 1024) :
    (res_main_v90 m c : FVec Ideal S16x2304x1024 .f32) (ix3 b R k)
      = gate ((m ((c.tc : Thread nD τ).loc main_arg4) : FVec Ideal S2x4x1024 .f32) (ix3 0 1 k)) (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 2 k)) := by
  unfold normMod proj colAt gate Ideal.logistic
  by_cases h : R.val < 256
  · rw [modRow_ctx h]
    pointwise [res_main_v90]
    simp only [dif_pos h]
  · have e : (⟨256 + (R.val - 256), by omega⟩ : Fin 2304) = R := Fin.ext (by show 256 + (R.val - 256) = R.val; omega)
    rw [modRow_lat h]
    pointwise [res_main_v90]
    simp only [dif_neg h, e]

theorem ref_fb (b : Fin 16) (R : Fin 2304) (k : Fin 1024) :
    (res_main_v104 m c : FVec Ideal S16x2304x1024 .f32) (ix3 b R k)
      = gate ((m ((c.tc : Thread nD τ).loc main_arg4) : FVec Ideal S2x4x1024 .f32) (ix3 1 1 k)) (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 3 k)) := by
  unfold normMod proj colAt gate Ideal.logistic
  by_cases h : R.val < 256
  · rw [modRow_ctx h]
    pointwise [res_main_v104]
    simp only [dif_pos h]
  · have e : (⟨256 + (R.val - 256), by omega⟩ : Fin 2304) = R := Fin.ext (by show 256 + (R.val - 256) = R.val; omega)
    rw [modRow_lat h]
    pointwise [res_main_v104]
    simp only [dif_neg h, e]

theorem ref_sg (b : Fin 16) (R : Fin 2304) (k : Fin 1024) :
    (res_main_v108 m c : FVec Ideal S16x2304x1024 .bf16) (ix3 b R k)
      = silu (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 4 k)) := by
  unfold normMod proj colAt silu Ideal.logistic
  by_cases h : R.val < 256
  · rw [modRow_ctx h]
    pointwise [res_main_v108]
    simp only [dif_pos h]
  · have e : (⟨256 + (R.val - 256), by omega⟩ : Fin 2304) = R := Fin.ext (by show 256 + (R.val - 256) = R.val; omega)
    rw [modRow_lat h]
    pointwise [res_main_v108]
    simp only [dif_neg h, e]

end Cert.Proof.Inproj

end
-- ==== Proof.Inproj.Body.lean ====
/- What the input projection's body leaves of its blocks, at a row and a column. -/
module

public import proofs.«01_k».proof.Proof.Inproj.Row
public import proofs.«01_k».proof.Proof.Gen.Kernel3Ideal.Value
public import Idealize.ShloMosaic.Lib.Pipeline.ValueKit

@[expose] public section

set_option maxRecDepth 16384

noncomputable section

namespace Cert.Proof.Inproj

open Cert.Kernel3Ideal Cert.Kernel3Ideal.Gen
open Cert.Proof.Ffn (normMod)
open Idealize.ShloMosaic Idealize.ShloMosaic.TcCoe

/-- Column `j` of the `n`-th 1024 columns of the block of the weights. -/
def blkCol (n : Fin 5) (j : Fin 1024) : Fin 5120 := ⟨1024 * n.val + j.val, by omega⟩

theorem pay3_at (v0 : Vec Ideal S1x256x1024 .f32) (v2 : Vec Ideal S1x1024 .f32) (v4 v6 : Vec Ideal S1x1x1x1024 .f32)
    (r : Fin 256) (k : Fin 1024) : k0_pay3 (F := Ideal) v0 v2 v4 v6 (ix2 r k)
      = normMod (fun k => v0 (ix3 0 r k)) (fun k => v2 (ix2 0 k)) (fun k => v4 (ix4 0 0 0 k)) (fun k => v6 (ix4 0 0 0 k)) k := by
  unfold normMod
  pointwise [k0_pay3]

theorem pay4_at (v0 : Vec Ideal S1x256x1024 .f32) (v2 : Vec Ideal S1x1024 .f32) (v4 v6 : Vec Ideal S1x1x1x1024 .f32) (w : Vec Ideal S1x1024x1024 .bf16)
    (r : Fin 256) (k : Fin 1024) : k0_pay5 (F := Ideal) (k0_pay4 v0 v2 v4 v6 w) (ix3 0 r k)
      = query (∑ i, k0_pay3 (F := Ideal) v0 v2 v4 v6 (ix2 r i) * w (ix3 0 i k) : EReal) := by
  unfold query silu
  pointwise [k0_pay4, k0_pay5]

theorem pay6_at (h : FVec Ideal S256x1024 .bf16) (w : Vec Ideal S1x1024x1024 .bf16) (r : Fin 256) (k : Fin 1024) :
    k0_pay6 (F := Ideal) h w (ix3 0 r k) = (∑ i, h (ix2 r i) * w (ix3 0 i k) : EReal) := by
  pointwise [k0_pay6]

theorem pay7_at (h : FVec Ideal S256x1024 .bf16) (lb : Vec Ideal S1x1024 .f32) (w : Vec Ideal S1x1024x1024 .bf16) (r : Fin 256) (k : Fin 1024) :
    k0_pay7 (F := Ideal) h lb w (ix3 0 r k) = gate (lb (ix2 0 k)) (∑ i, h (ix2 r i) * w (ix3 0 i k) : EReal) := by
  unfold gate
  pointwise [k0_pay7]

theorem pay1_at (h : FVec Ideal S256x1024 .bf16) (lb : Vec Ideal S1x1024 .f32) (w : Vec Ideal S1x1024x1024 .bf16) (r : Fin 256) (k : Fin 1024) :
    k0_pay1 (F := Ideal) (k0_pay8 lb) (k0_pay9 h w) k0_pay10 (ix3 0 r k) = gate (lb (ix2 0 k)) (∑ i, h (ix2 r i) * w (ix3 0 i k) : EReal) := by
  unfold gate
  pointwise [k0_pay1, k0_pay8, k0_pay9, k0_pay10]

theorem pay2_at (h : FVec Ideal S256x1024 .bf16) (w : Vec Ideal S1x1024x1024 .bf16) (r : Fin 256) (k : Fin 1024) :
    k0_pay2 (F := Ideal) h w (ix3 0 r k) = silu (∑ i, h (ix2 r i) * w (ix3 0 i k) : EReal) := by
  unfold silu
  pointwise [k0_pay2]

/-- A load of 1024 columns of the weights, from a column on. -/
theorem cols_at (x4 : Vec Ideal S1x1024x5120 .bf16) (n : Fin 5) (o : Nat) (ho : o = 1024 * n.val) (inb) (i j : Fin 1024) :
    View.ld x4 (Rect.unit (s := S1x1024x5120) ![0, 0, o] S1x1024x1024.size inb) (ix3 0 i j) = x4 (ix3 0 i (blkCol n j)) := by
  subst ho
  exact View.ld_unit_apply_of _ _ _ _ _ _ (fun a => match a with | ⟨0, _⟩ => rfl | ⟨1, _⟩ => (Nat.zero_add _).symm | ⟨2, _⟩ => rfl)

section Outputs

variable (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x1x1024 .f32) (harg4 : arg4.IsWhole) (arg5 : Memref sig .tc .vmem S1x1x1x1024 .f32) (harg5 : arg5.IsWhole)
    (arg6 : Memref sig .tc .vmem S1x1024x5120 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x256x1024 .bf16) (harg9 : arg9.IsWhole) (arg10 : Memref sig .tc .vmem S1x256x1024 .bf16) (harg10 : arg10.IsWhole)
    (arg11 : Memref sig .tc .vmem S1x256x1024 .f32) (harg11 : arg11.IsWhole) (arg12 : Memref sig .tc .vmem S1x256x1024 .f32) (harg12 : arg12.IsWhole) (arg13 : Memref sig .tc .vmem S1x256x1024 .bf16) (harg13 : arg13.IsWhole)
    (x0 : Vec Ideal S1x256x1024 .f32) (x1 : Vec Ideal S1x1024 .f32) (x2 : Vec Ideal S1x1x1x1024 .f32) (x3 : Vec Ideal S1x1x1x1024 .f32) (x4 : Vec Ideal S1x1024x5120 .bf16) (x5 : Vec Ideal S1x1024 .f32) (x6 : Vec Ideal S1x1024 .f32)

/-- The modulated row `r` of the block, from the blocks of the stream, the gain and the modulations. -/
def rowOf (r : Fin 256) : Fin 1024 → EReal :=
  normMod (fun k => x0 (ix3 0 r k)) (fun k => x1 (ix2 0 k)) (fun k => x2 (ix4 0 0 0 k)) (fun k => x3 (ix4 0 0 0 k))

theorem out7_at (r : Fin 256) (k : Fin 1024) :
    out0_A_7 c i arg2 harg2 arg3 harg3 arg4 harg4 arg5 harg5 arg6 harg6 arg7 harg7 arg8 harg8 arg9 harg9 arg10 harg10 arg11 harg11 arg12 harg12 arg13 harg13 x0 x1 x2 x3 x4 x5 x6 (ix3 0 r k)
      = query (∑ i, rowOf x0 x1 x2 x3 r i * x4 (ix3 0 i (blkCol 0 k))) := by
  have h0 (inb) : View.ld x0 (Rect.unit (s := S1x256x1024) ![0, 0, 0] S1x256x1024.size inb) = x0 := View.ld_unit_lit (S := S1x256x1024) _ x0 (by decide)
  have h1 (inb) : View.ld x1 (Rect.unit (s := S1x1024) ![0, 0] S1x1024.size inb) = x1 := View.ld_unit_lit (S := S1x1024) _ x1 (by decide)
  have h2 (inb) : View.ld x2 (Rect.unit (s := S1x1x1x1024) ![0, 0, 0, 0] S1x1x1x1024.size inb) = x2 := View.ld_unit_lit (S := S1x1x1x1024) _ x2 (by decide)
  have h3 (inb) : View.ld x3 (Rect.unit (s := S1x1x1x1024) ![0, 0, 0, 0] S1x1x1x1024.size inb) = x3 := View.ld_unit_lit (S := S1x1x1x1024) _ x3 (by decide)
  rw [out0_A_7, View.read_writes_junk_eq_canon]
  unfold kernelRun0_A
  dsimp only
  unfold kernelRun0_A.sl.r_1
  refine (congrFun (View.canon_cons_unit_lit (S := S1x256x1024) _ _ _ (by decide)) _).trans ?_
  simp only [View.readAt_eq_ld, harg2.read_unread, harg3.read_unread, harg4.read_unread, harg5.read_unread, harg6.read_unread, h0, h1, h2, h3]
  refine (pay4_at _ _ _ _ _ r k).trans ?_
  simp only [pay3_at, cols_at x4 0 0 rfl, rowOf]

theorem out8_at (r : Fin 256) (k : Fin 1024) :
    out0_A_8 c i arg2 harg2 arg3 harg3 arg4 harg4 arg5 harg5 arg6 harg6 arg7 harg7 arg8 harg8 arg9 harg9 arg10 harg10 arg11 harg11 arg12 harg12 arg13 harg13 x0 x1 x2 x3 x4 x5 x6 (ix3 0 r k)
      = (∑ i, rowOf x0 x1 x2 x3 r i * x4 (ix3 0 i (blkCol 1 k)) : EReal) := by
  have h0 (inb) : View.ld x0 (Rect.unit (s := S1x256x1024) ![0, 0, 0] S1x256x1024.size inb) = x0 := View.ld_unit_lit (S := S1x256x1024) _ x0 (by decide)
  have h1 (inb) : View.ld x1 (Rect.unit (s := S1x1024) ![0, 0] S1x1024.size inb) = x1 := View.ld_unit_lit (S := S1x1024) _ x1 (by decide)
  have h2 (inb) : View.ld x2 (Rect.unit (s := S1x1x1x1024) ![0, 0, 0, 0] S1x1x1x1024.size inb) = x2 := View.ld_unit_lit (S := S1x1x1x1024) _ x2 (by decide)
  have h3 (inb) : View.ld x3 (Rect.unit (s := S1x1x1x1024) ![0, 0, 0, 0] S1x1x1x1024.size inb) = x3 := View.ld_unit_lit (S := S1x1x1x1024) _ x3 (by decide)
  rw [out0_A_8, View.read_writes_junk_eq_canon]
  unfold kernelRun0_A
  dsimp only
  unfold kernelRun0_A.sl.r
  refine (congrFun (View.canon_cons_unit_lit (S := S1x256x1024) _ _ _ (by decide)) _).trans ?_
  simp only [View.readAt_eq_ld, harg2.read_unread, harg3.read_unread, harg4.read_unread, harg5.read_unread, harg6.read_unread, h0, h1, h2, h3]
  refine (pay6_at _ _ r k).trans ?_
  simp only [pay3_at, cols_at x4 1 1024 rfl, rowOf]

theorem out9_at (r : Fin 256) (k : Fin 1024) :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 (ix3 0 r k)
      = gate (x5 (ix2 0 k)) (∑ i, rowOf x0 x1 x2 x3 r i * x4 (ix3 0 i (blkCol 2 k))) := by
  have h0 (inb) : View.ld x0 (Rect.unit (s := S1x256x1024) ![0, 0, 0] S1x256x1024.size inb) = x0 := View.ld_unit_lit (S := S1x256x1024) _ x0 (by decide)
  have h1 (inb) : View.ld x1 (Rect.unit (s := S1x1024) ![0, 0] S1x1024.size inb) = x1 := View.ld_unit_lit (S := S1x1024) _ x1 (by decide)
  have h2 (inb) : View.ld x2 (Rect.unit (s := S1x1x1x1024) ![0, 0, 0, 0] S1x1x1x1024.size inb) = x2 := View.ld_unit_lit (S := S1x1x1x1024) _ x2 (by decide)
  have h3 (inb) : View.ld x3 (Rect.unit (s := S1x1x1x1024) ![0, 0, 0, 0] S1x1x1x1024.size inb) = x3 := View.ld_unit_lit (S := S1x1x1x1024) _ x3 (by decide)
  have h5 (inb) : View.ld x5 (Rect.unit (s := S1x1024) ![0, 0] S1x1024.size inb) = x5 := View.ld_unit_lit (S := S1x1024) _ x5 (by decide)
  rw [out0_A_9, View.read_writes_junk_eq_canon]
  unfold kernelRun0_A
  dsimp only
  unfold kernelRun0_A.sl.r
  refine (congrFun (View.canon_cons_unit_lit (S := S1x256x1024) _ _ _ (by decide)) _).trans ?_
  simp only [View.readAt_eq_ld, harg2.read_unread, harg3.read_unread, harg4.read_unread, harg5.read_unread, harg6.read_unread, harg7.read_unread, h0, h1, h2, h3, h5]
  refine (pay7_at _ _ _ r k).trans ?_
  simp only [pay3_at, cols_at x4 2 2048 rfl, rowOf]

theorem out10_at (r : Fin 256) (k : Fin 1024) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 (ix3 0 r k)
      = gate (x6 (ix2 0 k)) (∑ i, rowOf x0 x1 x2 x3 r i * x4 (ix3 0 i (blkCol 3 k))) := by
  have h0 (inb) : View.ld x0 (Rect.unit (s := S1x256x1024) ![0, 0, 0] S1x256x1024.size inb) = x0 := View.ld_unit_lit (S := S1x256x1024) _ x0 (by decide)
  have h1 (inb) : View.ld x1 (Rect.unit (s := S1x1024) ![0, 0] S1x1024.size inb) = x1 := View.ld_unit_lit (S := S1x1024) _ x1 (by decide)
  have h2 (inb) : View.ld x2 (Rect.unit (s := S1x1x1x1024) ![0, 0, 0, 0] S1x1x1x1024.size inb) = x2 := View.ld_unit_lit (S := S1x1x1x1024) _ x2 (by decide)
  have h3 (inb) : View.ld x3 (Rect.unit (s := S1x1x1x1024) ![0, 0, 0, 0] S1x1x1x1024.size inb) = x3 := View.ld_unit_lit (S := S1x1x1x1024) _ x3 (by decide)
  have h6 (inb) : View.ld x6 (Rect.unit (s := S1x1024) ![0, 0] S1x1024.size inb) = x6 := View.ld_unit_lit (S := S1x1024) _ x6 (by decide)
  rw [out0_A_10, View.read_writes_junk_eq_canon]
  unfold kernelRun0_A
  dsimp only
  unfold kernelRun0_A.sl.r_2 kernelRun0_A.sl.r_3 kernelRun0_A.sl.r
  refine (congrFun (View.canon_cons_unit_lit (S := S1x256x1024) _ _ _ (by decide)) _).trans ?_
  simp only [View.readAt_eq_ld, harg2.read_unread, harg3.read_unread, harg4.read_unread, harg5.read_unread, harg6.read_unread, harg8.read_unread, h0, h1, h2, h3, h6]
  refine (pay1_at _ _ _ r k).trans ?_
  simp only [pay3_at, cols_at x4 3 3072 rfl, rowOf]

theorem out11_at (r : Fin 256) (k : Fin 1024) :
    out0_A_11 c i arg2 harg2 arg3 harg3 arg4 harg4 arg5 harg5 arg6 harg6 arg7 harg7 arg8 harg8 arg9 harg9 arg10 harg10 arg11 harg11 arg12 harg12 arg13 harg13 x0 x1 x2 x3 x4 x5 x6 (ix3 0 r k)
      = silu (∑ i, rowOf x0 x1 x2 x3 r i * x4 (ix3 0 i (blkCol 4 k))) := by
  have h0 (inb) : View.ld x0 (Rect.unit (s := S1x256x1024) ![0, 0, 0] S1x256x1024.size inb) = x0 := View.ld_unit_lit (S := S1x256x1024) _ x0 (by decide)
  have h1 (inb) : View.ld x1 (Rect.unit (s := S1x1024) ![0, 0] S1x1024.size inb) = x1 := View.ld_unit_lit (S := S1x1024) _ x1 (by decide)
  have h2 (inb) : View.ld x2 (Rect.unit (s := S1x1x1x1024) ![0, 0, 0, 0] S1x1x1x1024.size inb) = x2 := View.ld_unit_lit (S := S1x1x1x1024) _ x2 (by decide)
  have h3 (inb) : View.ld x3 (Rect.unit (s := S1x1x1x1024) ![0, 0, 0, 0] S1x1x1x1024.size inb) = x3 := View.ld_unit_lit (S := S1x1x1x1024) _ x3 (by decide)
  rw [out0_A_11, View.read_writes_junk_eq_canon]
  unfold kernelRun0_A
  dsimp only
  unfold kernelRun0_A.sl.r
  refine (congrFun (View.canon_cons_unit_lit (S := S1x256x1024) _ _ _ (by decide)) _).trans ?_
  simp only [View.readAt_eq_ld, harg2.read_unread, harg3.read_unread, harg4.read_unread, harg5.read_unread, harg6.read_unread, h0, h1, h2, h3]
  refine (pay2_at _ _ r k).trans ?_
  simp only [pay3_at, cols_at x4 4 4096 rfl, rowOf]

end Outputs

end Cert.Proof.Inproj

end
-- ==== Proof.Inproj.Values.lean ====
/- The input projection's result arrays: each block from the body, each input block at its place in its array. -/
module

public import proofs.«01_k».proof.Proof.Inproj.Body
public import Idealize.ShloMosaic.Lib.Pipeline.ValueKit
public import Idealize.ShloMosaic.Lib.StableHlo.Run

@[expose] public section

set_option maxRecDepth 16384

noncomputable section

namespace Cert.Proof.Inproj

open Cert.Kernel3Ideal Cert.Kernel3Ideal.Gen
open Cert.Proof.Ffn (normMod modRow modRow_ctx modRow_lat)
open Idealize.ShloMosaic Idealize.ShloMosaic.TcCoe Idealize.ShloMosaic.StableHlo

variable (m : (ℓ : Loc nD τ sig) → Buf (Elt Ideal) ℓ) (c : Dev nD)

/-! ## The arrays that the region reads, from the arguments -/

theorem gain_at (k : Fin 1024) : (V m c main_v4 : FVec Ideal S1x1024 .f32) (ix2 0 k)
    = (m ((c.tc : Thread nD τ).loc main_arg2) : FVec Ideal S4x1024 .f32) (ix2 1 k) := by
  have e : (V m c main_v4 : FVec Ideal S1x1024 .f32) = broadcastInDim S1x1024 ![1] bcast_S1024_S1x1024_1
      (shapeCast S1024 (extractStridedSlice S1x1024 ![1, 0] (m ((c.tc : Thread nD τ).loc main_arg2) : FVec Ideal S4x1024 .f32) slices_S4x1024_S1x1024_1_0) shapeCasts_S1x1024_S1024) := by
    unfold V; simp only [hostOps0]; after_results_simp <;> rfl
  rw [e]
  pointwise

theorem mods_at (b : Fin 17) (w : Fin 6) (k : Fin 1024) : (V m c main_v1 : FVec Ideal S17x6x1x1024 .f32) (ix4 b w 0 k)
    = (m ((c.tc : Thread nD τ).loc main_arg1) : FVec Ideal S17x6x1024 .f32) (ix3 b w k) := by
  have e : (V m c main_v1 : FVec Ideal S17x6x1x1024 .f32) = shapeCast S17x6x1x1024 (m ((c.tc : Thread nD τ).loc main_arg1) : FVec Ideal S17x6x1024 .f32) shapeCasts_S17x6x1024_S17x6x1x1024 := by
    unfold V; simp only [hostOps0]; after_results_simp <;> rfl
  rw [e]
  pointwise

theorem w_eq : (V m c main_v0 : FVec Ideal S4x1024x11776 .bf16) = (m ((c.tc : Thread nD τ).loc main_arg3) : FVec Ideal S4x1024x11776 .f32) := by
  unfold V; simp only [hostOps0]; after_results_simp <;> rfl

theorem fwd_at (k : Fin 1024) : (V m c main_v7 : FVec Ideal S1x1024 .f32) (ix2 0 k) = (m ((c.tc : Thread nD τ).loc main_arg4) : FVec Ideal S2x4x1024 .f32) (ix3 0 1 k) := by
  have e : (V m c main_v7 : FVec Ideal S1x1024 .f32) = broadcastInDim S1x1024 ![1] bcast_S1024_S1x1024_1
      (shapeCast S1024 (extractStridedSlice S1x1x1024 ![0, 1, 0] (m ((c.tc : Thread nD τ).loc main_arg4) : FVec Ideal S2x4x1024 .f32) slices_S2x4x1024_S1x1x1024_0_1_0) shapeCasts_S1x1x1024_S1024) := by
    unfold V; simp only [hostOps0]; after_results_simp <;> rfl
  rw [e]
  pointwise

theorem bwd_at (k : Fin 1024) : (V m c main_v10 : FVec Ideal S1x1024 .f32) (ix2 0 k) = (m ((c.tc : Thread nD τ).loc main_arg4) : FVec Ideal S2x4x1024 .f32) (ix3 1 1 k) := by
  have e : (V m c main_v10 : FVec Ideal S1x1024 .f32) = broadcastInDim S1x1024 ![1] bcast_S1024_S1x1024_1
      (shapeCast S1024 (extractStridedSlice S1x1x1024 ![1, 1, 0] (m ((c.tc : Thread nD τ).loc main_arg4) : FVec Ideal S2x4x1024 .f32) slices_S2x4x1024_S1x1x1024_1_1_0) shapeCasts_S1x1x1024_S1024) := by
    unfold V; simp only [hostOps0]; after_results_simp <;> rfl
  rw [e]
  pointwise

/-! ## The blocks -/

theorem coords_lt (t : Fin cfg0.N) : (grid0.coords t 0).val < 16 ∧ (grid0.coords t 1).val < 9 := ⟨(grid0.coords t 0).isLt, (grid0.coords t 1).isLt⟩

/-- The batch of a grid point, and row `r` of its tile. -/
def batchAt (t : Fin cfg0.N) : Fin 16 := ⟨(grid0.coords t 0).val, (coords_lt t).1⟩
def rowAt (t : Fin cfg0.N) (r : Fin 256) : Fin 2304 := ⟨256 * (grid0.coords t 1).val + r.val, by have := (coords_lt t).2; omega⟩

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![if (grid0.coords t 1).val < 1 then 16 else (grid0.coords t 0).val, 0, 0, 0] :=
  (by decide +kernel : ∀ t : Fin grid0.N, win0_2.index t = ![if (grid0.coords t 1).val < 1 then 16 else (grid0.coords t 0).val, 0, 0, 0])
theorem idx3 : ∀ t : Fin cfg0.N, win0_3.index t = ![if (grid0.coords t 1).val < 1 then 16 else (grid0.coords t 0).val, 1, 0, 0] :=
  (by decide +kernel : ∀ t : Fin grid0.N, win0_3.index t = ![if (grid0.coords t 1).val < 1 then 16 else (grid0.coords t 0).val, 1, 0, 0])
theorem idx4 : ∀ t : Fin cfg0.N, win0_4.index t = ![1, 0, 0] :=
  (by decide +kernel : ∀ t : Fin grid0.N, win0_4.index t = ![1, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])
theorem idx8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem idx9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem idx10 : ∀ t : Fin cfg0.N, win0_10.index t = ![(grid0.coords t 0).val, (grid0.coords t 1).val, 0] :=
  (by decide +kernel : ∀ t : Fin grid0.N, win0_10.index t = ![(grid0.coords t 0).val, (grid0.coords t 1).val, 0])
theorem idx11 : ∀ t : Fin cfg0.N, win0_11.index t = ![(grid0.coords t 0).val, (grid0.coords t 1).val, 0] :=
  (by decide +kernel : ∀ t : Fin grid0.N, win0_11.index t = ![(grid0.coords t 0).val, (grid0.coords t 1).val, 0])

theorem modRow_val (t : Fin cfg0.N) (r : Fin 256) :
    (modRow (batchAt t) (rowAt t r)).val = if (grid0.coords t 1).val < 1 then 16 else (grid0.coords t 0).val := by
  have hr := r.isLt
  by_cases h : (grid0.coords t 1).val < 1
  · rw [if_pos h, modRow_ctx (show 256 * (grid0.coords t 1).val + r.val < 256 by omega)]; rfl
  · rw [if_neg h, modRow_lat (show ¬ 256 * (grid0.coords t 1).val + r.val < 256 by omega)]; rfl

theorem blk0 (t : Fin cfg0.N) (r : Fin 256) (k : Fin 1024) :
    (iblk m c 0 t : FVec Ideal S1x256x1024 .f32) (ix3 0 r k) = (m ((c.tc : Thread nD τ).loc main_arg0) : FVec Ideal S16x2304x1024 .f32) (ix3 (batchAt t) (rowAt t r) k) := by
  have e := idx0 t
  rw [← V_main_arg0 m c]
  blk_simp [iblk, e]
  refine congrArg (V m c main_arg0) ?_
  blk_ext [e, batchAt, rowAt]

theorem blk1 (t : Fin cfg0.N) (k : Fin 1024) :
    (iblk m c 1 t : FVec Ideal S1x1024 .f32) (ix2 0 k) = (m ((c.tc : Thread nD τ).loc main_arg2) : FVec Ideal S4x1024 .f32) (ix2 1 k) := by
  have e := idx1 t
  rw [← gain_at m c]
  blk_simp [iblk, e]
  refine congrArg (V m c main_v4) ?_
  blk_ext [e]

theorem blk2 (t : Fin cfg0.N) (r : Fin 256) (k : Fin 1024) :
    (iblk m c 2 t : FVec Ideal S1x1x1x1024 .f32) (ix4 0 0 0 k) = (m ((c.tc : Thread nD τ).loc main_arg1) : FVec Ideal S17x6x1024 .f32) (ix3 (modRow (batchAt t) (rowAt t r)) 0 k) := by
  have e := idx2 t
  rw [← mods_at m c]
  blk_simp [iblk, e]
  refine congrArg (V m c main_v1) ?_
  blk_ext [e, modRow_val]

theorem blk3 (t : Fin cfg0.N) (r : Fin 256) (k : Fin 1024) :
    (iblk m c 3 t : FVec Ideal S1x1x1x1024 .f32) (ix4 0 0 0 k) = (m ((c.tc : Thread nD τ).loc main_arg1) : FVec Ideal S17x6x1024 .f32) (ix3 (modRow (batchAt t) (rowAt t r)) 1 k) := by
  have e := idx3 t
  rw [← mods_at m c]
  blk_simp [iblk, e]
  refine congrArg (V m c main_v1) ?_
  blk_ext [e, modRow_val]

theorem blk4 (t : Fin cfg0.N) (n : Fin 5) (i j : Fin 1024) :
    (X0_4 m c t : FVec Ideal S1x1024x5120 .bf16) (ix3 0 i (blkCol n j)) = (m ((c.tc : Thread nD τ).loc main_arg3) : FVec Ideal S4x1024x11776 .f32) (ix3 1 i (colAt n j)) := by
  have e := idx4 t
  rw [← w_eq m c]
  unfold X0_4 Pipeline.Window.fill
  rw [dif_pos (moved0_4 t _)]
  blk_simp [iblk, e]
  refine congrArg (V m c main_v0) ?_
  blk_ext [e, blkCol, colAt]

theorem blk5 (t : Fin cfg0.N) (k : Fin 1024) :
    (iblk m c 5 t : FVec Ideal S1x1024 .f32) (ix2 0 k) = (m ((c.tc : Thread nD τ).loc main_arg4) : FVec Ideal S2x4x1024 .f32) (ix3 0 1 k) := by
  have e := idx5 t
  rw [← fwd_at m c]
  blk_simp [iblk, e]
  refine congrArg (V m c main_v7) ?_
  blk_ext [e]

theorem blk6 (t : Fin cfg0.N) (k : Fin 1024) :
    (iblk m c 6 t : FVec Ideal S1x1024 .f32) (ix2 0 k) = (m ((c.tc : Thread nD τ).loc main_arg4) : FVec Ideal S2x4x1024 .f32) (ix3 1 1 k) := by
  have e := idx6 t
  rw [← bwd_at m c]
  blk_simp [iblk, e]
  refine congrArg (V m c main_v10) ?_
  blk_ext [e]

theorem blk7 (t : Fin cfg0.N) (r : Fin 256) (k : Fin 1024) :
    (win0_7.blk t).view.emb (ix3 0 r k) = ix3 (batchAt t) (rowAt t r) k := by
  have e := idx7 t
  blk_ext [e, batchAt, rowAt]

theorem blk8 (t : Fin cfg0.N) (r : Fin 256) (k : Fin 1024) :
    (win0_8.blk t).view.emb (ix3 0 r k) = ix3 (batchAt t) (rowAt t r) k := by
  have e := idx8 t
  blk_ext [e, batchAt, rowAt]

theorem blk9 (t : Fin cfg0.N) (r : Fin 256) (k : Fin 1024) :
    (win0_9.blk t).view.emb (ix3 0 r k) = ix3 (batchAt t) (rowAt t r) k := by
  have e := idx9 t
  blk_ext [e, batchAt, rowAt]

theorem blk10 (t : Fin cfg0.N) (r : Fin 256) (k : Fin 1024) :
    (win0_10.blk t).view.emb (ix3 0 r k) = ix3 (batchAt t) (rowAt t r) k := by
  have e := idx10 t
  blk_ext [e, batchAt, rowAt]

theorem blk11 (t : Fin cfg0.N) (r : Fin 256) (k : Fin 1024) :
    (win0_11.blk t).view.emb (ix3 0 r k) = ix3 (batchAt t) (rowAt t r) k := by
  have e := idx11 t
  blk_ext [e, batchAt, rowAt]

/-! ## What a grid point leaves -/

theorem left7 (t : Fin cfg0.N) : (outsAt0 m c t).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) := by
  rw [outsAt0]

theorem outs7 (t : Fin cfg0.N) (r : Fin 256) (k : Fin 1024) :
    ((outsAt0 m c t).1 : FVec Ideal S1x256x1024 .bf16) (ix3 0 r k) = query (∑ i, rowOf (iblk m c 0 t) (iblk m c 1 t) (iblk m c 2 t) (iblk m c 3 t) r i * (X0_4 m c t : FVec Ideal S1x1024x5120 .bf16) (ix3 0 i (blkCol 0 k))) := by
  have h := out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) r k
  rw [← left7 m c t] at h
  exact h

theorem left8 (t : Fin cfg0.N) : (outsAt0 m c t).2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) := by
  rw [outsAt0]

theorem outs8 (t : Fin cfg0.N) (r : Fin 256) (k : Fin 1024) :
    ((outsAt0 m c t).2.1 : FVec Ideal S1x256x1024 .bf16) (ix3 0 r k) = (∑ i, rowOf (iblk m c 0 t) (iblk m c 1 t) (iblk m c 2 t) (iblk m c 3 t) r i * (X0_4 m c t : FVec Ideal S1x1024x5120 .bf16) (ix3 0 i (blkCol 1 k)) : EReal) := by
  have h := out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) r k
  rw [← left8 m c t] at h
  exact h

theorem left9 (t : Fin cfg0.N) : (outsAt0 m c t).2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) := by
  rw [outsAt0]

theorem outs9 (t : Fin cfg0.N) (r : Fin 256) (k : Fin 1024) :
    ((outsAt0 m c t).2.2.1 : FVec Ideal S1x256x1024 .f32) (ix3 0 r k) = gate ((iblk m c 5 t : FVec Ideal S1x1024 .f32) (ix2 0 k)) (∑ i, rowOf (iblk m c 0 t) (iblk m c 1 t) (iblk m c 2 t) (iblk m c 3 t) r i * (X0_4 m c t : FVec Ideal S1x1024x5120 .bf16) (ix3 0 i (blkCol 2 k))) := by
  have h := out9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) r k
  rw [← left9 m c t] at h
  exact h

theorem left10 (t : Fin cfg0.N) : (outsAt0 m c t).2.2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) := by
  rw [outsAt0]

theorem outs10 (t : Fin cfg0.N) (r : Fin 256) (k : Fin 1024) :
    ((outsAt0 m c t).2.2.2.1 : FVec Ideal S1x256x1024 .f32) (ix3 0 r k) = gate ((iblk m c 6 t : FVec Ideal S1x1024 .f32) (ix2 0 k)) (∑ i, rowOf (iblk m c 0 t) (iblk m c 1 t) (iblk m c 2 t) (iblk m c 3 t) r i * (X0_4 m c t : FVec Ideal S1x1024x5120 .bf16) (ix3 0 i (blkCol 3 k))) := by
  have h := out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) r k
  rw [← left10 m c t] at h
  exact h

theorem left11 (t : Fin cfg0.N) : (outsAt0 m c t).2.2.2.2 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) := by
  rw [outsAt0]

theorem outs11 (t : Fin cfg0.N) (r : Fin 256) (k : Fin 1024) :
    ((outsAt0 m c t).2.2.2.2 : FVec Ideal S1x256x1024 .bf16) (ix3 0 r k) = silu (∑ i, rowOf (iblk m c 0 t) (iblk m c 1 t) (iblk m c 2 t) (iblk m c 3 t) r i * (X0_4 m c t : FVec Ideal S1x1024x5120 .bf16) (ix3 0 i (blkCol 4 k))) := by
  have h := out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (X0_4 m c t) (iblk m c 5 t) (iblk m c 6 t) r k
  rw [← left11 m c t] at h
  exact h

theorem block_idx (y : S1x256x1024.Idx) : ∃ (r : Fin 256) (k : Fin 1024), y = (ix3 0 r k : S1x256x1024.Idx) := by
  have y0 : (y 0).val < 1 := (y 0).isLt
  refine ⟨⟨(y 1).val, (y 1).isLt⟩, ⟨(y 2).val, (y 2).isLt⟩, funext fun a => Fin.ext ?_⟩
  match a with
  | ⟨0, _⟩ => show (y 0).val = 0; omega
  | ⟨1, _⟩ => rfl
  | ⟨2, _⟩ => rfl

/-! ## The result arrays, when `G` is the row's value at each entry -/

theorem final_q (G : FVec Ideal S16x2304x1024 .bf16)
    (hG : ∀ (b : Fin 16) (R : Fin 2304) (k : Fin 1024), G (ix3 b R k)
      = query (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 0 k))) :
    (dats m 0 c).arrAt 7 cfg0.N = G := by
  refine (dats m 0 c).arrAt_eq_of_covers 7 _ (by decide +kernel) fun t hfl y => ?_
  blk_simp
  rw [after0_7]
  obtain ⟨r, k, rfl⟩ := block_idx y
  refine (outs7 m c t r k).trans (Eq.trans ?_ ((congrArg G (blk7 t r k)).trans (hG _ _ _)).symm)
  simp only [rowOf, proj, blk0, blk1, blk2 m c t r, blk3 m c t r, blk4]

theorem final_v (G : FVec Ideal S16x2304x1024 .bf16)
    (hG : ∀ (b : Fin 16) (R : Fin 2304) (k : Fin 1024), G (ix3 b R k)
      = proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 1 k)) :
    (dats m 0 c).arrAt 8 cfg0.N = G := by
  refine (dats m 0 c).arrAt_eq_of_covers 8 _ (by decide +kernel) fun t hfl y => ?_
  blk_simp
  rw [after0_8]
  obtain ⟨r, k, rfl⟩ := block_idx y
  refine (outs8 m c t r k).trans (Eq.trans ?_ ((congrArg G (blk8 t r k)).trans (hG _ _ _)).symm)
  simp only [rowOf, proj, blk0, blk1, blk2 m c t r, blk3 m c t r, blk4]

theorem final_ff (G : FVec Ideal S16x2304x1024 .f32)
    (hG : ∀ (b : Fin 16) (R : Fin 2304) (k : Fin 1024), G (ix3 b R k)
      = gate ((m ((c.tc : Thread nD τ).loc main_arg4) : FVec Ideal S2x4x1024 .f32) (ix3 0 1 k)) (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 2 k))) :
    (dats m 0 c).arrAt 9 cfg0.N = G := by
  refine (dats m 0 c).arrAt_eq_of_covers 9 _ (by decide +kernel) fun t hfl y => ?_
  blk_simp
  rw [after0_9]
  obtain ⟨r, k, rfl⟩ := block_idx y
  refine (outs9 m c t r k).trans (Eq.trans ?_ ((congrArg G (blk9 t r k)).trans (hG _ _ _)).symm)
  simp only [rowOf, proj, blk0, blk1, blk2 m c t r, blk3 m c t r, blk4, blk5]

theorem final_fb (G : FVec Ideal S16x2304x1024 .f32)
    (hG : ∀ (b : Fin 16) (R : Fin 2304) (k : Fin 1024), G (ix3 b R k)
      = gate ((m ((c.tc : Thread nD τ).loc main_arg4) : FVec Ideal S2x4x1024 .f32) (ix3 1 1 k)) (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 3 k))) :
    (dats m 0 c).arrAt 10 cfg0.N = G := by
  refine (dats m 0 c).arrAt_eq_of_covers 10 _ (by decide +kernel) fun t hfl y => ?_
  blk_simp
  rw [after0_10]
  obtain ⟨r, k, rfl⟩ := block_idx y
  refine (outs10 m c t r k).trans (Eq.trans ?_ ((congrArg G (blk10 t r k)).trans (hG _ _ _)).symm)
  simp only [rowOf, proj, blk0, blk1, blk2 m c t r, blk3 m c t r, blk4, blk6]

theorem final_sg (G : FVec Ideal S16x2304x1024 .bf16)
    (hG : ∀ (b : Fin 16) (R : Fin 2304) (k : Fin 1024), G (ix3 b R k)
      = silu (proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
          (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
          (fun i j => (m ((c.tc : Thread nD τ).loc main_arg3) : FVec Ideal S4x1024x11776 .f32) (ix3 1 i j)) (colAt 4 k))) :
    (dats m 0 c).arrAt 11 cfg0.N = G := by
  refine (dats m 0 c).arrAt_eq_of_covers 11 _ (by decide +kernel) fun t hfl y => ?_
  blk_simp
  rw [after0_11]
  obtain ⟨r, k, rfl⟩ := block_idx y
  refine (outs11 m c t r k).trans (Eq.trans ?_ ((congrArg G (blk11 t r k)).trans (hG _ _ _)).symm)
  simp only [rowOf, proj, blk0, blk1, blk2 m c t r, blk3 m c t r, blk4]

end Cert.Proof.Inproj

end
-- ==== Proof.Inproj.Claims.lean ====
/- The claims of the input projection call: the three frames, and the values. -/
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Inproj.Reference
public import proofs.«01_k».proof.Proof.Inproj.Values
public import Idealize.ShloMosaic.Lib.Quiescent

@[expose] public section

noncomputable section

open Idealize.ShloMosaic Idealize.ShloMosaic.TcCoe

namespace Cert.Proof.Inproj

variable {F : FTy → Type} [FloatOps F]

/-- The two programs' tables of kernel bodies are one: their texts are the same. -/
theorem body_table_same [Cert.Kernel3.Facts] [Cert.Kernel3Ideal.Facts] :
    Cert.Kernel3.defs₀ (F := F) = Cert.Kernel3Ideal.defs₀ (F := F) := by
  unfold Cert.Kernel3.defs₀ Cert.Kernel3Ideal.defs₀
  congr 1
  funext l a
  match l, a with
  | ⟨0, _⟩, (t, s) => rfl
  | ⟨n + 1, h⟩, _ => exact absurd h (by omega)

theorem table_same [Cert.Kernel3.Facts] [Cert.Kernel3Ideal.Facts] :
    Cert.Kernel3.defs (F := F) = Cert.Kernel3Ideal.defs (F := F) :=
  congrArg (Pipeline.defs (Cert.Kernel3Ideal.pcfgs (F := F))) body_table_same

/-- The frame of the kernel as printed: its text is the idealized kernel's, so the one run serves at the bits. -/
theorem frame_kernel : Cert.quiescent_Kernel3 := fun m ρ _ =>
  Eq.mpr (congrArg (fun d => θ_run d _ _ _) table_same) (Cert.Kernel3Ideal.Gen.frame (F := Bits) m ρ)

theorem frame_ideal : Cert.quiescent_Kernel3Ideal := fun m ρ _ => Cert.Kernel3Ideal.Gen.frame (F := Ideal) m ρ

theorem frame_reference : Cert.quiescent_Reference3Ideal := fun m ρ _ =>
  (θ_run Cert.Reference3Ideal.defs _ _).mono (fun r h => ⟨fun c => ((h c).2.2.2.2.2), sem_eq_zero_of_no_sems (by decide) r.2⟩)
    (Cert.Reference3Ideal.Value.run (F := Ideal) m ρ)

/-- The value claim: from agreeing arguments, the kernel's result arrays are the reference's. -/
theorem values : Cert.algebraic_Kernel3Ideal_Reference3Ideal := by
  intro m ρ m' ρ' _ hagree
  refine ⟨fun c => Cert.Reference3Ideal.Value.res_main_v105 m' c, fun c => Cert.Reference3Ideal.Value.res_main_v106 m' c, fun c => Cert.Reference3Ideal.Value.res_main_v90 m' c, fun c => Cert.Reference3Ideal.Value.res_main_v104 m' c, fun c => Cert.Reference3Ideal.Value.res_main_v108 m' c, ?_, ?_⟩
  · refine (θ_run Cert.Kernel3Ideal.defs _ _).mono (fun r h c => ?_) (Cert.Kernel3Ideal.Value.run_blocks (F := Ideal) m ρ)
    obtain ⟨a0, a1, a2, a3, a4⟩ := hagree c
    exact ⟨((h c).1).trans (final_q m c _ fun b R k => (ref_q m' c b R k).trans (by rw [a0, a1, a2, a3])), ((h c).2.1).trans (final_v m c _ fun b R k => (ref_v m' c b R k).trans (by rw [a0, a1, a2, a3])), ((h c).2.2.1).trans (final_ff m c _ fun b R k => (ref_ff m' c b R k).trans (by rw [a0, a1, a2, a3, a4])), ((h c).2.2.2.1).trans (final_fb m c _ fun b R k => (ref_fb m' c b R k).trans (by rw [a0, a1, a2, a3, a4])), ((h c).2.2.2.2.1).trans (final_sg m c _ fun b R k => (ref_sg m' c b R k).trans (by rw [a0, a1, a2, a3])), (h c).2.2.2.2.2⟩
  · exact Cert.Reference3Ideal.Value.run (F := Ideal) m' ρ'

end Cert.Proof.Inproj

end
-- ==== Proof.Merge.Row.lean ====
/- One row of the merging call, over the extended reals. -/
module

public import proofs.«01_k».proof.Proof.Ffn.Row

@[expose] public section

noncomputable section

namespace Cert.Proof.Merge

open Idealize.ShloMosaic

/-- Column `j` of branch `i`'s share of the gates. -/
def gcol0 (j : Fin 1024) : Fin 3072 := ⟨j.val, by omega⟩
def gcol1 (j : Fin 1024) : Fin 3072 := ⟨1024 + j.val, by omega⟩
def gcol2 (j : Fin 1024) : Fin 3072 := ⟨2048 + j.val, by omega⟩

/-- The three branches' products, each times its gates, summed. -/
def mixed (a b r : Fin 1024 → EReal) (mg : Fin 3072 → EReal) (wb : Fin 3 → Fin 1024 → Fin 1024 → EReal) (j : Fin 1024) : EReal :=
  mg (gcol0 j) * (∑ i, a i * wb 0 i j) + mg (gcol1 j) * (∑ i, b i * wb 1 i j) + mg (gcol2 j) * ∑ i, r i * wb 2 i j

/-- The merged row through the last weights, gated onto the row. -/
def mergeRow (x a b r : Fin 1024 → EReal) (mg : Fin 3072 → EReal) (wb : Fin 3 → Fin 1024 → Fin 1024 → EReal)
    (wo : Fin 1024 → Fin 1024 → EReal) (gt : Fin 1024 → EReal) (k : Fin 1024) : EReal :=
  x k + gt k * ∑ j, mixed a b r mg wb j * wo j k

end Cert.Proof.Merge

end
-- ==== Proof.Merge.Reference.lean ====
/- The merging reference's result, at a row and a column. -/
module

public import proofs.«01_k».proof.Proof.Merge.Row
public import proofs.«01_k».proof.Proof.Gen.Reference4Ideal.Run

@[expose] public section

set_option maxRecDepth 16384

noncomputable section

namespace Cert.Proof.Merge

open Cert.Reference4Ideal Cert.Reference4Ideal.Gen Cert.Reference4Ideal.Value Cert.Proof.Ffn
open Idealize.ShloMosaic Idealize.ShloMosaic.TcCoe

variable (m : (ℓ : Loc nD τ sig) → Buf (Elt Ideal) ℓ) (c : Dev nD)

theorem ref_at (b : Fin 16) (R : Fin 2304) (k : Fin 1024) :
    (res_main_v50 m c : FVec Ideal S16x2304x1024 .f32) (ix3 b R k)
      = mergeRow (fun k => (m ((c.tc : Thread nD τ).loc main_arg0) : FVec Ideal S16x2304x1024 .f32) (ix3 b R k))
          (fun k => (m ((c.tc : Thread nD τ).loc main_arg1) : FVec Ideal S16x2304x1024 .bf16) (ix3 b R k))
          (fun k => (m ((c.tc : Thread nD τ).loc main_arg2) : FVec Ideal S16x2304x1024 .bf16) (ix3 b R k))
          (fun k => (m ((c.tc : Thread nD τ).loc main_arg3) : FVec Ideal S16x2304x1024 .bf16) (ix3 b R k))
          (fun k => (m ((c.tc : Thread nD τ).loc main_arg4) : FVec Ideal S16x2304x3072 .bf16) (ix3 b R k))
          (fun w i j => (m ((c.tc : Thread nD τ).loc main_arg6) : FVec Ideal S4x3x1024x1024 .f32) (ix4 1 w i j))
          (fun i j => (m ((c.tc : Thread nD τ).loc main_arg7) : FVec Ideal S4x1024x1024 .f32) (ix3 1 i j))
          (fun k => (m ((c.tc : Thread nD τ).loc main_arg5) : FVec Ideal S17x6x1024 .f32) (ix3 (modRow b R) 2 k)) k := by
  unfold mergeRow mixed gcol0 gcol1 gcol2
  by_cases h : R.val < 256
  · rw [modRow_ctx h]
    pointwise [res_main_v50]
    simp only [dif_pos h]
  · have e : (⟨256 + (R.val - 256), by omega⟩ : Fin 2304) = R := Fin.ext (by show 256 + (R.val - 256) = R.val; omega)
    rw [modRow_lat h]
    pointwise [res_main_v50]
    simp only [dif_neg h, e]

end Cert.Proof.Merge

end
-- ==== Proof.Merge.Body.lean ====
/- What the merging call's body leaves of its blocks, at a row and a column. -/
module

public import proofs.«01_k».proof.Proof.Merge.Row
public import proofs.«01_k».proof.Proof.Gen.Kernel4Ideal.Value
public import Idealize.ShloMosaic.Lib.Pipeline.ValueKit

@[expose] public section

set_option maxRecDepth 16384

noncomputable section

namespace Cert.Proof.Merge

open Cert.Kernel4Ideal Cert.Kernel4Ideal.Gen
open Idealize.ShloMosaic Idealize.ShloMosaic.TcCoe

theorem pay2_at (g0 a : Vec Ideal S1x256x1024 .bf16) (w0 : Vec Ideal S1x1x1024x1024 .bf16) (g1 b : Vec Ideal S1x256x1024 .bf16) (w1 : Vec Ideal S1x1x1024x1024 .bf16)
    (r : Fin 256) (k : Fin 1024) : k0_pay2 (F := Ideal) g0 a w0 g1 b w1 (ix2 r k)
      = (g0 (ix3 0 r k) * (∑ i, a (ix3 0 r i) * w0 (ix4 0 0 i k)) + g1 (ix3 0 r k) * ∑ i, b (ix3 0 r i) * w1 (ix4 0 0 i k) : EReal) := by
  pointwise [k0_pay2]

theorem pay3_at (v : Vec Ideal S1x256x1024 .bf16) (r : Fin 256) (k : Fin 1024) : k0_pay3 (F := Ideal) v (ix2 r k) = v (ix3 0 r k) := by
  pointwise [k0_pay3]

theorem pay4_at (v : Vec Ideal S1x256x1024 .bf16) (r : Fin 256) (k : Fin 1024) : k0_pay4 (F := Ideal) v (ix2 r k) = v (ix3 0 r k) := by
  pointwise [k0_pay4]

theorem pay5_at (w : Vec Ideal S1x1x1024x1024 .bf16) (i j : Fin 1024) : k0_pay5 (F := Ideal) w (ix2 i j) = w (ix4 0 0 i j) := by
  pointwise [k0_pay5]

theorem pay1_at (v18 v21 : FVec Ideal S256x1024 .f32) (v23 : FVec Ideal S256x1024 .bf16) (v25 : FVec Ideal S1024x1024 .bf16) (v29 : Vec Ideal S1x256x1024 .f32) (v31 : Vec Ideal S1x1x1x1024 .f32) (v34 : Vec Ideal S1x1024x1024 .bf16)
    (r : Fin 256) (k : Fin 1024) : k0_pay1 (F := Ideal) v18 v21 v23 v25 v29 v31 v34 (ix3 0 r k)
      = (v29 (ix3 0 r k) + v31 (ix4 0 0 0 k) * ∑ j, (v18 (ix2 r j) + v21 (ix2 r j) * ∑ i, v23 (ix2 r i) * v25 (ix2 i j)) * v34 (ix3 0 j k) : EReal) := by
  pointwise [k0_pay1]

theorem body_at (x0 : Vec Ideal S1x256x1024 .f32) (x1 x2 x3 : Vec Ideal S1x256x1024 .bf16) (x4 : Vec Ideal S1x256x3072 .bf16) (x5 : Vec Ideal S1x3x1024x1024 .bf16) (x6 : Vec Ideal S1x1024x1024 .bf16) (x7 : Vec Ideal S1x1x1x1024 .f32)
    (r : Fin 256) (k : Fin 1024) : out0_8 x0 x1 x2 x3 x4 x5 x6 x7 (ix3 0 r k)
      = mergeRow (fun k => x0 (ix3 0 r k)) (fun k => x1 (ix3 0 r k)) (fun k => x2 (ix3 0 r k)) (fun k => x3 (ix3 0 r k)) (fun k => x4 (ix3 0 r k))
          (fun w i j => x5 (ix4 0 w i j)) (fun i j => x6 (ix3 0 i j)) (fun k => x7 (ix4 0 0 0 k)) k := by
  have h0 : View.ld x0 r0_1 = x0 := View.ld_unit_lit (S := S1x256x1024) _ x0 (by decide)
  have h1 : View.ld x1 r0_1 = x1 := View.ld_unit_lit (S := S1x256x1024) _ x1 (by decide)
  have h2 : View.ld x2 r0_1 = x2 := View.ld_unit_lit (S := S1x256x1024) _ x2 (by decide)
  have h3 : View.ld x3 r0_1 = x3 := View.ld_unit_lit (S := S1x256x1024) _ x3 (by decide)
  have h6 : View.ld x6 r0_8 = x6 := View.ld_unit_lit (S := S1x1024x1024) _ x6 (by decide)
  have h7 : View.ld x7 r0_7 = x7 := View.ld_unit_lit (S := S1x1x1x1024) _ x7 (by decide)
  have g0 (j : Fin 1024) : View.ld x4 r0_0 (ix3 0 r j) = x4 (ix3 0 r (gcol0 j)) :=
    View.ld_unit_apply_of _ _ _ _ _ _ (fun a => match a with | ⟨0, _⟩ => rfl | ⟨1, _⟩ => (Nat.zero_add _).symm | ⟨2, _⟩ => (Nat.zero_add _).symm)
  have g1 (j : Fin 1024) : View.ld x4 r0_3 (ix3 0 r j) = x4 (ix3 0 r (gcol1 j)) :=
    View.ld_unit_apply_of _ _ _ _ _ _ (fun a => match a with | ⟨0, _⟩ => rfl | ⟨1, _⟩ => (Nat.zero_add _).symm | ⟨2, _⟩ => rfl)
  have g2 (j : Fin 1024) : View.ld x4 r0_5 (ix3 0 r j) = x4 (ix3 0 r (gcol2 j)) :=
    View.ld_unit_apply_of _ _ _ _ _ _ (fun a => match a with | ⟨0, _⟩ => rfl | ⟨1, _⟩ => (Nat.zero_add _).symm | ⟨2, _⟩ => rfl)
  have w0 (i j : Fin 1024) : View.ld x5 r0_2 (ix4 0 0 i j) = x5 (ix4 0 0 i j) :=
    View.ld_unit_apply_of _ _ _ _ _ _ (fun a => match a with | ⟨0, _⟩ => rfl | ⟨1, _⟩ => rfl | ⟨2, _⟩ => (Nat.zero_add _).symm | ⟨3, _⟩ => (Nat.zero_add _).symm)
  have w1 (i j : Fin 1024) : View.ld x5 r0_4 (ix4 0 0 i j) = x5 (ix4 0 1 i j) :=
    View.ld_unit_apply_of _ _ _ _ _ _ (fun a => match a with | ⟨0, _⟩ => rfl | ⟨1, _⟩ => rfl | ⟨2, _⟩ => (Nat.zero_add _).symm | ⟨3, _⟩ => (Nat.zero_add _).symm)
  have w2 (i j : Fin 1024) : View.ld x5 r0_6 (ix4 0 0 i j) = x5 (ix4 0 2 i j) :=
    View.ld_unit_apply_of _ _ _ _ _ _ (fun a => match a with | ⟨0, _⟩ => rfl | ⟨1, _⟩ => rfl | ⟨2, _⟩ => (Nat.zero_add _).symm | ⟨3, _⟩ => (Nat.zero_add _).symm)
  rw [out0_8, h0, h1, h2, h3, h6, h7]
  refine (congrFun (View.canon_cons_unit_lit (S := S1x256x1024) _ _ _ (by decide)) _).trans ?_
  refine (pay1_at _ _ _ _ _ _ _ r k).trans ?_
  simp only [pay2_at, pay3_at, pay4_at, pay5_at, g0, g1, g2, w0, w1, w2, mergeRow, mixed]

end Cert.Proof.Merge

end
-- ==== Proof.Merge.Values.lean ====
/- The merging call's result array: each block from the body, each input block at its place in its array. -/
module

public import proofs.«01_k».proof.Proof.Merge.Body
public import Idealize.ShloMosaic.Lib.Pipeline.ValueKit
public import Idealize.ShloMosaic.Lib.StableHlo.Run

@[expose] public section

set_option maxRecDepth 16384

noncomputable section

namespace Cert.Proof.Merge

open Cert.Kernel4Ideal Cert.Kernel4Ideal.Gen
open Cert.Proof.Ffn
open Idealize.ShloMosaic Idealize.ShloMosaic.TcCoe Idealize.ShloMosaic.StableHlo

variable (m : (ℓ : Loc nD τ sig) → Buf (Elt Ideal) ℓ) (c : Dev nD)

/-! ## The arrays that the region reads, from the arguments -/

theorem mods_at (b : Fin 17) (w : Fin 6) (k : Fin 1024) : (V m c main_v2 : FVec Ideal S17x6x1x1024 .f32) (ix4 b w 0 k)
    = (m ((c.tc : Thread nD τ).loc main_arg5) : FVec Ideal S17x6x1024 .f32) (ix3 b w k) := by
  have e : (V m c main_v2 : FVec Ideal S17x6x1x1024 .f32) = shapeCast S17x6x1x1024 (m ((c.tc : Thread nD τ).loc main_arg5) : FVec Ideal S17x6x1024 .f32) shapeCasts_S17x6x1024_S17x6x1x1024 := by
    unfold V; simp only [hostOps0]; after_results_simp <;> rfl
  rw [e]
  pointwise

theorem wb_eq : (V m c main_v0 : FVec Ideal S4x3x1024x1024 .bf16) = (m ((c.tc : Thread nD τ).loc main_arg6) : FVec Ideal S4x3x1024x1024 .f32) := by
  unfold V; simp only [hostOps0]; after_results_simp <;> rfl

theorem wo_eq : (V m c main_v1 : FVec Ideal S4x1024x1024 .bf16) = (m ((c.tc : Thread nD τ).loc main_arg7) : FVec Ideal S4x1024x1024 .f32) := by
  unfold V; simp only [hostOps0]; after_results_simp <;> rfl

/-! ## The blocks -/

theorem coords_lt (t : Fin cfg0.N) : (grid0.coords t 0).val < 16 ∧ (grid0.coords t 1).val < 9 := ⟨(grid0.coords t 0).isLt, (grid0.coords t 1).isLt⟩

/-- The batch of a grid point, and row `r` of its tile. -/
def batchAt (t : Fin cfg0.N) : Fin 16 := ⟨(grid0.coords t 0).val, (coords_lt t).1⟩
def rowAt (t : Fin cfg0.N) (r : Fin 256) : Fin 2304 := ⟨256 * (grid0.coords t 1).val + r.val, by have := (coords_lt t).2; omega⟩

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem idx2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem idx3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem idx4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])
theorem idx5 : ∀ t : Fin cfg0.N, win0_5.index t = ![1, 0, 0, 0] :=
  (by decide +kernel : ∀ t : Fin grid0.N, win0_5.index t = ![1, 0, 0, 0])
theorem idx6 : ∀ t : Fin cfg0.N, win0_6.index t = ![1, 0, 0] :=
  (by decide +kernel : ∀ t : Fin grid0.N, win0_6.index t = ![1, 0, 0])
theorem idx7 : ∀ t : Fin cfg0.N, win0_7.index t = ![if (grid0.coords t 1).val < 1 then 16 else (grid0.coords t 0).val, 2, 0, 0] :=
  (by decide +kernel : ∀ t : Fin grid0.N, win0_7.index t = ![if (grid0.coords t 1).val < 1 then 16 else (grid0.coords t 0).val, 2, 0, 0])
theorem idx8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])

theorem modRow_val (t : Fin cfg0.N) (r : Fin 256) :
    (modRow (batchAt t) (rowAt t r)).val = if (grid0.coords t 1).val < 1 then 16 else (grid0.coords t 0).val := by
  have hr := r.isLt
  by_cases h : (grid0.coords t 1).val < 1
  · rw [if_pos h, modRow_ctx (show 256 * (grid0.coords t 1).val + r.val < 256 by omega)]; rfl
  · rw [if_neg h, modRow_lat (show ¬ 256 * (grid0.coords t 1).val + r.val < 256 by omega)]; rfl

theorem blk0 (t : Fin cfg0.N) (r : Fin 256) (k : Fin 1024) :
    (iblk m c 0 t : FVec Ideal S1x256x1024 .f32) (ix3 0 r k) = (m ((c.tc : Thread nD τ).loc main_arg0) : FVec Ideal S16x2304x1024 .f32) (ix3 (batchAt t) (rowAt t r) k) := by
  have e := idx0 t
  rw [← V_main_arg0 m c]
  blk_simp [iblk, e]
  refine congrArg (V m c main_arg0) ?_
  blk_ext [e, batchAt, rowAt]

theorem blk1 (t : Fin cfg0.N) (r : Fin 256) (k : Fin 1024) :
    (iblk m c 1 t : FVec Ideal S1x256x1024 .bf16) (ix3 0 r k) = (m ((c.tc : Thread nD τ).loc main_arg1) : FVec Ideal S16x2304x1024 .bf16) (ix3 (batchAt t) (rowAt t r) k) := by
  have e := idx1 t
  rw [← V_main_arg1 m c]
  blk_simp [iblk, e]
  refine congrArg (V m c main_arg1) ?_
  blk_ext [e, batchAt, rowAt]

theorem blk2 (t : Fin cfg0.N) (r : Fin 256) (k : Fin 1024) :
    (iblk m c 2 t : FVec Ideal S1x256x1024 .bf16) (ix3 0 r k) = (m ((c.tc : Thread nD τ).loc main_arg2) : FVec Ideal S16x2304x1024 .bf16) (ix3 (batchAt t) (rowAt t r) k) := by
  have e := idx2 t
  rw [← V_main_arg2 m c]
  blk_simp [iblk, e]
  refine congrArg (V m c main_arg2) ?_
  blk_ext [e, batchAt, rowAt]

theorem blk3 (t : Fin cfg0.N) (r : Fin 256) (k : Fin 1024) :
    (iblk m c 3 t : FVec Ideal S1x256x1024 .bf16) (ix3 0 r k) = (m ((c.tc : Thread nD τ).loc main_arg3) : FVec Ideal S16x2304x1024 .bf16) (ix3 (batchAt t) (rowAt t r) k) := by
  have e := idx3 t
  rw [← V_main_arg3 m c]
  blk_simp [iblk, e]
  refine congrArg (V m c main_arg3) ?_
  blk_ext [e, batchAt, rowAt]

theorem blk4 (t : Fin cfg0.N) (r : Fin 256) (k : Fin 3072) :
    (iblk m c 4 t : FVec Ideal S1x256x3072 .bf16) (ix3 0 r k) = (m ((c.tc : Thread nD τ).loc main_arg4) : FVec Ideal S16x2304x3072 .bf16) (ix3 (batchAt t) (rowAt t r) k) := by
  have e := idx4 t
  rw [← V_main_arg4 m c]
  blk_simp [iblk, e]
  refine congrArg (V m c main_arg4) ?_
  blk_ext [e, batchAt, rowAt]

theorem blk5 (t : Fin cfg0.N) (w : Fin 3) (i j : Fin 1024) :
    (iblk m c 5 t : FVec Ideal S1x3x1024x1024 .bf16) (ix4 0 w i j) = (m ((c.tc : Thread nD τ).loc main_arg6) : FVec Ideal S4x3x1024x1024 .f32) (ix4 1 w i j) := by
  have e := idx5 t
  rw [← wb_eq m c]
  blk_simp [iblk, e]
  refine congrArg (V m c main_v0) ?_
  blk_ext [e]

theorem blk6 (t : Fin cfg0.N) (i j : Fin 1024) :
    (iblk m c 6 t : FVec Ideal S1x1024x1024 .bf16) (ix3 0 i j) = (m ((c.tc : Thread nD τ).loc main_arg7) : FVec Ideal S4x1024x1024 .f32) (ix3 1 i j) := by
  have e := idx6 t
  rw [← wo_eq m c]
  blk_simp [iblk, e]
  refine congrArg (V m c main_v1) ?_
  blk_ext [e]

theorem blk7 (t : Fin cfg0.N) (r : Fin 256) (k : Fin 1024) :
    (iblk m c 7 t : FVec Ideal S1x1x1x1024 .f32) (ix4 0 0 0 k) = (m ((c.tc : Thread nD τ).loc main_arg5) : FVec Ideal S17x6x1024 .f32) (ix3 (modRow (batchAt t) (rowAt t r)) 2 k) := by
  have e := idx7 t
  rw [← mods_at m c]
  blk_simp [iblk, e]
  refine congrArg (V m c main_v2) ?_
  blk_ext [e, modRow_val]

theorem blk8 (t : Fin cfg0.N) (r : Fin 256) (k : Fin 1024) :
    (win0_8.blk t).view.emb (ix3 0 r k) = ix3 (batchAt t) (rowAt t r) k := by
  have e := idx8 t
  blk_ext [e, batchAt, rowAt]

/-- The result array, when `G` is the row's value at each entry. -/
theorem final_out (G : FVec Ideal S16x2304x1024 .f32)
    (hG : ∀ (b : Fin 16) (R : Fin 2304) (k : Fin 1024), G (ix3 b R k)
      = mergeRow (fun k => (m ((c.tc : Thread nD τ).loc main_arg0) : FVec Ideal S16x2304x1024 .f32) (ix3 b R k))
          (fun k => (m ((c.tc : Thread nD τ).loc main_arg1) : FVec Ideal S16x2304x1024 .bf16) (ix3 b R k))
          (fun k => (m ((c.tc : Thread nD τ).loc main_arg2) : FVec Ideal S16x2304x1024 .bf16) (ix3 b R k))
          (fun k => (m ((c.tc : Thread nD τ).loc main_arg3) : FVec Ideal S16x2304x1024 .bf16) (ix3 b R k))
          (fun k => (m ((c.tc : Thread nD τ).loc main_arg4) : FVec Ideal S16x2304x3072 .bf16) (ix3 b R k))
          (fun w i j => (m ((c.tc : Thread nD τ).loc main_arg6) : FVec Ideal S4x3x1024x1024 .f32) (ix4 1 w i j))
          (fun i j => (m ((c.tc : Thread nD τ).loc main_arg7) : FVec Ideal S4x1024x1024 .f32) (ix3 1 i j))
          (fun k => (m ((c.tc : Thread nD τ).loc main_arg5) : FVec Ideal S17x6x1024 .f32) (ix3 (modRow b R) 2 k)) k) :
    (dats m 0 c).arrAt 8 cfg0.N = G := by
  refine (dats m 0 c).arrAt_eq_of_covers 8 _ (by decide +kernel) fun t hfl y => ?_
  blk_simp
  rw [after0_8]
  obtain ⟨r, k, rfl⟩ : ∃ (r : Fin 256) (k : Fin 1024), y = (ix3 0 r k : S1x256x1024.Idx) := by
    have y0 : (y 0).val < 1 := (y 0).isLt
    refine ⟨⟨(y 1).val, (y 1).isLt⟩, ⟨(y 2).val, (y 2).isLt⟩, funext fun a => Fin.ext ?_⟩
    match a with
    | ⟨0, _⟩ => show (y 0).val = 0; omega
    | ⟨1, _⟩ => rfl
    | ⟨2, _⟩ => rfl
  refine (body_at _ _ _ _ _ _ _ _ r k).trans (Eq.trans ?_ ((congrArg G (blk8 t r k)).trans (hG _ _ _)).symm)
  simp only [blk0, blk1, blk2, blk3, blk4, blk5, blk6, blk7 m c t r]

end Cert.Proof.Merge

end
-- ==== Proof.Merge.Claims.lean ====
/- The claims of the merging call: the three frames, and the values. -/
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Merge.Reference
public import proofs.«01_k».proof.Proof.Merge.Values
public import Idealize.ShloMosaic.Lib.Quiescent

@[expose] public section

noncomputable section

open Idealize.ShloMosaic Idealize.ShloMosaic.TcCoe

namespace Cert.Proof.Merge

variable {F : FTy → Type} [FloatOps F]

/-- The two programs' tables of kernel bodies are one: their texts are the same. -/
theorem body_table_same [Cert.Kernel4.Facts] [Cert.Kernel4Ideal.Facts] :
    Cert.Kernel4.defs₀ (F := F) = Cert.Kernel4Ideal.defs₀ (F := F) := by
  unfold Cert.Kernel4.defs₀ Cert.Kernel4Ideal.defs₀
  congr 1
  funext l a
  match l, a with
  | ⟨0, _⟩, (t, s) => rfl
  | ⟨n + 1, h⟩, _ => exact absurd h (by omega)

theorem table_same [Cert.Kernel4.Facts] [Cert.Kernel4Ideal.Facts] :
    Cert.Kernel4.defs (F := F) = Cert.Kernel4Ideal.defs (F := F) :=
  congrArg (Pipeline.defs (Cert.Kernel4Ideal.pcfgs (F := F))) body_table_same

/-- The frame of the kernel as printed: its text is the idealized kernel's, so the one run serves at the bits. -/
theorem frame_kernel : Cert.quiescent_Kernel4 := fun m ρ _ =>
  Eq.mpr (congrArg (fun d => θ_run d _ _ _) table_same) (Cert.Kernel4Ideal.Gen.frame (F := Bits) m ρ)

theorem frame_ideal : Cert.quiescent_Kernel4Ideal := fun m ρ _ => Cert.Kernel4Ideal.Gen.frame (F := Ideal) m ρ

theorem frame_reference : Cert.quiescent_Reference4Ideal := fun m ρ _ =>
  (θ_run Cert.Reference4Ideal.defs _ _).mono (fun r h => ⟨fun c => ((h c).2), sem_eq_zero_of_no_sems (by decide) r.2⟩)
    (Cert.Reference4Ideal.Value.run (F := Ideal) m ρ)

/-- The value claim: from agreeing arguments, the kernel's result array is the reference's. -/
theorem values : Cert.algebraic_Kernel4Ideal_Reference4Ideal := by
  intro m ρ m' ρ' _ hagree
  refine ⟨fun c => Cert.Reference4Ideal.Value.res_main_v50 m' c, ?_, ?_⟩
  · refine (θ_run Cert.Kernel4Ideal.defs _ _).mono (fun r h c => ?_) (Cert.Kernel4Ideal.Value.run_blocks (F := Ideal) m ρ)
    obtain ⟨a0, a1, a2, a3, a4, a5, a6, a7⟩ := hagree c
    refine ⟨(h c).1.trans (final_out m c _ fun b R k => ?_), (h c).2⟩
    refine (ref_at m' c b R k).trans ?_
    rw [a0, a1, a2, a3, a4, a5, a6, a7]
  · exact Cert.Reference4Ideal.Value.run (F := Ideal) m' ρ'

end Cert.Proof.Merge

end
-- ==== Proof.Rest.Row.lean ====
/- One row of the second input projection, over the extended reals. -/
module

public import proofs.«01_k».proof.Proof.Ffn.Row

@[expose] public section

noncomputable section

namespace Cert.Proof.Rest

open Idealize.ShloMosaic

/-! ## The weights' columns of each result -/

def qCol (k : Fin 1024) : Fin 11776 := ⟨5120 + k.val, by omega⟩
def kCol (k : Fin 256) : Fin 11776 := ⟨6144 + k.val, by omega⟩
def vCol (k : Fin 256) : Fin 11776 := ⟨6400 + k.val, by omega⟩
def xCol (k : Fin 1024) : Fin 11776 := ⟨6656 + k.val, by omega⟩
def gCol (k : Fin 1024) : Fin 11776 := ⟨7680 + k.val, by omega⟩
def sCol (k : Fin 3072) : Fin 11776 := ⟨8704 + k.val, by omega⟩

/-- The modulated row through the weights' column `j`. -/
def proj (h : Fin 1024 → EReal) (w : Fin 1024 → Fin 11776 → EReal) (j : Fin 11776) : EReal := ∑ i, h i * w i j

/-- The RG-LRU's gate: gelu by its tanh. -/
def gelu (z : EReal) : EReal :=
  Ideal.ofBits .f32 1056964608#32 * z * (1 + Ideal.tanh (Ideal.ofBits .f32 1061962282#32 * (z + Ideal.ofBits .f32 1027024659#32 * (z * z * z))))

/-! ## Heads of 128 lanes -/

/-- Lane `l` of head `a` among the columns of the queries, and of the keys. -/
def qLane (a : Fin 8) (l : Fin 128) : Fin 1024 := ⟨a.val * 128 + l.val, by omega⟩
def kLane (a : Fin 2) (l : Fin 128) : Fin 256 := ⟨a.val * 128 + l.val, by omega⟩

def qHead (k : Fin 1024) : Fin 8 := ⟨k.val / 128, by omega⟩
def kHead (k : Fin 256) : Fin 2 := ⟨k.val / 128, by omega⟩
def lane (k : Nat) : Fin 128 := ⟨k % 128, by omega⟩

/-- The RMS norm of a head with its gain. -/
def headNorm (z g : Fin 128 → EReal) (l : Fin 128) : EReal :=
  z l * Ideal.rsqrt (Ideal.div (∑ i, z i * z i) (Ideal.ofBits .f32 1124073472#32) + Ideal.ofBits .f32 897988541#32) * g l

/-- The lane that a lane turns with: 32 on in the first half of its 64, 32 back in the second. -/
def mate (l : Fin 128) : Fin 128 := if l.val % 64 < 32 then ⟨(l.val + 32) % 128, by omega⟩ else ⟨(l.val + 96) % 128, by omega⟩

/-- A head turned by its row's position. -/
def turned (y c s : Fin 128 → EReal) (l : Fin 128) : EReal := y l * c l + y (mate l) * s l

/-- The cosine of row `R` at lane `l`: 1 for the context; the latents' table of rows in the first 64 lanes, of columns in the others. -/
def cosAt (cr cc : Fin 2048 → Fin 32 → EReal) (R : Fin 2304) (l : Fin 128) : EReal :=
  if R.val < 256 then 1 else (if l.val < 64 then cr else cc) ⟨R.val - 256, by omega⟩ ⟨l.val % 32, by omega⟩

/-- The sine, with the sign of its half: 0 for the context. -/
def sinAt (sr sc : Fin 2048 → Fin 32 → EReal) (R : Fin 2304) (l : Fin 128) : EReal :=
  if R.val < 256 then 0 else if l.val % 64 < 32 then -(if l.val < 64 then sr else sc) ⟨R.val - 256, by omega⟩ ⟨l.val % 32, by omega⟩
    else (if l.val < 64 then sr else sc) ⟨R.val - 256, by omega⟩ ⟨l.val % 32, by omega⟩

/-- A head of the queries: turned, times the attention's scale. -/
def query (z g c s : Fin 128 → EReal) (l : Fin 128) : EReal := turned (headNorm z g) c s l * Ideal.ofBits .f32 1040356334#32

/-- A head of the keys. -/
def key (z g c s : Fin 128 → EReal) (l : Fin 128) : EReal := turned (headNorm z g) c s l

end Cert.Proof.Rest

end
-- ==== Proof.Rest.Reference.lean ====
/- The second input projection's reference, at a row and a column. -/
module

public import proofs.«01_k».proof.Proof.Rest.Row
public import proofs.«01_k».proof.Proof.Gen.Reference5Ideal.Run

@[expose] public section

set_option maxRecDepth 16384

noncomputable section

namespace Cert.Proof.Rest

open Cert.Reference5Ideal Cert.Reference5Ideal.Gen Cert.Reference5Ideal.Value
open Cert.Proof.Ffn (normMod modRow modRow_ctx modRow_lat)
open Idealize.ShloMosaic Idealize.ShloMosaic.TcCoe Idealize.ShloMosaic.StableHlo

variable (m : (ℓ : Loc nD τ sig) → Buf (Elt Ideal) ℓ) (c : Dev nD)

/-- The modulated row `R` of batch `b`, from the arguments. -/
def refRow (b : Fin 16) (R : Fin 2304) : Fin 1024 → EReal :=
  normMod (fun k => (m ((c.tc : Thread nD τ).loc main_arg0) : FVec Ideal S16x2304x1024 .f32) (ix3 b R k)) (fun k => (m ((c.tc : Thread nD τ).loc main_arg2) : FVec Ideal S4x1024 .f32) (ix2 1 k))
    (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k))

/-- The row through column `j` of the weights. -/
def refProj (b : Fin 16) (R : Fin 2304) (j : Fin 11776) : EReal :=
  proj (refRow m c b R) (fun i j => (m ((c.tc : Thread nD τ).loc main_arg3) : FVec Ideal S4x1024x11776 .f32) (ix3 1 i j)) j

/-- Row `R` of the latents among all the rows, and of the context. -/
def latRow (R : Fin 2048) : Fin 2304 := ⟨256 + R.val, by omega⟩
def ctxRow (R : Fin 256) : Fin 2304 := ⟨R.val, by omega⟩
/-- Column `j` of those that this call takes. -/
def restCol (j : Fin 6656) : Fin 11776 := ⟨5120 + j.val, by omega⟩

theorem lat_at (b : Fin 16) (R : Fin 2048) (j : Fin 6656) :
    (res_main_v39 (launchContents m c) : FVec Ideal S16x2048x6656 .f32) (ix3 b R j) = refProj m c b (latRow R) (restCol j) := by
  unfold refProj refRow normMod proj restCol
  rw [modRow_lat (show ¬ (latRow R).val < 256 by show ¬ 256 + R.val < 256; omega)]
  unfold latRow
  pointwise [res_main_v39, res_main_v15, res_main_v0]

theorem ctx_at (b : Fin 16) (R : Fin 256) (j : Fin 6656) :
    (res_main_v63 (launchContents m c) : FVec Ideal S16x256x6656 .f32) (ix3 b R j) = refProj m c b (ctxRow R) (restCol j) := by
  unfold refProj refRow normMod proj restCol
  rw [modRow_ctx (show (ctxRow R).val < 256 from R.isLt)]
  unfold ctxRow
  pointwise [res_main_v63, res_main_v14, res_main_v7]

theorem all_at (b : Fin 16) (R : Fin 2304) (j : Fin 6656) :
    (res_main_v226 (launchContents m c) : FVec Ideal S16x2304x6656 .f32) (ix3 b R j) = refProj m c b R (restCol j) := by
  by_cases h : R.val < 256
  · pointwise [res_main_v226]
    rw [dif_pos h]
    exact ctx_at m c b ⟨R.val, h⟩ j
  · have e : latRow ⟨R.val - 256, by omega⟩ = R := Fin.ext (by show 256 + (R.val - 256) = R.val; omega)
    pointwise [res_main_v226]
    rw [dif_neg h]
    exact (lat_at m c b ⟨R.val - 256, by omega⟩ j).trans (by rw [e])

theorem lat_q (b : Fin 16) (R : Fin 2048) (a : Fin 8) (l : Fin 128) :
    (res_main_v91 (launchContents m c) : FVec Ideal S16x2048x8x128 .f32) (ix4 b R a l)
      = headNorm (fun l => refProj m c b (latRow R) (qCol (qLane a l))) (fun l => (m ((c.tc : Thread nD τ).loc main_arg4) : FVec Ideal S4x128 .f32) (ix2 1 l)) l := by
  have e (l : Fin 128) : qCol (qLane a l) = restCol ⟨a.val * 128 + l.val, by omega⟩ := rfl
  simp only [e, ← lat_at]
  unfold headNorm
  pointwise [res_main_v91, res_main_v76]

theorem lat_k (b : Fin 16) (R : Fin 2048) (a : Fin 2) (l : Fin 128) :
    (res_main_v148 (launchContents m c) : FVec Ideal S16x2048x2x128 .f32) (ix4 b R a l)
      = headNorm (fun l => refProj m c b (latRow R) (kCol (kLane a l))) (fun l => (m ((c.tc : Thread nD τ).loc main_arg5) : FVec Ideal S4x128 .f32) (ix2 1 l)) l := by
  have e (l : Fin 128) : kCol (kLane a l) = restCol ⟨1024 + (a.val * 128 + l.val), by omega⟩ := Fin.ext (by show 6144 + (a.val * 128 + l.val) = 5120 + (1024 + (a.val * 128 + l.val)); omega)
  simp only [e, ← lat_at]
  unfold headNorm
  pointwise [res_main_v148, res_main_v133]

theorem ctx_q (b : Fin 16) (R : Fin 256) (a : Fin 8) (l : Fin 128) :
    (res_main_v190 (launchContents m c) : FVec Ideal S16x256x8x128 .f32) (ix4 b R a l) = refProj m c b (ctxRow R) (qCol (qLane a l)) := by
  have e (l : Fin 128) : qCol (qLane a l) = restCol ⟨a.val * 128 + l.val, by omega⟩ := rfl
  simp only [e, ← ctx_at]
  pointwise [res_main_v190]

theorem ctx_k (b : Fin 16) (R : Fin 256) (a : Fin 2) (l : Fin 128) :
    (res_main_v206 (launchContents m c) : FVec Ideal S16x256x2x128 .f32) (ix4 b R a l) = refProj m c b (ctxRow R) (kCol (kLane a l)) := by
  have e (l : Fin 128) : kCol (kLane a l) = restCol ⟨1024 + (a.val * 128 + l.val), by omega⟩ := Fin.ext (by show 6144 + (a.val * 128 + l.val) = 5120 + (1024 + (a.val * 128 + l.val)); omega)
  simp only [e, ← ctx_at]
  pointwise [res_main_v206]

/-- The tables of the arguments, as functions. -/
def cr (R : Fin 2048) (l : Fin 32) : EReal := (m ((c.tc : Thread nD τ).loc main_arg6) : FVec Ideal S2048x32 .f32) (ix2 R l)
def sr (R : Fin 2048) (l : Fin 32) : EReal := (m ((c.tc : Thread nD τ).loc main_arg7) : FVec Ideal S2048x32 .f32) (ix2 R l)
def cc (R : Fin 2048) (l : Fin 32) : EReal := (m ((c.tc : Thread nD τ).loc main_arg8) : FVec Ideal S2048x32 .f32) (ix2 R l)
def sc (R : Fin 2048) (l : Fin 32) : EReal := (m ((c.tc : Thread nD τ).loc main_arg9) : FVec Ideal S2048x32 .f32) (ix2 R l)

/-- The turn of one head's lanes, spelt by quarters, is the turn by each lane's mate. -/
theorem quarters (y : Fin 128 → EReal) (c1 s1 c2 s2 : Fin 2048 → Fin 32 → EReal) (R : Fin 2048) (l : Fin 128) :
    (if h1 : l.val < 64 then
        if h2 : l.val < 32 then y ⟨l.val, by omega⟩ * c1 R ⟨l.val, h2⟩ - y ⟨32 + l.val, by omega⟩ * s1 R ⟨l.val, h2⟩
        else y ⟨32 + (l.val - 32), by omega⟩ * c1 R ⟨l.val - 32, by omega⟩ + y ⟨l.val - 32, by omega⟩ * s1 R ⟨l.val - 32, by omega⟩
      else
        if h2 : l.val - 64 < 32 then
          y ⟨64 + (l.val - 64), by omega⟩ * c2 R ⟨l.val - 64, h2⟩ - y ⟨64 + (32 + (l.val - 64)), by omega⟩ * s2 R ⟨l.val - 64, h2⟩
        else
          y ⟨64 + (32 + (l.val - 64 - 32)), by omega⟩ * c2 R ⟨l.val - 64 - 32, by omega⟩
            + y ⟨64 + (l.val - 64 - 32), by omega⟩ * s2 R ⟨l.val - 64 - 32, by omega⟩)
      = y l * (if l.val < 64 then c1 else c2) R ⟨l.val % 32, Nat.mod_lt _ (by omega)⟩
        + y (mate l) * if l.val % 64 < 32 then -(if l.val < 64 then s1 else s2) R ⟨l.val % 32, Nat.mod_lt _ (by omega)⟩
            else (if l.val < 64 then s1 else s2) R ⟨l.val % 32, Nat.mod_lt _ (by omega)⟩ := by
  unfold mate
  by_cases h1 : l.val < 64
  · by_cases h2 : l.val < 32
    · have a1 : l.val % 64 < 32 := by omega
      have a2 : l.val % 32 = l.val := by omega
      have a3 : (l.val + 32) % 128 = 32 + l.val := by omega
      simp only [dif_pos h1, dif_pos h2, if_pos h1, if_pos a1, a2, a3, sub_eq_add_neg, mul_neg, Fin.eta]
    · have a1 : ¬ l.val % 64 < 32 := by omega
      have a2 : l.val % 32 = l.val - 32 := by omega
      have a3 : (l.val + 96) % 128 = l.val - 32 := by omega
      have a4 : 32 + (l.val - 32) = l.val := by omega
      simp only [dif_pos h1, dif_neg h2, if_pos h1, if_neg a1, a2, a3, a4, Fin.eta]
  · by_cases h2 : l.val - 64 < 32
    · have a1 : l.val % 64 < 32 := by omega
      have a2 : l.val % 32 = l.val - 64 := by omega
      have a3 : (l.val + 32) % 128 = 64 + (32 + (l.val - 64)) := by omega
      have a4 : 64 + (l.val - 64) = l.val := by omega
      simp only [dif_neg h1, dif_pos h2, if_neg h1, if_pos a1, a2, a3, a4, sub_eq_add_neg, mul_neg, Fin.eta]
    · have a1 : ¬ l.val % 64 < 32 := by omega
      have a2 : l.val % 32 = l.val - 64 - 32 := by omega
      have a3 : (l.val + 96) % 128 = 64 + (l.val - 64 - 32) := by omega
      have a4 : 64 + (32 + (l.val - 64 - 32)) = l.val := by omega
      simp only [dif_neg h1, dif_neg h2, if_neg h1, if_neg a1, a2, a3, a4, Fin.eta]

theorem ref_q (b : Fin 16) (R : Fin 2304) (k : Fin 1024) :
    (val5 (launchContents m c) (Proc.devRef .tc main_v234) : FVec Ideal S16x2304x1024 .bf16) (ix3 b R k)
      = query (fun l => refProj m c b R (qCol (qLane (qHead k) l))) (fun l => (m ((c.tc : Thread nD τ).loc main_arg4) : FVec Ideal S4x128 .f32) (ix2 1 l))
          (cosAt (cr m c) (cc m c) R) (sinAt (sr m c) (sc m c) R) (Proof.Rest.lane k.val) := by
  refine (congrFun (val5_main_v234 (launchContents m c)) _).trans ?_
  by_cases h : R.val < 256
  · have e (x : Fin 128) : (res_main_v190 (launchContents m c) : FVec Ideal S16x256x8x128 .f32) (ix4 b ⟨R.val, h⟩ ⟨k.val / 128, by omega⟩ x)
        = refProj m c b R (qCol (qLane (qHead k) x)) := ctx_q m c b ⟨R.val, h⟩ (qHead k) x
    pointwise []
    simp only [dif_pos h]
    simp only [query, turned, cosAt, sinAt, if_pos h, mul_one, mul_zero, add_zero, headNorm, e]
    rfl
  · have hR : latRow ⟨R.val - 256, by omega⟩ = R := Fin.ext (by show 256 + (R.val - 256) = R.val; omega)
    have e (x : Fin 128) : (res_main_v91 (launchContents m c) : FVec Ideal S16x2048x8x128 .f32) (ix4 b ⟨R.val - 256, by omega⟩ ⟨k.val / 128, by omega⟩ x)
        = headNorm (fun l => refProj m c b R (qCol (qLane (qHead k) l))) (fun l => (m ((c.tc : Thread nD τ).loc main_arg4) : FVec Ideal S4x128 .f32) (ix2 1 l)) x := by
      have t := lat_q m c b ⟨R.val - 256, by omega⟩ (qHead k) x
      rw [hR] at t
      exact t
    pointwise [res_main_v92, res_main_v93, res_main_v94, res_main_v95, res_main_v96, res_main_v97, res_main_v113, res_main_v114, res_main_v115, res_main_v116]
    simp only [dif_neg h, e]
    simp only [query, turned, cosAt, sinAt, if_neg h]
    exact congrArg (· * _) (quarters _ (cr m c) (sr m c) (cc m c) (sc m c) ⟨R.val - 256, by omega⟩ (Proof.Rest.lane k.val))

theorem ref_k (b : Fin 16) (R : Fin 2304) (k : Fin 256) :
    (val5 (launchContents m c) (Proc.devRef .tc main_v236) : FVec Ideal S16x2304x256 .bf16) (ix3 b R k)
      = key (fun l => refProj m c b R (kCol (kLane (kHead k) l))) (fun l => (m ((c.tc : Thread nD τ).loc main_arg5) : FVec Ideal S4x128 .f32) (ix2 1 l))
          (cosAt (cr m c) (cc m c) R) (sinAt (sr m c) (sc m c) R) (Proof.Rest.lane k.val) := by
  refine (congrFun (val5_main_v236 (launchContents m c)) _).trans ?_
  by_cases h : R.val < 256
  · have e (x : Fin 128) : (res_main_v206 (launchContents m c) : FVec Ideal S16x256x2x128 .f32) (ix4 b ⟨R.val, h⟩ ⟨k.val / 128, by omega⟩ x)
        = refProj m c b R (kCol (kLane (kHead k) x)) := ctx_k m c b ⟨R.val, h⟩ (kHead k) x
    pointwise []
    simp only [dif_pos h]
    simp only [key, turned, cosAt, sinAt, if_pos h, mul_one, mul_zero, add_zero, headNorm, e]
    rfl
  · have hR : latRow ⟨R.val - 256, by omega⟩ = R := Fin.ext (by show 256 + (R.val - 256) = R.val; omega)
    have e (x : Fin 128) : (res_main_v148 (launchContents m c) : FVec Ideal S16x2048x2x128 .f32) (ix4 b ⟨R.val - 256, by omega⟩ ⟨k.val / 128, by omega⟩ x)
        = headNorm (fun l => refProj m c b R (kCol (kLane (kHead k) l))) (fun l => (m ((c.tc : Thread nD τ).loc main_arg5) : FVec Ideal S4x128 .f32) (ix2 1 l)) x := by
      have t := lat_k m c b ⟨R.val - 256, by omega⟩ (kHead k) x
      rw [hR] at t
      exact t
    pointwise [res_main_v149, res_main_v150, res_main_v151, res_main_v152, res_main_v153, res_main_v154, res_main_v170, res_main_v171, res_main_v172, res_main_v173]
    simp only [dif_neg h, e]
    simp only [key, turned, cosAt, sinAt, if_neg h]
    exact (quarters _ (cr m c) (sr m c) (cc m c) (sc m c) ⟨R.val - 256, by omega⟩ (Proof.Rest.lane k.val))

theorem ref_v (b : Fin 16) (R : Fin 2304) (k : Fin 256) :
    (val5 (launchContents m c) (Proc.devRef .tc main_v237) : FVec Ideal S16x2304x256 .bf16) (ix3 b R k) = refProj m c b R (vCol k) := by
  have e : vCol k = restCol ⟨1280 + k.val, by omega⟩ := Fin.ext (by show 6400 + k.val = 5120 + (1280 + k.val); omega)
  refine (congrFun (val5_main_v237 (launchContents m c)) _).trans ?_
  rw [e, ← all_at]
  pointwise []

theorem ref_x (b : Fin 16) (R : Fin 2304) (k : Fin 1024) :
    (val5 (launchContents m c) (Proc.devRef .tc main_v230) : FVec Ideal S16x2304x1024 .f32) (ix3 b R k) = refProj m c b R (xCol k) := by
  have e : xCol k = restCol ⟨1536 + k.val, by omega⟩ := Fin.ext (by show 6656 + k.val = 5120 + (1536 + k.val); omega)
  refine (congrFun (val5_main_v230 (launchContents m c)) _).trans ?_
  rw [e, ← all_at]
  pointwise []

theorem ref_g (b : Fin 16) (R : Fin 2304) (k : Fin 1024) :
    (val5 (launchContents m c) (Proc.devRef .tc main_v251) : FVec Ideal S16x2304x1024 .bf16) (ix3 b R k) = gelu (refProj m c b R (gCol k)) := by
  have e : gCol k = restCol ⟨2560 + k.val, by omega⟩ := Fin.ext (by show 7680 + k.val = 5120 + (2560 + k.val); omega)
  refine (congrFun (val5_main_v251 (launchContents m c)) _).trans ?_
  rw [e, ← all_at]
  unfold gelu
  generalize hz : (res_main_v226 (launchContents m c) : FVec Ideal S16x2304x6656 .f32) = z
  pointwise [res_main_v231]
  rw [hz]
  exact (mul_left_comm (_ : EReal) _ _).trans (mul_assoc (_ : EReal) _ _).symm

theorem ref_s (b : Fin 16) (R : Fin 2304) (k : Fin 3072) :
    (val5 (launchContents m c) (Proc.devRef .tc main_v258) : FVec Ideal S16x2304x3072 .bf16) (ix3 b R k) = Ideal.logistic (refProj m c b R (sCol k)) := by
  have e : sCol k = restCol ⟨3584 + k.val, by omega⟩ := Fin.ext (by show 8704 + k.val = 5120 + (3584 + k.val); omega)
  refine (congrFun (val5_main_v258 (launchContents m c)) _).trans ?_
  rw [e, ← all_at]
  unfold Ideal.logistic
  pointwise []

end Cert.Proof.Rest

end
-- ==== Proof.Rest.Body.lean ====
/- What the body of the second input projection leaves of its blocks, at a row and a column. -/
module

public import proofs.«01_k».proof.Proof.Rest.Row
public import proofs.«01_k».proof.Proof.Gen.Kernel5Ideal.Value
public import Idealize.ShloMosaic.Lib.Pipeline.ValueKit

@[expose] public section

set_option maxRecDepth 16384

noncomputable section

namespace Cert.Proof.Rest

open Cert.Kernel5Ideal Cert.Kernel5Ideal.Gen
open Cert.Proof.Ffn (normMod)
open Idealize.ShloMosaic Idealize.ShloMosaic.TcCoe

theorem pay3_at (v0 : Vec Ideal S1x256x1024 .f32) (v2 : Vec Ideal S1x1024 .f32) (v4 v6 : Vec Ideal S1x1x1x1024 .f32)
    (r : Fin 256) (k : Fin 1024) : k0_pay3 (F := Ideal) v0 v2 v4 v6 (ix2 r k)
      = normMod (fun k => v0 (ix3 0 r k)) (fun k => v2 (ix2 0 k)) (fun k => v4 (ix4 0 0 0 k)) (fun k => v6 (ix4 0 0 0 k)) k := by
  unfold normMod
  pointwise [k0_pay3]

theorem pay31_at (h : FVec Ideal S256x1024 .bf16) (w : Vec Ideal S1x1024x256 .bf16) (r : Fin 256) (k : Fin 256) :
    k0_pay31 (F := Ideal) h w (ix3 0 r k) = (∑ i, h (ix2 r i) * w (ix3 0 i k) : EReal) := by
  pointwise [k0_pay31]

theorem pay32_at (h : FVec Ideal S256x1024 .bf16) (w : Vec Ideal S1x1024x1024 .bf16) (r : Fin 256) (k : Fin 1024) :
    k0_pay32 (F := Ideal) h w (ix3 0 r k) = (∑ i, h (ix2 r i) * w (ix3 0 i k) : EReal) := by
  pointwise [k0_pay32]

theorem pay33_at (h : FVec Ideal S256x1024 .bf16) (w : Vec Ideal S1x1024x1024 .bf16) (r : Fin 256) (k : Fin 1024) :
    k0_pay1 (F := Ideal) (k0_pay33 h w) (ix3 0 r k) = gelu (∑ i, h (ix2 r i) * w (ix3 0 i k) : EReal) := by
  unfold gelu
  pointwise [k0_pay1, k0_pay33]

theorem pay2_at (h : FVec Ideal S256x1024 .bf16) (w : Vec Ideal S1x1024x3072 .bf16) (r : Fin 256) (k : Fin 3072) :
    k0_pay2 (F := Ideal) h w (ix3 0 r k) = Ideal.logistic (∑ i, h (ix2 r i) * w (ix3 0 i k) : EReal) := by
  pointwise [k0_pay2]

theorem pay7_at (h : FVec Ideal S256x1024 .bf16) (w : Vec Ideal S1x1024x1024 .bf16) (r : Fin 256) (k : Fin 1024) :
    k0_pay7 (F := Ideal) h w (ix2 r k) = (∑ i, h (ix2 r i) * w (ix3 0 i k) : EReal) := by
  pointwise [k0_pay7]

theorem pay23_at (h : FVec Ideal S256x1024 .bf16) (w : Vec Ideal S1x1024x256 .bf16) (r : Fin 256) (k : Fin 256) :
    k0_pay23 (F := Ideal) h w (ix2 r k) = (∑ i, h (ix2 r i) * w (ix3 0 i k) : EReal) := by
  pointwise [k0_pay23]

/-- The mask of the lanes that turn with the lane 32 on. -/
theorem mask_at (r : Fin 256) (l : Fin 128) :
    k0_pay6 (iota .tc S256x128 32 [1] iota_S256x128_d1_w32) (Scalar.select (Scalar.cmpi .eq 64#32 0#32) 1#32 64#32) (ix2 r l)
      = BitVec.ofBool (decide (l.val % 64 < 32)) := by
  pointwise [k0_pay6]
  revert l
  decide

theorem sel_on (a b : EReal) : Scalar.select (BitVec.ofBool true) a b = a := rfl
theorem sel_off (a b : EReal) : Scalar.select (BitVec.ofBool false) a b = b := rfl

section Heads

variable (c s : FVec Ideal S256x128 .f32) (mk : IVec S256x128 1) (r : Fin 256) (l : Fin 128) (hm : mk (ix2 r l) = BitVec.ofBool (decide (l.val % 64 < 32)))
include hm

theorem head1 (z : FVec Ideal S256x1024 .f32) (g : Vec Ideal S1x128 .f32) :
    k0_pay10 (F := Ideal) c s mk z g (ix3 0 r l)
      = query (fun l => z (ix2 r (qLane 1 l))) (fun l => g (ix2 0 l)) (fun l => c (ix2 r l)) (fun l => s (ix2 r l)) l := by
  unfold query turned headNorm qLane mate
  pointwise [k0_pay10]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem head2 (z : FVec Ideal S256x1024 .f32) (g : Vec Ideal S1x128 .f32) :
    k0_pay14 (F := Ideal) c s mk (k0_pay11 z) (k0_pay12 g) (k0_pay13 z) (ix3 0 r l)
      = query (fun l => z (ix2 r (qLane 2 l))) (fun l => g (ix2 0 l)) (fun l => c (ix2 r l)) (fun l => s (ix2 r l)) l := by
  unfold query turned headNorm qLane mate
  pointwise [k0_pay14, k0_pay11, k0_pay12, k0_pay13]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem head3 (z : FVec Ideal S256x1024 .f32) (g : Vec Ideal S1x128 .f32) :
    k0_pay16 (F := Ideal) (k0_pay15 c s mk z g) (ix3 0 r l)
      = query (fun l => z (ix2 r (qLane 3 l))) (fun l => g (ix2 0 l)) (fun l => c (ix2 r l)) (fun l => s (ix2 r l)) l := by
  unfold query turned headNorm qLane mate
  pointwise [k0_pay16, k0_pay15]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem head4 (z : FVec Ideal S256x1024 .f32) (g : Vec Ideal S1x128 .f32) :
    k0_pay17 (F := Ideal) c s mk z g (ix3 0 r l)
      = query (fun l => z (ix2 r (qLane 4 l))) (fun l => g (ix2 0 l)) (fun l => c (ix2 r l)) (fun l => s (ix2 r l)) l := by
  unfold query turned headNorm qLane mate
  pointwise [k0_pay17]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem head5 (z : FVec Ideal S256x1024 .f32) (g : Vec Ideal S1x128 .f32) :
    k0_pay20 (F := Ideal) c s mk (k0_pay18 g) (k0_pay19 z) (ix3 0 r l)
      = query (fun l => z (ix2 r (qLane 5 l))) (fun l => g (ix2 0 l)) (fun l => c (ix2 r l)) (fun l => s (ix2 r l)) l := by
  unfold query turned headNorm qLane mate
  pointwise [k0_pay20, k0_pay18, k0_pay19]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem head6 (z : FVec Ideal S256x1024 .f32) (g : Vec Ideal S1x128 .f32) :
    k0_pay21 (F := Ideal) c s mk z g (ix3 0 r l)
      = query (fun l => z (ix2 r (qLane 6 l))) (fun l => g (ix2 0 l)) (fun l => c (ix2 r l)) (fun l => s (ix2 r l)) l := by
  unfold query turned headNorm qLane mate
  pointwise [k0_pay21]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem head7 (z : FVec Ideal S256x1024 .f32) (g : Vec Ideal S1x128 .f32) :
    k0_pay22 (F := Ideal) c s mk z g (ix3 0 r l)
      = query (fun l => z (ix2 r (qLane 7 l))) (fun l => g (ix2 0 l)) (fun l => c (ix2 r l)) (fun l => s (ix2 r l)) l := by
  unfold query turned headNorm qLane mate
  pointwise [k0_pay22]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem key1 (z : FVec Ideal S256x256 .f32) (g : Vec Ideal S1x128 .f32) :
    k0_pay30 (F := Ideal) (k0_pay29 c s mk z g) (ix3 0 r l)
      = key (fun l => z (ix2 r (kLane 1 l))) (fun l => g (ix2 0 l)) (fun l => c (ix2 r l)) (fun l => s (ix2 r l)) l := by
  unfold key turned headNorm kLane mate
  pointwise [k0_pay30, k0_pay29]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

theorem key0 (h : FVec Ideal S256x1024 .bf16) (w : Vec Ideal S1x1024x256 .bf16) (g : Vec Ideal S1x128 .f32) :
    k0_pay28 (F := Ideal) c s mk (k0_pay24 h w) (k0_pay25 g) (k0_pay26 h w) (k0_pay27 (F := Ideal)) (ix3 0 r l)
      = key (fun l => k0_pay23 (F := Ideal) h w (ix2 r (kLane 0 l))) (fun l => g (ix2 0 l)) (fun l => c (ix2 r l)) (fun l => s (ix2 r l)) l := by
  unfold key turned headNorm kLane mate k0_pay26 k0_pay24
  generalize k0_pay23 (F := Ideal) h w = z
  pointwise [k0_pay28, k0_pay25, k0_pay27]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

end Heads

theorem head0 (h : FVec Ideal S256x1024 .bf16) (c s : FVec Ideal S256x128 .f32) (i : IVec S256x128 32) (n : BitVec 32) (w : Vec Ideal S1x1024x1024 .bf16) (g : Vec Ideal S1x128 .f32)
    (r : Fin 256) (l : Fin 128) (hm : k0_pay6 i n (ix2 r l) = BitVec.ofBool (decide (l.val % 64 < 32))) :
    k0_pay9 (F := Ideal) (k0_pay8 h c s i n w g) (ix3 0 r l)
      = query (fun l => k0_pay7 (F := Ideal) h w (ix2 r (qLane 0 l))) (fun l => g (ix2 0 l)) (fun l => c (ix2 r l)) (fun l => s (ix2 r l)) l := by
  unfold query turned headNorm qLane mate k0_pay8
  generalize k0_pay7 (F := Ideal) h w = z
  generalize k0_pay6 i n = mk at hm ⊢
  pointwise [k0_pay9]
  have i96 : l.val + 128 - 96 = l.val + 32 := by omega
  have i32 : l.val + 128 - 32 = l.val + 96 := by omega
  rw [hm]
  by_cases h : l.val % 64 < 32
  · simp only [h, decide_true, sel_on, if_true, i96]
  · simp only [h, decide_false, sel_off, if_false, i32]

/-! ## The stores of a block, a head each -/

theorem qTile (Q : Fin 8 → Fin 256 → Fin 128 → EReal) (r : Fin 256) (k : Fin 1024) (a : Fin 8) (o : Nat) (ho : o = 128 * a.val)
    (w : S1x256x128.Idx → EReal) (hw : ∀ r l, w (ix3 0 r l) = Q a r l) :
    View.TileAt (Val := Elt Ideal) (S := S1x256x1024) (e := .bf16) (ix3 0 r k) ![0, 0, o] S1x256x128.size w (Q (qHead k) r (lane k.val)) := by
  subst ho
  intro x hx
  have h1 : r.val = 0 + (x 1).val := hx 1
  have h2 : k.val = 128 * a.val + (x 2).val := hx 2
  have b2 : (x 2).val < 128 := (x 2).isLt
  have e : x = ix3 0 r (lane k.val) := by
    funext b
    match b with
    | ⟨0, _⟩ => exact Fin.ext (by have := (x 0).isLt; show (x 0).val = 0; have b0 : (x 0).val < 1 := this; omega)
    | ⟨1, _⟩ => exact Fin.ext (by show (x 1).val = r.val; omega)
    | ⟨2, _⟩ => exact Fin.ext (by show (x 2).val = k.val % 128; omega)
  have ea : a = qHead k := Fin.ext (by show a.val = k.val / 128; omega)
  rw [e, ← ea]
  exact hw r _

theorem kTile (Q : Fin 2 → Fin 256 → Fin 128 → EReal) (r : Fin 256) (k : Fin 256) (a : Fin 2) (o : Nat) (ho : o = 128 * a.val)
    (w : S1x256x128.Idx → EReal) (hw : ∀ r l, w (ix3 0 r l) = Q a r l) :
    View.TileAt (Val := Elt Ideal) (S := S1x256x256) (e := .bf16) (ix3 0 r k) ![0, 0, o] S1x256x128.size w (Q (kHead k) r (lane k.val)) := by
  subst ho
  intro x hx
  have h1 : r.val = 0 + (x 1).val := hx 1
  have h2 : k.val = 128 * a.val + (x 2).val := hx 2
  have b2 : (x 2).val < 128 := (x 2).isLt
  have e : x = ix3 0 r (lane k.val) := by
    funext b
    match b with
    | ⟨0, _⟩ => exact Fin.ext (by have := (x 0).isLt; show (x 0).val = 0; have b0 : (x 0).val < 1 := this; omega)
    | ⟨1, _⟩ => exact Fin.ext (by show (x 1).val = r.val; omega)
    | ⟨2, _⟩ => exact Fin.ext (by show (x 2).val = k.val % 128; omega)
  have ea : a = kHead k := Fin.ext (by show a.val = k.val / 128; omega)
  rw [e, ← ea]
  exact hw r _

section Outputs

variable (x0 : Vec Ideal S1x256x1024 .f32) (x1 : Vec Ideal S1x1024 .f32) (x2 x3 : Vec Ideal S1x1x1x1024 .f32) (x4 : Vec Ideal S1x1024x11776 .bf16)
  (x5 x6 : Vec Ideal S1x128 .f32) (x7 x8 : Vec Ideal S256x128 .f32)

/-- The modulated row `r` of the block, from the blocks of the stream, the gain and the modulations. -/
def rowOf (r : Fin 256) : Fin 1024 → EReal :=
  normMod (fun k => x0 (ix3 0 r k)) (fun k => x1 (ix2 0 k)) (fun k => x2 (ix4 0 0 0 k)) (fun k => x3 (ix4 0 0 0 k))

theorem pay35_at (r : Fin 256) (k : Fin 1024) : k0_pay35 x0 x1 x2 x3 x4 x5 x6 x7 x8 (ix2 r k) = rowOf x0 x1 x2 x3 r k := by
  have h0 : View.ld x0 r0_0 = x0 := View.ld_unit_lit (S := S1x256x1024) _ x0 (by decide)
  have h1 : View.ld x1 r0_1 = x1 := View.ld_unit_lit (S := S1x1024) _ x1 (by decide)
  have h2 : View.ld x2 r0_2 = x2 := View.ld_unit_lit (S := S1x1x1x1024) _ x2 (by decide)
  have h3 : View.ld x3 r0_2 = x3 := View.ld_unit_lit (S := S1x1x1x1024) _ x3 (by decide)
  rw [k0_pay35, h0, h1, h2, h3]
  exact pay3_at _ _ _ _ r k

theorem pay36_at (r : Fin 256) (l : Fin 128) : k0_pay36 x0 x1 x2 x3 x4 x5 x6 x7 x8 (ix2 r l) = x7 (ix2 r l) := by
  have h7 : View.ld x7 r0_3 = x7 := View.ld_unit_lit (S := S256x128) _ x7 (by decide)
  rw [k0_pay36, h7]
  pointwise [k0_pay4]

theorem pay37_at (r : Fin 256) (l : Fin 128) : k0_pay37 x0 x1 x2 x3 x4 x5 x6 x7 x8 (ix2 r l) = x8 (ix2 r l) := by
  have h8 : View.ld x8 r0_3 = x8 := View.ld_unit_lit (S := S256x128) _ x8 (by decide)
  rw [k0_pay37, h8]
  pointwise [k0_pay5]

theorem pay38_at (r : Fin 256) (l : Fin 128) : k0_pay38 x0 x1 x2 x3 x4 x5 x6 x7 x8 (ix2 r l) = BitVec.ofBool (decide (l.val % 64 < 32)) :=
  mask_at r l

theorem pay39_at (r : Fin 256) (k : Fin 1024) : k0_pay39 x0 x1 x2 x3 x4 x5 x6 x7 x8 (ix2 r k) = proj (rowOf x0 x1 x2 x3 r) (fun i j => x4 (ix3 0 i j)) (qCol k) := by
  have h4 (i j : Fin 1024) : View.ld x4 r0_4 (ix3 0 i j) = x4 (ix3 0 i (qCol j)) :=
    View.ld_unit_apply_of _ _ _ _ _ _ (fun a => match a with | ⟨0, _⟩ => rfl | ⟨1, _⟩ => (Nat.zero_add _).symm | ⟨2, _⟩ => rfl)
  refine (pay7_at _ _ r k).trans ?_
  simp only [pay35_at, h4, proj]

theorem pay23_row (r : Fin 256) (k : Fin 256) : k0_pay23 (k0_pay35 x0 x1 x2 x3 x4 x5 x6 x7 x8) (View.ld x4 r0_14) (ix2 r k)
    = proj (rowOf x0 x1 x2 x3 r) (fun i j => x4 (ix3 0 i j)) (kCol k) := by
  have h4 (i : Fin 1024) (j : Fin 256) : View.ld x4 r0_14 (ix3 0 i j) = x4 (ix3 0 i (kCol j)) :=
    View.ld_unit_apply_of _ _ _ _ _ _ (fun a => match a with | ⟨0, _⟩ => rfl | ⟨1, _⟩ => (Nat.zero_add _).symm | ⟨2, _⟩ => rfl)
  refine (pay23_at _ _ r k).trans ?_
  simp only [pay35_at, h4, proj]

theorem out11_at (r : Fin 256) (k : Fin 256) : out0_11 x0 x1 x2 x3 x4 x5 x6 x7 x8 (ix3 0 r k)
    = proj (rowOf x0 x1 x2 x3 r) (fun i j => x4 (ix3 0 i j)) (vCol k) := by
  have h4 (i : Fin 1024) (j : Fin 256) : View.ld x4 r0_17 (ix3 0 i j) = x4 (ix3 0 i (vCol j)) :=
    View.ld_unit_apply_of _ _ _ _ _ _ (fun a => match a with | ⟨0, _⟩ => rfl | ⟨1, _⟩ => (Nat.zero_add _).symm | ⟨2, _⟩ => rfl)
  rw [out0_11]
  refine (congrFun (View.canon_cons_unit_lit (S := S1x256x256) _ _ _ (by decide)) _).trans ?_
  refine (pay31_at _ _ r k).trans ?_
  simp only [pay35_at, h4, proj]

theorem out12_at (r : Fin 256) (k : Fin 1024) : out0_12 x0 x1 x2 x3 x4 x5 x6 x7 x8 (ix3 0 r k)
    = proj (rowOf x0 x1 x2 x3 r) (fun i j => x4 (ix3 0 i j)) (xCol k) := by
  have h4 (i j : Fin 1024) : View.ld x4 r0_19 (ix3 0 i j) = x4 (ix3 0 i (xCol j)) :=
    View.ld_unit_apply_of _ _ _ _ _ _ (fun a => match a with | ⟨0, _⟩ => rfl | ⟨1, _⟩ => (Nat.zero_add _).symm | ⟨2, _⟩ => rfl)
  rw [out0_12]
  refine (congrFun (View.canon_cons_unit_lit (S := S1x256x1024) _ _ _ (by decide)) _).trans ?_
  refine (pay32_at _ _ r k).trans ?_
  simp only [pay35_at, h4, proj]

theorem out13_at (r : Fin 256) (k : Fin 1024) : out0_13 x0 x1 x2 x3 x4 x5 x6 x7 x8 (ix3 0 r k)
    = gelu (proj (rowOf x0 x1 x2 x3 r) (fun i j => x4 (ix3 0 i j)) (gCol k)) := by
  have h4 (i j : Fin 1024) : View.ld x4 r0_20 (ix3 0 i j) = x4 (ix3 0 i (gCol j)) :=
    View.ld_unit_apply_of _ _ _ _ _ _ (fun a => match a with | ⟨0, _⟩ => rfl | ⟨1, _⟩ => (Nat.zero_add _).symm | ⟨2, _⟩ => rfl)
  rw [out0_13]
  refine (congrFun (View.canon_cons_unit_lit (S := S1x256x1024) _ _ _ (by decide)) _).trans ?_
  refine (pay33_at _ _ r k).trans ?_
  simp only [pay35_at, h4, proj]

theorem out14_at (r : Fin 256) (k : Fin 3072) : out0_14 x0 x1 x2 x3 x4 x5 x6 x7 x8 (ix3 0 r k)
    = Ideal.logistic (proj (rowOf x0 x1 x2 x3 r) (fun i j => x4 (ix3 0 i j)) (sCol k)) := by
  have h4 (i : Fin 1024) (j : Fin 3072) : View.ld x4 r0_21 (ix3 0 i j) = x4 (ix3 0 i (sCol j)) :=
    View.ld_unit_apply_of _ _ _ _ _ _ (fun a => match a with | ⟨0, _⟩ => rfl | ⟨1, _⟩ => (Nat.zero_add _).symm | ⟨2, _⟩ => rfl)
  rw [out0_14]
  refine (congrFun (View.canon_cons_unit_lit (S := S1x256x3072) _ _ _ (by decide)) _).trans ?_
  refine (pay2_at _ _ r k).trans ?_
  simp only [pay35_at, h4, proj]

/-- Head `a` of the block's queries, and of its keys. -/
def qOf (a : Fin 8) (r : Fin 256) : Fin 128 → EReal :=
  query (fun l => proj (rowOf x0 x1 x2 x3 r) (fun i j => x4 (ix3 0 i j)) (qCol (qLane a l))) (fun l => x5 (ix2 0 l)) (fun l => x7 (ix2 r l)) (fun l => x8 (ix2 r l))
def kOf (a : Fin 2) (r : Fin 256) : Fin 128 → EReal :=
  key (fun l => proj (rowOf x0 x1 x2 x3 r) (fun i j => x4 (ix3 0 i j)) (kCol (kLane a l))) (fun l => x6 (ix2 0 l)) (fun l => x7 (ix2 r l)) (fun l => x8 (ix2 r l))

theorem out9_at (r : Fin 256) (k : Fin 1024) : out0_9 x0 x1 x2 x3 x4 x5 x6 x7 x8 (ix3 0 r k)
    = qOf x0 x1 x2 x3 x4 x5 x7 x8 (qHead k) r (lane k.val) := by
  have h5 : View.ld x5 r0_5 = x5 := View.ld_unit_lit (S := S1x128) _ x5 (by decide)
  rw [out0_9, h5]
  refine View.canon_eq_of_allAt _ _ _ (cover0_9 _ _ _ _ _ _ _ _ _) ?_
  refine View.allAt_cons_unit _ _ _ _ _ (qTile (qOf x0 x1 x2 x3 x4 x5 x7 x8) r k 7 _ rfl _ fun r l => (head7 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 6 _ rfl _ fun r l => (head6 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 5 _ rfl _ fun r l => (head5 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 4 _ rfl _ fun r l => (head4 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 3 _ rfl _ fun r l => (head3 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 2 _ rfl _ fun r l => (head2 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 1 _ rfl _ fun r l => (head1 _ _ _ r l (pay38_at x0 x1 x2 x3 x4 x5 x6 x7 x8 r l) _ _).trans ?_) ?_
  · simp only [pay36_at, pay37_at, pay39_at, qOf]
  refine View.allAt_cons_unit _ _ _ _ _ (qTile (qOf x0 x1 x2 x3 x4 x5 x7 x8) r k 0 _ rfl _ fun r l => (head0 _ _ _ _ _ _ _ r l (pay38_at x0 x1 x2 x3 x4 x5 x6 x7 x8 r l)).trans ?_) ?_
  · change query (fun l => k0_pay39 x0 x1 x2 x3 x4 x5 x6 x7 x8 (ix2 r (qLane 0 l))) _ _ _ l = _
    simp only [pay36_at, pay37_at, pay39_at, qOf]
  exact View.allAt_nil _ _

theorem out10_at (r : Fin 256) (k : Fin 256) : out0_10 x0 x1 x2 x3 x4 x5 x6 x7 x8 (ix3 0 r k)
    = kOf x0 x1 x2 x3 x4 x6 x7 x8 (kHead k) r (lane k.val) := by
  have h6 : View.ld x6 r0_5 = x6 := View.ld_unit_lit (S := S1x128) _ x6 (by decide)
  rw [out0_10, h6]
  refine View.canon_eq_of_allAt _ _ _ (cover0_10 _ _ _) ?_
  refine View.allAt_cons_unit _ _ _ _ _ (kTile (kOf x0 x1 x2 x3 x4 x6 x7 x8) r k 1 _ rfl _ fun r l => (key1 _ _ _ r l (pay38_at x0 x1 x2 x3 x4 x5 x6 x7 x8 r l) _ _).trans ?_) ?_
  · simp only [pay36_at, pay37_at, pay23_row, kOf]
  refine View.allAt_cons_unit _ _ _ _ _ (kTile (kOf x0 x1 x2 x3 x4 x6 x7 x8) r k 0 _ rfl _ fun r l => (key0 _ _ _ r l (pay38_at x0 x1 x2 x3 x4 x5 x6 x7 x8 r l) _ _ _).trans ?_) ?_
  · simp only [pay36_at, pay37_at, pay23_row, kOf]
  exact View.allAt_nil _ _

end Outputs

end Cert.Proof.Rest

end
-- ==== Proof.Rest.Values.lean ====
/- The second input projection's result arrays: each block from the body, each input block at its place in its array. -/
module

public import proofs.«01_k».proof.Proof.Rest.Body
public import Idealize.ShloMosaic.Lib.Pipeline.ValueKit
public import Idealize.ShloMosaic.Lib.StableHlo.Run

@[expose] public section

set_option maxRecDepth 16384

noncomputable section

namespace Cert.Proof.Rest

open Cert.Kernel5Ideal Cert.Kernel5Ideal.Gen
open Cert.Proof.Ffn (normMod modRow modRow_ctx modRow_lat)
open Idealize.ShloMosaic Idealize.ShloMosaic.TcCoe Idealize.ShloMosaic.StableHlo

variable (m : (ℓ : Loc nD τ sig) → Buf (Elt Ideal) ℓ) (c : Dev nD)

/-! ## The arrays that the region reads, from the arguments -/

theorem gain_at (k : Fin 1024) : (V m c main_v12 : FVec Ideal S1x1024 .f32) (ix2 0 k) = (m ((c.tc : Thread nD τ).loc main_arg2) : FVec Ideal S4x1024 .f32) (ix2 1 k) := by
  have e : (V m c main_v12 : FVec Ideal S1x1024 .f32) = broadcastInDim S1x1024 ![1] bcast_S1024_S1x1024_1
      (shapeCast S1024 (extractStridedSlice S1x1024 ![1, 0] (m ((c.tc : Thread nD τ).loc main_arg2) : FVec Ideal S4x1024 .f32) slices_S4x1024_S1x1024_1_0) shapeCasts_S1x1024_S1024) := by
    unfold V; simp only [hostOps0]; after_results_simp <;> rfl
  rw [e]
  pointwise

theorem qGain_at (k : Fin 128) : (V m c main_v15 : FVec Ideal S1x128 .f32) (ix2 0 k) = (m ((c.tc : Thread nD τ).loc main_arg4) : FVec Ideal S4x128 .f32) (ix2 1 k) := by
  have e : (V m c main_v15 : FVec Ideal S1x128 .f32) = broadcastInDim S1x128 ![1] bcast_S128_S1x128_1
      (shapeCast S128 (extractStridedSlice S1x128 ![1, 0] (m ((c.tc : Thread nD τ).loc main_arg4) : FVec Ideal S4x128 .f32) slices_S4x128_S1x128_1_0) shapeCasts_S1x128_S128) := by
    unfold V; simp only [hostOps0]; after_results_simp <;> rfl
  rw [e]
  pointwise

theorem kGain_at (k : Fin 128) : (V m c main_v18 : FVec Ideal S1x128 .f32) (ix2 0 k) = (m ((c.tc : Thread nD τ).loc main_arg5) : FVec Ideal S4x128 .f32) (ix2 1 k) := by
  have e : (V m c main_v18 : FVec Ideal S1x128 .f32) = broadcastInDim S1x128 ![1] bcast_S128_S1x128_1
      (shapeCast S128 (extractStridedSlice S1x128 ![1, 0] (m ((c.tc : Thread nD τ).loc main_arg5) : FVec Ideal S4x128 .f32) slices_S4x128_S1x128_1_0) shapeCasts_S1x128_S128) := by
    unfold V; simp only [hostOps0]; after_results_simp <;> rfl
  rw [e]
  pointwise

theorem mods_at (b : Fin 17) (w : Fin 6) (k : Fin 1024) : (V m c main_v1 : FVec Ideal S17x6x1x1024 .f32) (ix4 b w 0 k) = (m ((c.tc : Thread nD τ).loc main_arg1) : FVec Ideal S17x6x1024 .f32) (ix3 b w k) := by
  have e : (V m c main_v1 : FVec Ideal S17x6x1x1024 .f32) = shapeCast S17x6x1x1024 (m ((c.tc : Thread nD τ).loc main_arg1) : FVec Ideal S17x6x1024 .f32) shapeCasts_S17x6x1024_S17x6x1x1024 := by
    unfold V; simp only [hostOps0]; after_results_simp <;> rfl
  rw [e]
  pointwise

theorem w_eq : (V m c main_v0 : FVec Ideal S4x1024x11776 .bf16) = (m ((c.tc : Thread nD τ).loc main_arg3) : FVec Ideal S4x1024x11776 .f32) := by
  unfold V; simp only [hostOps0]; after_results_simp <;> rfl

/-- The tables of the arguments, as functions. -/
def crArg (R : Fin 2048) (l : Fin 32) : EReal := (m ((c.tc : Thread nD τ).loc main_arg6) : FVec Ideal S2048x32 .f32) (ix2 R l)
def srArg (R : Fin 2048) (l : Fin 32) : EReal := (m ((c.tc : Thread nD τ).loc main_arg7) : FVec Ideal S2048x32 .f32) (ix2 R l)
def ccArg (R : Fin 2048) (l : Fin 32) : EReal := (m ((c.tc : Thread nD τ).loc main_arg8) : FVec Ideal S2048x32 .f32) (ix2 R l)
def scArg (R : Fin 2048) (l : Fin 32) : EReal := (m ((c.tc : Thread nD τ).loc main_arg9) : FVec Ideal S2048x32 .f32) (ix2 R l)

theorem cos_at (R : Fin 2304) (l : Fin 128) : (V m c main_v7 : FVec Ideal S2304x128 .f32) (ix2 R l) = cosAt (crArg m c) (ccArg m c) R l := by
  have e : (V m c main_v7 : FVec Ideal S2304x128 .f32) = concatenate S2304x128 0 [⟨S256x128, broadcastInDim S256x128 ![] bcast_S_S256x128 (constant (F := Ideal) S_ .f32 0x3F800000#32)⟩,
      ⟨S2048x128, (concatenate S2048x128 1 [⟨S2048x32, (m ((c.tc : Thread nD τ).loc main_arg6) : FVec Ideal S2048x32 .f32)⟩, ⟨S2048x32, (m ((c.tc : Thread nD τ).loc main_arg6) : FVec Ideal S2048x32 .f32)⟩, ⟨S2048x32, (m ((c.tc : Thread nD τ).loc main_arg8) : FVec Ideal S2048x32 .f32)⟩, ⟨S2048x32, (m ((c.tc : Thread nD τ).loc main_arg8) : FVec Ideal S2048x32 .f32)⟩] concatenates_S2048x32_S2048x32_S2048x32_S2048x32_S2048x128_d1 : FVec Ideal S2048x128 .f32)⟩] concatenates_S256x128_S2048x128_S2304x128_d0 := by
    unfold V; simp only [hostOps0]; after_results_simp <;> rfl
  rw [e]
  unfold cosAt
  by_cases h : R.val < 256
  · pointwise
    rw [dif_pos h, if_pos h]
  · rw [if_neg h]
    by_cases h1 : l.val < 32
    · have a1 : l.val < 64 := by omega
      have a2 : l.val % 64 < 32 := by omega
      have a3 : l.val % 32 = l.val := by omega
      pointwise
      simp only [dif_neg h, dif_pos h1, if_pos a1, if_pos a2, a3]
      rfl
    · by_cases h2 : l.val < 64
      · have a1 : l.val - 32 < 32 := by omega
        have a2 : ¬ l.val % 64 < 32 := by omega
        have a3 : l.val % 32 = l.val - 32 := by omega
        pointwise
        simp only [dif_neg h, dif_neg h1, dif_pos a1, if_pos h2, if_neg a2, a3]
        rfl
      · by_cases h3 : l.val < 96
        · have a1 : ¬ l.val - 32 < 32 := by omega
          have a2 : l.val % 64 < 32 := by omega
          have a3 : l.val % 32 = l.val - 32 - 32 := by omega
          have a4 : l.val - 32 - 32 < 32 := by omega
          pointwise
          simp only [dif_neg h, dif_neg h1, dif_neg a1, dif_pos a4, if_neg h2, if_pos a2, a3]
          rfl
        · have a1 : ¬ l.val - 32 < 32 := by omega
          have a2 : ¬ l.val % 64 < 32 := by omega
          have a3 : l.val % 32 = l.val - 32 - 32 - 32 := by omega
          have a4 : ¬ l.val - 32 - 32 < 32 := by omega
          pointwise
          simp only [dif_neg h, dif_neg h1, dif_neg a1, dif_neg a4, if_neg h2, if_neg a2, a3]
          rfl

theorem sin_at (R : Fin 2304) (l : Fin 128) : (V m c main_v9 : FVec Ideal S2304x128 .f32) (ix2 R l) = sinAt (srArg m c) (scArg m c) R l := by
  have e : (V m c main_v9 : FVec Ideal S2304x128 .f32) = concatenate S2304x128 0 [⟨S256x128, broadcastInDim S256x128 ![] bcast_S_S256x128 (constant (F := Ideal) S_ .f32 0x00000000#32)⟩,
      ⟨S2048x128, (concatenate S2048x128 1 [⟨S2048x32, Host.negf (m ((c.tc : Thread nD τ).loc main_arg7) : FVec Ideal S2048x32 .f32)⟩, ⟨S2048x32, (m ((c.tc : Thread nD τ).loc main_arg7) : FVec Ideal S2048x32 .f32)⟩, ⟨S2048x32, Host.negf (m ((c.tc : Thread nD τ).loc main_arg9) : FVec Ideal S2048x32 .f32)⟩, ⟨S2048x32, (m ((c.tc : Thread nD τ).loc main_arg9) : FVec Ideal S2048x32 .f32)⟩] concatenates_S2048x32_S2048x32_S2048x32_S2048x32_S2048x128_d1 : FVec Ideal S2048x128 .f32)⟩] concatenates_S256x128_S2048x128_S2304x128_d0 := by
    unfold V; simp only [hostOps0]; after_results_simp <;> rfl
  rw [e]
  unfold sinAt
  by_cases h : R.val < 256
  · pointwise
    rw [dif_pos h, if_pos h]
  · rw [if_neg h]
    by_cases h1 : l.val < 32
    · have a1 : l.val < 64 := by omega
      have a2 : l.val % 64 < 32 := by omega
      have a3 : l.val % 32 = l.val := by omega
      pointwise
      simp only [dif_neg h, dif_pos h1, if_pos a1, if_pos a2, a3]
      rfl
    · by_cases h2 : l.val < 64
      · have a1 : l.val - 32 < 32 := by omega
        have a2 : ¬ l.val % 64 < 32 := by omega
        have a3 : l.val % 32 = l.val - 32 := by omega
        pointwise
        simp only [dif_neg h, dif_neg h1, dif_pos a1, if_pos h2, if_neg a2, a3]
        rfl
      · by_cases h3 : l.val < 96
        · have a1 : ¬ l.val - 32 < 32 := by omega
          have a2 : l.val % 64 < 32 := by omega
          have a3 : l.val % 32 = l.val - 32 - 32 := by omega
          have a4 : l.val - 32 - 32 < 32 := by omega
          pointwise
          simp only [dif_neg h, dif_neg h1, dif_neg a1, dif_pos a4, if_neg h2, if_pos a2, a3]
          rfl
        · have a1 : ¬ l.val - 32 < 32 := by omega
          have a2 : ¬ l.val % 64 < 32 := by omega
          have a3 : l.val % 32 = l.val - 32 - 32 - 32 := by omega
          have a4 : ¬ l.val - 32 - 32 < 32 := by omega
          pointwise
          simp only [dif_neg h, dif_neg h1, dif_neg a1, dif_neg a4, if_neg h2, if_neg a2, a3]
          rfl

/-! ## The blocks -/

theorem coords_lt (t : Fin cfg0.N) : (grid0.coords t 0).val < 16 ∧ (grid0.coords t 1).val < 9 := ⟨(grid0.coords t 0).isLt, (grid0.coords t 1).isLt⟩

/-- The batch of a grid point, and row `r` of its tile. -/
def batchAt (t : Fin cfg0.N) : Fin 16 := ⟨(grid0.coords t 0).val, (coords_lt t).1⟩
def rowAt (t : Fin cfg0.N) (r : Fin 256) : Fin 2304 := ⟨256 * (grid0.coords t 1).val + r.val, by have := (coords_lt t).2; omega⟩

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![0, 0] :=
  (by decide +kernel : ∀ t : Fin grid0.N, win0_1.index t = ![0, 0])
theorem idx2 : ∀ t : Fin cfg0.N, win0_2.index t = ![if (grid0.coords t 1).val < 1 then 16 else (grid0.coords t 0).val, 0, 0, 0] :=
  (by decide +kernel : ∀ t : Fin grid0.N, win0_2.index t = ![if (grid0.coords t 1).val < 1 then 16 else (grid0.coords t 0).val, 0, 0, 0])
theorem idx3 : ∀ t : Fin cfg0.N, win0_3.index t = ![if (grid0.coords t 1).val < 1 then 16 else (grid0.coords t 0).val, 1, 0, 0] :=
  (by decide +kernel : ∀ t : Fin grid0.N, win0_3.index t = ![if (grid0.coords t 1).val < 1 then 16 else (grid0.coords t 0).val, 1, 0, 0])
theorem idx4 : ∀ t : Fin cfg0.N, win0_4.index t = ![1, 0, 0] :=
  (by decide +kernel : ∀ t : Fin grid0.N, win0_4.index t = ![1, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![(grid0.coords t 1).val, 0] :=
  (by decide +kernel : ∀ t : Fin grid0.N, win0_7.index t = ![(grid0.coords t 1).val, 0])
theorem idx8 : ∀ t : Fin cfg0.N, win0_8.index t = ![(grid0.coords t 1).val, 0] :=
  (by decide +kernel : ∀ t : Fin grid0.N, win0_8.index t = ![(grid0.coords t 1).val, 0])
theorem idx9 : ∀ t : Fin cfg0.N, win0_9.index t = ![(grid0.coords t 0).val, (grid0.coords t 1).val, 0] :=
  (by decide +kernel : ∀ t : Fin grid0.N, win0_9.index t = ![(grid0.coords t 0).val, (grid0.coords t 1).val, 0])
theorem idx10 : ∀ t : Fin cfg0.N, win0_10.index t = ![(grid0.coords t 0).val, (grid0.coords t 1).val, 0] :=
  (by decide +kernel : ∀ t : Fin grid0.N, win0_10.index t = ![(grid0.coords t 0).val, (grid0.coords t 1).val, 0])
theorem idx11 : ∀ t : Fin cfg0.N, win0_11.index t = ![(grid0.coords t 0).val, (grid0.coords t 1).val, 0] :=
  (by decide +kernel : ∀ t : Fin grid0.N, win0_11.index t = ![(grid0.coords t 0).val, (grid0.coords t 1).val, 0])
theorem idx12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])
theorem idx13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])
theorem idx14 : ∀ t : Fin cfg0.N, win0_14.index t = ![(grid0.coords t 0).val, (grid0.coords t 1).val, 0] :=
  (by decide +kernel : ∀ t : Fin grid0.N, win0_14.index t = ![(grid0.coords t 0).val, (grid0.coords t 1).val, 0])

theorem modRow_val (t : Fin cfg0.N) (r : Fin 256) :
    (modRow (batchAt t) (rowAt t r)).val = if (grid0.coords t 1).val < 1 then 16 else (grid0.coords t 0).val := by
  have hr := r.isLt
  by_cases h : (grid0.coords t 1).val < 1
  · rw [if_pos h, modRow_ctx (show 256 * (grid0.coords t 1).val + r.val < 256 by omega)]; rfl
  · rw [if_neg h, modRow_lat (show ¬ 256 * (grid0.coords t 1).val + r.val < 256 by omega)]; rfl

theorem blk0 (t : Fin cfg0.N) (r : Fin 256) (k : Fin 1024) :
    (iblk m c 0 t : FVec Ideal S1x256x1024 .f32) (ix3 0 r k) = (m ((c.tc : Thread nD τ).loc main_arg0) : FVec Ideal S16x2304x1024 .f32) (ix3 (batchAt t) (rowAt t r) k) := by
  have e := idx0 t
  rw [← V_main_arg0 m c]
  blk_simp [iblk, e]
  refine congrArg (V m c main_arg0) ?_
  blk_ext [e, batchAt, rowAt]

theorem blk1 (t : Fin cfg0.N) (k : Fin 1024) :
    (iblk m c 1 t : FVec Ideal S1x1024 .f32) (ix2 0 k) = (m ((c.tc : Thread nD τ).loc main_arg2) : FVec Ideal S4x1024 .f32) (ix2 1 k) := by
  have e := idx1 t
  rw [← gain_at m c]
  blk_simp [iblk, e]
  refine congrArg (V m c main_v12) ?_
  blk_ext [e]

theorem blk2 (t : Fin cfg0.N) (r : Fin 256) (k : Fin 1024) :
    (iblk m c 2 t : FVec Ideal S1x1x1x1024 .f32) (ix4 0 0 0 k) = (m ((c.tc : Thread nD τ).loc main_arg1) : FVec Ideal S17x6x1024 .f32) (ix3 (modRow (batchAt t) (rowAt t r)) 0 k) := by
  have e := idx2 t
  rw [← mods_at m c]
  blk_simp [iblk, e]
  refine congrArg (V m c main_v1) ?_
  blk_ext [e, modRow_val]

theorem blk3 (t : Fin cfg0.N) (r : Fin 256) (k : Fin 1024) :
    (iblk m c 3 t : FVec Ideal S1x1x1x1024 .f32) (ix4 0 0 0 k) = (m ((c.tc : Thread nD τ).loc main_arg1) : FVec Ideal S17x6x1024 .f32) (ix3 (modRow (batchAt t) (rowAt t r)) 1 k) := by
  have e := idx3 t
  rw [← mods_at m c]
  blk_simp [iblk, e]
  refine congrArg (V m c main_v1) ?_
  blk_ext [e, modRow_val]

theorem blk4 (t : Fin cfg0.N) (i : Fin 1024) (j : Fin 11776) :
    (iblk m c 4 t : FVec Ideal S1x1024x11776 .bf16) (ix3 0 i j) = (m ((c.tc : Thread nD τ).loc main_arg3) : FVec Ideal S4x1024x11776 .f32) (ix3 1 i j) := by
  have e := idx4 t
  rw [← w_eq m c]
  blk_simp [iblk, e]
  refine congrArg (V m c main_v0) ?_
  blk_ext [e]

theorem blk5 (t : Fin cfg0.N) (l : Fin 128) :
    (iblk m c 5 t : FVec Ideal S1x128 .f32) (ix2 0 l) = (m ((c.tc : Thread nD τ).loc main_arg4) : FVec Ideal S4x128 .f32) (ix2 1 l) := by
  have e := idx5 t
  rw [← qGain_at m c]
  blk_simp [iblk, e]
  refine congrArg (V m c main_v15) ?_
  blk_ext [e]

theorem blk6 (t : Fin cfg0.N) (l : Fin 128) :
    (iblk m c 6 t : FVec Ideal S1x128 .f32) (ix2 0 l) = (m ((c.tc : Thread nD τ).loc main_arg5) : FVec Ideal S4x128 .f32) (ix2 1 l) := by
  have e := idx6 t
  rw [← kGain_at m c]
  blk_simp [iblk, e]
  refine congrArg (V m c main_v18) ?_
  blk_ext [e]

theorem blk7 (t : Fin cfg0.N) (r : Fin 256) (l : Fin 128) :
    (iblk m c 7 t : FVec Ideal S256x128 .f32) (ix2 r l) = cosAt (crArg m c) (ccArg m c) (rowAt t r) l := by
  have e := idx7 t
  rw [← cos_at m c]
  blk_simp [iblk, e]
  refine congrArg (V m c main_v7) ?_
  blk_ext [e, rowAt]

theorem blk8 (t : Fin cfg0.N) (r : Fin 256) (l : Fin 128) :
    (iblk m c 8 t : FVec Ideal S256x128 .f32) (ix2 r l) = sinAt (srArg m c) (scArg m c) (rowAt t r) l := by
  have e := idx8 t
  rw [← sin_at m c]
  blk_simp [iblk, e]
  refine congrArg (V m c main_v9) ?_
  blk_ext [e, rowAt]

theorem blk9 (t : Fin cfg0.N) (r : Fin 256) (k : Fin 1024) :
    (win0_9.blk t).view.emb (ix3 0 r k) = ix3 (batchAt t) (rowAt t r) k := by
  have e := idx9 t
  blk_ext [e, batchAt, rowAt]

theorem blk10 (t : Fin cfg0.N) (r : Fin 256) (k : Fin 256) :
    (win0_10.blk t).view.emb (ix3 0 r k) = ix3 (batchAt t) (rowAt t r) k := by
  have e := idx10 t
  blk_ext [e, batchAt, rowAt]

theorem blk11 (t : Fin cfg0.N) (r : Fin 256) (k : Fin 256) :
    (win0_11.blk t).view.emb (ix3 0 r k) = ix3 (batchAt t) (rowAt t r) k := by
  have e := idx11 t
  blk_ext [e, batchAt, rowAt]

theorem blk12 (t : Fin cfg0.N) (r : Fin 256) (k : Fin 1024) :
    (win0_12.blk t).view.emb (ix3 0 r k) = ix3 (batchAt t) (rowAt t r) k := by
  have e := idx12 t
  blk_ext [e, batchAt, rowAt]

theorem blk13 (t : Fin cfg0.N) (r : Fin 256) (k : Fin 1024) :
    (win0_13.blk t).view.emb (ix3 0 r k) = ix3 (batchAt t) (rowAt t r) k := by
  have e := idx13 t
  blk_ext [e, batchAt, rowAt]

theorem blk14 (t : Fin cfg0.N) (r : Fin 256) (k : Fin 3072) :
    (win0_14.blk t).view.emb (ix3 0 r k) = ix3 (batchAt t) (rowAt t r) k := by
  have e := idx14 t
  blk_ext [e, batchAt, rowAt]

theorem block_idx256 (y : S1x256x256.Idx) : ∃ (r : Fin 256) (k : Fin 256), y = (ix3 0 r k : S1x256x256.Idx) := by
  have y0 : (y 0).val < 1 := (y 0).isLt
  refine ⟨⟨(y 1).val, (y 1).isLt⟩, ⟨(y 2).val, (y 2).isLt⟩, funext fun a => Fin.ext ?_⟩
  match a with
  | ⟨0, _⟩ => show (y 0).val = 0; omega
  | ⟨1, _⟩ => rfl
  | ⟨2, _⟩ => rfl

theorem block_idx1024 (y : S1x256x1024.Idx) : ∃ (r : Fin 256) (k : Fin 1024), y = (ix3 0 r k : S1x256x1024.Idx) := by
  have y0 : (y 0).val < 1 := (y 0).isLt
  refine ⟨⟨(y 1).val, (y 1).isLt⟩, ⟨(y 2).val, (y 2).isLt⟩, funext fun a => Fin.ext ?_⟩
  match a with
  | ⟨0, _⟩ => show (y 0).val = 0; omega
  | ⟨1, _⟩ => rfl
  | ⟨2, _⟩ => rfl

theorem block_idx3072 (y : S1x256x3072.Idx) : ∃ (r : Fin 256) (k : Fin 3072), y = (ix3 0 r k : S1x256x3072.Idx) := by
  have y0 : (y 0).val < 1 := (y 0).isLt
  refine ⟨⟨(y 1).val, (y 1).isLt⟩, ⟨(y 2).val, (y 2).isLt⟩, funext fun a => Fin.ext ?_⟩
  match a with
  | ⟨0, _⟩ => show (y 0).val = 0; omega
  | ⟨1, _⟩ => rfl
  | ⟨2, _⟩ => rfl

/-! ## The result arrays -/

/-- The modulated row `R` of batch `b` through column `j` of the weights, from the arguments. -/
def argProj (b : Fin 16) (R : Fin 2304) (j : Fin 11776) : EReal :=
  proj (normMod (fun k => (m ((c.tc : Thread nD τ).loc main_arg0) : FVec Ideal S16x2304x1024 .f32) (ix3 b R k)) (fun k => (m ((c.tc : Thread nD τ).loc main_arg2) : FVec Ideal S4x1024 .f32) (ix2 1 k))
      (fun k => (m ((c.tc : Thread nD τ).loc main_arg1) : FVec Ideal S17x6x1024 .f32) (ix3 (modRow b R) 0 k)) (fun k => (m ((c.tc : Thread nD τ).loc main_arg1) : FVec Ideal S17x6x1024 .f32) (ix3 (modRow b R) 1 k)))
    (fun i j => (m ((c.tc : Thread nD τ).loc main_arg3) : FVec Ideal S4x1024x11776 .f32) (ix3 1 i j)) j

theorem final_q (G : FVec Ideal S16x2304x1024 .bf16)
    (hG : ∀ (b : Fin 16) (R : Fin 2304) (k : Fin 1024), G (ix3 b R k)
      = query (fun l => argProj m c b R (qCol (qLane (qHead k) l))) (fun l => (m ((c.tc : Thread nD τ).loc main_arg4) : FVec Ideal S4x128 .f32) (ix2 1 l))
          (cosAt (crArg m c) (ccArg m c) R) (sinAt (srArg m c) (scArg m c) R) (lane k.val)) :
    (dats m 0 c).arrAt 9 cfg0.N = G := by
  refine (dats m 0 c).arrAt_eq_of_covers 9 _ (by decide +kernel) fun t hfl y => ?_
  blk_simp
  rw [after0_9]
  obtain ⟨r, k, rfl⟩ := block_idx1024 y
  refine (out9_at _ _ _ _ _ _ _ _ _ r k).trans (Eq.trans ?_ ((congrArg G (blk9 t r k)).trans (hG _ _ _)).symm)
  simp only [qOf, blk5, blk7, blk8, argProj, rowOf, proj, blk0, blk1, blk2 m c t r, blk3 m c t r, blk4]

theorem final_k (G : FVec Ideal S16x2304x256 .bf16)
    (hG : ∀ (b : Fin 16) (R : Fin 2304) (k : Fin 256), G (ix3 b R k)
      = key (fun l => argProj m c b R (kCol (kLane (kHead k) l))) (fun l => (m ((c.tc : Thread nD τ).loc main_arg5) : FVec Ideal S4x128 .f32) (ix2 1 l))
          (cosAt (crArg m c) (ccArg m c) R) (sinAt (srArg m c) (scArg m c) R) (lane k.val)) :
    (dats m 0 c).arrAt 10 cfg0.N = G := by
  refine (dats m 0 c).arrAt_eq_of_covers 10 _ (by decide +kernel) fun t hfl y => ?_
  blk_simp
  rw [after0_10]
  obtain ⟨r, k, rfl⟩ := block_idx256 y
  refine (out10_at _ _ _ _ _ _ _ _ _ r k).trans (Eq.trans ?_ ((congrArg G (blk10 t r k)).trans (hG _ _ _)).symm)
  simp only [kOf, blk6, blk7, blk8, argProj, rowOf, proj, blk0, blk1, blk2 m c t r, blk3 m c t r, blk4]

theorem final_v (G : FVec Ideal S16x2304x256 .bf16)
    (hG : ∀ (b : Fin 16) (R : Fin 2304) (k : Fin 256), G (ix3 b R k)
      = argProj m c b R (vCol k)) :
    (dats m 0 c).arrAt 11 cfg0.N = G := by
  refine (dats m 0 c).arrAt_eq_of_covers 11 _ (by decide +kernel) fun t hfl y => ?_
  blk_simp
  rw [after0_11]
  obtain ⟨r, k, rfl⟩ := block_idx256 y
  refine (out11_at _ _ _ _ _ _ _ _ _ r k).trans (Eq.trans ?_ ((congrArg G (blk11 t r k)).trans (hG _ _ _)).symm)
  simp only [argProj, rowOf, proj, blk0, blk1, blk2 m c t r, blk3 m c t r, blk4]

theorem final_x (G : FVec Ideal S16x2304x1024 .f32)
    (hG : ∀ (b : Fin 16) (R : Fin 2304) (k : Fin 1024), G (ix3 b R k)
      = argProj m c b R (xCol k)) :
    (dats m 0 c).arrAt 12 cfg0.N = G := by
  refine (dats m 0 c).arrAt_eq_of_covers 12 _ (by decide +kernel) fun t hfl y => ?_
  blk_simp
  rw [after0_12]
  obtain ⟨r, k, rfl⟩ := block_idx1024 y
  refine (out12_at _ _ _ _ _ _ _ _ _ r k).trans (Eq.trans ?_ ((congrArg G (blk12 t r k)).trans (hG _ _ _)).symm)
  simp only [argProj, rowOf, proj, blk0, blk1, blk2 m c t r, blk3 m c t r, blk4]

theorem final_g (G : FVec Ideal S16x2304x1024 .bf16)
    (hG : ∀ (b : Fin 16) (R : Fin 2304) (k : Fin 1024), G (ix3 b R k)
      = gelu (argProj m c b R (gCol k))) :
    (dats m 0 c).arrAt 13 cfg0.N = G := by
  refine (dats m 0 c).arrAt_eq_of_covers 13 _ (by decide +kernel) fun t hfl y => ?_
  blk_simp
  rw [after0_13]
  obtain ⟨r, k, rfl⟩ := block_idx1024 y
  refine (out13_at _ _ _ _ _ _ _ _ _ r k).trans (Eq.trans ?_ ((congrArg G (blk13 t r k)).trans (hG _ _ _)).symm)
  simp only [argProj, rowOf, proj, blk0, blk1, blk2 m c t r, blk3 m c t r, blk4]

theorem final_s (G : FVec Ideal S16x2304x3072 .bf16)
    (hG : ∀ (b : Fin 16) (R : Fin 2304) (k : Fin 3072), G (ix3 b R k)
      = Ideal.logistic (argProj m c b R (sCol k))) :
    (dats m 0 c).arrAt 14 cfg0.N = G := by
  refine (dats m 0 c).arrAt_eq_of_covers 14 _ (by decide +kernel) fun t hfl y => ?_
  blk_simp
  rw [after0_14]
  obtain ⟨r, k, rfl⟩ := block_idx3072 y
  refine (out14_at _ _ _ _ _ _ _ _ _ r k).trans (Eq.trans ?_ ((congrArg G (blk14 t r k)).trans (hG _ _ _)).symm)
  simp only [argProj, rowOf, proj, blk0, blk1, blk2 m c t r, blk3 m c t r, blk4]

end Cert.Proof.Rest

end
-- ==== Proof.Rest.Claims.lean ====
/- The claims of the second input projection call: the three frames, and the values. -/
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Rest.Reference
public import proofs.«01_k».proof.Proof.Rest.Values
public import Idealize.ShloMosaic.Lib.Quiescent

@[expose] public section

noncomputable section

open Idealize.ShloMosaic Idealize.ShloMosaic.TcCoe Idealize.ShloMosaic.StableHlo

namespace Cert.Proof.Rest

variable {F : FTy → Type} [FloatOps F]

set_option maxHeartbeats 4000000 in
/-- The two programs' tables of kernel bodies are one: their texts are the same. -/
theorem body_table_same [Cert.Kernel5.Facts] [Cert.Kernel5Ideal.Facts] :
    Cert.Kernel5.defs₀ (F := F) = Cert.Kernel5Ideal.defs₀ (F := F) := by
  unfold Cert.Kernel5.defs₀ Cert.Kernel5Ideal.defs₀
  congr 1
  funext l a
  match l, a with
  | ⟨0, _⟩, (t, s) => rfl
  | ⟨n + 1, h⟩, _ => exact absurd h (by omega)

theorem table_same [Cert.Kernel5.Facts] [Cert.Kernel5Ideal.Facts] :
    Cert.Kernel5.defs (F := F) = Cert.Kernel5Ideal.defs (F := F) :=
  congrArg (Pipeline.defs (Cert.Kernel5Ideal.pcfgs (F := F))) body_table_same

/-- The frame of the kernel as printed: its text is the idealized kernel's, so the one run serves at the bits. -/
theorem frame_kernel : Cert.quiescent_Kernel5 := fun m ρ _ =>
  Eq.mpr (congrArg (fun d => θ_run d _ _ _) table_same) (Cert.Kernel5Ideal.Gen.frame (F := Bits) m ρ)

theorem frame_ideal : Cert.quiescent_Kernel5Ideal := fun m ρ _ => Cert.Kernel5Ideal.Gen.frame (F := Ideal) m ρ

theorem frame_reference : Cert.quiescent_Reference5Ideal := fun m ρ _ =>
  (θ_run Cert.Reference5Ideal.defs _ _).mono (fun r h => ⟨fun c => ((h c).2.2.2.2.2.2), sem_eq_zero_of_no_sems (by decide) r.2⟩)
    (Cert.Reference5Ideal.Value.run (F := Ideal) m ρ)

open Cert.Reference5Ideal.Value in
/-- The value claim: from agreeing arguments, the kernel's result arrays are the reference's. -/
theorem values : Cert.algebraic_Kernel5Ideal_Reference5Ideal := by
  intro m ρ m' ρ' _ hagree
  refine ⟨fun c => val5 (launchContents m' c) (Proc.devRef .tc Cert.Reference5Ideal.main_v234), fun c => val5 (launchContents m' c) (Proc.devRef .tc Cert.Reference5Ideal.main_v236), fun c => val5 (launchContents m' c) (Proc.devRef .tc Cert.Reference5Ideal.main_v237), fun c => val5 (launchContents m' c) (Proc.devRef .tc Cert.Reference5Ideal.main_v230), fun c => val5 (launchContents m' c) (Proc.devRef .tc Cert.Reference5Ideal.main_v251), fun c => val5 (launchContents m' c) (Proc.devRef .tc Cert.Reference5Ideal.main_v258), ?_, ?_⟩
  · refine (θ_run Cert.Kernel5Ideal.defs _ _).mono (fun r h c => ?_) (Cert.Kernel5Ideal.Value.run_blocks (F := Ideal) m ρ)
    obtain ⟨a0, a1, a2, a3, a4, a5, a6, a7, a8, a9⟩ := hagree c
    have p : refProj m' c = argProj m c := by
      funext b R j
      unfold refProj refRow argProj
      rw [a0, a1, a2, a3]
    have t6 : cr m' c = crArg m c := by unfold cr crArg; rw [a6]
    have t7 : sr m' c = srArg m c := by unfold sr srArg; rw [a7]
    have t8 : cc m' c = ccArg m c := by unfold cc ccArg; rw [a8]
    have t9 : sc m' c = scArg m c := by unfold sc scArg; rw [a9]
    exact ⟨((h c).1).trans (final_q m c _ fun b R k => (ref_q m' c b R k).trans (by rw [p, t6, t7, t8, t9, a4])),
      ((h c).2.1).trans (final_k m c _ fun b R k => (ref_k m' c b R k).trans (by rw [p, t6, t7, t8, t9, a5])),
      ((h c).2.2.1).trans (final_v m c _ fun b R k => (ref_v m' c b R k).trans (by rw [p])),
      ((h c).2.2.2.1).trans (final_x m c _ fun b R k => (ref_x m' c b R k).trans (by rw [p])),
      ((h c).2.2.2.2.1).trans (final_g m c _ fun b R k => (ref_g m' c b R k).trans (by rw [p])),
      ((h c).2.2.2.2.2.1).trans (final_s m c _ fun b R k => (ref_s m' c b R k).trans (by rw [p])), (h c).2.2.2.2.2.2⟩
  · refine (θ_run Cert.Reference5Ideal.defs _ _).mono (fun r h c => ?_) (Cert.Reference5Ideal.Value.run (F := Ideal) m' ρ')
    exact ⟨(h c).1.trans (val5_main_v234 _).symm, (h c).2.1.trans (val5_main_v236 _).symm, (h c).2.2.1.trans (val5_main_v237 _).symm, (h c).2.2.2.1.trans (val5_main_v230 _).symm,
      (h c).2.2.2.2.1.trans (val5_main_v251 _).symm, (h c).2.2.2.2.2.1.trans (val5_main_v258 _).symm, (h c).2.2.2.2.2.2⟩

end Cert.Proof.Rest

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_real_gates
public import proofs.«01_k».proof.Proof.Scan.Launch
public import proofs.«01_k».proof.Proof.Scan.Ref
public import proofs.«01_k».proof.Proof.Scan.Same
public import proofs.«01_k».proof.Proof.Ffn.Claims
public import proofs.«01_k».proof.Proof.Inproj.Claims
public import proofs.«01_k».proof.Proof.Merge.Claims
public import proofs.«01_k».proof.Proof.Rest.Claims
public import Idealize.ShloMosaic.Lib.Quiescent

@[expose] public section

noncomputable section

open Idealize.ShloMosaic

namespace Cert.Proof

variable {F : FTy → Type} [FloatOps F]

/-- The two programs' tables of kernel bodies are one: their texts are the same. -/
theorem body_table_same [Cert.Kernel.Facts] [Cert.KernelIdeal.Facts] :
    Cert.Kernel.defs₀ (F := F) = Cert.KernelIdeal.defs₀ (F := F) := by
  unfold Cert.Kernel.defs₀ Cert.KernelIdeal.defs₀
  congr 1
  funext l a
  match l, a with
  | ⟨0, _⟩, (t, s) => rfl
  | ⟨n + 1, h⟩, _ => exact absurd h (by omega)

theorem table_same [Cert.Kernel.Facts] [Cert.KernelIdeal.Facts] :
    Cert.Kernel.defs (F := F) = Cert.KernelIdeal.defs (F := F) :=
  congrArg (Pipeline.defs (Cert.KernelIdeal.pcfgs (F := F))) body_table_same

/-- The frame of the kernel as printed: its text is the idealized kernel's, so the one run serves at the bits. -/
theorem frame_kernel : Cert.quiescent_Kernel := fun m ρ _ =>
  Eq.mpr (congrArg (fun d => θ_run d _ _ _) table_same) (Cert.Proof.Scan.frame_any (F := Bits) m ρ)

theorem frame_ideal : Cert.quiescent_KernelIdeal := fun m ρ _ => Cert.Proof.Scan.frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: from agreeing arguments under the precondition, the kernel's result array is the reference's result. -/
theorem values : Cert.algebraic_KernelIdeal_ReferenceIdeal_pre_real_gates := by
  intro m ρ m' ρ' hpre hagree
  refine ⟨fun c => Cert.Proof.Scan.Ref.result (StableHlo.launchContents m' c), ?_, ?_⟩
  · have hr := θ_run_and (Cert.Proof.Scan.run_main (F := Ideal) m ρ)
      ((θ_run Cert.KernelIdeal.defs _ _).mono (fun _ h => h.1) (Cert.Proof.Scan.frame_any (F := Ideal) m ρ))
    refine (θ_run Cert.KernelIdeal.defs _ _).mono (fun r h c => ⟨?_, h.2 c⟩) hr
    obtain ⟨a0, a1, a2, a3, a4, a5⟩ := hagree c
    exact ((h.1 c).1 6).trans (Cert.Proof.Scan.result_same m c (StableHlo.launchContents m' c) (hpre c) a0 a1 a2 a3 a4 a5)
  · exact (θ_run Cert.ReferenceIdeal.defs _ _).mono (fun _ h c => ⟨(h c).1, (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Pre_real_gates.Gen.facts,
    frame_kernel, frame_ideal, fun m ρ _ => frame_ideal m ρ trivial, frame_reference, fun m ρ _ => frame_reference m ρ trivial,
    Ffn.frame_kernel, Ffn.frame_ideal, Ffn.frame_reference,
    Inproj.frame_kernel, Inproj.frame_ideal, Inproj.frame_reference,
    Merge.frame_kernel, Merge.frame_ideal, Merge.frame_reference,
    Rest.frame_kernel, Rest.frame_ideal, Rest.frame_reference,
    trivial, values,
    trivial, Ffn.values,
    trivial, Inproj.values,
    trivial, Merge.values,
    trivial, Rest.values⟩

end Cert.Proof

end
